-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sm_scale_log2e" .f32 0x3DE995B3#32 (((Real.sqrt 160)⁻¹ * (Real.log 2)⁻¹ : ℝ) : EReal)

def preserves_Reference_ReferenceIdeal : Prop :=
  IdealRules.named_const.Statement Cert.ReferenceIdeal.κ "ln2" .f32 0x3F317218#32 ((Real.log 2 : ℝ) : EReal)
  ∧ IdealRules.named_const.Statement Cert.ReferenceIdeal.κ "sm_scale" .f32 0x3DA1E89B#32 (((Real.sqrt 160)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_Reference (hReference := hReference)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S2x4096x10240 : Shape := ⟨3, ![2, 4096, 10240]⟩
abbrev S2x16x4096x256 : Shape := ⟨4, ![2, 16, 4096, 256]⟩
abbrev S2x16x32x128 : Shape := ⟨4, ![2, 16, 32, 128]⟩
abbrev S2x16x160x4096 : Shape := ⟨4, ![2, 16, 160, 4096]⟩
abbrev S2x16x1x128 : Shape := ⟨4, ![2, 16, 1, 128]⟩
abbrev S_ : Shape := ⟨0, ![]⟩
abbrev S2x16x32x1 : Shape := ⟨4, ![2, 16, 32, 1]⟩
abbrev S2x16x1x1 : Shape := ⟨4, ![2, 16, 1, 1]⟩

class Facts : Prop where
  bitsLt_bf16_f32 : FTy.bits .bf16 < FTy.bits .f32
  bcast_S_S2x4096x10240 : S_.BroadcastsInDim S2x4096x10240 (![] : Fin 0 → Fin S2x4096x10240.rank)
  reducesTo_S2x4096x10240_S_d0_1_2 : S2x4096x10240.ReducesTo [0, 1, 2] S_
  h_S_ : 0 < S_.numel
  bcast_S_S2x16x160x4096 : S_.BroadcastsInDim S2x16x160x4096 (![] : Fin 0 → Fin S2x16x160x4096.rank)
  reducesTo_S2x16x160x4096_S_d0_1_2_3 : S2x16x160x4096.ReducesTo [0, 1, 2, 3] S_
  slices_S2x16x32x128_S2x16x32x1_0_0_0_0 : S2x16x32x128.Slices ![0, 0, 0, 0] S2x16x32x1
  bcast_S2x16x32x1_S2x16x32x128_0_1_2_3 : S2x16x32x1.BroadcastsInDim S2x16x32x128 (![0, 1, 2, 3] : Fin 4 → Fin S2x16x32x128.rank)
  reducesTo_S2x16x32x128_S_d0_1_2_3 : S2x16x32x128.ReducesTo [0, 1, 2, 3] S_
  bcast_S_S2x16x1x128 : S_.BroadcastsInDim S2x16x1x128 (![] : Fin 0 → Fin S2x16x1x128.rank)
  reducesTo_S2x16x1x128_S_d0_1_2_3 : S2x16x1x128.ReducesTo [0, 1, 2, 3] S_
  slices_S2x16x1x128_S2x16x1x1_0_0_0_0 : S2x16x1x128.Slices ![0, 0, 0, 0] S2x16x1x1
  bcast_S2x16x1x1_S2x16x1x128_0_1_2_3 : S2x16x1x1.BroadcastsInDim S2x16x1x128 (![0, 1, 2, 3] : Fin 4 → Fin S2x16x1x128.rank)

variable [Facts]

def fn_part1 {F : FTy → Type} [FloatOps F] (main_arg4 : FVec F S2x16x1x128 .f32) (main_v14 : IVec S_ 1) (main_v16 : IVec S2x16x1x128 1) (main_c_4 : IVec S_ 1) : IVec S_ 1 :=
  let main_v17 : IVec S_ 1 := (fun x v => Host.reduce IntOp.andi x v reducesTo_S2x16x1x128_S_d0_1_2_3 h_S_) main_v16 main_c_4
  let main_v18 : IVec S_ 1 := andi main_v14 main_v17
  let main_cst_5 : FVec F S_ .f32 := constant S_ .f32 0x7B800000#32
  let main_v19 : FVec F S2x16x1x128 .f32 := broadcastInDim S2x16x1x128 ![] bcast_S_S2x16x1x128 main_cst_5
  let main_v20 : IVec S2x16x1x128 1 := cmpf .ole main_arg4 main_v19
  let main_c_6 : IVec S_ 1 := constantI S_ 1 1#1
  let main_v21 : IVec S_ 1 := (fun x v => Host.reduce IntOp.andi x v reducesTo_S2x16x1x128_S_d0_1_2_3 h_S_) main_v20 main_c_6
  let main_v22 : IVec S_ 1 := andi main_v18 main_v21
  let main_v23 : FVec F S2x16x1x1 .f32 := (extractStridedSlice S2x16x1x1 ![0, 0, 0, 0] · slices_S2x16x1x128_S2x16x1x1_0_0_0_0) main_arg4
  let main_v24 : FVec F S2x16x1x128 .f32 := broadcastInDim S2x16x1x128 ![0, 1, 2, 3] bcast_S2x16x1x1_S2x16x1x128_0_1_2_3 main_v23
  let main_v25 : IVec S2x16x1x128 1 := cmpf .oeq main_arg4 main_v24
  let main_c_7 : IVec S_ 1 := constantI S_ 1 1#1
  let main_v26 : IVec S_ 1 := (fun x v => Host.reduce IntOp.andi x v reducesTo_S2x16x1x128_S_d0_1_2_3 h_S_) main_v25 main_c_7
  let main_v27 : IVec S_ 1 := andi main_v22 main_v26
  main_v27

def fn {F : FTy → Type} [FloatOps F] (main_arg0 : FVec F S2x4096x10240 .bf16) (main_arg1 : FVec F S2x16x4096x256 .fp8e4m3) (main_arg2 : FVec F S2x16x32x128 .f32) (main_arg3 : FVec F S2x16x160x4096 .f32) (main_arg4 : FVec F S2x16x1x128 .f32) : IVec S_ 1 :=
  let main_v0 : FVec F S2x4096x10240 .f32 := (extf .f32 · bitsLt_bf16_f32) main_arg0
  let main_v1 : FVec F S2x4096x10240 .f32 := Host.absf main_v0
  let main_cst : FVec F S_ .f32 := constant S_ .f32 0x7F7F0000#32
  let main_v2 : FVec F S2x4096x10240 .f32 := broadcastInDim S2x4096x10240 ![] bcast_S_S2x4096x10240 main_cst
  let main_v3 : IVec S2x4096x10240 1 := cmpf .ole main_v1 main_v2
  let main_c : IVec S_ 1 := constantI S_ 1 1#1
  let main_v4 : IVec S_ 1 := (fun x v => Host.reduce IntOp.andi x v reducesTo_S2x4096x10240_S_d0_1_2 h_S_) main_v3 main_c
  let main_v5 : FVec F S2x16x160x4096 .f32 := Host.absf main_arg3
  let main_cst_0 : FVec F S_ .f32 := constant S_ .f32 0x43E00000#32
  let main_v6 : FVec F S2x16x160x4096 .f32 := broadcastInDim S2x16x160x4096 ![] bcast_S_S2x16x160x4096 main_cst_0
  let main_v7 : IVec S2x16x160x4096 1 := cmpf .ole main_v5 main_v6
  let main_c_1 : IVec S_ 1 := constantI S_ 1 1#1
  let main_v8 : IVec S_ 1 := (fun x v => Host.reduce IntOp.andi x v reducesTo_S2x16x160x4096_S_d0_1_2_3 h_S_) main_v7 main_c_1
  let main_v9 : IVec S_ 1 := andi main_v4 main_v8
  let main_v10 : FVec F S2x16x32x1 .f32 := (extractStridedSlice S2x16x32x1 ![0, 0, 0, 0] · slices_S2x16x32x128_S2x16x32x1_0_0_0_0) main_arg2
  let main_v11 : FVec F S2x16x32x128 .f32 := broadcastInDim S2x16x32x128 ![0, 1, 2, 3] bcast_S2x16x32x1_S2x16x32x128_0_1_2_3 main_v10
  let main_v12 : IVec S2x16x32x128 1 := cmpf .oeq main_arg2 main_v11
  let main_c_2 : IVec S_ 1 := constantI S_ 1 1#1
  let main_v13 : IVec S_ 1 := (fun x v => Host.reduce IntOp.andi x v reducesTo_S2x16x32x128_S_d0_1_2_3 h_S_) main_v12 main_c_2
  let main_v14 : IVec S_ 1 := andi main_v9 main_v13
  let main_cst_3 : FVec F S_ .f32 := constant S_ .f32 0x00000000#32
  let main_v15 : FVec F S2x16x1x128 .f32 := broadcastInDim S2x16x1x128 ![] bcast_S_S2x16x1x128 main_cst_3
  let main_v16 : IVec S2x16x1x128 1 := cmpf .oge main_arg4 main_v15
  let main_c_4 : IVec S_ 1 := constantI S_ 1 1#1
  fn_part1 (F := F) main_arg4 main_v14 main_v16 main_c_4
-- ==== Kernel.lean ====
abbrev S2x4096x10240 : Shape := ⟨3, ![2, 4096, 10240]⟩
abbrev S2x16x4096x256 : Shape := ⟨4, ![2, 16, 4096, 256]⟩
abbrev S2x16x32x128 : Shape := ⟨4, ![2, 16, 32, 128]⟩
abbrev S2x16x160x4096 : Shape := ⟨4, ![2, 16, 160, 4096]⟩
abbrev S2x16x1x128 : Shape := ⟨4, ![2, 16, 1, 128]⟩
abbrev S2x16x16x8x128 : Shape := ⟨5, ![2, 16, 16, 8, 128]⟩
abbrev S2x16x4x4096 : Shape := ⟨4, ![2, 16, 4, 4096]⟩
abbrev S2x16x4x256 : Shape := ⟨4, ![2, 16, 4, 256]⟩
abbrev S1x256x640 : Shape := ⟨3, ![1, 256, 640]⟩
abbrev S1x1x4096x256 : Shape := ⟨4, ![1, 1, 4096, 256]⟩
abbrev S1x1x32x128 : Shape := ⟨4, ![1, 1, 32, 128]⟩
abbrev S1x1x160x4096 : Shape := ⟨4, ![1, 1, 160, 4096]⟩
abbrev S1x1x1x128 : Shape := ⟨4, ![1, 1, 1, 128]⟩
abbrev S1x1x1x8x128 : Shape := ⟨5, ![1, 1, 1, 8, 128]⟩
abbrev S1x1x4x256 : Shape := ⟨4, ![1, 1, 4, 256]⟩
abbrev S4x256x256 : Shape := ⟨3, ![4, 256, 256]⟩
abbrev S4736x256 : Shape := ⟨2, ![4736, 256]⟩
abbrev S8x256 : Shape := ⟨2, ![8, 256]⟩
abbrev S160x256 : Shape := ⟨2, ![160, 256]⟩
abbrev S1x128x640 : Shape := ⟨3, ![1, 128, 640]⟩
abbrev S128x640 : Shape := ⟨2, ![128, 640]⟩
abbrev S640 : Shape := ⟨1, ![640]⟩
abbrev S1x640 : Shape := ⟨2, ![1, 640]⟩
abbrev S1x256 : Shape := ⟨2, ![1, 256]⟩
abbrev S1 : Shape := ⟨1, ![1]⟩
abbrev S1x1 : Shape := ⟨2, ![1, 1]⟩
abbrev S256x1 : Shape := ⟨2, ![256, 1]⟩
abbrev S1x128 : Shape := ⟨2, ![1, 128]⟩
abbrev S1x1x1x1x128 : Shape := ⟨5, ![1, 1, 1, 1, 128]⟩
abbrev S128x256 : Shape := ⟨2, ![128, 256]⟩
abbrev S1x128x256 : Shape := ⟨3, ![1, 128, 256]⟩
abbrev S256x256 : Shape := ⟨2, ![256, 256]⟩
abbrev S1x256x256 : Shape := ⟨3, ![1, 256, 256]⟩
abbrev S1x1x256x256 : Shape := ⟨4, ![1, 1, 256, 256]⟩
abbrev S256 : Shape := ⟨1, ![256]⟩
abbrev S1x1x160x256 : Shape := ⟨4, ![1, 1, 160, 256]⟩
abbrev S1x1x1x256 : Shape := ⟨4, ![1, 1, 1, 256]⟩
abbrev S256x128 : Shape := ⟨2, ![256, 128]⟩
abbrev S1x256x128 : Shape := ⟨3, ![1, 256, 128]⟩
abbrev S1x1x4 : Shape := ⟨3, ![1, 1, 4]⟩
abbrev S1x1x4x1 : Shape := ⟨4, ![1, 1, 4, 1]⟩

abbrev nBuf : Space → Nat
  | .hbm => 11
  | .vmem => 24
  | .smem => 0
  | _ => 0

abbrev bufTy : (tb : Table) → Fin (tcTables nBuf tb) → BufTy
  | .hbm, ⟨0, _⟩ => ⟨S2x4096x10240, .bf16⟩
  | .hbm, ⟨1, _⟩ => ⟨S2x16x4096x256, .fp8e4m3⟩
  | .hbm, ⟨2, _⟩ => ⟨S2x16x32x128, .f32⟩
  | .hbm, ⟨3, _⟩ => ⟨S2x16x160x4096, .f32⟩
  | .hbm, ⟨4, _⟩ => ⟨S2x16x1x128, .f32⟩
  | .hbm, ⟨5, _⟩ => ⟨S2x16x160x4096, .fp8e4m3⟩
  | .hbm, ⟨6, _⟩ => ⟨S2x4096x10240, .fp8e4m3⟩
  | .hbm, ⟨7, _⟩ => ⟨S2x16x16x8x128, .f32⟩
  | .hbm, ⟨8, _⟩ => ⟨S2x4096x10240, .fp8e4m3⟩
  | .hbm, ⟨9, _⟩ => ⟨S2x16x4x4096, .f32⟩
  | .hbm, ⟨10, _⟩ => ⟨S2x16x4x256, .f32⟩
  | .local _ .vmem, ⟨0, _⟩ => ⟨S1x256x640, .bf16⟩
  | .local _ .vmem, ⟨1, _⟩ => ⟨S1x256x640, .bf16⟩
  | .local _ .vmem, ⟨2, _⟩ => ⟨S1x1x4096x256, .fp8e4m3⟩
  | .local _ .vmem, ⟨3, _⟩ => ⟨S1x1x4096x256, .fp8e4m3⟩
  | .local _ .vmem, ⟨4, _⟩ => ⟨S1x1x32x128, .f32⟩
  | .local _ .vmem, ⟨5, _⟩ => ⟨S1x1x32x128, .f32⟩
  | .local _ .vmem, ⟨6, _⟩ => ⟨S1x1x160x4096, .fp8e4m3⟩
  | .local _ .vmem, ⟨7, _⟩ => ⟨S1x1x160x4096, .fp8e4m3⟩
  | .local _ .vmem, ⟨8, _⟩ => ⟨S1x1x1x128, .f32⟩
  | .local _ .vmem, ⟨9, _⟩ => ⟨S1x1x1x128, .f32⟩
  | .local _ .vmem, ⟨10, _⟩ => ⟨S1x256x640, .fp8e4m3⟩
  | .local _ .vmem, ⟨11, _⟩ => ⟨S1x256x640, .fp8e4m3⟩
  | .local _ .vmem, ⟨12, _⟩ => ⟨S1x1x1x8x128, .f32⟩
  | .local _ .vmem, ⟨13, _⟩ => ⟨S1x1x1x8x128, .f32⟩
  | .local _ .vmem, ⟨14, _⟩ => ⟨S1x256x640, .fp8e4m3⟩
  | .local _ .vmem, ⟨15, _⟩ => ⟨S1x256x640, .fp8e4m3⟩
  | .local _ .vmem, ⟨16, _⟩ => ⟨S1x1x4x256, .f32⟩
  | .local _ .vmem, ⟨17, _⟩ => ⟨S1x1x4x256, .f32⟩
  | .local _ .vmem, ⟨18, _⟩ => ⟨S1x1x4x256, .f32⟩
  | .local _ .vmem, ⟨19, _⟩ => ⟨S1x1x4x256, .f32⟩
  | .local _ .vmem, ⟨20, _⟩ => ⟨S4x256x256, .fp8e4m3⟩
  | .local _ .vmem, ⟨21, _⟩ => ⟨S4736x256, .f32⟩
  | .local _ .vmem, ⟨22, _⟩ => ⟨S8x256, .f32⟩
  | .local _ .vmem, ⟨23, _⟩ => ⟨S160x256, .f32⟩
  | _, _ => ⟨S2x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 16], ![false, false, false]⟩

@[reducible] def k0_t1_loop (i : grid0.Coords) : Scf.Loop 32 :=
  let c0_i32_244 : BitVec 32 := 0#32
  let arg2 : BitVec 32 := BitVec.ofNat 32 (i 2).val
  let v590 : BitVec 32 := Scalar.subi arg2 c0_i32_244
  let c1_i32_245 : BitVec 32 := 1#32
  let v592 : BitVec 32 := Scalar.divsi v590 c1_i32_245
  let v593 : BitVec 32 := Scalar.muli v592 c1_i32_245
  let v594 : BitVec 32 := Scalar.addi c0_i32_244 v593
  let c1_i32_246 : BitVec 32 := 1#32
  ⟨c0_i32_244, v594, c1_i32_246⟩
def k0_off1 (i : grid0.Coords) (k0_t1 : Fin (k0_t1_loop i).trips) : Fin 4 → Nat :=
  let c0_629 : Index := 0#32
  let c0_630 : Index := 0#32
  let c0_i32_244 : BitVec 32 := 0#32
  let c1_i32_246 : BitVec 32 := 1#32
  let arg17 : BitVec 32 := Scf.iv c0_i32_244 c1_i32_246 k0_t1
  let c256_i32_628 : BitVec 32 := 256#32
  let v1299 : BitVec 32 := Scalar.muli arg17 c256_i32_628
  let v1300 : Index := Scalar.indexCast v1299
  let c0_631 : Index := 0#32
  ![0, 0, v1300.toNat, 0]
def k0_off2 (i : grid0.Coords) (k0_t1 : Fin (k0_t1_loop i).trips) (c0_i32_634 : BitVec 32) : Fin 4 → Nat :=
  let c0_635 : Index := 0#32
  let c0_636 : Index := 0#32
  let c0_i32_244 : BitVec 32 := 0#32
  let c1_i32_246 : BitVec 32 := 1#32
  let arg17 : BitVec 32 := Scf.iv c0_i32_244 c1_i32_246 k0_t1
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off3 (i : grid0.Coords) (k0_t1 : Fin (k0_t1_loop i).trips) : Fin 2 → Nat :=
  let c0_i32_244 : BitVec 32 := 0#32
  let c1_i32_246 : BitVec 32 := 1#32
  let arg17 : BitVec 32 := Scf.iv c0_i32_244 c1_i32_246 k0_t1
  let c256_i32_643 : BitVec 32 := 256#32
  let v1325 : BitVec 32 := Scalar.muli arg17 c256_i32_643
  let v1326 : Index := Scalar.indexCast v1325
  let c0_644 : Index := 0#32
  ![v1326.toNat, 0]
@[reducible] def k0_t2_loop (i : grid0.Coords) : Scf.Loop 32 :=
  let c0_i32_244 : BitVec 32 := 0#32
  let arg2 : BitVec 32 := BitVec.ofNat 32 (i 2).val
  let v590 : BitVec 32 := Scalar.subi arg2 c0_i32_244
  let c1_i32_245 : BitVec 32 := 1#32
  let v592 : BitVec 32 := Scalar.divsi v590 c1_i32_245
  let v593 : BitVec 32 := Scalar.muli v592 c1_i32_245
  let v594 : BitVec 32 := Scalar.addi c0_i32_244 v593
  let v591 : BitVec 32 := Scalar.addi c0_i32_244 v590
  let c1_i32_247 : BitVec 32 := 1#32
  ⟨v594, v591, c1_i32_247⟩
def k0_off4 (i : grid0.Coords) (k0_t2 : Fin (k0_t2_loop i).trips) : Fin 4 → Nat :=
  let c0_629 : Index := 0#32
  let c0_630 : Index := 0#32
  let c0_i32_244 : BitVec 32 := 0#32
  let arg2 : BitVec 32 := BitVec.ofNat 32 (i 2).val
  let v590 : BitVec 32 := Scalar.subi arg2 c0_i32_244
  let c1_i32_245 : BitVec 32 := 1#32
  let v592 : BitVec 32 := Scalar.divsi v590 c1_i32_245
  let v593 : BitVec 32 := Scalar.muli v592 c1_i32_245
  let v594 : BitVec 32 := Scalar.addi c0_i32_244 v593
  let c1_i32_247 : BitVec 32 := 1#32
  let arg17 : BitVec 32 := Scf.iv v594 c1_i32_247 k0_t2
  let c256_i32_628 : BitVec 32 := 256#32
  let v1299 : BitVec 32 := Scalar.muli arg17 c256_i32_628
  let v1300 : Index := Scalar.indexCast v1299
  let c0_631 : Index := 0#32
  ![0, 0, v1300.toNat, 0]
def k0_off5 (i : grid0.Coords) (k0_t2 : Fin (k0_t2_loop i).trips) (c0_i32_634 : BitVec 32) : Fin 4 → Nat :=
  let c0_635 : Index := 0#32
  let c0_636 : Index := 0#32
  let c0_i32_244 : BitVec 32 := 0#32
  let arg2 : BitVec 32 := BitVec.ofNat 32 (i 2).val
  let v590 : BitVec 32 := Scalar.subi arg2 c0_i32_244
  let c1_i32_245 : BitVec 32 := 1#32
  let v592 : BitVec 32 := Scalar.divsi v590 c1_i32_245
  let v593 : BitVec 32 := Scalar.muli v592 c1_i32_245
  let v594 : BitVec 32 := Scalar.addi c0_i32_244 v593
  let c1_i32_247 : BitVec 32 := 1#32
  let arg17 : BitVec 32 := Scf.iv v594 c1_i32_247 k0_t2
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off6 (i : grid0.Coords) (k0_t2 : Fin (k0_t2_loop i).trips) : Fin 2 → Nat :=
  let c0_i32_244 : BitVec 32 := 0#32
  let arg2 : BitVec 32 := BitVec.ofNat 32 (i 2).val
  let v590 : BitVec 32 := Scalar.subi arg2 c0_i32_244
  let c1_i32_245 : BitVec 32 := 1#32
  let v592 : BitVec 32 := Scalar.divsi v590 c1_i32_245
  let v593 : BitVec 32 := Scalar.muli v592 c1_i32_245
  let v594 : BitVec 32 := Scalar.addi c0_i32_244 v593
  let c1_i32_247 : BitVec 32 := 1#32
  let arg17 : BitVec 32 := Scf.iv v594 c1_i32_247 k0_t2
  let c256_i32_643 : BitVec 32 := 256#32
  let v1325 : BitVec 32 := Scalar.muli arg17 c256_i32_643
  let v1326 : Index := Scalar.indexCast v1325
  let c0_644 : Index := 0#32
  ![v1326.toNat, 0]
def k0_off7 (i : grid0.Coords) : Fin 4 → Nat :=
  let c0_249 : Index := 0#32
  let c0_250 : Index := 0#32
  let arg2 : BitVec 32 := BitVec.ofNat 32 (i 2).val
  let c256_i32_248 : BitVec 32 := 256#32
  let v597 : BitVec 32 := Scalar.muli arg2 c256_i32_248
  let v598 : Index := Scalar.indexCast v597
  let c0_251 : Index := 0#32
  ![0, 0, v598.toNat, 0]
def k0_off8 (i : grid0.Coords) (c0_i32_253 : BitVec 32) : Fin 4 → Nat :=
  let c0_254 : Index := 0#32
  let c0_255 : Index := 0#32
  let arg2 : BitVec 32 := BitVec.ofNat 32 (i 2).val
  let c2_i32 : BitVec 32 := 2#32
  let v602 : BitVec 32 := Scalar.muli arg2 c2_i32
  let v603 : BitVec 32 := Scalar.addi v602 c0_i32_253
  let v604 : Index := Scalar.indexCast v603
  let c0_256 : Index := 0#32
  ![0, 0, v604.toNat, 0]
def k0_off9 (i : grid0.Coords) : Fin 2 → Nat :=
  let arg2 : BitVec 32 := BitVec.ofNat 32 (i 2).val
  let c256_i32_263 : BitVec 32 := 256#32
  let v626 : BitVec 32 := Scalar.muli arg2 c256_i32_263
  let v627 : Index := Scalar.indexCast v626
  let c0_264 : Index := 0#32
  ![v627.toNat, 0]
@[reducible] def k0_t3_loop (i : grid0.Coords) : Scf.Loop 32 :=
  let c0_i32_268 : BitVec 32 := 0#32
  let arg2 : BitVec 32 := BitVec.ofNat 32 (i 2).val
  let c1_i32_266 : BitVec 32 := 1#32
  let v634 : BitVec 32 := Scalar.addi arg2 c1_i32_266
  let v636 : BitVec 32 := Scalar.subi v634 c0_i32_268
  let c1_i32_269 : BitVec 32 := 1#32
  let v638 : BitVec 32 := Scalar.divsi v636 c1_i32_269
  let v639 : BitVec 32 := Scalar.muli v638 c1_i32_269
  let v640 : BitVec 32 := Scalar.addi c0_i32_268 v639
  let c1_i32_270 : BitVec 32 := 1#32
  ⟨c0_i32_268, v640, c1_i32_270⟩
def k0_off10 (i : grid0.Coords) (k0_t3 : Fin (k0_t3_loop i).trips) : Fin 2 → Nat :=
  let c0_i32_268 : BitVec 32 := 0#32
  let c1_i32_270 : BitVec 32 := 1#32
  let arg17 : BitVec 32 := Scf.iv c0_i32_268 c1_i32_270 k0_t3
  let c256_i32_628 : BitVec 32 := 256#32
  let v1299 : BitVec 32 := Scalar.muli arg17 c256_i32_628
  let v1300 : Index := Scalar.indexCast v1299
  let c0_629 : Index := 0#32
  ![v1300.toNat, 0]
@[reducible] def k0_t4_loop (i : grid0.Coords) : Scf.Loop 32 :=
  let c0_i32_268 : BitVec 32 := 0#32
  let arg2 : BitVec 32 := BitVec.ofNat 32 (i 2).val
  let c1_i32_266 : BitVec 32 := 1#32
  let v634 : BitVec 32 := Scalar.addi arg2 c1_i32_266
  let v636 : BitVec 32 := Scalar.subi v634 c0_i32_268
  let c1_i32_269 : BitVec 32 := 1#32
  let v638 : BitVec 32 := Scalar.divsi v636 c1_i32_269
  let v639 : BitVec 32 := Scalar.muli v638 c1_i32_269
  let v640 : BitVec 32 := Scalar.addi c0_i32_268 v639
  let v637 : BitVec 32 := Scalar.addi c0_i32_268 v636
  let c1_i32_271 : BitVec 32 := 1#32
  ⟨v640, v637, c1_i32_271⟩
def k0_off11 (i : grid0.Coords) (k0_t4 : Fin (k0_t4_loop i).trips) : Fin 2 → Nat :=
  let c0_i32_268 : BitVec 32 := 0#32
  let arg2 : BitVec 32 := BitVec.ofNat 32 (i 2).val
  let c1_i32_266 : BitVec 32 := 1#32
  let v634 : BitVec 32 := Scalar.addi arg2 c1_i32_266
  let v636 : BitVec 32 := Scalar.subi v634 c0_i32_268
  let c1_i32_269 : BitVec 32 := 1#32
  let v638 : BitVec 32 := Scalar.divsi v636 c1_i32_269
  let v639 : BitVec 32 := Scalar.muli v638 c1_i32_269
  let v640 : BitVec 32 := Scalar.addi c0_i32_268 v639
  let c1_i32_271 : BitVec 32 := 1#32
  let arg17 : BitVec 32 := Scf.iv v640 c1_i32_271 k0_t4
  let c256_i32_628 : BitVec 32 := 256#32
  let v1299 : BitVec 32 := Scalar.muli arg17 c256_i32_628
  let v1300 : Index := Scalar.indexCast v1299
  let c0_629 : Index := 0#32
  ![v1300.toNat, 0]
@[reducible] def k0_t5_loop (i : grid0.Coords) : Scf.Loop 32 :=
  let c0_i32_289 : BitVec 32 := 0#32
  let arg2 : BitVec 32 := BitVec.ofNat 32 (i 2).val
  let c1_i32_288 : BitVec 32 := 1#32
  let v680 : BitVec 32 := Scalar.addi arg2 c1_i32_288
  let v681 : BitVec 32 := Scalar.subi v680 c0_i32_289
  let c1_i32_291 : BitVec 32 := 1#32
  let v683 : BitVec 32 := Scalar.divsi v681 c1_i32_291
  let v684 : BitVec 32 := Scalar.muli v683 c1_i32_291
  let v685 : BitVec 32 := Scalar.addi c0_i32_289 v684
  let c1_i32_292 : BitVec 32 := 1#32
  ⟨c0_i32_289, v685, c1_i32_292⟩
def k0_off12 (i : grid0.Coords) (k0_t5 : Fin (k0_t5_loop i).trips) : Fin 2 → Nat :=
  let c0_i32_289 : BitVec 32 := 0#32
  let c1_i32_292 : BitVec 32 := 1#32
  let arg17 : BitVec 32 := Scf.iv c0_i32_289 c1_i32_292 k0_t5
  let c256_i32_628 : BitVec 32 := 256#32
  let v1299 : BitVec 32 := Scalar.muli arg17 c256_i32_628
  let v1300 : Index := Scalar.indexCast v1299
  let c0_629 : Index := 0#32
  ![v1300.toNat, 0]
def k0_off13 (i : grid0.Coords) (k0_t5 : Fin (k0_t5_loop i).trips) : Fin 4 → Nat :=
  let c0_631 : Index := 0#32
  let c0_632 : Index := 0#32
  let c0_633 : Index := 0#32
  let c0_i32_289 : BitVec 32 := 0#32
  let c1_i32_292 : BitVec 32 := 1#32
  let arg17 : BitVec 32 := Scf.iv c0_i32_289 c1_i32_292 k0_t5
  let c256_i32_630 : BitVec 32 := 256#32
  let v1305 : BitVec 32 := Scalar.muli arg17 c256_i32_630
  let v1306 : Index := Scalar.indexCast v1305
  ![0, 0, 0, v1306.toNat]
@[reducible] def k0_t6_loop (i : grid0.Coords) : Scf.Loop 32 :=
  let c0_i32_289 : BitVec 32 := 0#32
  let arg2 : BitVec 32 := BitVec.ofNat 32 (i 2).val
  let c1_i32_288 : BitVec 32 := 1#32
  let v680 : BitVec 32 := Scalar.addi arg2 c1_i32_288
  let v681 : BitVec 32 := Scalar.subi v680 c0_i32_289
  let c1_i32_291 : BitVec 32 := 1#32
  let v683 : BitVec 32 := Scalar.divsi v681 c1_i32_291
  let v684 : BitVec 32 := Scalar.muli v683 c1_i32_291
  let v685 : BitVec 32 := Scalar.addi c0_i32_289 v684
  let v682 : BitVec 32 := Scalar.addi c0_i32_289 v681
  let c1_i32_293 : BitVec 32 := 1#32
  ⟨v685, v682, c1_i32_293⟩
def k0_off14 (i : grid0.Coords) (k0_t6 : Fin (k0_t6_loop i).trips) : Fin 2 → Nat :=
  let c0_i32_289 : BitVec 32 := 0#32
  let arg2 : BitVec 32 := BitVec.ofNat 32 (i 2).val
  let c1_i32_288 : BitVec 32 := 1#32
  let v680 : BitVec 32 := Scalar.addi arg2 c1_i32_288
  let v681 : BitVec 32 := Scalar.subi v680 c0_i32_289
  let c1_i32_291 : BitVec 32 := 1#32
  let v683 : BitVec 32 := Scalar.divsi v681 c1_i32_291
  let v684 : BitVec 32 := Scalar.muli v683 c1_i32_291
  let v685 : BitVec 32 := Scalar.addi c0_i32_289 v684
  let c1_i32_293 : BitVec 32 := 1#32
  let arg17 : BitVec 32 := Scf.iv v685 c1_i32_293 k0_t6
  let c256_i32_628 : BitVec 32 := 256#32
  let v1299 : BitVec 32 := Scalar.muli arg17 c256_i32_628
  let v1300 : Index := Scalar.indexCast v1299
  let c0_629 : Index := 0#32
  ![v1300.toNat, 0]
def k0_off15 (i : grid0.Coords) (k0_t6 : Fin (k0_t6_loop i).trips) : Fin 4 → Nat :=
  let c0_631 : Index := 0#32
  let c0_632 : Index := 0#32
  let c0_633 : Index := 0#32
  let c0_i32_289 : BitVec 32 := 0#32
  let arg2 : BitVec 32 := BitVec.ofNat 32 (i 2).val
  let c1_i32_288 : BitVec 32 := 1#32
  let v680 : BitVec 32 := Scalar.addi arg2 c1_i32_288
  let v681 : BitVec 32 := Scalar.subi v680 c0_i32_289
  let c1_i32_291 : BitVec 32 := 1#32
  let v683 : BitVec 32 := Scalar.divsi v681 c1_i32_291
  let v684 : BitVec 32 := Scalar.muli v683 c1_i32_291
  let v685 : BitVec 32 := Scalar.addi c0_i32_289 v684
  let c1_i32_293 : BitVec 32 := 1#32
  let arg17 : BitVec 32 := Scf.iv v685 c1_i32_293 k0_t6
  let c256_i32_630 : BitVec 32 := 256#32
  let v1305 : BitVec 32 := Scalar.muli arg17 c256_i32_630
  let v1306 : Index := Scalar.indexCast v1305
  ![0, 0, 0, v1306.toNat]
@[reducible] def k0_t7_loop (i : grid0.Coords) : Scf.Loop 32 :=
  let c0_i32_336 : BitVec 32 := 0#32
  let arg2 : BitVec 32 := BitVec.ofNat 32 (i 2).val
  let v760 : BitVec 32 := Scalar.subi arg2 c0_i32_336
  let c1_i32_337 : BitVec 32 := 1#32
  let v762 : BitVec 32 := Scalar.divsi v760 c1_i32_337
  let v763 : BitVec 32 := Scalar.muli v762 c1_i32_337
  let v764 : BitVec 32 := Scalar.addi c0_i32_336 v763
  let c1_i32_338 : BitVec 32 := 1#32
  ⟨c0_i32_336, v764, c1_i32_338⟩
def k0_off16 (i : grid0.Coords) (k0_t7 : Fin (k0_t7_loop i).trips) : Fin 4 → Nat :=
  let c0_629 : Index := 0#32
  let c0_630 : Index := 0#32
  let c0_i32_336 : BitVec 32 := 0#32
  let c1_i32_338 : BitVec 32 := 1#32
  let arg17 : BitVec 32 := Scf.iv c0_i32_336 c1_i32_338 k0_t7
  let c256_i32_628 : BitVec 32 := 256#32
  let v1299 : BitVec 32 := Scalar.muli arg17 c256_i32_628
  let v1300 : Index := Scalar.indexCast v1299
  let c0_631 : Index := 0#32
  ![0, 0, v1300.toNat, 0]
def k0_off17 (i : grid0.Coords) (k0_t7 : Fin (k0_t7_loop i).trips) (c0_i32_634 : BitVec 32) : Fin 4 → Nat :=
  let c0_635 : Index := 0#32
  let c0_636 : Index := 0#32
  let c0_i32_336 : BitVec 32 := 0#32
  let c1_i32_338 : BitVec 32 := 1#32
  let arg17 : BitVec 32 := Scf.iv c0_i32_336 c1_i32_338 k0_t7
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off18 (i : grid0.Coords) (k0_t7 : Fin (k0_t7_loop i).trips) : Fin 2 → Nat :=
  let c0_i32_336 : BitVec 32 := 0#32
  let c1_i32_338 : BitVec 32 := 1#32
  let arg17 : BitVec 32 := Scf.iv c0_i32_336 c1_i32_338 k0_t7
  let c256_i32_643 : BitVec 32 := 256#32
  let v1325 : BitVec 32 := Scalar.muli arg17 c256_i32_643
  let v1326 : Index := Scalar.indexCast v1325
  let c0_644 : Index := 0#32
  ![v1326.toNat, 0]
@[reducible] def k0_t8_loop (i : grid0.Coords) : Scf.Loop 32 :=
  let c0_i32_336 : BitVec 32 := 0#32
  let arg2 : BitVec 32 := BitVec.ofNat 32 (i 2).val
  let v760 : BitVec 32 := Scalar.subi arg2 c0_i32_336
  let c1_i32_337 : BitVec 32 := 1#32
  let v762 : BitVec 32 := Scalar.divsi v760 c1_i32_337
  let v763 : BitVec 32 := Scalar.muli v762 c1_i32_337
  let v764 : BitVec 32 := Scalar.addi c0_i32_336 v763
  let v761 : BitVec 32 := Scalar.addi c0_i32_336 v760
  let c1_i32_339 : BitVec 32 := 1#32
  ⟨v764, v761, c1_i32_339⟩
def k0_off19 (i : grid0.Coords) (k0_t8 : Fin (k0_t8_loop i).trips) : Fin 4 → Nat :=
  let c0_629 : Index := 0#32
  let c0_630 : Index := 0#32
  let c0_i32_336 : BitVec 32 := 0#32
  let arg2 : BitVec 32 := BitVec.ofNat 32 (i 2).val
  let v760 : BitVec 32 := Scalar.subi arg2 c0_i32_336
  let c1_i32_337 : BitVec 32 := 1#32
  let v762 : BitVec 32 := Scalar.divsi v760 c1_i32_337
  let v763 : BitVec 32 := Scalar.muli v762 c1_i32_337
  let v764 : BitVec 32 := Scalar.addi c0_i32_336 v763
  let c1_i32_339 : BitVec 32 := 1#32
  let arg17 : BitVec 32 := Scf.iv v764 c1_i32_339 k0_t8
  let c256_i32_628 : BitVec 32 := 256#32
  let v1299 : BitVec 32 := Scalar.muli arg17 c256_i32_628
  let v1300 : Index := Scalar.indexCast v1299
  let c0_631 : Index := 0#32
  ![0, 0, v1300.toNat, 0]
def k0_off20 (i : grid0.Coords) (k0_t8 : Fin (k0_t8_loop i).trips) (c0_i32_634 : BitVec 32) : Fin 4 → Nat :=
  let c0_635 : Index := 0#32
  let c0_636 : Index := 0#32
  let c0_i32_336 : BitVec 32 := 0#32
  let arg2 : BitVec 32 := BitVec.ofNat 32 (i 2).val
  let v760 : BitVec 32 := Scalar.subi arg2 c0_i32_336
  let c1_i32_337 : BitVec 32 := 1#32
  let v762 : BitVec 32 := Scalar.divsi v760 c1_i32_337
  let v763 : BitVec 32 := Scalar.muli v762 c1_i32_337
  let v764 : BitVec 32 := Scalar.addi c0_i32_336 v763
  let c1_i32_339 : BitVec 32 := 1#32
  let arg17 : BitVec 32 := Scf.iv v764 c1_i32_339 k0_t8
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off21 (i : grid0.Coords) (k0_t8 : Fin (k0_t8_loop i).trips) : Fin 2 → Nat :=
  let c0_i32_336 : BitVec 32 := 0#32
  let arg2 : BitVec 32 := BitVec.ofNat 32 (i 2).val
  let v760 : BitVec 32 := Scalar.subi arg2 c0_i32_336
  let c1_i32_337 : BitVec 32 := 1#32
  let v762 : BitVec 32 := Scalar.divsi v760 c1_i32_337
  let v763 : BitVec 32 := Scalar.muli v762 c1_i32_337
  let v764 : BitVec 32 := Scalar.addi c0_i32_336 v763
  let c1_i32_339 : BitVec 32 := 1#32
  let arg17 : BitVec 32 := Scf.iv v764 c1_i32_339 k0_t8
  let c256_i32_643 : BitVec 32 := 256#32
  let v1325 : BitVec 32 := Scalar.muli arg17 c256_i32_643
  let v1326 : Index := Scalar.indexCast v1325
  let c0_644 : Index := 0#32
  ![v1326.toNat, 0]
@[reducible] def k0_t9_loop (i : grid0.Coords) : Scf.Loop 32 :=
  let c0_i32_361 : BitVec 32 := 0#32
  let arg2 : BitVec 32 := BitVec.ofNat 32 (i 2).val
  let c1_i32_359 : BitVec 32 := 1#32
  let v804 : BitVec 32 := Scalar.addi arg2 c1_i32_359
  let v806 : BitVec 32 := Scalar.subi v804 c0_i32_361
  let c1_i32_362 : BitVec 32 := 1#32
  let v808 : BitVec 32 := Scalar.divsi v806 c1_i32_362
  let v809 : BitVec 32 := Scalar.muli v808 c1_i32_362
  let v810 : BitVec 32 := Scalar.addi c0_i32_361 v809
  let c1_i32_363 : BitVec 32 := 1#32
  ⟨c0_i32_361, v810, c1_i32_363⟩
def k0_off22 (i : grid0.Coords) (k0_t9 : Fin (k0_t9_loop i).trips) : Fin 2 → Nat :=
  let c0_i32_361 : BitVec 32 := 0#32
  let c1_i32_363 : BitVec 32 := 1#32
  let arg17 : BitVec 32 := Scf.iv c0_i32_361 c1_i32_363 k0_t9
  let c256_i32_628 : BitVec 32 := 256#32
  let v1299 : BitVec 32 := Scalar.muli arg17 c256_i32_628
  let v1300 : Index := Scalar.indexCast v1299
  let c0_629 : Index := 0#32
  ![v1300.toNat, 0]
@[reducible] def k0_t10_loop (i : grid0.Coords) : Scf.Loop 32 :=
  let c0_i32_361 : BitVec 32 := 0#32
  let arg2 : BitVec 32 := BitVec.ofNat 32 (i 2).val
  let c1_i32_359 : BitVec 32 := 1#32
  let v804 : BitVec 32 := Scalar.addi arg2 c1_i32_359
  let v806 : BitVec 32 := Scalar.subi v804 c0_i32_361
  let c1_i32_362 : BitVec 32 := 1#32
  let v808 : BitVec 32 := Scalar.divsi v806 c1_i32_362
  let v809 : BitVec 32 := Scalar.muli v808 c1_i32_362
  let v810 : BitVec 32 := Scalar.addi c0_i32_361 v809
  let v807 : BitVec 32 := Scalar.addi c0_i32_361 v806
  let c1_i32_364 : BitVec 32 := 1#32
  ⟨v810, v807, c1_i32_364⟩
def k0_off23 (i : grid0.Coords) (k0_t10 : Fin (k0_t10_loop i).trips) : Fin 2 → Nat :=
  let c0_i32_361 : BitVec 32 := 0#32
  let arg2 : BitVec 32 := BitVec.ofNat 32 (i 2).val
  let c1_i32_359 : BitVec 32 := 1#32
  let v804 : BitVec 32 := Scalar.addi arg2 c1_i32_359
  let v806 : BitVec 32 := Scalar.subi v804 c0_i32_361
  let c1_i32_362 : BitVec 32 := 1#32
  let v808 : BitVec 32 := Scalar.divsi v806 c1_i32_362
  let v809 : BitVec 32 := Scalar.muli v808 c1_i32_362
  let v810 : BitVec 32 := Scalar.addi c0_i32_361 v809
  let c1_i32_364 : BitVec 32 := 1#32
  let arg17 : BitVec 32 := Scf.iv v810 c1_i32_364 k0_t10
  let c256_i32_628 : BitVec 32 := 256#32
  let v1299 : BitVec 32 := Scalar.muli arg17 c256_i32_628
  let v1300 : Index := Scalar.indexCast v1299
  let c0_629 : Index := 0#32
  ![v1300.toNat, 0]
@[reducible] def k0_t11_loop (i : grid0.Coords) : Scf.Loop 32 :=
  let c0_i32_382 : BitVec 32 := 0#32
  let arg2 : BitVec 32 := BitVec.ofNat 32 (i 2).val
  let c1_i32_381 : BitVec 32 := 1#32
  let v850 : BitVec 32 := Scalar.addi arg2 c1_i32_381
  let v851 : BitVec 32 := Scalar.subi v850 c0_i32_382
  let c1_i32_384 : BitVec 32 := 1#32
  let v853 : BitVec 32 := Scalar.divsi v851 c1_i32_384
  let v854 : BitVec 32 := Scalar.muli v853 c1_i32_384
  let v855 : BitVec 32 := Scalar.addi c0_i32_382 v854
  let c1_i32_385 : BitVec 32 := 1#32
  ⟨c0_i32_382, v855, c1_i32_385⟩
def k0_off24 (i : grid0.Coords) (k0_t11 : Fin (k0_t11_loop i).trips) : Fin 2 → Nat :=
  let c0_i32_382 : BitVec 32 := 0#32
  let c1_i32_385 : BitVec 32 := 1#32
  let arg17 : BitVec 32 := Scf.iv c0_i32_382 c1_i32_385 k0_t11
  let c256_i32_628 : BitVec 32 := 256#32
  let v1299 : BitVec 32 := Scalar.muli arg17 c256_i32_628
  let v1300 : Index := Scalar.indexCast v1299
  let c0_629 : Index := 0#32
  ![v1300.toNat, 0]
def k0_off25 (i : grid0.Coords) (k0_t11 : Fin (k0_t11_loop i).trips) : Fin 4 → Nat :=
  let c0_631 : Index := 0#32
  let c0_632 : Index := 0#32
  let c0_633 : Index := 0#32
  let c0_i32_382 : BitVec 32 := 0#32
  let c1_i32_385 : BitVec 32 := 1#32
  let arg17 : BitVec 32 := Scf.iv c0_i32_382 c1_i32_385 k0_t11
  let c256_i32_630 : BitVec 32 := 256#32
  let v1305 : BitVec 32 := Scalar.muli arg17 c256_i32_630
  let v1306 : Index := Scalar.indexCast v1305
  ![0, 0, 0, v1306.toNat]
@[reducible] def k0_t12_loop (i : grid0.Coords) : Scf.Loop 32 :=
  let c0_i32_382 : BitVec 32 := 0#32
  let arg2 : BitVec 32 := BitVec.ofNat 32 (i 2).val
  let c1_i32_381 : BitVec 32 := 1#32
  let v850 : BitVec 32 := Scalar.addi arg2 c1_i32_381
  let v851 : BitVec 32 := Scalar.subi v850 c0_i32_382
  let c1_i32_384 : BitVec 32 := 1#32
  let v853 : BitVec 32 := Scalar.divsi v851 c1_i32_384
  let v854 : BitVec 32 := Scalar.muli v853 c1_i32_384
  let v855 : BitVec 32 := Scalar.addi c0_i32_382 v854
  let v852 : BitVec 32 := Scalar.addi c0_i32_382 v851
  let c1_i32_386 : BitVec 32 := 1#32
  ⟨v855, v852, c1_i32_386⟩
def k0_off26 (i : grid0.Coords) (k0_t12 : Fin (k0_t12_loop i).trips) : Fin 2 → Nat :=
  let c0_i32_382 : BitVec 32 := 0#32
  let arg2 : BitVec 32 := BitVec.ofNat 32 (i 2).val
  let c1_i32_381 : BitVec 32 := 1#32
  let v850 : BitVec 32 := Scalar.addi arg2 c1_i32_381
  let v851 : BitVec 32 := Scalar.subi v850 c0_i32_382
  let c1_i32_384 : BitVec 32 := 1#32
  let v853 : BitVec 32 := Scalar.divsi v851 c1_i32_384
  let v854 : BitVec 32 := Scalar.muli v853 c1_i32_384
  let v855 : BitVec 32 := Scalar.addi c0_i32_382 v854
  let c1_i32_386 : BitVec 32 := 1#32
  let arg17 : BitVec 32 := Scf.iv v855 c1_i32_386 k0_t12
  let c256_i32_628 : BitVec 32 := 256#32
  let v1299 : BitVec 32 := Scalar.muli arg17 c256_i32_628
  let v1300 : Index := Scalar.indexCast v1299
  let c0_629 : Index := 0#32
  ![v1300.toNat, 0]
def k0_off27 (i : grid0.Coords) (k0_t12 : Fin (k0_t12_loop i).trips) : Fin 4 → Nat :=
  let c0_631 : Index := 0#32
  let c0_632 : Index := 0#32
  let c0_633 : Index := 0#32
  let c0_i32_382 : BitVec 32 := 0#32
  let arg2 : BitVec 32 := BitVec.ofNat 32 (i 2).val
  let c1_i32_381 : BitVec 32 := 1#32
  let v850 : BitVec 32 := Scalar.addi arg2 c1_i32_381
  let v851 : BitVec 32 := Scalar.subi v850 c0_i32_382
  let c1_i32_384 : BitVec 32 := 1#32
  let v853 : BitVec 32 := Scalar.divsi v851 c1_i32_384
  let v854 : BitVec 32 := Scalar.muli v853 c1_i32_384
  let v855 : BitVec 32 := Scalar.addi c0_i32_382 v854
  let c1_i32_386 : BitVec 32 := 1#32
  let arg17 : BitVec 32 := Scf.iv v855 c1_i32_386 k0_t12
  let c256_i32_630 : BitVec 32 := 256#32
  let v1305 : BitVec 32 := Scalar.muli arg17 c256_i32_630
  let v1306 : Index := Scalar.indexCast v1305
  ![0, 0, 0, v1306.toNat]
@[reducible] def k0_t13_loop (i : grid0.Coords) : Scf.Loop 32 :=
  let c0_i32_429 : BitVec 32 := 0#32
  let arg2 : BitVec 32 := BitVec.ofNat 32 (i 2).val
  let v930 : BitVec 32 := Scalar.subi arg2 c0_i32_429
  let c1_i32_430 : BitVec 32 := 1#32
  let v932 : BitVec 32 := Scalar.divsi v930 c1_i32_430
  let v933 : BitVec 32 := Scalar.muli v932 c1_i32_430
  let v934 : BitVec 32 := Scalar.addi c0_i32_429 v933
  let c1_i32_431 : BitVec 32 := 1#32
  ⟨c0_i32_429, v934, c1_i32_431⟩
def k0_off28 (i : grid0.Coords) (k0_t13 : Fin (k0_t13_loop i).trips) : Fin 4 → Nat :=
  let c0_629 : Index := 0#32
  let c0_630 : Index := 0#32
  let c0_i32_429 : BitVec 32 := 0#32
  let c1_i32_431 : BitVec 32 := 1#32
  let arg17 : BitVec 32 := Scf.iv c0_i32_429 c1_i32_431 k0_t13
  let c256_i32_628 : BitVec 32 := 256#32
  let v1299 : BitVec 32 := Scalar.muli arg17 c256_i32_628
  let v1300 : Index := Scalar.indexCast v1299
  let c0_631 : Index := 0#32
  ![0, 0, v1300.toNat, 0]
def k0_off29 (i : grid0.Coords) (k0_t13 : Fin (k0_t13_loop i).trips) (c0_i32_634 : BitVec 32) : Fin 4 → Nat :=
  let c0_635 : Index := 0#32
  let c0_636 : Index := 0#32
  let c0_i32_429 : BitVec 32 := 0#32
  let c1_i32_431 : BitVec 32 := 1#32
  let arg17 : BitVec 32 := Scf.iv c0_i32_429 c1_i32_431 k0_t13
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off30 (i : grid0.Coords) (k0_t13 : Fin (k0_t13_loop i).trips) : Fin 2 → Nat :=
  let c0_i32_429 : BitVec 32 := 0#32
  let c1_i32_431 : BitVec 32 := 1#32
  let arg17 : BitVec 32 := Scf.iv c0_i32_429 c1_i32_431 k0_t13
  let c256_i32_643 : BitVec 32 := 256#32
  let v1325 : BitVec 32 := Scalar.muli arg17 c256_i32_643
  let v1326 : Index := Scalar.indexCast v1325
  let c0_644 : Index := 0#32
  ![v1326.toNat, 0]
@[reducible] def k0_t14_loop (i : grid0.Coords) : Scf.Loop 32 :=
  let c0_i32_429 : BitVec 32 := 0#32
  let arg2 : BitVec 32 := BitVec.ofNat 32 (i 2).val
  let v930 : BitVec 32 := Scalar.subi arg2 c0_i32_429
  let c1_i32_430 : BitVec 32 := 1#32
  let v932 : BitVec 32 := Scalar.divsi v930 c1_i32_430
  let v933 : BitVec 32 := Scalar.muli v932 c1_i32_430
  let v934 : BitVec 32 := Scalar.addi c0_i32_429 v933
  let v931 : BitVec 32 := Scalar.addi c0_i32_429 v930
  let c1_i32_432 : BitVec 32 := 1#32
  ⟨v934, v931, c1_i32_432⟩
def k0_off31 (i : grid0.Coords) (k0_t14 : Fin (k0_t14_loop i).trips) : Fin 4 → Nat :=
  let c0_629 : Index := 0#32
  let c0_630 : Index := 0#32
  let c0_i32_429 : BitVec 32 := 0#32
  let arg2 : BitVec 32 := BitVec.ofNat 32 (i 2).val
  let v930 : BitVec 32 := Scalar.subi arg2 c0_i32_429
  let c1_i32_430 : BitVec 32 := 1#32
  let v932 : BitVec 32 := Scalar.divsi v930 c1_i32_430
  let v933 : BitVec 32 := Scalar.muli v932 c1_i32_430
  let v934 : BitVec 32 := Scalar.addi c0_i32_429 v933
  let c1_i32_432 : BitVec 32 := 1#32
  let arg17 : BitVec 32 := Scf.iv v934 c1_i32_432 k0_t14
  let c256_i32_628 : BitVec 32 := 256#32
  let v1299 : BitVec 32 := Scalar.muli arg17 c256_i32_628
  let v1300 : Index := Scalar.indexCast v1299
  let c0_631 : Index := 0#32
  ![0, 0, v1300.toNat, 0]
def k0_off32 (i : grid0.Coords) (k0_t14 : Fin (k0_t14_loop i).trips) (c0_i32_634 : BitVec 32) : Fin 4 → Nat :=
  let c0_635 : Index := 0#32
  let c0_636 : Index := 0#32
  let c0_i32_429 : BitVec 32 := 0#32
  let arg2 : BitVec 32 := BitVec.ofNat 32 (i 2).val
  let v930 : BitVec 32 := Scalar.subi arg2 c0_i32_429
  let c1_i32_430 : BitVec 32 := 1#32
  let v932 : BitVec 32 := Scalar.divsi v930 c1_i32_430
  let v933 : BitVec 32 := Scalar.muli v932 c1_i32_430
  let v934 : BitVec 32 := Scalar.addi c0_i32_429 v933
  let c1_i32_432 : BitVec 32 := 1#32
  let arg17 : BitVec 32 := Scf.iv v934 c1_i32_432 k0_t14
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off33 (i : grid0.Coords) (k0_t14 : Fin (k0_t14_loop i).trips) : Fin 2 → Nat :=
  let c0_i32_429 : BitVec 32 := 0#32
  let arg2 : BitVec 32 := BitVec.ofNat 32 (i 2).val
  let v930 : BitVec 32 := Scalar.subi arg2 c0_i32_429
  let c1_i32_430 : BitVec 32 := 1#32
  let v932 : BitVec 32 := Scalar.divsi v930 c1_i32_430
  let v933 : BitVec 32 := Scalar.muli v932 c1_i32_430
  let v934 : BitVec 32 := Scalar.addi c0_i32_429 v933
  let c1_i32_432 : BitVec 32 := 1#32
  let arg17 : BitVec 32 := Scf.iv v934 c1_i32_432 k0_t14
  let c256_i32_643 : BitVec 32 := 256#32
  let v1325 : BitVec 32 := Scalar.muli arg17 c256_i32_643
  let v1326 : Index := Scalar.indexCast v1325
  let c0_644 : Index := 0#32
  ![v1326.toNat, 0]
@[reducible] def k0_t15_loop (i : grid0.Coords) : Scf.Loop 32 :=
  let c0_i32_454 : BitVec 32 := 0#32
  let arg2 : BitVec 32 := BitVec.ofNat 32 (i 2).val
  let c1_i32_452 : BitVec 32 := 1#32
  let v974 : BitVec 32 := Scalar.addi arg2 c1_i32_452
  let v976 : BitVec 32 := Scalar.subi v974 c0_i32_454
  let c1_i32_455 : BitVec 32 := 1#32
  let v978 : BitVec 32 := Scalar.divsi v976 c1_i32_455
  let v979 : BitVec 32 := Scalar.muli v978 c1_i32_455
  let v980 : BitVec 32 := Scalar.addi c0_i32_454 v979
  let c1_i32_456 : BitVec 32 := 1#32
  ⟨c0_i32_454, v980, c1_i32_456⟩
def k0_off34 (i : grid0.Coords) (k0_t15 : Fin (k0_t15_loop i).trips) : Fin 2 → Nat :=
  let c0_i32_454 : BitVec 32 := 0#32
  let c1_i32_456 : BitVec 32 := 1#32
  let arg17 : BitVec 32 := Scf.iv c0_i32_454 c1_i32_456 k0_t15
  let c256_i32_628 : BitVec 32 := 256#32
  let v1299 : BitVec 32 := Scalar.muli arg17 c256_i32_628
  let v1300 : Index := Scalar.indexCast v1299
  let c0_629 : Index := 0#32
  ![v1300.toNat, 0]
@[reducible] def k0_t16_loop (i : grid0.Coords) : Scf.Loop 32 :=
  let c0_i32_454 : BitVec 32 := 0#32
  let arg2 : BitVec 32 := BitVec.ofNat 32 (i 2).val
  let c1_i32_452 : BitVec 32 := 1#32
  let v974 : BitVec 32 := Scalar.addi arg2 c1_i32_452
  let v976 : BitVec 32 := Scalar.subi v974 c0_i32_454
  let c1_i32_455 : BitVec 32 := 1#32
  let v978 : BitVec 32 := Scalar.divsi v976 c1_i32_455
  let v979 : BitVec 32 := Scalar.muli v978 c1_i32_455
  let v980 : BitVec 32 := Scalar.addi c0_i32_454 v979
  let v977 : BitVec 32 := Scalar.addi c0_i32_454 v976
  let c1_i32_457 : BitVec 32 := 1#32
  ⟨v980, v977, c1_i32_457⟩
def k0_off35 (i : grid0.Coords) (k0_t16 : Fin (k0_t16_loop i).trips) : Fin 2 → Nat :=
  let c0_i32_454 : BitVec 32 := 0#32
  let arg2 : BitVec 32 := BitVec.ofNat 32 (i 2).val
  let c1_i32_452 : BitVec 32 := 1#32
  let v974 : BitVec 32 := Scalar.addi arg2 c1_i32_452
  let v976 : BitVec 32 := Scalar.subi v974 c0_i32_454
  let c1_i32_455 : BitVec 32 := 1#32
  let v978 : BitVec 32 := Scalar.divsi v976 c1_i32_455
  let v979 : BitVec 32 := Scalar.muli v978 c1_i32_455
  let v980 : BitVec 32 := Scalar.addi c0_i32_454 v979
  let c1_i32_457 : BitVec 32 := 1#32
  let arg17 : BitVec 32 := Scf.iv v980 c1_i32_457 k0_t16
  let c256_i32_628 : BitVec 32 := 256#32
  let v1299 : BitVec 32 := Scalar.muli arg17 c256_i32_628
  let v1300 : Index := Scalar.indexCast v1299
  let c0_629 : Index := 0#32
  ![v1300.toNat, 0]
@[reducible] def k0_t17_loop (i : grid0.Coords) : Scf.Loop 32 :=
  let c0_i32_475 : BitVec 32 := 0#32
  let arg2 : BitVec 32 := BitVec.ofNat 32 (i 2).val
  let c1_i32_474 : BitVec 32 := 1#32
  let v1020 : BitVec 32 := Scalar.addi arg2 c1_i32_474
  let v1021 : BitVec 32 := Scalar.subi v1020 c0_i32_475
  let c1_i32_477 : BitVec 32 := 1#32
  let v1023 : BitVec 32 := Scalar.divsi v1021 c1_i32_477
  let v1024 : BitVec 32 := Scalar.muli v1023 c1_i32_477
  let v1025 : BitVec 32 := Scalar.addi c0_i32_475 v1024
  let c1_i32_478 : BitVec 32 := 1#32
  ⟨c0_i32_475, v1025, c1_i32_478⟩
def k0_off36 (i : grid0.Coords) (k0_t17 : Fin (k0_t17_loop i).trips) : Fin 2 → Nat :=
  let c0_i32_475 : BitVec 32 := 0#32
  let c1_i32_478 : BitVec 32 := 1#32
  let arg17 : BitVec 32 := Scf.iv c0_i32_475 c1_i32_478 k0_t17
  let c256_i32_628 : BitVec 32 := 256#32
  let v1299 : BitVec 32 := Scalar.muli arg17 c256_i32_628
  let v1300 : Index := Scalar.indexCast v1299
  let c0_629 : Index := 0#32
  ![v1300.toNat, 0]
def k0_off37 (i : grid0.Coords) (k0_t17 : Fin (k0_t17_loop i).trips) : Fin 4 → Nat :=
  let c0_631 : Index := 0#32
  let c0_632 : Index := 0#32
  let c0_633 : Index := 0#32
  let c0_i32_475 : BitVec 32 := 0#32
  let c1_i32_478 : BitVec 32 := 1#32
  let arg17 : BitVec 32 := Scf.iv c0_i32_475 c1_i32_478 k0_t17
  let c256_i32_630 : BitVec 32 := 256#32
  let v1305 : BitVec 32 := Scalar.muli arg17 c256_i32_630
  let v1306 : Index := Scalar.indexCast v1305
  ![0, 0, 0, v1306.toNat]
@[reducible] def k0_t18_loop (i : grid0.Coords) : Scf.Loop 32 :=
  let c0_i32_475 : BitVec 32 := 0#32
  let arg2 : BitVec 32 := BitVec.ofNat 32 (i 2).val
  let c1_i32_474 : BitVec 32 := 1#32
  let v1020 : BitVec 32 := Scalar.addi arg2 c1_i32_474
  let v1021 : BitVec 32 := Scalar.subi v1020 c0_i32_475
  let c1_i32_477 : BitVec 32 := 1#32
  let v1023 : BitVec 32 := Scalar.divsi v1021 c1_i32_477
  let v1024 : BitVec 32 := Scalar.muli v1023 c1_i32_477
  let v1025 : BitVec 32 := Scalar.addi c0_i32_475 v1024
  let v1022 : BitVec 32 := Scalar.addi c0_i32_475 v1021
  let c1_i32_479 : BitVec 32 := 1#32
  ⟨v1025, v1022, c1_i32_479⟩
def k0_off38 (i : grid0.Coords) (k0_t18 : Fin (k0_t18_loop i).trips) : Fin 2 → Nat :=
  let c0_i32_475 : BitVec 32 := 0#32
  let arg2 : BitVec 32 := BitVec.ofNat 32 (i 2).val
  let c1_i32_474 : BitVec 32 := 1#32
  let v1020 : BitVec 32 := Scalar.addi arg2 c1_i32_474
  let v1021 : BitVec 32 := Scalar.subi v1020 c0_i32_475
  let c1_i32_477 : BitVec 32 := 1#32
  let v1023 : BitVec 32 := Scalar.divsi v1021 c1_i32_477
  let v1024 : BitVec 32 := Scalar.muli v1023 c1_i32_477
  let v1025 : BitVec 32 := Scalar.addi c0_i32_475 v1024
  let c1_i32_479 : BitVec 32 := 1#32
  let arg17 : BitVec 32 := Scf.iv v1025 c1_i32_479 k0_t18
  let c256_i32_628 : BitVec 32 := 256#32
  let v1299 : BitVec 32 := Scalar.muli arg17 c256_i32_628
  let v1300 : Index := Scalar.indexCast v1299
  let c0_629 : Index := 0#32
  ![v1300.toNat, 0]
def k0_off39 (i : grid0.Coords) (k0_t18 : Fin (k0_t18_loop i).trips) : Fin 4 → Nat :=
  let c0_631 : Index := 0#32
  let c0_632 : Index := 0#32
  let c0_633 : Index := 0#32
  let c0_i32_475 : BitVec 32 := 0#32
  let arg2 : BitVec 32 := BitVec.ofNat 32 (i 2).val
  let c1_i32_474 : BitVec 32 := 1#32
  let v1020 : BitVec 32 := Scalar.addi arg2 c1_i32_474
  let v1021 : BitVec 32 := Scalar.subi v1020 c0_i32_475
  let c1_i32_477 : BitVec 32 := 1#32
  let v1023 : BitVec 32 := Scalar.divsi v1021 c1_i32_477
  let v1024 : BitVec 32 := Scalar.muli v1023 c1_i32_477
  let v1025 : BitVec 32 := Scalar.addi c0_i32_475 v1024
  let c1_i32_479 : BitVec 32 := 1#32
  let arg17 : BitVec 32 := Scf.iv v1025 c1_i32_479 k0_t18
  let c256_i32_630 : BitVec 32 := 256#32
  let v1305 : BitVec 32 := Scalar.muli arg17 c256_i32_630
  let v1306 : Index := Scalar.indexCast v1305
  ![0, 0, 0, v1306.toNat]
@[reducible] def k0_t19_loop (i : grid0.Coords) : Scf.Loop 32 :=
  let c0_i32_522 : BitVec 32 := 0#32
  let arg2 : BitVec 32 := BitVec.ofNat 32 (i 2).val
  let v1100 : BitVec 32 := Scalar.subi arg2 c0_i32_522
  let c1_i32_523 : BitVec 32 := 1#32
  let v1102 : BitVec 32 := Scalar.divsi v1100 c1_i32_523
  let v1103 : BitVec 32 := Scalar.muli v1102 c1_i32_523
  let v1104 : BitVec 32 := Scalar.addi c0_i32_522 v1103
  let c1_i32_524 : BitVec 32 := 1#32
  ⟨c0_i32_522, v1104, c1_i32_524⟩
def k0_off40 (i : grid0.Coords) (k0_t19 : Fin (k0_t19_loop i).trips) : Fin 4 → Nat :=
  let c0_629 : Index := 0#32
  let c0_630 : Index := 0#32
  let c0_i32_522 : BitVec 32 := 0#32
  let c1_i32_524 : BitVec 32 := 1#32
  let arg17 : BitVec 32 := Scf.iv c0_i32_522 c1_i32_524 k0_t19
  let c256_i32_628 : BitVec 32 := 256#32
  let v1299 : BitVec 32 := Scalar.muli arg17 c256_i32_628
  let v1300 : Index := Scalar.indexCast v1299
  let c0_631 : Index := 0#32
  ![0, 0, v1300.toNat, 0]
def k0_off41 (i : grid0.Coords) (k0_t19 : Fin (k0_t19_loop i).trips) (c0_i32_634 : BitVec 32) : Fin 4 → Nat :=
  let c0_635 : Index := 0#32
  let c0_636 : Index := 0#32
  let c0_i32_522 : BitVec 32 := 0#32
  let c1_i32_524 : BitVec 32 := 1#32
  let arg17 : BitVec 32 := Scf.iv c0_i32_522 c1_i32_524 k0_t19
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off42 (i : grid0.Coords) (k0_t19 : Fin (k0_t19_loop i).trips) : Fin 2 → Nat :=
  let c0_i32_522 : BitVec 32 := 0#32
  let c1_i32_524 : BitVec 32 := 1#32
  let arg17 : BitVec 32 := Scf.iv c0_i32_522 c1_i32_524 k0_t19
  let c256_i32_643 : BitVec 32 := 256#32
  let v1325 : BitVec 32 := Scalar.muli arg17 c256_i32_643
  let v1326 : Index := Scalar.indexCast v1325
  let c0_644 : Index := 0#32
  ![v1326.toNat, 0]
@[reducible] def k0_t20_loop (i : grid0.Coords) : Scf.Loop 32 :=
  let c0_i32_522 : BitVec 32 := 0#32
  let arg2 : BitVec 32 := BitVec.ofNat 32 (i 2).val
  let v1100 : BitVec 32 := Scalar.subi arg2 c0_i32_522
  let c1_i32_523 : BitVec 32 := 1#32
  let v1102 : BitVec 32 := Scalar.divsi v1100 c1_i32_523
  let v1103 : BitVec 32 := Scalar.muli v1102 c1_i32_523
  let v1104 : BitVec 32 := Scalar.addi c0_i32_522 v1103
  let v1101 : BitVec 32 := Scalar.addi c0_i32_522 v1100
  let c1_i32_525 : BitVec 32 := 1#32
  ⟨v1104, v1101, c1_i32_525⟩
def k0_off43 (i : grid0.Coords) (k0_t20 : Fin (k0_t20_loop i).trips) : Fin 4 → Nat :=
  let c0_629 : Index := 0#32
  let c0_630 : Index := 0#32
  let c0_i32_522 : BitVec 32 := 0#32
  let arg2 : BitVec 32 := BitVec.ofNat 32 (i 2).val
  let v1100 : BitVec 32 := Scalar.subi arg2 c0_i32_522
  let c1_i32_523 : BitVec 32 := 1#32
  let v1102 : BitVec 32 := Scalar.divsi v1100 c1_i32_523
  let v1103 : BitVec 32 := Scalar.muli v1102 c1_i32_523
  let v1104 : BitVec 32 := Scalar.addi c0_i32_522 v1103
  let c1_i32_525 : BitVec 32 := 1#32
  let arg17 : BitVec 32 := Scf.iv v1104 c1_i32_525 k0_t20
  let c256_i32_628 : BitVec 32 := 256#32
  let v1299 : BitVec 32 := Scalar.muli arg17 c256_i32_628
  let v1300 : Index := Scalar.indexCast v1299
  let c0_631 : Index := 0#32
  ![0, 0, v1300.toNat, 0]
def k0_off44 (i : grid0.Coords) (k0_t20 : Fin (k0_t20_loop i).trips) (c0_i32_634 : BitVec 32) : Fin 4 → Nat :=
  let c0_635 : Index := 0#32
  let c0_636 : Index := 0#32
  let c0_i32_522 : BitVec 32 := 0#32
  let arg2 : BitVec 32 := BitVec.ofNat 32 (i 2).val
  let v1100 : BitVec 32 := Scalar.subi arg2 c0_i32_522
  let c1_i32_523 : BitVec 32 := 1#32
  let v1102 : BitVec 32 := Scalar.divsi v1100 c1_i32_523
  let v1103 : BitVec 32 := Scalar.muli v1102 c1_i32_523
  let v1104 : BitVec 32 := Scalar.addi c0_i32_522 v1103
  let c1_i32_525 : BitVec 32 := 1#32
  let arg17 : BitVec 32 := Scf.iv v1104 c1_i32_525 k0_t20
  let c2_i32_633 : BitVec 32 := 2#32
  let v1304 : BitVec 32 := Scalar.muli arg17 c2_i32_633
  let v1305 : BitVec 32 := Scalar.addi v1304 c0_i32_634
  let v1306 : Index := Scalar.indexCast v1305
  let c0_637 : Index := 0#32
  ![0, 0, v1306.toNat, 0]
def k0_off45 (i : grid0.Coords) (k0_t20 : Fin (k0_t20_loop i).trips) : Fin 2 → Nat :=
  let c0_i32_522 : BitVec 32 := 0#32
  let arg2 : BitVec 32 := BitVec.ofNat 32 (i 2).val
  let v1100 : BitVec 32 := Scalar.subi arg2 c0_i32_522
  let c1_i32_523 : BitVec 32 := 1#32
  let v1102 : BitVec 32 := Scalar.divsi v1100 c1_i32_523
  let v1103 : BitVec 32 := Scalar.muli v1102 c1_i32_523
  let v1104 : BitVec 32 := Scalar.addi c0_i32_522 v1103
  let c1_i32_525 : BitVec 32 := 1#32
  let arg17 : BitVec 32 := Scf.iv v1104 c1_i32_525 k0_t20
  let c256_i32_643 : BitVec 32 := 256#32
  let v1325 : BitVec 32 := Scalar.muli arg17 c256_i32_643
  let v1326 : Index := Scalar.indexCast v1325
  let c0_644 : Index := 0#32
  ![v1326.toNat, 0]
@[reducible] def k0_t21_loop (i : grid0.Coords) : Scf.Loop 32 :=
  let c0_i32_547 : BitVec 32 := 0#32
  let arg2 : BitVec 32 := BitVec.ofNat 32 (i 2).val
  let c1_i32_545 : BitVec 32 := 1#32
  let v1144 : BitVec 32 := Scalar.addi arg2 c1_i32_545
  let v1146 : BitVec 32 := Scalar.subi v1144 c0_i32_547
  let c1_i32_548 : BitVec 32 := 1#32
  let v1148 : BitVec 32 := Scalar.divsi v1146 c1_i32_548
  let v1149 : BitVec 32 := Scalar.muli v1148 c1_i32_548
  let v1150 : BitVec 32 := Scalar.addi c0_i32_547 v1149
  let c1_i32_549 : BitVec 32 := 1#32
  ⟨c0_i32_547, v1150, c1_i32_549⟩
def k0_off46 (i : grid0.Coords) (k0_t21 : Fin (k0_t21_loop i).trips) : Fin 2 → Nat :=
  let c0_i32_547 : BitVec 32 := 0#32
  let c1_i32_549 : BitVec 32 := 1#32
  let arg17 : BitVec 32 := Scf.iv c0_i32_547 c1_i32_549 k0_t21
  let c256_i32_628 : BitVec 32 := 256#32
  let v1299 : BitVec 32 := Scalar.muli arg17 c256_i32_628
  let v1300 : Index := Scalar.indexCast v1299
  let c0_629 : Index := 0#32
  ![v1300.toNat, 0]
@[reducible] def k0_t22_loop (i : grid0.Coords) : Scf.Loop 32 :=
  let c0_i32_547 : BitVec 32 := 0#32
  let arg2 : BitVec 32 := BitVec.ofNat 32 (i 2).val
  let c1_i32_545 : BitVec 32 := 1#32
  let v1144 : BitVec 32 := Scalar.addi arg2 c1_i32_545
  let v1146 : BitVec 32 := Scalar.subi v1144 c0_i32_547
  let c1_i32_548 : BitVec 32 := 1#32
  let v1148 : BitVec 32 := Scalar.divsi v1146 c1_i32_548
  let v1149 : BitVec 32 := Scalar.muli v1148 c1_i32_548
  let v1150 : BitVec 32 := Scalar.addi c0_i32_547 v1149
  let v1147 : BitVec 32 := Scalar.addi c0_i32_547 v1146
  let c1_i32_550 : BitVec 32 := 1#32
  ⟨v1150, v1147, c1_i32_550⟩
def k0_off47 (i : grid0.Coords) (k0_t22 : Fin (k0_t22_loop i).trips) : Fin 2 → Nat :=
  let c0_i32_547 : BitVec 32 := 0#32
  let arg2 : BitVec 32 := BitVec.ofNat 32 (i 2).val
  let c1_i32_545 : BitVec 32 := 1#32
  let v1144 : BitVec 32 := Scalar.addi arg2 c1_i32_545
  let v1146 : BitVec 32 := Scalar.subi v1144 c0_i32_547
  let c1_i32_548 : BitVec 32 := 1#32
  let v1148 : BitVec 32 := Scalar.divsi v1146 c1_i32_548
  let v1149 : BitVec 32 := Scalar.muli v1148 c1_i32_548
  let v1150 : BitVec 32 := Scalar.addi c0_i32_547 v1149
  let c1_i32_550 : BitVec 32 := 1#32
  let arg17 : BitVec 32 := Scf.iv v1150 c1_i32_550 k0_t22
  let c256_i32_628 : BitVec 32 := 256#32
  let v1299 : BitVec 32 := Scalar.muli arg17 c256_i32_628
  let v1300 : Index := Scalar.indexCast v1299
  let c0_629 : Index := 0#32
  ![v1300.toNat, 0]
@[reducible] def k0_t23_loop (i : grid0.Coords) : Scf.Loop 32 :=
  let c0_i32_568 : BitVec 32 := 0#32
  let arg2 : BitVec 32 := BitVec.ofNat 32 (i 2).val
  let c1_i32_567 : BitVec 32 := 1#32
  let v1190 : BitVec 32 := Scalar.addi arg2 c1_i32_567
  let v1191 : BitVec 32 := Scalar.subi v1190 c0_i32_568
  let c1_i32_570 : BitVec 32 := 1#32
  let v1193 : BitVec 32 := Scalar.divsi v1191 c1_i32_570
  let v1194 : BitVec 32 := Scalar.muli v1193 c1_i32_570
  let v1195 : BitVec 32 := Scalar.addi c0_i32_568 v1194
  let c1_i32_571 : BitVec 32 := 1#32
  ⟨c0_i32_568, v1195, c1_i32_571⟩
def k0_off48 (i : grid0.Coords) (k0_t23 : Fin (k0_t23_loop i).trips) : Fin 2 → Nat :=
  let c0_i32_568 : BitVec 32 := 0#32
  let c1_i32_571 : BitVec 32 := 1#32
  let arg17 : BitVec 32 := Scf.iv c0_i32_568 c1_i32_571 k0_t23
  let c256_i32_628 : BitVec 32 := 256#32
  let v1299 : BitVec 32 := Scalar.muli arg17 c256_i32_628
  let v1300 : Index := Scalar.indexCast v1299
  let c0_629 : Index := 0#32
  ![v1300.toNat, 0]
def k0_off49 (i : grid0.Coords) (k0_t23 : Fin (k0_t23_loop i).trips) : Fin 4 → Nat :=
  let c0_631 : Index := 0#32
  let c0_632 : Index := 0#32
  let c0_633 : Index := 0#32
  let c0_i32_568 : BitVec 32 := 0#32
  let c1_i32_571 : BitVec 32 := 1#32
  let arg17 : BitVec 32 := Scf.iv c0_i32_568 c1_i32_571 k0_t23
  let c256_i32_630 : BitVec 32 := 256#32
  let v1305 : BitVec 32 := Scalar.muli arg17 c256_i32_630
  let v1306 : Index := Scalar.indexCast v1305
  ![0, 0, 0, v1306.toNat]
@[reducible] def k0_t24_loop (i : grid0.Coords) : Scf.Loop 32 :=
  let c0_i32_568 : BitVec 32 := 0#32
  let arg2 : BitVec 32 := BitVec.ofNat 32 (i 2).val
  let c1_i32_567 : BitVec 32 := 1#32
  let v1190 : BitVec 32 := Scalar.addi arg2 c1_i32_567
  let v1191 : BitVec 32 := Scalar.subi v1190 c0_i32_568
  let c1_i32_570 : BitVec 32 := 1#32
  let v1193 : BitVec 32 := Scalar.divsi v1191 c1_i32_570
  let v1194 : BitVec 32 := Scalar.muli v1193 c1_i32_570
  let v1195 : BitVec 32 := Scalar.addi c0_i32_568 v1194
  let v1192 : BitVec 32 := Scalar.addi c0_i32_568 v1191
  let c1_i32_572 : BitVec 32 := 1#32
  ⟨v1195, v1192, c1_i32_572⟩
def k0_off50 (i : grid0.Coords) (k0_t24 : Fin (k0_t24_loop i).trips) : Fin 2 → Nat :=
  let c0_i32_568 : BitVec 32 := 0#32
  let arg2 : BitVec 32 := BitVec.ofNat 32 (i 2).val
  let c1_i32_567 : BitVec 32 := 1#32
  let v1190 : BitVec 32 := Scalar.addi arg2 c1_i32_567
  let v1191 : BitVec 32 := Scalar.subi v1190 c0_i32_568
  let c1_i32_570 : BitVec 32 := 1#32
  let v1193 : BitVec 32 := Scalar.divsi v1191 c1_i32_570
  let v1194 : BitVec 32 := Scalar.muli v1193 c1_i32_570
  let v1195 : BitVec 32 := Scalar.addi c0_i32_568 v1194
  let c1_i32_572 : BitVec 32 := 1#32
  let arg17 : BitVec 32 := Scf.iv v1195 c1_i32_572 k0_t24
  let c256_i32_628 : BitVec 32 := 256#32
  let v1299 : BitVec 32 := Scalar.muli arg17 c256_i32_628
  let v1300 : Index := Scalar.indexCast v1299
  let c0_629 : Index := 0#32
  ![v1300.toNat, 0]
def k0_off51 (i : grid0.Coords) (k0_t24 : Fin (k0_t24_loop i).trips) : Fin 4 → Nat :=
  let c0_631 : Index := 0#32
  let c0_632 : Index := 0#32
  let c0_633 : Index := 0#32
  let c0_i32_568 : BitVec 32 := 0#32
  let arg2 : BitVec 32 := BitVec.ofNat 32 (i 2).val
  let c1_i32_567 : BitVec 32 := 1#32
  let v1190 : BitVec 32 := Scalar.addi arg2 c1_i32_567
  let v1191 : BitVec 32 := Scalar.subi v1190 c0_i32_568
  let c1_i32_570 : BitVec 32 := 1#32
  let v1193 : BitVec 32 := Scalar.divsi v1191 c1_i32_570
  let v1194 : BitVec 32 := Scalar.muli v1193 c1_i32_570
  let v1195 : BitVec 32 := Scalar.addi c0_i32_568 v1194
  let c1_i32_572 : BitVec 32 := 1#32
  let arg17 : BitVec 32 := Scf.iv v1195 c1_i32_572 k0_t24
  let c256_i32_630 : BitVec 32 := 256#32
  let v1305 : BitVec 32 := Scalar.muli arg17 c256_i32_630
  let v1306 : Index := Scalar.indexCast v1305
  ![0, 0, 0, v1306.toNat]
def k0_cond1 (i : grid0.Coords) : BitVec 1 :=
  let arg2 : BitVec 32 := BitVec.ofNat 32 (i 2).val
  let c0_i32_316 : BitVec 32 := 0#32
  let v729 : BitVec 1 := Scalar.cmpi .eq arg2 c0_i32_316
  let v730 : BitVec 32 := Scalar.extui v729
  let c0_i32_317 : BitVec 32 := 0#32
  let v731 : BitVec 1 := Scalar.cmpi .ne v730 c0_i32_317
  v731

def k0_cond2 (i : grid0.Coords) : BitVec 1 :=
  let arg2 : BitVec 32 := BitVec.ofNat 32 (i 2).val
  let c0_i32_318 : BitVec 32 := 0#32
  let v732 : BitVec 1 := Scalar.cmpi .sgt arg2 c0_i32_318
  let v733 : BitVec 32 := Scalar.extui v732
  let c0_i32_319 : BitVec 32 := 0#32
  let v734 : BitVec 1 := Scalar.cmpi .ne v733 c0_i32_319
  v734

def k0_cond3 (i : grid0.Coords) : BitVec 1 :=
  let arg2 : BitVec 32 := BitVec.ofNat 32 (i 2).val
  let c0_i32_409 : BitVec 32 := 0#32
  let v899 : BitVec 1 := Scalar.cmpi .eq arg2 c0_i32_409
  let v900 : BitVec 32 := Scalar.extui v899
  let c0_i32_410 : BitVec 32 := 0#32
  let v901 : BitVec 1 := Scalar.cmpi .ne v900 c0_i32_410
  v901

def k0_cond4 (i : grid0.Coords) : BitVec 1 :=
  let arg2 : BitVec 32 := BitVec.ofNat 32 (i 2).val
  let c0_i32_411 : BitVec 32 := 0#32
  let v902 : BitVec 1 := Scalar.cmpi .sgt arg2 c0_i32_411
  let v903 : BitVec 32 := Scalar.extui v902
  let c0_i32_412 : BitVec 32 := 0#32
  let v904 : BitVec 1 := Scalar.cmpi .ne v903 c0_i32_412
  v904

def k0_cond5 (i : grid0.Coords) : BitVec 1 :=
  let arg2 : BitVec 32 := BitVec.ofNat 32 (i 2).val
  let c0_i32_502 : BitVec 32 := 0#32
  let v1069 : BitVec 1 := Scalar.cmpi .eq arg2 c0_i32_502
  let v1070 : BitVec 32 := Scalar.extui v1069
  let c0_i32_503 : BitVec 32 := 0#32
  let v1071 : BitVec 1 := Scalar.cmpi .ne v1070 c0_i32_503
  v1071

def k0_cond6 (i : grid0.Coords) : BitVec 1 :=
  let arg2 : BitVec 32 := BitVec.ofNat 32 (i 2).val
  let c0_i32_504 : BitVec 32 := 0#32
  let v1072 : BitVec 1 := Scalar.cmpi .sgt arg2 c0_i32_504
  let v1073 : BitVec 32 := Scalar.extui v1072
  let c0_i32_505 : BitVec 32 := 0#32
  let v1074 : BitVec 1 := Scalar.cmpi .ne v1073 c0_i32_505
  v1074

def k0_cond7 (i : grid0.Coords) : BitVec 1 :=
  let arg2 : BitVec 32 := BitVec.ofNat 32 (i 2).val
  let c0_i32_595 : BitVec 32 := 0#32
  let v1239 : BitVec 1 := Scalar.cmpi .eq arg2 c0_i32_595
  let v1240 : BitVec 32 := Scalar.extui v1239
  let c0_i32_596 : BitVec 32 := 0#32
  let v1241 : BitVec 1 := Scalar.cmpi .ne v1240 c0_i32_596
  v1241

def k0_cond8 (i : grid0.Coords) : BitVec 1 :=
  let arg2 : BitVec 32 := BitVec.ofNat 32 (i 2).val
  let c0_i32_597 : BitVec 32 := 0#32
  let v1242 : BitVec 1 := Scalar.cmpi .sgt arg2 c0_i32_597
  let v1243 : BitVec 32 := Scalar.extui v1242
  let c0_i32_598 : BitVec 32 := 0#32
  let v1244 : BitVec 1 := Scalar.cmpi .ne v1243 c0_i32_598
  v1244

def k0_cond9 (i : grid0.Coords) : BitVec 1 :=
  let arg2 : BitVec 32 := BitVec.ofNat 32 (i 2).val
  let c15_i32 : BitVec 32 := 15#32
  let v1296 : BitVec 1 := Scalar.cmpi .eq arg2 c15_i32
  let v1297 : BitVec 32 := Scalar.extui v1296
  let c0_i32_627 : BitVec 32 := 0#32
  let v1298 : BitVec 1 := Scalar.cmpi .ne v1297 c0_i32_627
  v1298

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x160x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "sm_scale_log2e" => some (((Real.sqrt 160)⁻¹ * (Real.log 2)⁻¹ : ℝ) : EReal)
  | _ => none
-- ==== Reference.lean ====
abbrev S2x4096x10240 : Shape := ⟨3, ![2, 4096, 10240]⟩
abbrev S2x16x4096x256 : Shape := ⟨4, ![2, 16, 4096, 256]⟩
abbrev S2x16x32x128 : Shape := ⟨4, ![2, 16, 32, 128]⟩
abbrev S2x16x160x4096 : Shape := ⟨4, ![2, 16, 160, 4096]⟩
abbrev S2x16x1x128 : Shape := ⟨4, ![2, 16, 1, 128]⟩
abbrev S2x16x16x8x128 : Shape := ⟨5, ![2, 16, 16, 8, 128]⟩
abbrev S2x16x4x4096 : Shape := ⟨4, ![2, 16, 4, 4096]⟩
abbrev S2x16x4x256 : Shape := ⟨4, ![2, 16, 4, 256]⟩
abbrev S2x32x128x64x160 : Shape := ⟨5, ![2, 32, 128, 64, 160]⟩
abbrev S2x32x128x64 : Shape := ⟨4, ![2, 32, 128, 64]⟩
abbrev S2x32x128x64x1 : Shape := ⟨5, ![2, 32, 128, 64, 1]⟩
abbrev S2x32x64x1 : Shape := ⟨4, ![2, 32, 64, 1]⟩
abbrev S2x32x1x64x1 : Shape := ⟨5, ![2, 32, 1, 64, 1]⟩
abbrev S2x16x2x16x4 : Shape := ⟨5, ![2, 16, 2, 16, 4]⟩
abbrev S2x16x16x4x2 : Shape := ⟨5, ![2, 16, 16, 4, 2]⟩
abbrev S2x16x16x8x1 : Shape := ⟨5, ![2, 16, 16, 8, 1]⟩
abbrev S2x4096x16x4x160 : Shape := ⟨5, ![2, 4096, 16, 4, 160]⟩
abbrev S2x16x4x4096x160 : Shape := ⟨5, ![2, 16, 4, 4096, 160]⟩
abbrev S32x16384x160 : Shape := ⟨3, ![32, 16384, 160]⟩
abbrev S2x16x4096x160 : Shape := ⟨4, ![2, 16, 4096, 160]⟩
abbrev S32x4096x160 : Shape := ⟨3, ![32, 4096, 160]⟩
abbrev S32x16384x4096 : Shape := ⟨3, ![32, 16384, 4096]⟩
abbrev S2x4096x64 : Shape := ⟨3, ![2, 4096, 64]⟩
abbrev S2x64x4096 : Shape := ⟨3, ![2, 64, 4096]⟩
abbrev S32x16384x1 : Shape := ⟨3, ![32, 16384, 1]⟩
abbrev S2x16x32x1 : Shape := ⟨4, ![2, 16, 32, 1]⟩
abbrev S32x1x4096 : Shape := ⟨3, ![32, 1, 4096]⟩
abbrev S128x4096x4096 : Shape := ⟨3, ![128, 4096, 4096]⟩
abbrev S128x4096 : Shape := ⟨2, ![128, 4096]⟩
abbrev S128x4096x1 : Shape := ⟨3, ![128, 4096, 1]⟩
abbrev S32x160x4096 : Shape := ⟨3, ![32, 160, 4096]⟩
abbrev S2x16x1x1 : Shape := ⟨4, ![2, 16, 1, 1]⟩
abbrev S32x1x1 : Shape := ⟨3, ![32, 1, 1]⟩
abbrev S32x16384 : Shape := ⟨2, ![32, 16384]⟩
abbrev S2x16x4x655360 : Shape := ⟨4, ![2, 16, 4, 655360]⟩
abbrev S2x16x4 : Shape := ⟨3, ![2, 16, 4]⟩
abbrev S2x16x4x1 : Shape := ⟨4, ![2, 16, 4, 1]⟩
abbrev S2x64x4096x160 : Shape := ⟨4, ![2, 64, 4096, 160]⟩
abbrev S2x4096x64x160 : Shape := ⟨4, ![2, 4096, 64, 160]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x10240, .bf16⟩
  | .hbm, ⟨1, _⟩ => ⟨S2x16x4096x256, .fp8e4m3⟩
  | .hbm, ⟨2, _⟩ => ⟨S2x16x32x128, .f32⟩
  | .hbm, ⟨3, _⟩ => ⟨S2x16x160x4096, .f32⟩
  | .hbm, ⟨4, _⟩ => ⟨S2x16x1x128, .f32⟩
  | .hbm, ⟨5, _⟩ => ⟨S2x16x160x4096, .fp8e4m3⟩
  | .hbm, ⟨6, _⟩ => ⟨S2x4096x10240, .fp8e4m3⟩
  | .hbm, ⟨7, _⟩ => ⟨S2x16x16x8x128, .f32⟩
  | .hbm, ⟨8, _⟩ => ⟨S2x4096x10240, .fp8e4m3⟩
  | .hbm, ⟨9, _⟩ => ⟨S2x16x4x4096, .f32⟩
  | .hbm, ⟨10, _⟩ => ⟨S2x16x4x256, .f32⟩
  | .local _ .vmem, ⟨0, _⟩ => ⟨S2x4096x10240, .bf16⟩
  | .local _ .vmem, ⟨1, _⟩ => ⟨S2x16x4096x256, .fp8e4m3⟩
  | .local _ .vmem, ⟨2, _⟩ => ⟨S2x16x32x128, .f32⟩
  | .local _ .vmem, ⟨3, _⟩ => ⟨S2x16x160x4096, .fp8e4m3⟩
  | .local _ .vmem, ⟨4, _⟩ => ⟨S2x16x1x128, .f32⟩
  | .local _ .vmem, ⟨5, _⟩ => ⟨S2x4096x10240, .fp8e4m3⟩
  | .local _ .vmem, ⟨6, _⟩ => ⟨S2x16x16x8x128, .f32⟩
  | .local _ .vmem, ⟨7, _⟩ => ⟨S2x4096x10240, .fp8e4m3⟩
  | .local _ .vmem, ⟨8, _⟩ => ⟨S2x16x4x4096, .f32⟩
  | .local _ .vmem, ⟨9, _⟩ => ⟨S2x16x4x256, .f32⟩
  | _, _ => ⟨S2x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x4096x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x160x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x10240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16x16x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x10240 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
variable {F : FTy → Type} [FloatOps F] [Named F]
def κ : String → Option EReal := fun
  | "ln2" => some ((Real.log 2 : ℝ) : EReal)
  | "sm_scale" => some (((Real.sqrt 160)⁻¹ : ℝ) : EReal)
  | _ => none
-- ==== Proof.Kernel.State.lean ====
module

public import proofs.«01_k».proof.Proof.Gen.Kernel.Skeleton
public import Idealize.ShloMosaic.Lib.Exec
public import Idealize.ShloMosaic.Lib.Tactic
public import Idealize.ShloMosaic.Lib.VecWindow
public import Idealize.ShloMosaic.Lib.LoopRemainder
public import Idealize.ShloMosaic.Lib.Pipeline.Kit
public import Idealize.ShloMosaic.Lib.Pipeline.FrameBody

@[expose] public section

/-
  The kernel body's memory as one value. `Args` are the fourteen buffers a call of the body is given, `St` what they
  hold, `held` the ownership of all of them at such contents. A load passes a window of a field to the continuation, a
  store puts its payload over a window of a field, and a counted loop iterates its trip's function.
-/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's buffers: five input blocks, five output blocks, four scratch buffers. -/
structure Args where
  a3 : Memref sig .tc .vmem S1x256x640 .bf16
  h3 : a3.IsWhole
  a4 : Memref sig .tc .vmem S1x1x4096x256 .fp8e4m3
  h4 : a4.IsWhole
  a5 : Memref sig .tc .vmem S1x1x32x128 .f32
  h5 : a5.IsWhole
  a6 : Memref sig .tc .vmem S1x1x160x4096 .fp8e4m3
  h6 : a6.IsWhole
  a7 : Memref sig .tc .vmem S1x1x1x128 .f32
  h7 : a7.IsWhole
  a8 : Memref sig .tc .vmem S1x256x640 .fp8e4m3
  h8 : a8.IsWhole
  a9 : Memref sig .tc .vmem S1x1x1x8x128 .f32
  h9 : a9.IsWhole
  a10 : Memref sig .tc .vmem S1x256x640 .fp8e4m3
  h10 : a10.IsWhole
  a11 : Memref sig .tc .vmem S1x1x4x256 .f32
  h11 : a11.IsWhole
  a12 : Memref sig .tc .vmem S1x1x4x256 .f32
  h12 : a12.IsWhole
  a13 : Memref sig .tc .vmem S4x256x256 .fp8e4m3
  h13 : a13.IsWhole
  a14 : Memref sig .tc .vmem S4736x256 .f32
  h14 : a14.IsWhole
  a15 : Memref sig .tc .vmem S8x256 .f32
  h15 : a15.IsWhole
  a16 : Memref sig .tc .vmem S160x256 .f32
  h16 : a16.IsWhole

/-- What the buffers hold. -/
structure St (F : FTy → Type) [FloatOps F] where
  x3 : Vec F S1x256x640 .bf16
  x4 : Vec F S1x1x4096x256 .fp8e4m3
  x5 : Vec F S1x1x32x128 .f32
  x6 : Vec F S1x1x160x4096 .fp8e4m3
  x7 : Vec F S1x1x1x128 .f32
  x8 : Vec F S1x256x640 .fp8e4m3
  x9 : Vec F S1x1x1x8x128 .f32
  x10 : Vec F S1x256x640 .fp8e4m3
  x11 : Vec F S1x1x4x256 .f32
  x12 : Vec F S1x1x4x256 .f32
  x13 : Vec F S4x256x256 .fp8e4m3
  x14 : Vec F S4736x256 .f32
  x15 : Vec F S8x256 .f32
  x16 : Vec F S160x256 .f32

/-- One buffer's contents replaced. -/
def St.set3 (S : St F) (Y : Vec F S1x256x640 .bf16) : St F := { S with x3 := Y }
def St.set4 (S : St F) (Y : Vec F S1x1x4096x256 .fp8e4m3) : St F := { S with x4 := Y }
def St.set5 (S : St F) (Y : Vec F S1x1x32x128 .f32) : St F := { S with x5 := Y }
def St.set6 (S : St F) (Y : Vec F S1x1x160x4096 .fp8e4m3) : St F := { S with x6 := Y }
def St.set7 (S : St F) (Y : Vec F S1x1x1x128 .f32) : St F := { S with x7 := Y }
def St.set8 (S : St F) (Y : Vec F S1x256x640 .fp8e4m3) : St F := { S with x8 := Y }
def St.set9 (S : St F) (Y : Vec F S1x1x1x8x128 .f32) : St F := { S with x9 := Y }
def St.set10 (S : St F) (Y : Vec F S1x256x640 .fp8e4m3) : St F := { S with x10 := Y }
def St.set11 (S : St F) (Y : Vec F S1x1x4x256 .f32) : St F := { S with x11 := Y }
def St.set12 (S : St F) (Y : Vec F S1x1x4x256 .f32) : St F := { S with x12 := Y }
def St.set13 (S : St F) (Y : Vec F S4x256x256 .fp8e4m3) : St F := { S with x13 := Y }
def St.set14 (S : St F) (Y : Vec F S4736x256 .f32) : St F := { S with x14 := Y }
def St.set15 (S : St F) (Y : Vec F S8x256 .f32) : St F := { S with x15 := Y }
def St.set16 (S : St F) (Y : Vec F S160x256 .f32) : St F := { S with x16 := Y }

/-- The buffers owned, holding `S`. -/
def held (c : Dev nD) (A : Args) (S : St F) : sProp 𝕄 :=
  iprop(owns (c : Thread nD τ) A.a3 fullShare S.x3 ∗ owns (c : Thread nD τ) A.a4 fullShare S.x4 ∗ owns (c : Thread nD τ) A.a5 fullShare S.x5
    ∗ owns (c : Thread nD τ) A.a6 fullShare S.x6 ∗ owns (c : Thread nD τ) A.a7 fullShare S.x7 ∗ owns (c : Thread nD τ) A.a8 fullShare S.x8
    ∗ owns (c : Thread nD τ) A.a9 fullShare S.x9 ∗ owns (c : Thread nD τ) A.a10 fullShare S.x10 ∗ owns (c : Thread nD τ) A.a11 fullShare S.x11
    ∗ owns (c : Thread nD τ) A.a12 fullShare S.x12 ∗ owns (c : Thread nD τ) A.a13 fullShare S.x13 ∗ owns (c : Thread nD τ) A.a14 fullShare S.x14
    ∗ owns (c : Thread nD τ) A.a15 fullShare S.x15 ∗ owns (c : Thread nD τ) A.a16 fullShare S.x16)

variable (𝒱 : Variants) (c : Dev nD) (bd : Option 𝒱.V) (E : Set ℕ)

/-- One buffer taken out of `held`, to be given back at any contents. -/
def Splits (A : Args) (S : St F) {s : Shape} {e : EltTy} (m : Memref sig .tc .vmem s e) (X : s.Idx → Elt F e) (upd : (s.Idx → Elt F e) → St F) : Prop :=
  held c A S ⊢ iprop(owns (c : Thread nD τ) m fullShare X ∗ (∀ Y, owns (c : Thread nD τ) m fullShare Y -∗ held c A (upd Y)))

theorem split3 (A : Args) (S : St F) : Splits c A S A.a3 S.x3 S.set3 := by
  unfold Splits held St.set3; iintro ⟨H3, H4, H5, H6, H7, H8, H9, H10, H11, H12, H13, H14, H15, H16⟩
  isplitl [H3]; · iexact H3
  iintro %Y HY; iframe
theorem split4 (A : Args) (S : St F) : Splits c A S A.a4 S.x4 S.set4 := by
  unfold Splits held St.set4; iintro ⟨H3, H4, H5, H6, H7, H8, H9, H10, H11, H12, H13, H14, H15, H16⟩
  isplitl [H4]; · iexact H4
  iintro %Y HY; iframe
theorem split5 (A : Args) (S : St F) : Splits c A S A.a5 S.x5 S.set5 := by
  unfold Splits held St.set5; iintro ⟨H3, H4, H5, H6, H7, H8, H9, H10, H11, H12, H13, H14, H15, H16⟩
  isplitl [H5]; · iexact H5
  iintro %Y HY; iframe
theorem split6 (A : Args) (S : St F) : Splits c A S A.a6 S.x6 S.set6 := by
  unfold Splits held St.set6; iintro ⟨H3, H4, H5, H6, H7, H8, H9, H10, H11, H12, H13, H14, H15, H16⟩
  isplitl [H6]; · iexact H6
  iintro %Y HY; iframe
theorem split7 (A : Args) (S : St F) : Splits c A S A.a7 S.x7 S.set7 := by
  unfold Splits held St.set7; iintro ⟨H3, H4, H5, H6, H7, H8, H9, H10, H11, H12, H13, H14, H15, H16⟩
  isplitl [H7]; · iexact H7
  iintro %Y HY; iframe
theorem split8 (A : Args) (S : St F) : Splits c A S A.a8 S.x8 S.set8 := by
  unfold Splits held St.set8; iintro ⟨H3, H4, H5, H6, H7, H8, H9, H10, H11, H12, H13, H14, H15, H16⟩
  isplitl [H8]; · iexact H8
  iintro %Y HY; iframe
theorem split9 (A : Args) (S : St F) : Splits c A S A.a9 S.x9 S.set9 := by
  unfold Splits held St.set9; iintro ⟨H3, H4, H5, H6, H7, H8, H9, H10, H11, H12, H13, H14, H15, H16⟩
  isplitl [H9]; · iexact H9
  iintro %Y HY; iframe
theorem split10 (A : Args) (S : St F) : Splits c A S A.a10 S.x10 S.set10 := by
  unfold Splits held St.set10; iintro ⟨H3, H4, H5, H6, H7, H8, H9, H10, H11, H12, H13, H14, H15, H16⟩
  isplitl [H10]; · iexact H10
  iintro %Y HY; iframe
theorem split11 (A : Args) (S : St F) : Splits c A S A.a11 S.x11 S.set11 := by
  unfold Splits held St.set11; iintro ⟨H3, H4, H5, H6, H7, H8, H9, H10, H11, H12, H13, H14, H15, H16⟩
  isplitl [H11]; · iexact H11
  iintro %Y HY; iframe
theorem split12 (A : Args) (S : St F) : Splits c A S A.a12 S.x12 S.set12 := by
  unfold Splits held St.set12; iintro ⟨H3, H4, H5, H6, H7, H8, H9, H10, H11, H12, H13, H14, H15, H16⟩
  isplitl [H12]; · iexact H12
  iintro %Y HY; iframe
theorem split13 (A : Args) (S : St F) : Splits c A S A.a13 S.x13 S.set13 := by
  unfold Splits held St.set13; iintro ⟨H3, H4, H5, H6, H7, H8, H9, H10, H11, H12, H13, H14, H15, H16⟩
  isplitl [H13]; · iexact H13
  iintro %Y HY; iframe
theorem split14 (A : Args) (S : St F) : Splits c A S A.a14 S.x14 S.set14 := by
  unfold Splits held St.set14; iintro ⟨H3, H4, H5, H6, H7, H8, H9, H10, H11, H12, H13, H14, H15, H16⟩
  isplitl [H14]; · iexact H14
  iintro %Y HY; iframe
theorem split15 (A : Args) (S : St F) : Splits c A S A.a15 S.x15 S.set15 := by
  unfold Splits held St.set15; iintro ⟨H3, H4, H5, H6, H7, H8, H9, H10, H11, H12, H13, H14, H15, H16⟩
  isplitl [H15]; · iexact H15
  iintro %Y HY; iframe
theorem split16 (A : Args) (S : St F) : Splits c A S A.a16 S.x16 S.set16 := by
  unfold Splits held St.set16; iintro ⟨H3, H4, H5, H6, H7, H8, H9, H10, H11, H12, H13, H14, H15, H16⟩
  isplitl [H16]; · iexact H16
  iintro %Y HY; iframe

/-- What the body's program does from a state: the weakest precondition at the kernel's own clauses. -/
abbrev wpk {β : Type} (p : Prog (TpuEff nD τ sig (Elt F) Λ₀ .tc) β) (Q : β → sProp 𝕄) : sProp 𝕄 :=
  wp Idealize.ShloMosaic.frame (wpE (defs₀ (F := F)) 𝒱 (c : Thread nD τ) bd) E p Q

variable {β : Type}

/-- A load of a unit-stride rectangle gives the continuation that window of what the buffer holds. -/
theorem load_rule {A : Args} {S : St F} {s : Shape} {e : EltTy} {m : Memref sig .tc .vmem s e} {X : s.Idx → Elt F e} {upd : (s.Idx → Elt F e) → St F}
    {Q : β → sProp 𝕄} (hs : Splits c A S m X upd) (hu : upd X = S) {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) β}
    (h : held c A S ⊢ wpk 𝒱 c bd E (k (VecWindow.window X off size inb)) Q) :
    held c A S ⊢ wpk 𝒱 c bd E (.op (.load m (Rect.unit off size inb).toLoadRect hl) k) Q := by
  rw [← hu] at h
  refine (show held c A S ⊢ _ from hs).trans ?_
  unfold owns
  iintro ⟨⟨%f, %hf, H⟩, Hk⟩
  iapply (wp_load (defs := defs₀ (F := F)) 𝒱 (c : Thread nD τ) bd E (m := m) (r := (Rect.unit off size inb).toLoadRect) (hl := hl)
    (q := fullShare) (f := f) (View.setOn_subset_set _ _)) $$ [H]
  · iexact H
  iintro H
  rw [View.readAt_unit m.view f inb rfl inb, hf]
  iapply h
  iapply Hk
  iexists f
  isplitr [H]
  · ipureintro; exact hf
  · iexact H

/-- A store at a unit-stride rectangle puts its payload over that window. -/
theorem store_rule {A : Args} {S : St F} {s : Shape} {e : EltTy} {m : Memref sig .tc .vmem s e} {X : s.Idx → Elt F e} {upd : (s.Idx → Elt F e) → St F}
    {Q : β → sProp 𝕄} (hs : Splits c A S m X upd) {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) β}
    (h : held c A (upd (VecWindow.put X off size w)) ⊢ wpk 𝒱 c bd E (k ⟨⟩) Q) :
    held c A S ⊢ wpk 𝒱 c bd E (.op (.store m (Rect.unit off size inb) w Finset.univ hx hm) k) Q := by
  refine (show held c A S ⊢ _ from hs).trans ?_
  unfold owns
  iintro ⟨⟨%f, %hf, H⟩, Hk⟩
  iapply (wp_store_writes (defs := defs₀ (F := F)) 𝒱 (c : Thread nD τ) bd E (m := m) (r := Rect.unit off size inb) (w := w) (hx := hx) (hm := hm)
    (f := f) (L := []) (View.set_slice_subset _ _)) $$ [H]
  · iexact H
  iintro H
  iapply h
  iapply Hk
  iexists (m.view.writes (Elt F) f [⟨Rect.unit off size inb, w⟩])
  isplitr [H]
  · ipureintro
    rw [View.read_writes_cons_put m.view f inb w [] rfl, View.writes_nil, hf]
  · iexact H

/-- A program that ends hands its state to the postcondition. -/
theorem ret_rule {A : Args} {S : St F} {Q : β → sProp 𝕄} {v : β} (h : held c A S ⊢ Q v) :
    held c A S ⊢ wpk 𝒱 c bd E (.ret v : Prog (TpuEff nD τ sig (Elt F) Λ₀ .tc) β) Q := by
  unfold wpk
  rw [wp_ret]
  iintro H
  imodintro
  iapply h
  iexact H

/-- The state and carried value after the first `k` trips. -/
def iterTrips {n : ℕ} {σ : Type} (g : Fin n → σ → σ) (s : σ) : ℕ → σ
  | 0 => s
  | k + 1 => if h : k < n then g ⟨k, h⟩ (iterTrips g s k) else iterTrips g s k

/-- A counted loop iterates its trip's function on the carried value and the state. -/
theorem for_rule {A : Args} {S : St F} {σ : Type} {Q : β → sProp 𝕄} {l : Scf.Loop 32} {hok : l.OK} {init : σ}
    {body : Fin l.trips → σ → Prog (TpuEff nD τ sig (Elt F) Λ₀ .tc) σ} {k : σ → Prog (TpuEff nD τ sig (Elt F) Λ₀ .tc) β}
    (g : Fin l.trips → σ × St F → σ × St F)
    (hb : ∀ (j : Fin l.trips) (acc : σ) (T : St F) (Q' : σ → sProp 𝕄), (held c A (g j (acc, T)).2 ⊢ Q' (g j (acc, T)).1) → held c A T ⊢ wpk 𝒱 c bd E (body j acc) Q')
    (h : held c A (iterTrips g (init, S) l.trips).2 ⊢ wpk 𝒱 c bd E (k (iterTrips g (init, S) l.trips).1) Q) :
    held c A S ⊢ wpk 𝒱 c bd E (Scf.Loop.for l hok init body >>= k) Q := by
  let inv : ℕ → σ → sProp 𝕄 := fun j acc => iprop(∃ T, ⌜(acc, T) = iterTrips g (init, S) j⌝ ∗ held c A T)
  have step : ∀ (j : Fin l.trips) (acc : σ), inv j acc ⊢ wpk 𝒱 c bd E (body j acc) (inv (j.val + 1)) := fun j acc => by
    iintro ⟨%T, %hT, H⟩
    iapply hb j acc T _ ?_ $$ H
    iintro H
    iexists (g j (acc, T)).2
    isplitr [H]
    · ipureintro
      show g j (acc, T) = iterTrips g (init, S) (j.val + 1)
      rw [hT, iterTrips.eq_2, dif_pos (show j.val < l.trips from j.isLt)]
    · iexact H
  have h0 : held c A S ⊢ inv 0 init := by
    iintro H
    iexists S
    isplitr [H]
    · ipureintro; rfl
    · iexact H
  refine h0.trans ?_
  iintro H
  iapply (Scf.wp_for_bind Idealize.ShloMosaic.frame (wpE (defs₀ (F := F)) 𝒱 (c : Thread nD τ) bd) E l.lb l.ub l.st hok init body inv step) $$ H
  iintro %acc ⟨%T, %hT, H⟩
  have e1 : acc = (iterTrips g (init, S) l.trips).1 := congrArg Prod.fst hT
  have e2 : T = (iterTrips g (init, S) l.trips).2 := congrArg Prod.snd hT
  rw [e1, e2]
  iapply h
  iexact H

/-- A counted loop of no trips passes its initial value on. -/
theorem for_none_rule {A : Args} {S : St F} {σ : Type} {Q : β → sProp 𝕄} {l : Scf.Loop 32} {hok : l.OK} {init : σ}
    {body : Fin l.trips → σ → Prog (TpuEff nD τ sig (Elt F) Λ₀ .tc) σ} {k : σ → Prog (TpuEff nD τ sig (Elt F) Λ₀ .tc) β}
    (h0 : l.trips = 0) (h : held c A S ⊢ wpk 𝒱 c bd E (k init) Q) :
    held c A S ⊢ wpk 𝒱 c bd E (Scf.Loop.for l hok init body >>= k) Q := by
  have e : Scf.Loop.for l hok init body = .ret init := Scf.for_eq_ret l.lb l.ub l.st hok init body h0
  rw [e]
  exact h

/-- A branch without an else changes the state where its condition holds. -/
theorem if_rule {A : Args} {S : St F} {Q : β → sProp 𝕄} {C : Prop} [Decidable C] {p : C → Prog (TpuEff nD τ sig (Elt F) Λ₀ .tc) β}
    {κ : Prog (TpuEff nD τ sig (Elt F) Λ₀ .tc) β} (f : St F → St F)
    (hp : ∀ hc : C, (held c A (f S) ⊢ wpk 𝒱 c bd E κ Q) → held c A S ⊢ wpk 𝒱 c bd E (p hc) Q)
    (h : held c A (if C then f S else S) ⊢ wpk 𝒱 c bd E κ Q) :
    held c A S ⊢ wpk 𝒱 c bd E (if hc : C then p hc else κ) Q := by
  by_cases hc : C
  · rw [dif_pos hc]
    rw [if_pos hc] at h
    exact hp hc h
  · rw [dif_neg hc]
    rw [if_neg hc] at h
    exact h

end Cert.Kernel.Gen

end
-- ==== Proof.Kernel.Flat.lean ====
module

public import proofs.«01_k».proof.Proof.Gen.Kernel.Skeleton
public import Idealize.ShloMosaic.Lib.Tactic.OpenCalls
public import Idealize.ShloMosaic.Lib.Tactic.Stretches

@[expose] public section

set_option maxRecDepth 65536
set_option maxHeartbeats 40000000

noncomputable section

namespace Cert.Kernel.Gen

open Idealize.ShloMosaic Idealize.ShloMosaic.TcCoe Idealize.ShloMosaic.Tactic

variable {F : FTy → Type} [FloatOps F]

open_calls attnFlat := cc0_attn_skel [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34]

end Cert.Kernel.Gen

end
-- ==== Proof.Kernel.Blocks.lean ====
module

public import proofs.«01_k».proof.Proof.Kernel.State
public import proofs.«01_k».proof.Proof.Kernel.Flat

@[expose] public section

/-
  The kernel body in blocks: two tiles of query quantisation, four heads of attention, and the transposed stores of the
  output codes. One program per kind of block, over the tile's or the head's number, with the rest of the body as a
  continuation; the printed body is these blocks in a row (`attnFlat_eq`).
-/

set_option maxRecDepth 65536

noncomputable section

namespace Cert.Kernel.Gen

open Idealize.ShloMosaic Idealize.ShloMosaic.TcCoe Idealize.ShloMosaic.Tactic
open Idealize.SL Idealize.SL.Sem

variable {F : FTy → Type} [FloatOps F]

/-- The kernel's programs. -/
abbrev KProg (F : FTy → Type) [FloatOps F] (β : Type) : Type 1 := Prog (TpuEff nD τ sig (Elt F) Λ₀ .tc) β

/-! ## Rectangles in range -/

theorem inbX (t : Fin 2) : ∀ a, (![0, 128 * t.val, 0] : Fin 3 → ℕ) a + S1x128x640.size a ≤ S1x256x640.size a := by revert t; decide
theorem inbQs (r : Fin 8) : ∀ a, (![0, 0, 0, r.val, 0] : Fin 5 → ℕ) a + S1x1x1x1x128.size a ≤ S1x1x1x8x128.size a := by revert r; decide
theorem inbSg (h : Fin 8) (t : Fin 2) : ∀ a, (![h.val, 128 * t.val] : Fin 2 → ℕ) a + S1x128.size a ≤ S8x256.size a := by revert h t; decide
theorem inbQa (h : Fin 4) (t : Fin 2) : ∀ a, (![h.val, 128 * t.val, 0] : Fin 3 → ℕ) a + S1x128x256.size a ≤ S4x256x256.size a := by revert h t; decide
theorem inbSgRow (h : Fin 8) : ∀ a, (![h.val, 0] : Fin 2 → ℕ) a + S1x256.size a ≤ S8x256.size a := by revert h; decide
theorem inbQaHead (h : Fin 4) : ∀ a, (![h.val, 0, 0] : Fin 3 → ℕ) a + S1x256x256.size a ≤ S4x256x256.size a := by revert h; decide
theorem inbOs (h : Fin 4) : ∀ a, (![0, 0, h.val, 0] : Fin 4 → ℕ) a + S1x1x1x256.size a ≤ S1x1x4x256.size a := by revert h; decide
theorem inbOut (h : Fin 4) : ∀ a, (![4096 + 160 * h.val, 0] : Fin 2 → ℕ) a + S160x256.size a ≤ S4736x256.size a := by revert h; decide
theorem inbOcSrc (t : Fin 5) : ∀ a, (![4096 + 128 * t.val, 0] : Fin 2 → ℕ) a + S128x256.size a ≤ S4736x256.size a := by revert t; decide
theorem inbOc (t : Fin 5) : ∀ a, (![0, 0, 128 * t.val] : Fin 3 → ℕ) a + S1x256x128.size a ≤ S1x256x640.size a := by revert t; decide
theorem packedX (t : Fin 2) : (Rect.unit (s := S1x256x640) ![0, 128 * t.val, 0] S1x128x640.size (inbX t)).PackedRows (EltTy.packing .fp8e4m3) := by
  fin_cases t
  · exact packedfp8e4m3_S1x256x640_S1x128x640_0_0_0
  · exact packedfp8e4m3_S1x256x640_S1x128x640_0_128_0
theorem packedQa (h : Fin 4) (t : Fin 2) : (Rect.unit (s := S4x256x256) ![h.val, 128 * t.val, 0] S1x128x256.size (inbQa h t)).PackedRows (EltTy.packing .fp8e4m3) := by
  fin_cases h <;> fin_cases t
  · exact packedfp8e4m3_S4x256x256_S1x128x256_0_0_0
  · exact packedfp8e4m3_S4x256x256_S1x128x256_0_128_0
  · exact packedfp8e4m3_S4x256x256_S1x128x256_1_0_0
  · exact packedfp8e4m3_S4x256x256_S1x128x256_1_128_0
  · exact packedfp8e4m3_S4x256x256_S1x128x256_2_0_0
  · exact packedfp8e4m3_S4x256x256_S1x128x256_2_128_0
  · exact packedfp8e4m3_S4x256x256_S1x128x256_3_0_0
  · exact packedfp8e4m3_S4x256x256_S1x128x256_3_128_0
theorem packedOc (t : Fin 5) : (Rect.unit (s := S1x256x640) ![0, 0, 128 * t.val] S1x256x128.size (inbOc t)).PackedRows (EltTy.packing .fp8e4m3) := by
  fin_cases t
  · exact packedfp8e4m3_S1x256x640_S1x256x128_0_0_0
  · exact packedfp8e4m3_S1x256x640_S1x256x128_0_0_128
  · exact packedfp8e4m3_S1x256x640_S1x256x128_0_0_256
  · exact packedfp8e4m3_S1x256x640_S1x256x128_0_0_384
  · exact packedfp8e4m3_S1x256x640_S1x256x128_0_0_512

/-! ## The query tiles -/

/-- The exponent of head `h`'s scale in a tile of 128 query rows. -/
def qExp (v : Vec F S1x128x640 .bf16) : Fin 4 → IVec S1x1 32
  | 0 => k0_pay6 v
  | 1 => k0_pay9 (k0_pay7 v) (iota .tc S1x256 32 [1] iota_S1x256_d1_w32) k0_pay8 192#32
  | 2 => k0_pay11 (k0_pay10 (k0_pay5 v))
  | 3 => k0_pay12 (k0_pay5 v)

/-- The inverse scale of every lane of a tile. -/
def qInv (v : Vec F S1x128x640 .bf16) : FVec F S128x640 .bf16 := k0_pay14 (qExp v 1) (qExp v 2) (qExp v 3) (k0_pay13 (qExp v 0))

/-- The codes of a tile. -/
def qCodes (v : Vec F S1x128x640 .bf16) : FVec F S128x640 .fp8e4m3 := k0_pay15 (k0_pay4 v) (qInv v)

/-- The codes of a tile as they are stored. -/
def qCodesStored (v : Vec F S1x128x640 .bf16) : FVec F S1x128x640 .fp8e4m3 := k0_pay16 (k0_pay4 v) (qInv v)

/-- The codes of head `h`'s lanes, moved to the first lanes, zero beyond them. -/
def qAlign (v : Vec F S1x128x640 .bf16) : Fin 4 → FVec F S1x128x256 .fp8e4m3
  | 0 => k0_pay20 (k0_pay4 v) (qInv v)
  | 1 => k0_pay24 (qCodes v)
  | 2 => k0_pay28 (qCodes v)
  | 3 => k0_pay32 (qCodes v)

/-- Head `h` of tile `t` stored: its scale, its scale for the scores, its aligned codes. -/
def quantHead (A : Args) (t : Fin 2) (h : Fin 4) (v : Vec F S1x128x640 .bf16) (κ : KProg F PUnit) : KProg F PUnit :=
  .op (.load A.a9 (Rect.unit (s := S1x1x1x8x128) ![0, 0, 0, (⟨2 * h.val + t.val, by omega⟩ : Fin 8).val, 0] S1x1x1x1x128.size (inbQs ⟨2 * h.val + t.val, by omega⟩)).toLoadRect (View.loadsAt_vmem h_S1x1x1x1x128)) fun _ =>
  .op (.store A.a9 (Rect.unit (s := S1x1x1x8x128) ![0, 0, 0, (⟨2 * h.val + t.val, by omega⟩ : Fin 8).val, 0] S1x1x1x1x128.size (inbQs ⟨2 * h.val + t.val, by omega⟩)) (k0_pay18 (F := F) (qExp v h)) Finset.univ (View.stores_vmem_bits_univ h_S1x1x1x1x128 rfl) (.inl rfl)) fun _ =>
  .op (.load A.a15 (Rect.unit (s := S8x256) ![(h.castLE (by decide) : Fin 8).val, 128 * t.val] S1x128.size (inbSg (h.castLE (by decide)) t)).toLoadRect (View.loadsAt_vmem h_S1x128)) fun _ =>
  .op (.store A.a15 (Rect.unit (s := S8x256) ![(h.castLE (by decide) : Fin 8).val, 128 * t.val] S1x128.size (inbSg (h.castLE (by decide)) t)) (k0_pay19 (F := F) (qExp v h)) Finset.univ (View.stores_vmem_bits_univ h_S1x128 rfl) (.inl rfl)) fun _ =>
  .op (.load A.a13 (Rect.unit (s := S4x256x256) ![h.val, 128 * t.val, 0] S1x128x256.size (inbQa h t)).toLoadRect (View.loadsAt_vmem h_S1x128x256)) fun _ =>
  .op (.store A.a13 (Rect.unit (s := S4x256x256) ![h.val, 128 * t.val, 0] S1x128x256.size (inbQa h t)) (qAlign v h) Finset.univ (View.stores_vmem h_S1x128x256 (A.h13.storeExact_slice rfl _ (packedQa h t)) (fun _ => rfl)) (.inl rfl)) fun _ => κ

/-- Tile `t` of the query quantised and stored. -/
def quantTile (A : Args) (t : Fin 2) (κ : KProg F PUnit) : KProg F PUnit :=
  .op (.load A.a3 (Rect.unit (s := S1x256x640) ![0, 128 * t.val, 0] S1x128x640.size (inbX t)).toLoadRect (View.loadsAt_vmem h_S1x128x640)) fun v =>
  .op (.load A.a8 (Rect.unit (s := S1x256x640) ![0, 128 * t.val, 0] S1x128x640.size (inbX t)).toLoadRect (View.loadsAt_vmem h_S1x128x640)) fun _ =>
  .op (.store A.a8 (Rect.unit (s := S1x256x640) ![0, 128 * t.val, 0] S1x128x640.size (inbX t)) (qCodesStored v) Finset.univ (View.stores_vmem h_S1x128x640 (A.h8.storeExact_slice rfl _ (packedX t)) (fun _ => rfl)) (.inl rfl)) fun _ =>
  quantHead A t 0 v (quantHead A t 1 v (quantHead A t 2 v (quantHead A t 3 v κ)))

/-! ## One head -/

/-- One trip of the score loop: the scores of a block of 256 keys below the diagonal. -/
def scoreBody (A : Args) (i : grid0.Coords) (sg : Vec F S1x256 .f32) (qa : Vec F S1x256x256 .fp8e4m3) :
    Fin (k0_t1_loop i).trips → FVec F S1x256 .f32 → KProg F (FVec F S1x256 .f32) := fun j m =>
  .op (.load A.a4 (Rect.unit (s := S1x1x4096x256) (k0_off1 i j) S1x1x256x256.size (k0_off1_inb i j)).toLoadRect (View.loadsAt_vmem h_S1x1x256x256)) fun kb =>
  .op (.load A.a5 (Rect.unit (s := S1x1x32x128) (k0_off2 i j 0#32) S1x1x1x128.size (k0_off2_inb i j 0)).toLoadRect (View.loadsAt_vmem h_S1x1x1x128)) fun k0 =>
  .op (.load A.a5 (Rect.unit (s := S1x1x32x128) (k0_off2 i j 1#32) S1x1x1x128.size (k0_off2_inb i j 1)).toLoadRect (View.loadsAt_vmem h_S1x1x1x128)) fun k1 =>
  .op (.load A.a14 (Rect.unit (s := S4736x256) (k0_off3 i j) S256x256.size (k0_off3_inb i j)).toLoadRect (View.loadsAt_vmem h_S256x256)) fun _ =>
  .op (.store A.a14 (Rect.unit (s := S4736x256) (k0_off3 i j) S256x256.size (k0_off3_inb i j)) (k0_pay71 sg qa kb k0 k1) Finset.univ (View.stores_vmem_bits_univ h_S256x256 rfl) (.inl rfl)) fun _ =>
  .ret (k0_pay72 sg qa m kb k0 k1)

/-- The score loop's remainder, of no trips. -/
def scoreRest (A : Args) (i : grid0.Coords) (sg : Vec F S1x256 .f32) (qa : Vec F S1x256x256 .fp8e4m3) :
    Fin (k0_t2_loop i).trips → FVec F S1x256 .f32 → KProg F (FVec F S1x256 .f32) := fun j m =>
  .op (.load A.a4 (Rect.unit (s := S1x1x4096x256) (k0_off4 i j) S1x1x256x256.size (k0_off4_inb i j)).toLoadRect (View.loadsAt_vmem h_S1x1x256x256)) fun kb =>
  .op (.load A.a5 (Rect.unit (s := S1x1x32x128) (k0_off5 i j 0#32) S1x1x1x128.size (k0_off5_inb i j 0)).toLoadRect (View.loadsAt_vmem h_S1x1x1x128)) fun k0 =>
  .op (.load A.a5 (Rect.unit (s := S1x1x32x128) (k0_off5 i j 1#32) S1x1x1x128.size (k0_off5_inb i j 1)).toLoadRect (View.loadsAt_vmem h_S1x1x1x128)) fun k1 =>
  .op (.load A.a14 (Rect.unit (s := S4736x256) (k0_off6 i j) S256x256.size (k0_off6_inb i j)).toLoadRect (View.loadsAt_vmem h_S256x256)) fun _ =>
  .op (.store A.a14 (Rect.unit (s := S4736x256) (k0_off6 i j) S256x256.size (k0_off6_inb i j)) (k0_pay71 sg qa kb k0 k1) Finset.univ (View.stores_vmem_bits_univ h_S256x256 rfl) (.inl rfl)) fun _ =>
  .ret (k0_pay72 sg qa m kb k0 k1)

/-- One trip of the exponential loop. -/
def expBody (A : Args) (i : grid0.Coords) (m : FVec F S1x256 .f32) : Fin (k0_t3_loop i).trips → FVec F S1x256 .f32 → KProg F (FVec F S1x256 .f32) := fun j l =>
  .op (.load A.a14 (Rect.unit (s := S4736x256) (k0_off10 i j) S256x256.size (k0_off10_inb i j)).toLoadRect (View.loadsAt_vmem h_S256x256)) fun x =>
  .op (.load A.a14 (Rect.unit (s := S4736x256) (k0_off10 i j) S256x256.size (k0_off10_inb i j)).toLoadRect (View.loadsAt_vmem h_S256x256)) fun _ =>
  .op (.store A.a14 (Rect.unit (s := S4736x256) (k0_off10 i j) S256x256.size (k0_off10_inb i j)) (k0_pay81 m x) Finset.univ (View.stores_vmem_bits_univ h_S256x256 rfl) (.inl rfl)) fun _ =>
  .ret (k0_pay82 m l x)

/-- The exponential loop's remainder, of no trips. -/
def expRest (A : Args) (i : grid0.Coords) (m : FVec F S1x256 .f32) : Fin (k0_t4_loop i).trips → FVec F S1x256 .f32 → KProg F (FVec F S1x256 .f32) := fun j l =>
  .op (.load A.a14 (Rect.unit (s := S4736x256) (k0_off11 i j) S256x256.size (k0_off11_inb i j)).toLoadRect (View.loadsAt_vmem h_S256x256)) fun x =>
  .op (.load A.a14 (Rect.unit (s := S4736x256) (k0_off11 i j) S256x256.size (k0_off11_inb i j)).toLoadRect (View.loadsAt_vmem h_S256x256)) fun _ =>
  .op (.store A.a14 (Rect.unit (s := S4736x256) (k0_off11 i j) S256x256.size (k0_off11_inb i j)) (k0_pay81 m x) Finset.univ (View.stores_vmem_bits_univ h_S256x256 rfl) (.inl rfl)) fun _ =>
  .ret (k0_pay82 m l x)

/-- One trip of the second product's loop. -/
def pvBody (A : Args) (i : grid0.Coords) (c : FVec F S1x256 .f32) : Fin (k0_t5_loop i).trips → BitVec 32 → KProg F (BitVec 32) := fun j _ =>
  .op (.load A.a14 (Rect.unit (s := S4736x256) (k0_off12 i j) S256x256.size (k0_off12_inb i j)).toLoadRect (View.loadsAt_vmem h_S256x256)) fun x =>
  .op (.load A.a6 (Rect.unit (s := S1x1x160x4096) (k0_off13 i j) S1x1x160x256.size (k0_off13_inb i j)).toLoadRect (View.loadsAt_vmem h_S1x1x160x256)) fun vt =>
  .op (.load A.a16 (Rect.unit (s := S160x256) ![0, 0] S160x256.size inb_S160x256_S160x256_0_0).toLoadRect (View.loadsAt_vmem h_S160x256)) fun o =>
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay91 c x vt o) Finset.univ (View.stores_vmem_bits_univ h_S160x256 rfl) (.inl rfl)) fun _ =>
  .ret 0#32

/-- The second product's remainder, of no trips. -/
def pvRest (A : Args) (i : grid0.Coords) (c : FVec F S1x256 .f32) : Fin (k0_t6_loop i).trips → BitVec 32 → KProg F (BitVec 32) := fun j _ =>
  .op (.load A.a14 (Rect.unit (s := S4736x256) (k0_off14 i j) S256x256.size (k0_off14_inb i j)).toLoadRect (View.loadsAt_vmem h_S256x256)) fun x =>
  .op (.load A.a6 (Rect.unit (s := S1x1x160x4096) (k0_off15 i j) S1x1x160x256.size (k0_off15_inb i j)).toLoadRect (View.loadsAt_vmem h_S1x1x160x256)) fun vt =>
  .op (.load A.a16 (Rect.unit (s := S160x256) ![0, 0] S160x256.size inb_S160x256_S160x256_0_0).toLoadRect (View.loadsAt_vmem h_S160x256)) fun o =>
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay91 c x vt o) Finset.univ (View.stores_vmem_bits_univ h_S160x256 rfl) (.inl rfl)) fun _ =>
  .ret 0#32

/-- The row and column numbers of a block of scores. -/
def iotaRow : IVec S256x256 32 := iota .tc S256x256 32 [0] iota_S256x256_d0_w32
def iotaCol : IVec S256x256 32 := iota .tc S256x256 32 [1] iota_S256x256_d1_w32

/-- The output's running absolute maximum of head `h`, started at the first block of rows. -/
def amaxInit (A : Args) (h : Fin 4) (am : FVec F S1x256 .f32) (κ : KProg F PUnit) : KProg F PUnit :=
  .op (.load A.a12 (Rect.unit (s := S1x1x4x256) ![0, 0, h.val, 0] S1x1x1x256.size (inbOs h)).toLoadRect (View.loadsAt_vmem h_S1x1x1x256)) fun _ =>
  .op (.store A.a12 (Rect.unit (s := S1x1x4x256) ![0, 0, h.val, 0] S1x1x1x256.size (inbOs h)) (k0_pay99 am) Finset.univ (View.stores_vmem_bits_univ h_S1x1x1x256 rfl) (.inl rfl)) fun _ => κ
/-- … and carried on at the later ones. -/
def amaxNext (A : Args) (h : Fin 4) (am : FVec F S1x256 .f32) (κ : KProg F PUnit) : KProg F PUnit :=
  .op (.load A.a12 (Rect.unit (s := S1x1x4x256) ![0, 0, h.val, 0] S1x1x1x256.size (inbOs h)).toLoadRect (View.loadsAt_vmem h_S1x1x1x256)) fun b =>
  .op (.load A.a12 (Rect.unit (s := S1x1x4x256) ![0, 0, h.val, 0] S1x1x1x256.size (inbOs h)).toLoadRect (View.loadsAt_vmem h_S1x1x1x256)) fun _ =>
  .op (.store A.a12 (Rect.unit (s := S1x1x4x256) ![0, 0, h.val, 0] S1x1x1x256.size (inbOs h)) (k0_pay100 am b) Finset.univ (View.stores_vmem_bits_univ h_S1x1x1x256 rfl) (.inl rfl)) fun _ => κ

/-- The scores and their maximum of head `h`, passed on. -/
def headScores (A : Args) (h : Fin 4) (i : grid0.Coords) (κ : FVec F S1x256 .f32 → KProg F PUnit) : KProg F PUnit :=
  .op (.load A.a15 (Rect.unit (s := S8x256) ![(h.castLE (by decide) : Fin 8).val, 0] S1x256.size (inbSgRow (h.castLE (by decide)))).toLoadRect (View.loadsAt_vmem h_S1x256)) fun sg =>
  .op (.load A.a13 (Rect.unit (s := S4x256x256) ![h.val, 0, 0] S1x256x256.size (inbQaHead h)).toLoadRect (View.loadsAt_vmem h_S1x256x256)) fun qa =>
  Scf.Loop.for (k0_t1_loop i) (k0_t1_ok i) (k0_pay69 (F := F)) (scoreBody A i sg qa) >>= fun m1 =>
  Scf.Loop.for (k0_t2_loop i) (k0_t2_ok i) m1 (scoreRest A i sg qa) >>= fun m2 =>
  .op (.load A.a4 (Rect.unit (s := S1x1x4096x256) (k0_off7 i) S1x1x256x256.size (k0_off7_inb i)).toLoadRect (View.loadsAt_vmem h_S1x1x256x256)) fun kb =>
  .op (.load A.a5 (Rect.unit (s := S1x1x32x128) (k0_off8 i 0#32) S1x1x1x128.size (k0_off8_inb i 0)).toLoadRect (View.loadsAt_vmem h_S1x1x1x128)) fun k0 =>
  .op (.load A.a5 (Rect.unit (s := S1x1x32x128) (k0_off8 i 1#32) S1x1x1x128.size (k0_off8_inb i 1)).toLoadRect (View.loadsAt_vmem h_S1x1x1x128)) fun k1 =>
  .op (.load A.a14 (Rect.unit (s := S4736x256) (k0_off9 i) S256x256.size (k0_off9_inb i)).toLoadRect (View.loadsAt_vmem h_S256x256)) fun _ =>
  .op (.store A.a14 (Rect.unit (s := S4736x256) (k0_off9 i) S256x256.size (k0_off9_inb i)) (k0_pay77 iotaRow iotaCol sg (k0_pay68 qa) kb k0 k1) Finset.univ (View.stores_vmem_bits_univ h_S256x256 rfl) (.inl rfl)) fun _ =>
  κ (k0_pay78 iotaRow iotaCol sg (k0_pay68 qa) m2 kb k0 k1)

/-- The exponentials of head `h` and their sum, passed on. -/
def headExp (A : Args) (i : grid0.Coords) (m : FVec F S1x256 .f32) (κ : FVec F S1x256 .f32 → KProg F PUnit) : KProg F PUnit :=
  Scf.Loop.for (k0_t3_loop i) (k0_t3_ok i) (k0_pay79 (F := F)) (expBody A i m) >>= fun l1 =>
  Scf.Loop.for (k0_t4_loop i) (k0_t4_ok i) l1 (expRest A i m) >>= fun l2 => κ l2

/-- The second product of head `h`, passed on with the values' scale. -/
def headPv (A : Args) (i : grid0.Coords) (l : FVec F S1x256 .f32) (κ : Vec F S1x1x1x128 .f32 → Vec F S160x256 .f32 → KProg F PUnit) : KProg F PUnit :=
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay90 (k0_pay89 (F := F))) Finset.univ (View.stores_vmem_bits_univ h_S160x256 rfl) (.inl rfl)) fun _ =>
  Scf.Loop.for (k0_t5_loop i) (k0_t5_ok i) 0#32 (pvBody A i (k0_pay88 l)) >>= fun z =>
  Scf.Loop.for (k0_t6_loop i) (k0_t6_ok i) z (pvRest A i (k0_pay88 l)) >>= fun _ =>
  .op (.load A.a7 (Rect.unit (s := S1x1x1x128) ![0, 0, 0, 0] S1x1x1x128.size inb_S1x1x1x128_S1x1x1x128_0_0_0_0).toLoadRect (View.loadsAt_vmem h_S1x1x1x128)) fun vs =>
  .op (.load A.a16 (Rect.unit (s := S160x256) ![0, 0] S160x256.size inb_S160x256_S160x256_0_0).toLoadRect (View.loadsAt_vmem h_S160x256)) fun o => κ vs o

/-- The output's running absolute maximum of head `h`. -/
def amaxStep (A : Args) (h : Fin 4) (i : grid0.Coords) (am : FVec F S1x256 .f32) (κ : KProg F PUnit) : KProg F PUnit :=
  let κ2 : KProg F PUnit := if _hc : k0_cond2 i = 1#1 then amaxNext A h am κ else κ
  if _hc : k0_cond1 i = 1#1 then amaxInit A h am κ2 else κ2

/-- Head `h`'s output codes, not yet transposed, stored. -/
def headCodes (A : Args) (h : Fin 4) (l : FVec F S1x256 .f32) (vs : Vec F S1x1x1x128 .f32) (o : Vec F S160x256 .f32) (κ : KProg F PUnit) : KProg F PUnit :=
  .op (.load A.a15 (Rect.unit (s := S8x256) ![(4 : Fin 8).val, 0] S1x256.size (inbSgRow 4)).toLoadRect (View.loadsAt_vmem h_S1x256)) fun _ =>
  .op (.store A.a15 (Rect.unit (s := S8x256) ![(4 : Fin 8).val, 0] S1x256.size (inbSgRow 4)) (k0_pay101 (k0_pay93 (k0_pay87 l) vs) (k0_pay95 (k0_pay87 l) vs o) k0_pay96) Finset.univ (View.stores_vmem_bits_univ h_S1x256 rfl) (.inl rfl)) fun _ =>
  .op (.load A.a15 (Rect.unit (s := S8x256) ![(4 : Fin 8).val, 0] S1x256.size (inbSgRow 4)).toLoadRect (View.loadsAt_vmem h_S1x256)) fun sg4 =>
  .op (.load A.a14 (Rect.unit (s := S4736x256) ![4096 + 160 * h.val, 0] S160x256.size (inbOut h)).toLoadRect (View.loadsAt_vmem h_S160x256)) fun _ =>
  .op (.store A.a14 (Rect.unit (s := S4736x256) ![4096 + 160 * h.val, 0] S160x256.size (inbOut h)) (k0_pay103 (Scalar.ofBits .f32 0x43E00000#32) (k0_pay102 o sg4)) Finset.univ (View.stores_vmem_bits_univ h_S160x256 rfl) (.inl rfl)) fun _ => κ

/-- Head `h`'s output quantised and stored: its scale, its absolute maximum, its codes. -/
def headOut (A : Args) (h : Fin 4) (i : grid0.Coords) (l : FVec F S1x256 .f32) (vs : Vec F S1x1x1x128 .f32) (o : Vec F S160x256 .f32) (κ : KProg F PUnit) : KProg F PUnit :=
  .op (.load A.a11 (Rect.unit (s := S1x1x4x256) ![0, 0, h.val, 0] S1x1x1x256.size (inbOs h)).toLoadRect (View.loadsAt_vmem h_S1x1x1x256)) fun _ =>
  .op (.store A.a11 (Rect.unit (s := S1x1x4x256) ![0, 0, h.val, 0] S1x1x1x256.size (inbOs h)) (k0_pay98 (F := F) (k0_pay95 (k0_pay87 l) vs o) k0_pay96) Finset.univ (View.stores_vmem_bits_univ h_S1x1x1x256 rfl) (.inl rfl)) fun _ =>
  amaxStep A h i (k0_pay94 (k0_pay87 l) vs o) (headCodes A h l vs o κ)

/-- Head `h` of the attention. -/
def attnHead (A : Args) (h : Fin 4) (i : grid0.Coords) (κ : KProg F PUnit) : KProg F PUnit :=
  headScores A h i fun m => headExp A i m fun l => headPv A i l fun vs o => headOut A h i l vs o κ

/-! ## The output codes and the maxima -/

/-- Column tile `t` of the output codes stored, transposed. -/
def storeOc (A : Args) (t : Fin 5) (κ : KProg F PUnit) : KProg F PUnit :=
  .op (.load A.a14 (Rect.unit (s := S4736x256) ![4096 + 128 * t.val, 0] S128x256.size (inbOcSrc t)).toLoadRect (View.loadsAt_vmem h_S128x256)) fun x =>
  .op (.load A.a10 (Rect.unit (s := S1x256x640) ![0, 0, 128 * t.val] S1x256x128.size (inbOc t)).toLoadRect (View.loadsAt_vmem h_S1x256x128)) fun _ =>
  .op (.store A.a10 (Rect.unit (s := S1x256x640) ![0, 0, 128 * t.val] S1x256x128.size (inbOc t)) (k0_pay214 x) Finset.univ (View.stores_vmem h_S1x256x128 (A.h10.storeExact_slice rfl _ (packedOc t)) (fun _ => rfl)) (.inl rfl)) fun _ => κ

/-- The maxima reduced over the lanes at the last block of rows. -/
def amaxLast (A : Args) : KProg F PUnit :=
  .op (.load A.a12 (Rect.unit (s := S1x1x4x256) ![0, 0, 0, 0] S1x1x4x256.size inb_S1x1x4x256_S1x1x4x256_0_0_0_0).toLoadRect (View.loadsAt_vmem h_S1x1x4x256)) fun b =>
  .op (.load A.a12 (Rect.unit (s := S1x1x4x256) ![0, 0, 0, 0] S1x1x4x256.size inb_S1x1x4x256_S1x1x4x256_0_0_0_0).toLoadRect (View.loadsAt_vmem h_S1x1x4x256)) fun _ =>
  .op (.store A.a12 (Rect.unit (s := S1x1x4x256) ![0, 0, 0, 0] S1x1x4x256.size inb_S1x1x4x256_S1x1x4x256_0_0_0_0) (k0_pay3 b) Finset.univ (View.stores_vmem_bits_univ h_S1x1x4x256 rfl) (.inl rfl)) fun _ => .ret ⟨⟩

/-- What follows the heads. -/
def attnTail (A : Args) (i : grid0.Coords) : KProg F PUnit :=
  storeOc A 0 (storeOc A 1 (storeOc A 2 (storeOc A 3 (storeOc A 4
    (if _hc : k0_cond9 i = 1#1 then amaxLast A else .ret ⟨⟩)))))

/-- The body. -/
def attnBody (A : Args) (i : grid0.Coords) : KProg F PUnit :=
  quantTile A 0 (quantTile A 1 (attnHead A 0 i (attnHead A 1 i (attnHead A 2 i (attnHead A 3 i (attnTail A i))))))

end Cert.Kernel.Gen

end
-- ==== Proof.Kernel.BodyEq.lean ====
module

public import proofs.«01_k».proof.Proof.Kernel.Blocks

@[expose] public section

/-
  The printed body is the row of blocks.
-/

set_option maxRecDepth 65536
set_option maxHeartbeats 4000000

noncomputable section

namespace Cert.Kernel.Gen

open Idealize.ShloMosaic Idealize.ShloMosaic.TcCoe Idealize.ShloMosaic.Tactic
open Idealize.SL Idealize.SL.Sem

variable {F : FTy → Type} [FloatOps F]

theorem attnFlat_eq (A : Args) (i : grid0.Coords) :
    attnFlat (F := F) i A.a3 A.h3 A.a4 A.h4 A.a5 A.h5 A.a6 A.h6 A.a7 A.h7 A.a8 A.h8 A.a9 A.h9 A.a10 A.h10 A.a11 A.h11 A.a12 A.h12 A.a13 A.h13 A.a14 A.h14
      A.a15 A.h15 A.a16 A.h16 = attnBody A i := rfl

end Cert.Kernel.Gen

end
-- ==== Proof.Kernel.Rules.lean ====
module

public import proofs.«01_k».proof.Proof.Kernel.BodyEq

@[expose] public section

/-
  What each block does to the state, as a plain function, and the rule that says so. `bodyF` is the whole body.
-/

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄" => MT nD τ sig Unit (Elt F) ℕ (UR sig nD τ) ℕ

/-! ## The loops' trip counts -/

theorem t2_trips (i : grid0.Coords) : (k0_t2_loop i).trips = 0 := Scf.rem_trips _ _
theorem t4_trips (i : grid0.Coords) : (k0_t4_loop i).trips = 0 := Scf.rem_trips _ _
theorem t6_trips (i : grid0.Coords) : (k0_t6_loop i).trips = 0 := Scf.rem_trips _ _

/-! ## The state functions -/

/-- Head `h` of tile `t` of the query, whose rows are `v`. -/
def quantHeadF (t : Fin 2) (h : Fin 4) (v : Vec F S1x128x640 .bf16) (S : St F) : St F :=
  ((S.set9 (put S.x9 ![0, 0, 0, (⟨2 * h.val + t.val, by omega⟩ : Fin 8).val, 0] S1x1x1x1x128.size (k0_pay18 (F := F) (qExp v h)))).set15
    (put S.x15 ![(h.castLE (by decide) : Fin 8).val, 128 * t.val] S1x128.size (k0_pay19 (F := F) (qExp v h)))).set13
    (put S.x13 ![h.val, 128 * t.val, 0] S1x128x256.size (qAlign v h))

/-- The rows of tile `t`. -/
def qRows (t : Fin 2) (S : St F) : Vec F S1x128x640 .bf16 := window S.x3 ![0, 128 * t.val, 0] S1x128x640.size (inbX t)

/-- Tile `t` of the query. -/
def quantTileF (t : Fin 2) (S : St F) : St F :=
  quantHeadF t 3 (qRows t S) (quantHeadF t 2 (qRows t S) (quantHeadF t 1 (qRows t S) (quantHeadF t 0 (qRows t S)
    (S.set8 (put S.x8 ![0, 128 * t.val, 0] S1x128x640.size (qCodesStored (qRows t S)))))))

/-- One trip of the score loop, carrying the maximum. -/
def scoreStep (i : grid0.Coords) (sg : Vec F S1x256 .f32) (qa : Vec F S1x256x256 .fp8e4m3) (j : Fin (k0_t1_loop i).trips) (p : FVec F S1x256 .f32 × St F) :
    FVec F S1x256 .f32 × St F :=
  let kb := window p.2.x4 (k0_off1 i j) S1x1x256x256.size (k0_off1_inb i j)
  let k0 := window p.2.x5 (k0_off2 i j 0#32) S1x1x1x128.size (k0_off2_inb i j 0)
  let k1 := window p.2.x5 (k0_off2 i j 1#32) S1x1x1x128.size (k0_off2_inb i j 1)
  (k0_pay72 sg qa p.1 kb k0 k1, p.2.set14 (put p.2.x14 (k0_off3 i j) S256x256.size (k0_pay71 sg qa kb k0 k1)))

/-- The scale row and the aligned codes of head `h`. -/
def sgRow (h : Fin 4) (S : St F) : Vec F S1x256 .f32 := window S.x15 ![(h.castLE (by decide) : Fin 8).val, 0] S1x256.size (inbSgRow (h.castLE (by decide)))
def qaHead (h : Fin 4) (S : St F) : Vec F S1x256x256 .fp8e4m3 := window S.x13 ![h.val, 0, 0] S1x256x256.size (inbQaHead h)

/-- The scores below the diagonal block. -/
def scoreLoop (h : Fin 4) (i : grid0.Coords) (S : St F) : FVec F S1x256 .f32 × St F :=
  iterTrips (scoreStep i (sgRow h S) (qaHead h S)) (k0_pay69 (F := F), S) (k0_t1_loop i).trips

/-- All the scores of head `h` and their maximum. -/
def headScoresF (h : Fin 4) (i : grid0.Coords) (S : St F) : FVec F S1x256 .f32 × St F :=
  let p := scoreLoop h i S
  let kb := window p.2.x4 (k0_off7 i) S1x1x256x256.size (k0_off7_inb i)
  let k0 := window p.2.x5 (k0_off8 i 0#32) S1x1x1x128.size (k0_off8_inb i 0)
  let k1 := window p.2.x5 (k0_off8 i 1#32) S1x1x1x128.size (k0_off8_inb i 1)
  (k0_pay78 iotaRow iotaCol (sgRow h S) (k0_pay68 (qaHead h S)) p.1 kb k0 k1,
    p.2.set14 (put p.2.x14 (k0_off9 i) S256x256.size (k0_pay77 iotaRow iotaCol (sgRow h S) (k0_pay68 (qaHead h S)) kb k0 k1)))

/-- One trip of the exponential loop, carrying the sum. -/
def expStep (i : grid0.Coords) (m : FVec F S1x256 .f32) (j : Fin (k0_t3_loop i).trips) (p : FVec F S1x256 .f32 × St F) : FVec F S1x256 .f32 × St F :=
  let x := window p.2.x14 (k0_off10 i j) S256x256.size (k0_off10_inb i j)
  (k0_pay82 m p.1 x, p.2.set14 (put p.2.x14 (k0_off10 i j) S256x256.size (k0_pay81 m x)))

/-- The exponentials and their sum. -/
def headExpF (i : grid0.Coords) (m : FVec F S1x256 .f32) (S : St F) : FVec F S1x256 .f32 × St F :=
  iterTrips (expStep i m) (k0_pay79 (F := F), S) (k0_t3_loop i).trips

/-- One trip of the second product. -/
def pvStep (i : grid0.Coords) (c : FVec F S1x256 .f32) (j : Fin (k0_t5_loop i).trips) (p : BitVec 32 × St F) : BitVec 32 × St F :=
  let x := window p.2.x14 (k0_off12 i j) S256x256.size (k0_off12_inb i j)
  let vt := window p.2.x6 (k0_off13 i j) S1x1x160x256.size (k0_off13_inb i j)
  let o := window p.2.x16 ![0, 0] S160x256.size inb_S160x256_S160x256_0_0
  (0#32, p.2.set16 (put p.2.x16 ![0, 0] S160x256.size (k0_pay91 c x vt o)))

/-- The second product of a head. -/
def headPvF (i : grid0.Coords) (l : FVec F S1x256 .f32) (S : St F) : St F :=
  (iterTrips (pvStep i (k0_pay88 l)) (0#32, S.set16 (put S.x16 ![0, 0] S160x256.size (k0_pay90 (k0_pay89 (F := F))))) (k0_t5_loop i).trips).2

/-- The values' scale, and the product a head's loop left. -/
def vsOf (S : St F) : Vec F S1x1x1x128 .f32 := window S.x7 ![0, 0, 0, 0] S1x1x1x128.size inb_S1x1x1x128_S1x1x1x128_0_0_0_0
def oOf (S : St F) : Vec F S160x256 .f32 := window S.x16 ![0, 0] S160x256.size inb_S160x256_S160x256_0_0

def amaxInitF (h : Fin 4) (am : FVec F S1x256 .f32) (S : St F) : St F :=
  S.set12 (put S.x12 ![0, 0, h.val, 0] S1x1x1x256.size (k0_pay99 am))
def amaxNextF (h : Fin 4) (am : FVec F S1x256 .f32) (S : St F) : St F :=
  S.set12 (put S.x12 ![0, 0, h.val, 0] S1x1x1x256.size (k0_pay100 am (window S.x12 ![0, 0, h.val, 0] S1x1x1x256.size (inbOs h))))
/-- The running maximum of head `h`. -/
def amaxStepF (h : Fin 4) (i : grid0.Coords) (am : FVec F S1x256 .f32) (S : St F) : St F :=
  let S1 := if k0_cond1 i = 1#1 then amaxInitF h am S else S
  if k0_cond2 i = 1#1 then amaxNextF h am S1 else S1

/-- Head `h`'s output codes. -/
def headCodesF (h : Fin 4) (l : FVec F S1x256 .f32) (vs : Vec F S1x1x1x128 .f32) (o : Vec F S160x256 .f32) (S : St F) : St F :=
  let T := S.set15 (put S.x15 ![(4 : Fin 8).val, 0] S1x256.size (k0_pay101 (k0_pay93 (k0_pay87 l) vs) (k0_pay95 (k0_pay87 l) vs o) k0_pay96))
  T.set14 (put T.x14 ![4096 + 160 * h.val, 0] S160x256.size
    (k0_pay103 (Scalar.ofBits .f32 0x43E00000#32) (k0_pay102 o (window T.x15 ![(4 : Fin 8).val, 0] S1x256.size (inbSgRow 4)))))

/-- Head `h`'s output scale, maximum and codes. -/
def headOutF (h : Fin 4) (i : grid0.Coords) (l : FVec F S1x256 .f32) (vs : Vec F S1x1x1x128 .f32) (o : Vec F S160x256 .f32) (S : St F) : St F :=
  headCodesF h l vs o (amaxStepF h i (k0_pay94 (k0_pay87 l) vs o)
    (S.set11 (put S.x11 ![0, 0, h.val, 0] S1x1x1x256.size (k0_pay98 (F := F) (k0_pay95 (k0_pay87 l) vs o) k0_pay96))))

/-- Head `h`. -/
def attnHeadF (h : Fin 4) (i : grid0.Coords) (S : St F) : St F :=
  let p := headScoresF h i S
  let q := headExpF i p.1 p.2
  let T := headPvF i q.1 q.2
  headOutF h i q.1 (vsOf T) (oOf T) T

def storeOcF (t : Fin 5) (S : St F) : St F :=
  S.set10 (put S.x10 ![0, 0, 128 * t.val] S1x256x128.size (k0_pay214 (window S.x14 ![4096 + 128 * t.val, 0] S128x256.size (inbOcSrc t))))
def amaxLastF (S : St F) : St F :=
  S.set12 (put S.x12 ![0, 0, 0, 0] S1x1x4x256.size (k0_pay3 (window S.x12 ![0, 0, 0, 0] S1x1x4x256.size inb_S1x1x4x256_S1x1x4x256_0_0_0_0)))
def attnTailF (i : grid0.Coords) (S : St F) : St F :=
  let T := storeOcF 4 (storeOcF 3 (storeOcF 2 (storeOcF 1 (storeOcF 0 S))))
  if k0_cond9 i = 1#1 then amaxLastF T else T

/-- The body. -/
def bodyF (i : grid0.Coords) (S : St F) : St F :=
  attnTailF i (attnHeadF 3 i (attnHeadF 2 i (attnHeadF 1 i (attnHeadF 0 i (quantTileF 1 (quantTileF 0 S))))))

/-! ## The rules -/

variable (𝒱 : Variants) (c : Dev nD) (bd : Option 𝒱.V) (E : Set ℕ) {A : Args} {S : St F} {κ : KProg F PUnit}

theorem quantHead_rule {Q : PUnit.{1} → sProp 𝕄} (t : Fin 2) (hd : Fin 4) (v : Vec F S1x128x640 .bf16) (h : held c A (quantHeadF t hd v S) ⊢ wpk 𝒱 c bd E κ Q) :
    held c A S ⊢ wpk 𝒱 c bd E (quantHead A t hd v κ) Q := by
  unfold quantHead
  refine load_rule 𝒱 c bd E (split9 c A _) rfl ?_
  refine store_rule 𝒱 c bd E (split9 c A _) ?_
  refine load_rule 𝒱 c bd E (split15 c A _) rfl ?_
  refine store_rule 𝒱 c bd E (split15 c A _) ?_
  refine load_rule 𝒱 c bd E (split13 c A _) rfl ?_
  refine store_rule 𝒱 c bd E (split13 c A _) ?_
  exact h

theorem quantTile_rule {Q : PUnit.{1} → sProp 𝕄} (t : Fin 2) (h : held c A (quantTileF t S) ⊢ wpk 𝒱 c bd E κ Q) :
    held c A S ⊢ wpk 𝒱 c bd E (quantTile A t κ) Q := by
  unfold quantTile
  refine load_rule 𝒱 c bd E (split3 c A _) rfl ?_
  refine load_rule 𝒱 c bd E (split8 c A _) rfl ?_
  refine store_rule 𝒱 c bd E (split8 c A _) ?_
  refine quantHead_rule 𝒱 c bd E t 0 _ ?_
  refine quantHead_rule 𝒱 c bd E t 1 _ ?_
  refine quantHead_rule 𝒱 c bd E t 2 _ ?_
  refine quantHead_rule 𝒱 c bd E t 3 _ ?_
  exact h

theorem headScores_rule {Q : PUnit.{1} → sProp 𝕄} (hd : Fin 4) (i : grid0.Coords) {κ : FVec F S1x256 .f32 → KProg F PUnit}
    (h : held c A (headScoresF hd i S).2 ⊢ wpk 𝒱 c bd E (κ (headScoresF hd i S).1) Q) :
    held c A S ⊢ wpk 𝒱 c bd E (headScores A hd i κ) Q := by
  unfold headScores
  refine load_rule 𝒱 c bd E (split15 c A _) rfl ?_
  refine load_rule 𝒱 c bd E (split13 c A _) rfl ?_
  refine for_rule 𝒱 c bd E (scoreStep i (sgRow hd S) (qaHead hd S)) (fun j acc T Q' hq => ?_) ?_
  · unfold scoreBody
    refine load_rule 𝒱 c bd E (split4 c A _) rfl ?_
    refine load_rule 𝒱 c bd E (split5 c A _) rfl ?_
    refine load_rule 𝒱 c bd E (split5 c A _) rfl ?_
    refine load_rule 𝒱 c bd E (split14 c A _) rfl ?_
    refine store_rule 𝒱 c bd E (split14 c A _) ?_
    exact ret_rule 𝒱 c bd E hq
  refine for_none_rule 𝒱 c bd E (t2_trips i) ?_
  refine load_rule 𝒱 c bd E (split4 c A _) rfl ?_
  refine load_rule 𝒱 c bd E (split5 c A _) rfl ?_
  refine load_rule 𝒱 c bd E (split5 c A _) rfl ?_
  refine load_rule 𝒱 c bd E (split14 c A _) rfl ?_
  refine store_rule 𝒱 c bd E (split14 c A _) ?_
  exact h

theorem headExp_rule {Q : PUnit.{1} → sProp 𝕄} (i : grid0.Coords) (m : FVec F S1x256 .f32) {κ : FVec F S1x256 .f32 → KProg F PUnit}
    (h : held c A (headExpF i m S).2 ⊢ wpk 𝒱 c bd E (κ (headExpF i m S).1) Q) :
    held c A S ⊢ wpk 𝒱 c bd E (headExp A i m κ) Q := by
  unfold headExp
  refine for_rule 𝒱 c bd E (expStep i m) (fun j acc T Q' hq => ?_) ?_
  · unfold expBody
    refine load_rule 𝒱 c bd E (split14 c A _) rfl ?_
    refine load_rule 𝒱 c bd E (split14 c A _) rfl ?_
    refine store_rule 𝒱 c bd E (split14 c A _) ?_
    exact ret_rule 𝒱 c bd E hq
  refine for_none_rule 𝒱 c bd E (t4_trips i) ?_
  exact h

theorem headPv_rule {Q : PUnit.{1} → sProp 𝕄} (i : grid0.Coords) (l : FVec F S1x256 .f32) {κ : Vec F S1x1x1x128 .f32 → Vec F S160x256 .f32 → KProg F PUnit}
    (h : held c A (headPvF i l S) ⊢ wpk 𝒱 c bd E (κ (vsOf (headPvF i l S)) (oOf (headPvF i l S))) Q) :
    held c A S ⊢ wpk 𝒱 c bd E (headPv A i l κ) Q := by
  unfold headPv
  refine load_rule 𝒱 c bd E (split16 c A _) rfl ?_
  refine store_rule 𝒱 c bd E (split16 c A _) ?_
  refine for_rule 𝒱 c bd E (pvStep i (k0_pay88 l)) (fun j acc T Q' hq => ?_) ?_
  · unfold pvBody
    refine load_rule 𝒱 c bd E (split14 c A _) rfl ?_
    refine load_rule 𝒱 c bd E (split6 c A _) rfl ?_
    refine load_rule 𝒱 c bd E (split16 c A _) rfl ?_
    refine load_rule 𝒱 c bd E (split16 c A _) rfl ?_
    refine store_rule 𝒱 c bd E (split16 c A _) ?_
    exact ret_rule 𝒱 c bd E hq
  refine for_none_rule 𝒱 c bd E (t6_trips i) ?_
  refine load_rule 𝒱 c bd E (split7 c A _) rfl ?_
  refine load_rule 𝒱 c bd E (split16 c A _) rfl ?_
  unfold vsOf oOf headPvF at h
  exact h

theorem amaxStep_rule {Q : PUnit.{1} → sProp 𝕄} (hd : Fin 4) (i : grid0.Coords) (am : FVec F S1x256 .f32) (h : held c A (amaxStepF hd i am S) ⊢ wpk 𝒱 c bd E κ Q) :
    held c A S ⊢ wpk 𝒱 c bd E (amaxStep A hd i am κ) Q := by
  unfold amaxStep
  refine if_rule 𝒱 c bd E (amaxInitF hd am) (fun _ hq => ?_) ?_
  · unfold amaxInit
    refine load_rule 𝒱 c bd E (split12 c A _) rfl ?_
    refine store_rule 𝒱 c bd E (split12 c A _) ?_
    exact hq
  refine if_rule 𝒱 c bd E (amaxNextF hd am) (fun _ hq => ?_) ?_
  · unfold amaxNext
    refine load_rule 𝒱 c bd E (split12 c A _) rfl ?_
    refine load_rule 𝒱 c bd E (split12 c A _) rfl ?_
    refine store_rule 𝒱 c bd E (split12 c A _) ?_
    exact hq
  exact h

theorem headOut_rule {Q : PUnit.{1} → sProp 𝕄} (hd : Fin 4) (i : grid0.Coords) (l : FVec F S1x256 .f32) (vs : Vec F S1x1x1x128 .f32) (o : Vec F S160x256 .f32)
    (h : held c A (headOutF hd i l vs o S) ⊢ wpk 𝒱 c bd E κ Q) :
    held c A S ⊢ wpk 𝒱 c bd E (headOut A hd i l vs o κ) Q := by
  unfold headOut
  refine load_rule 𝒱 c bd E (split11 c A _) rfl ?_
  refine store_rule 𝒱 c bd E (split11 c A _) ?_
  refine amaxStep_rule 𝒱 c bd E hd i _ ?_
  unfold headCodes
  refine load_rule 𝒱 c bd E (split15 c A _) rfl ?_
  refine store_rule 𝒱 c bd E (split15 c A _) ?_
  refine load_rule 𝒱 c bd E (split15 c A _) rfl ?_
  refine load_rule 𝒱 c bd E (split14 c A _) rfl ?_
  refine store_rule 𝒱 c bd E (split14 c A _) ?_
  exact h

theorem attnHead_rule {Q : PUnit.{1} → sProp 𝕄} (hd : Fin 4) (i : grid0.Coords) (h : held c A (attnHeadF hd i S) ⊢ wpk 𝒱 c bd E κ Q) :
    held c A S ⊢ wpk 𝒱 c bd E (attnHead A hd i κ) Q := by
  unfold attnHead
  refine headScores_rule 𝒱 c bd E hd i ?_
  refine headExp_rule 𝒱 c bd E i _ ?_
  refine headPv_rule 𝒱 c bd E i _ ?_
  exact headOut_rule 𝒱 c bd E hd i _ _ _ h

theorem storeOc_rule {Q : PUnit.{1} → sProp 𝕄} (t : Fin 5) (h : held c A (storeOcF t S) ⊢ wpk 𝒱 c bd E κ Q) :
    held c A S ⊢ wpk 𝒱 c bd E (storeOc A t κ) Q := by
  unfold storeOc
  refine load_rule 𝒱 c bd E (split14 c A _) rfl ?_
  refine load_rule 𝒱 c bd E (split10 c A _) rfl ?_
  refine store_rule 𝒱 c bd E (split10 c A _) ?_
  exact h

theorem attnTail_rule {Q : PUnit.{1} → sProp 𝕄} (i : grid0.Coords) (h : held c A (attnTailF i S) ⊢ Q ⟨⟩) :
    held c A S ⊢ wpk 𝒱 c bd E (attnTail A i) Q := by
  unfold attnTail
  refine storeOc_rule 𝒱 c bd E 0 ?_
  refine storeOc_rule 𝒱 c bd E 1 ?_
  refine storeOc_rule 𝒱 c bd E 2 ?_
  refine storeOc_rule 𝒱 c bd E 3 ?_
  refine storeOc_rule 𝒱 c bd E 4 ?_
  refine if_rule 𝒱 c bd E amaxLastF (fun _ hq => ?_) (ret_rule 𝒱 c bd E h)
  unfold amaxLast
  refine load_rule 𝒱 c bd E (split12 c A _) rfl ?_
  refine load_rule 𝒱 c bd E (split12 c A _) rfl ?_
  refine store_rule 𝒱 c bd E (split12 c A _) ?_
  exact hq

/-- The body takes the state to `bodyF` of it. -/
theorem attnBody_rule {Q : PUnit.{1} → sProp 𝕄} (i : grid0.Coords) (h : held c A (bodyF i S) ⊢ Q ⟨⟩) :
    held c A S ⊢ wpk 𝒱 c bd E (attnBody A i) Q := by
  unfold attnBody
  refine quantTile_rule 𝒱 c bd E 0 ?_
  refine quantTile_rule 𝒱 c bd E 1 ?_
  refine attnHead_rule 𝒱 c bd E 0 i ?_
  refine attnHead_rule 𝒱 c bd E 1 i ?_
  refine attnHead_rule 𝒱 c bd E 2 i ?_
  refine attnHead_rule 𝒱 c bd E 3 i ?_
  exact attnTail_rule 𝒱 c bd E i h

/-- … the printed body likewise. -/
theorem cc0_attn_rule {Q : PUnit.{1} → sProp 𝕄} (i : grid0.Coords) (h : held c A (bodyF i S) ⊢ Q ⟨⟩) :
    held c A S ⊢ wpk 𝒱 c bd E (cc0_attn (F := F) i A.a3 A.h3 A.a4 A.h4 A.a5 A.h5 A.a6 A.h6 A.a7 A.h7 A.a8 A.h8 A.a9 A.h9 A.a10 A.h10 A.a11 A.h11 A.a12 A.h12 A.a13 A.h13
      A.a14 A.h14 A.a15 A.h15 A.a16 A.h16) Q := by
  rw [cc0_attn_eq_skeleton, attnFlat.eq, attnFlat_eq A i]
  exact attnBody_rule 𝒱 c bd E i h

end Cert.Kernel.Gen

end
-- ==== Proof.Kernel.Keep.lean ====
module

public import proofs.«01_k».proof.Proof.Kernel.Rules

@[expose] public section

/-
  The body leaves its five input blocks as they were.
-/

set_option maxRecDepth 65536

noncomputable section

namespace Cert.Kernel.Gen

open Idealize.ShloMosaic

variable {F : FTy → Type} [FloatOps F]

/-- The same input blocks. -/
def SameIn (S T : St F) : Prop := T.x3 = S.x3 ∧ T.x4 = S.x4 ∧ T.x5 = S.x5 ∧ T.x6 = S.x6 ∧ T.x7 = S.x7

theorem SameIn.refl (S : St F) : SameIn S S := ⟨rfl, rfl, rfl, rfl, rfl⟩
theorem SameIn.trans {S T U : St F} (h : SameIn S T) (k : SameIn T U) : SameIn S U :=
  ⟨k.1.trans h.1, k.2.1.trans h.2.1, k.2.2.1.trans h.2.2.1, k.2.2.2.1.trans h.2.2.2.1, k.2.2.2.2.trans h.2.2.2.2⟩

theorem same_set8 (S : St F) (Y) : SameIn S (S.set8 Y) := ⟨rfl, rfl, rfl, rfl, rfl⟩
theorem same_set9 (S : St F) (Y) : SameIn S (S.set9 Y) := ⟨rfl, rfl, rfl, rfl, rfl⟩
theorem same_set10 (S : St F) (Y) : SameIn S (S.set10 Y) := ⟨rfl, rfl, rfl, rfl, rfl⟩
theorem same_set11 (S : St F) (Y) : SameIn S (S.set11 Y) := ⟨rfl, rfl, rfl, rfl, rfl⟩
theorem same_set12 (S : St F) (Y) : SameIn S (S.set12 Y) := ⟨rfl, rfl, rfl, rfl, rfl⟩
theorem same_set13 (S : St F) (Y) : SameIn S (S.set13 Y) := ⟨rfl, rfl, rfl, rfl, rfl⟩
theorem same_set14 (S : St F) (Y) : SameIn S (S.set14 Y) := ⟨rfl, rfl, rfl, rfl, rfl⟩
theorem same_set15 (S : St F) (Y) : SameIn S (S.set15 Y) := ⟨rfl, rfl, rfl, rfl, rfl⟩
theorem same_set16 (S : St F) (Y) : SameIn S (S.set16 Y) := ⟨rfl, rfl, rfl, rfl, rfl⟩

/-- A loop whose trips keep a property keeps it. -/
theorem iterTrips_keeps {σ : Type} {n : ℕ} (g : Fin n → σ → σ) (P : σ → Prop) (hg : ∀ j s, P s → P (g j s)) (s : σ) (hs : P s) (k : ℕ) :
    P (iterTrips g s k) := by
  induction k with
  | zero => exact hs
  | succ k ih =>
    rw [iterTrips.eq_2]
    split
    · exact hg _ _ ih
    · exact ih

theorem same_quantHead (t : Fin 2) (h : Fin 4) (v) (S : St F) : SameIn S (quantHeadF t h v S) :=
  ((same_set9 _ _).trans (same_set15 _ _)).trans (same_set13 _ _)

theorem same_quantTile (t : Fin 2) (S : St F) : SameIn S (quantTileF t S) :=
  (((((same_set8 _ _).trans (same_quantHead t 0 _ _)).trans (same_quantHead t 1 _ _)).trans (same_quantHead t 2 _ _)).trans (same_quantHead t 3 _ _))

theorem same_headScores (h : Fin 4) (i : grid0.Coords) (S : St F) : SameIn S (headScoresF h i S).2 :=
  (show SameIn S (scoreLoop h i S).2 from
    iterTrips_keeps (scoreStep i (sgRow h S) (qaHead h S)) (fun p => SameIn S p.2) (fun _ _ hp => hp.trans (same_set14 _ _)) _ (SameIn.refl S) _).trans (same_set14 _ _)

theorem same_headExp (i : grid0.Coords) (m) (S : St F) : SameIn S (headExpF i m S).2 :=
  iterTrips_keeps (expStep i m) (fun p => SameIn S p.2) (fun _ _ hp => hp.trans (same_set14 _ _)) _ (SameIn.refl S) _

theorem same_headPv (i : grid0.Coords) (l) (S : St F) : SameIn S (headPvF i l S) :=
  iterTrips_keeps (pvStep i (k0_pay88 l)) (fun p => SameIn S p.2) (fun _ _ hp => hp.trans (same_set16 _ _)) _ (same_set16 S _) _

theorem same_amaxStep (h : Fin 4) (i : grid0.Coords) (am) (S : St F) : SameIn S (amaxStepF h i am S) := by
  have h1 : SameIn S (if k0_cond1 i = 1#1 then amaxInitF h am S else S) := by
    split
    · exact same_set12 _ _
    · exact SameIn.refl S
  unfold amaxStepF
  dsimp only
  split
  · exact h1.trans (same_set12 _ _)
  · exact h1

theorem same_headOut (h : Fin 4) (i : grid0.Coords) (l) (vs) (o) (S : St F) : SameIn S (headOutF h i l vs o S) :=
  (((same_set11 _ _).trans (same_amaxStep h i _ _)).trans (same_set15 _ _)).trans (same_set14 _ _)

theorem same_attnHead (h : Fin 4) (i : grid0.Coords) (S : St F) : SameIn S (attnHeadF h i S) :=
  (((same_headScores h i S).trans (same_headExp i _ _)).trans (same_headPv i _ _)).trans (same_headOut h i _ _ _ _)

theorem same_attnTail (i : grid0.Coords) (S : St F) : SameIn S (attnTailF i S) := by
  have h : SameIn S (storeOcF 4 (storeOcF 3 (storeOcF 2 (storeOcF 1 (storeOcF 0 S))))) :=
    ((((same_set10 _ _).trans (same_set10 _ _)).trans (same_set10 _ _)).trans (same_set10 _ _)).trans (same_set10 _ _)
  unfold attnTailF
  dsimp only
  split
  · exact h.trans (same_set12 _ _)
  · exact h

/-- The body keeps the input blocks. -/
theorem same_body (i : grid0.Coords) (S : St F) : SameIn S (bodyF i S) :=
  ((((((same_quantTile 0 S).trans (same_quantTile 1 _)).trans (same_attnHead 0 i _)).trans (same_attnHead 1 i _)).trans (same_attnHead 2 i _)).trans
    (same_attnHead 3 i _)).trans (same_attnTail i _)

end Cert.Kernel.Gen

end
-- ==== Proof.Kernel.Launch.lean ====
module

public import proofs.«01_k».proof.Proof.Kernel.Keep
public import proofs.«01_k».proof.Proof.Gen.Kernel.Frame

@[expose] public section

/-
  The body as the pipeline calls it at a grid point, and the frame: it terminates, nothing faults, the arguments are unchanged.
-/

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

/-- The buffers of the call at point `t`. -/
def argsAt (t : Fin cfg0.N) : Args where
  a3 := st0_0 t
  h3 := hstage0_0 ((cfg0.slots t 0).cast nbuf0_0)
  a4 := st0_1 t
  h4 := hstage0_1 ((cfg0.slots t 1).cast nbuf0_1)
  a5 := st0_2 t
  h5 := hstage0_2 ((cfg0.slots t 2).cast nbuf0_2)
  a6 := st0_3 t
  h6 := hstage0_3 ((cfg0.slots t 3).cast nbuf0_3)
  a7 := st0_4 t
  h7 := hstage0_4 ((cfg0.slots t 4).cast nbuf0_4)
  a8 := st0_5 t
  h8 := hstage0_5 ((cfg0.slots t 5).cast nbuf0_5)
  a9 := st0_6 t
  h9 := hstage0_6 ((cfg0.slots t 6).cast nbuf0_6)
  a10 := st0_7 t
  h10 := hstage0_7 ((cfg0.slots t 7).cast nbuf0_7)
  a11 := st0_8 t
  h11 := hstage0_8 ((cfg0.slots t 8).cast nbuf0_8)
  a12 := st0_9 t
  h12 := hstage0_9 ((cfg0.slots t 9).cast nbuf0_9)
  a13 := Memref.whole cc0_scratch0
  h13 := Memref.isWhole_whole _
  a14 := Memref.whole cc0_scratch1
  h14 := Memref.isWhole_whole _
  a15 := Memref.whole cc0_scratch2
  h15 := Memref.isWhole_whole _
  a16 := Memref.whole cc0_scratch3
  h16 := Memref.isWhole_whole _

/-- The ten staging buffers of point `t`, holding the first ten fields of `S`. -/
def staged (c : Dev nD) (t : Fin cfg0.N) (S : St F) : sProp 𝕄 :=
  iprop(owns (c : Thread nD τ) (st0_0 t) fullShare S.x3 ∗ owns (c : Thread nD τ) (st0_1 t) fullShare S.x4 ∗ owns (c : Thread nD τ) (st0_2 t) fullShare S.x5
    ∗ owns (c : Thread nD τ) (st0_3 t) fullShare S.x6 ∗ owns (c : Thread nD τ) (st0_4 t) fullShare S.x7 ∗ owns (c : Thread nD τ) (st0_5 t) fullShare S.x8
    ∗ owns (c : Thread nD τ) (st0_6 t) fullShare S.x9 ∗ owns (c : Thread nD τ) (st0_7 t) fullShare S.x10 ∗ owns (c : Thread nD τ) (st0_8 t) fullShare S.x11
    ∗ owns (c : Thread nD τ) (st0_9 t) fullShare S.x12)

/-- The scratch buffers at some contents join the staging buffers. -/
theorem held_intro (c : Dev nD) (t : Fin cfg0.N) (S : St F) :
    iprop((Pipeline.ΦA spec0 c : sProp 𝕄) ∗ staged c t S)
      ⊢ iprop(∃ T : St F, ⌜∃ f13 f14 f15 f16, T = (((S.set13 f13).set14 f14).set15 f15).set16 f16⌝ ∗ held c (argsAt t) T ∗ (∃ r, prngReg c r)) := by
  unfold Pipeline.ΦA staged
  rw [scopedRest0_eq]
  iintro ⟨⟨⟨⟨%f13, H13⟩, ⟨%f14, H14⟩, ⟨%f15, H15⟩, ⟨%f16, H16⟩⟩, Hp⟩, H3, H4, H5, H6, H7, H8, H9, H10, H11, H12⟩
  iexists (((S.set13 f13).set14 f14).set15 f15).set16 f16
  isplitr
  · ipureintro; exact ⟨f13, f14, f15, f16, rfl⟩
  isplitr [Hp]
  · unfold held argsAt
    dsimp only [St.set13, St.set14, St.set15, St.set16]
    rw [owns_whole, owns_whole, owns_whole, owns_whole]
    iframe
  · iexact Hp

/-- … and leave them. -/
theorem held_elim (c : Dev nD) (t : Fin cfg0.N) (S : St F) :
    iprop(held c (argsAt t) S ∗ (∃ r, prngReg c r)) ⊢ iprop((Pipeline.ΦA spec0 c : sProp 𝕄) ∗ staged c t S) := by
  unfold Pipeline.ΦA staged held argsAt
  dsimp only
  rw [scopedRest0_eq, owns_whole, owns_whole, owns_whole, owns_whole]
  iintro ⟨⟨H3, H4, H5, H6, H7, H8, H9, H10, H11, H12, H13, H14, H15, H16⟩, Hp⟩
  isplitr [H3 H4 H5 H6 H7 H8 H9 H10 H11 H12]
  · isplitr [Hp]
    · isplitl [H13]; · iexists _; iexact H13
      isplitl [H14]; · iexists _; iexact H14
      isplitl [H15]; · iexists _; iexact H15
      iexists _; iexact H16
    · iexact Hp
  iframe

/-- The body at point `t`: whatever the scratch buffers hold, the staging buffers end at `bodyF`'s fields. -/
theorem sound_at (c : Dev nD) (t : Fin cfg0.N) (S : St F) (R : sProp 𝕄) (Q : PUnit → sProp 𝕄)
    (h : ∀ f13 f14 f15 f16, iprop((Pipeline.ΦA spec0 c : sProp 𝕄) ∗ R ∗ staged c t (bodyF (grid0.coords t) ((((S.set13 f13).set14 f14).set15 f15).set16 f16))) ⊢ Q ⟨⟩) :
    iprop((Pipeline.ΦA spec0 c : sProp 𝕄) ∗ R ∗ staged c t S) ⊢ wp frame (wpE (defs₀ (F := F)) Variants.none c none) Set.univ (bodyAt0 t) Q := by
  iintro ⟨HΦ, HR, HS⟩
  ihave H := held_intro c t S $$ [HΦ HS]
  · isplitl [HΦ]; · iexact HΦ
    iexact HS
  icases H with ⟨%T, %hT, HT, Hp⟩
  iapply (wp_wand_r frame (wpE (defs₀ (F := F)) Variants.none c none) Set.univ (Q := fun _ => held c (argsAt t) (bodyF (grid0.coords t) T)))
  isplitl [HT]
  · iapply (cc0_attn_rule (A := argsAt t) (S := T) Variants.none c none Set.univ (grid0.coords t) (Q := fun _ => held c (argsAt t) (bodyF (grid0.coords t) T)) .rfl)
    iexact HT
  iintro %u HT
  obtain ⟨f13, f14, f15, f16, rfl⟩ := hT
  iapply (h f13 f14 f15 f16)
  ihave H := held_elim c t _ $$ [HT Hp]
  · isplitl [HT]; · iexact HT
    iexact Hp
  icases H with ⟨HΦ, HS⟩
  isplitl [HΦ]; · iexact HΦ
  isplitl [HR]; · iexact HR
  iexact HS

end Cert.Kernel.Gen

end
-- ==== Proof.Kernel.Frame.lean ====
module

public import proofs.«01_k».proof.Proof.Kernel.Launch

@[expose] public section

/-
  The frame: every execution terminates, nothing faults, the argument arrays end unchanged and every counter ends at zero.
  The outputs are forgotten here; nothing below says what they hold.
-/

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows. -/
def outs : Fin cfg0.W → Bool
  | ⟨0, _⟩ => false
  | ⟨1, _⟩ => false
  | ⟨2, _⟩ => false
  | ⟨3, _⟩ => false
  | ⟨4, _⟩ => false
  | _ => true

/-- The proof data of the frame: each input's buffer at its block, nothing named of an output. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q _ := fullShare
  owed _ := 0

theorem frameDats_A (c : Dev nD) (w : Fin cfg0.W) : (frameDats m 0 c).A w = V m c (Pipeline.arrRef spec0 w) := by dsimp only [frameDats]

theorem frameDats_after0 (c : Dev nD) (t : Fin cfg0.N) : (frameDats m 0 c).after 0 t = iblk m c 0 t := by dsimp only [frameDats]
theorem frameDats_after1 (c : Dev nD) (t : Fin cfg0.N) : (frameDats m 0 c).after 1 t = iblk m c 1 t := by dsimp only [frameDats]
theorem frameDats_after2 (c : Dev nD) (t : Fin cfg0.N) : (frameDats m 0 c).after 2 t = iblk m c 2 t := by dsimp only [frameDats]
theorem frameDats_after3 (c : Dev nD) (t : Fin cfg0.N) : (frameDats m 0 c).after 3 t = iblk m c 3 t := by dsimp only [frameDats]
theorem frameDats_after4 (c : Dev nD) (t : Fin cfg0.N) : (frameDats m 0 c).after 4 t = iblk m c 4 t := by dsimp only [frameDats]

/-- What the body is called with at point `t`, the outputs at anything. -/
def framePre (c : Dev nD) (t : Fin cfg0.N) : sProp 𝕄 :=
  iprop((frameDats m 0 c).Φ t.castSucc ∗ (frameDats m 0 c).owesAt () t.castSucc
    ∗ (∃ d, owns (c : Thread nD τ) (st0_0 t) fullShare ((frameDats m 0 c).before 0 t d))
    ∗ (∃ d, owns (c : Thread nD τ) (st0_1 t) fullShare ((frameDats m 0 c).before 1 t d))
    ∗ (∃ d, owns (c : Thread nD τ) (st0_2 t) fullShare ((frameDats m 0 c).before 2 t d))
    ∗ (∃ d, owns (c : Thread nD τ) (st0_3 t) fullShare ((frameDats m 0 c).before 3 t d))
    ∗ (∃ d, owns (c : Thread nD τ) (st0_4 t) fullShare ((frameDats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- … and what it returns. -/
def framePost (c : Dev nD) (t : Fin cfg0.N) : sProp 𝕄 :=
  iprop((frameDats m 0 c).Φ t.succ ∗ (frameDats m 0 c).owesAt () t.succ
    ∗ owns (c : Thread nD τ) (st0_0 t) fullShare ((frameDats m 0 c).after 0 t)
    ∗ owns (c : Thread nD τ) (st0_1 t) fullShare ((frameDats m 0 c).after 1 t)
    ∗ owns (c : Thread nD τ) (st0_2 t) fullShare ((frameDats m 0 c).after 2 t)
    ∗ owns (c : Thread nD τ) (st0_3 t) fullShare ((frameDats m 0 c).after 3 t)
    ∗ owns (c : Thread nD τ) (st0_4 t) fullShare ((frameDats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- The body at any point keeps the frame. -/
theorem frame_body (c : Dev nD) (t : Fin cfg0.N) :
    framePre m c t ⊢ wp frame (wpE (defs₀ (F := F)) Variants.none c none) Set.univ (bodyAt0 t) (fun _ => framePost m c t) := by
  unfold framePre framePost
  rw [show (frameDats m 0 c).Φ t.succ = (frameDats m 0 c).Φ t.castSucc from rfl,
    show (frameDats m 0 c).owesAt () t.succ = (frameDats m 0 c).owesAt () t.castSucc from rfl,
    show (frameDats m 0 c).Φ t.castSucc = Pipeline.ΦA spec0 c from rfl,
    frameDats_after0, frameDats_after1, frameDats_after2, frameDats_after3, frameDats_after4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (frameDats m 0 c) (frameDats_A m c 0) (frameDats_after0 m c) t d0,
    before0_1_of m (frameDats m 0 c) (frameDats_A m c 1) (frameDats_after1 m c) t d1,
    before0_2_of m (frameDats m 0 c) (frameDats_A m c 2) (frameDats_after2 m c) t d2,
    before0_3_of m (frameDats m 0 c) (frameDats_A m c 3) (frameDats_after3 m c) t d3,
    before0_4_of m (frameDats m 0 c) (frameDats_A m c 4) (frameDats_after4 m c) t d4]
  iapply (sound_at c t ⟨iblk m c 0 t, iblk m c 1 t, iblk m c 2 t, iblk m c 3 t, iblk m c 4 t, d5, d6, d7, d8, d9,
    fun _ => Scalar.ofBits .fp8e4m3 0, fun _ => Scalar.ofBits .f32 0, fun _ => Scalar.ofBits .f32 0, fun _ => Scalar.ofBits .f32 0⟩
    ((frameDats m 0 c).owesAt () t.castSucc) _ ?_)
  swap
  · isplitl [HΦ]; · iexact HΦ
    isplitl [Ho]; · iexact Ho
    unfold staged
    iframe
  intro f13 f14 f15 f16
  obtain ⟨e3, e4, e5, e6, e7⟩ := same_body (grid0.coords t)
    (((((⟨iblk m c 0 t, iblk m c 1 t, iblk m c 2 t, iblk m c 3 t, iblk m c 4 t, d5, d6, d7, d8, d9,
      fun _ => Scalar.ofBits .fp8e4m3 0, fun _ => Scalar.ofBits .f32 0, fun _ => Scalar.ofBits .f32 0, fun _ => Scalar.ofBits .f32 0⟩ : St F).set13 f13).set14 f14).set15 f15).set16 f16)
  unfold staged
  rw [e3, e4, e5, e6, e7]
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem frame_obligation (c : Dev nD) : BodyObligationLoose (frameDats (F := F) m 0 c) (defs₀ (F := F)) Variants.none () Set.univ outs := fun t => by
  rw [bigSep_W0, bigSep_W0, defs₀_row]
  exact triple_restated (frame_body m c t) rfl .rfl fun _ => .rfl

set_option backward.isDefEq.respectTransparency.types false in
set_option maxHeartbeats 800000 in
theorem frame_run : θ_run defs (onTc (τ := τ) (main (F := F))) (s₀ m ρ)
    (fun r => (RDat.FramePost cfg0 (fun c => (frameDats m 0 c).toRForget outs) (V m)) r ∧ r.2.sem = fun _ => 0) :=
  Pipeline.θ_run_frame_forget (Q' := _) cfgs (frameDats m) (0 : Fin 1) launch0 defs₀ Variants.none outs m ρ main
    (hbody := fun c => frame_obligation m c) (hshare := fun c => (frameDats m 0 c).share_full fun _ => rfl)
    (howed := fun _ _ => rfl) (V := V m) (hmain := hmain m Variants.none) (hA := frameDats_A m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
    (h.1.arr_in c 0 rfl).trans ((frameDats_A m c 0).trans (V_main_arg0 m c)),
    (h.1.arr_in c 1 rfl).trans ((frameDats_A m c 1).trans (V_main_arg1 m c)),
    (h.1.arr_in c 2 rfl).trans ((frameDats_A m c 2).trans (V_main_arg2 m c)),
    ((h.1 c).2 main_arg3 (Pipeline.mem_restRefs_of main_arg3 (by decide) (by decide))).trans (V_main_arg3 m c),
    (h.1.arr_in c 4 rfl).trans ((frameDats_A m c 4).trans (V_main_arg4 m c))⟩, h.2⟩) (frame_run m ρ)

end Cert.Kernel.Gen

end
-- ==== Proof.KernelIdeal.State.lean ====
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.LoopRemainder
public import Idealize.ShloMosaic.Lib.Pipeline.Kit
public import Idealize.ShloMosaic.Lib.Pipeline.FrameBody

@[expose] public section

/-
  The kernel body's memory as one value. `Args` are the fourteen buffers a call of the body is given, `St` what they
  hold, `held` the ownership of all of them at such contents. A load passes a window of a field to the continuation, a
  store puts its payload over a window of a field, and a counted loop iterates its trip's function.
-/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's buffers: five input blocks, five output blocks, four scratch buffers. -/
structure Args where
  a3 : Memref sig .tc .vmem S1x256x640 .bf16
  h3 : a3.IsWhole
  a4 : Memref sig .tc .vmem S1x1x4096x256 .fp8e4m3
  h4 : a4.IsWhole
  a5 : Memref sig .tc .vmem S1x1x32x128 .f32
  h5 : a5.IsWhole
  a6 : Memref sig .tc .vmem S1x1x160x4096 .fp8e4m3
  h6 : a6.IsWhole
  a7 : Memref sig .tc .vmem S1x1x1x128 .f32
  h7 : a7.IsWhole
  a8 : Memref sig .tc .vmem S1x256x640 .fp8e4m3
  h8 : a8.IsWhole
  a9 : Memref sig .tc .vmem S1x1x1x8x128 .f32
  h9 : a9.IsWhole
  a10 : Memref sig .tc .vmem S1x256x640 .fp8e4m3
  h10 : a10.IsWhole
  a11 : Memref sig .tc .vmem S1x1x4x256 .f32
  h11 : a11.IsWhole
  a12 : Memref sig .tc .vmem S1x1x4x256 .f32
  h12 : a12.IsWhole
  a13 : Memref sig .tc .vmem S4x256x256 .fp8e4m3
  h13 : a13.IsWhole
  a14 : Memref sig .tc .vmem S4736x256 .f32
  h14 : a14.IsWhole
  a15 : Memref sig .tc .vmem S8x256 .f32
  h15 : a15.IsWhole
  a16 : Memref sig .tc .vmem S160x256 .f32
  h16 : a16.IsWhole

/-- What the buffers hold. -/
structure St (F : FTy → Type) [FloatOps F] where
  x3 : Vec F S1x256x640 .bf16
  x4 : Vec F S1x1x4096x256 .fp8e4m3
  x5 : Vec F S1x1x32x128 .f32
  x6 : Vec F S1x1x160x4096 .fp8e4m3
  x7 : Vec F S1x1x1x128 .f32
  x8 : Vec F S1x256x640 .fp8e4m3
  x9 : Vec F S1x1x1x8x128 .f32
  x10 : Vec F S1x256x640 .fp8e4m3
  x11 : Vec F S1x1x4x256 .f32
  x12 : Vec F S1x1x4x256 .f32
  x13 : Vec F S4x256x256 .fp8e4m3
  x14 : Vec F S4736x256 .f32
  x15 : Vec F S8x256 .f32
  x16 : Vec F S160x256 .f32

/-- One buffer's contents replaced. -/
def St.set3 (S : St F) (Y : Vec F S1x256x640 .bf16) : St F := { S with x3 := Y }
def St.set4 (S : St F) (Y : Vec F S1x1x4096x256 .fp8e4m3) : St F := { S with x4 := Y }
def St.set5 (S : St F) (Y : Vec F S1x1x32x128 .f32) : St F := { S with x5 := Y }
def St.set6 (S : St F) (Y : Vec F S1x1x160x4096 .fp8e4m3) : St F := { S with x6 := Y }
def St.set7 (S : St F) (Y : Vec F S1x1x1x128 .f32) : St F := { S with x7 := Y }
def St.set8 (S : St F) (Y : Vec F S1x256x640 .fp8e4m3) : St F := { S with x8 := Y }
def St.set9 (S : St F) (Y : Vec F S1x1x1x8x128 .f32) : St F := { S with x9 := Y }
def St.set10 (S : St F) (Y : Vec F S1x256x640 .fp8e4m3) : St F := { S with x10 := Y }
def St.set11 (S : St F) (Y : Vec F S1x1x4x256 .f32) : St F := { S with x11 := Y }
def St.set12 (S : St F) (Y : Vec F S1x1x4x256 .f32) : St F := { S with x12 := Y }
def St.set13 (S : St F) (Y : Vec F S4x256x256 .fp8e4m3) : St F := { S with x13 := Y }
def St.set14 (S : St F) (Y : Vec F S4736x256 .f32) : St F := { S with x14 := Y }
def St.set15 (S : St F) (Y : Vec F S8x256 .f32) : St F := { S with x15 := Y }
def St.set16 (S : St F) (Y : Vec F S160x256 .f32) : St F := { S with x16 := Y }

/-- The buffers owned, holding `S`. -/
def held (c : Dev nD) (A : Args) (S : St F) : sProp 𝕄 :=
  iprop(owns (c : Thread nD τ) A.a3 fullShare S.x3 ∗ owns (c : Thread nD τ) A.a4 fullShare S.x4 ∗ owns (c : Thread nD τ) A.a5 fullShare S.x5
    ∗ owns (c : Thread nD τ) A.a6 fullShare S.x6 ∗ owns (c : Thread nD τ) A.a7 fullShare S.x7 ∗ owns (c : Thread nD τ) A.a8 fullShare S.x8
    ∗ owns (c : Thread nD τ) A.a9 fullShare S.x9 ∗ owns (c : Thread nD τ) A.a10 fullShare S.x10 ∗ owns (c : Thread nD τ) A.a11 fullShare S.x11
    ∗ owns (c : Thread nD τ) A.a12 fullShare S.x12 ∗ owns (c : Thread nD τ) A.a13 fullShare S.x13 ∗ owns (c : Thread nD τ) A.a14 fullShare S.x14
    ∗ owns (c : Thread nD τ) A.a15 fullShare S.x15 ∗ owns (c : Thread nD τ) A.a16 fullShare S.x16)

variable (𝒱 : Variants) (c : Dev nD) (bd : Option 𝒱.V) (E : Set ℕ)

/-- One buffer taken out of `held`, to be given back at any contents. -/
def Splits (A : Args) (S : St F) {s : Shape} {e : EltTy} (m : Memref sig .tc .vmem s e) (X : s.Idx → Elt F e) (upd : (s.Idx → Elt F e) → St F) : Prop :=
  held c A S ⊢ iprop(owns (c : Thread nD τ) m fullShare X ∗ (∀ Y, owns (c : Thread nD τ) m fullShare Y -∗ held c A (upd Y)))

theorem split3 (A : Args) (S : St F) : Splits c A S A.a3 S.x3 S.set3 := by
  unfold Splits held St.set3; iintro ⟨H3, H4, H5, H6, H7, H8, H9, H10, H11, H12, H13, H14, H15, H16⟩
  isplitl [H3]; · iexact H3
  iintro %Y HY; iframe
theorem split4 (A : Args) (S : St F) : Splits c A S A.a4 S.x4 S.set4 := by
  unfold Splits held St.set4; iintro ⟨H3, H4, H5, H6, H7, H8, H9, H10, H11, H12, H13, H14, H15, H16⟩
  isplitl [H4]; · iexact H4
  iintro %Y HY; iframe
theorem split5 (A : Args) (S : St F) : Splits c A S A.a5 S.x5 S.set5 := by
  unfold Splits held St.set5; iintro ⟨H3, H4, H5, H6, H7, H8, H9, H10, H11, H12, H13, H14, H15, H16⟩
  isplitl [H5]; · iexact H5
  iintro %Y HY; iframe
theorem split6 (A : Args) (S : St F) : Splits c A S A.a6 S.x6 S.set6 := by
  unfold Splits held St.set6; iintro ⟨H3, H4, H5, H6, H7, H8, H9, H10, H11, H12, H13, H14, H15, H16⟩
  isplitl [H6]; · iexact H6
  iintro %Y HY; iframe
theorem split7 (A : Args) (S : St F) : Splits c A S A.a7 S.x7 S.set7 := by
  unfold Splits held St.set7; iintro ⟨H3, H4, H5, H6, H7, H8, H9, H10, H11, H12, H13, H14, H15, H16⟩
  isplitl [H7]; · iexact H7
  iintro %Y HY; iframe
theorem split8 (A : Args) (S : St F) : Splits c A S A.a8 S.x8 S.set8 := by
  unfold Splits held St.set8; iintro ⟨H3, H4, H5, H6, H7, H8, H9, H10, H11, H12, H13, H14, H15, H16⟩
  isplitl [H8]; · iexact H8
  iintro %Y HY; iframe
theorem split9 (A : Args) (S : St F) : Splits c A S A.a9 S.x9 S.set9 := by
  unfold Splits held St.set9; iintro ⟨H3, H4, H5, H6, H7, H8, H9, H10, H11, H12, H13, H14, H15, H16⟩
  isplitl [H9]; · iexact H9
  iintro %Y HY; iframe
theorem split10 (A : Args) (S : St F) : Splits c A S A.a10 S.x10 S.set10 := by
  unfold Splits held St.set10; iintro ⟨H3, H4, H5, H6, H7, H8, H9, H10, H11, H12, H13, H14, H15, H16⟩
  isplitl [H10]; · iexact H10
  iintro %Y HY; iframe
theorem split11 (A : Args) (S : St F) : Splits c A S A.a11 S.x11 S.set11 := by
  unfold Splits held St.set11; iintro ⟨H3, H4, H5, H6, H7, H8, H9, H10, H11, H12, H13, H14, H15, H16⟩
  isplitl [H11]; · iexact H11
  iintro %Y HY; iframe
theorem split12 (A : Args) (S : St F) : Splits c A S A.a12 S.x12 S.set12 := by
  unfold Splits held St.set12; iintro ⟨H3, H4, H5, H6, H7, H8, H9, H10, H11, H12, H13, H14, H15, H16⟩
  isplitl [H12]; · iexact H12
  iintro %Y HY; iframe
theorem split13 (A : Args) (S : St F) : Splits c A S A.a13 S.x13 S.set13 := by
  unfold Splits held St.set13; iintro ⟨H3, H4, H5, H6, H7, H8, H9, H10, H11, H12, H13, H14, H15, H16⟩
  isplitl [H13]; · iexact H13
  iintro %Y HY; iframe
theorem split14 (A : Args) (S : St F) : Splits c A S A.a14 S.x14 S.set14 := by
  unfold Splits held St.set14; iintro ⟨H3, H4, H5, H6, H7, H8, H9, H10, H11, H12, H13, H14, H15, H16⟩
  isplitl [H14]; · iexact H14
  iintro %Y HY; iframe
theorem split15 (A : Args) (S : St F) : Splits c A S A.a15 S.x15 S.set15 := by
  unfold Splits held St.set15; iintro ⟨H3, H4, H5, H6, H7, H8, H9, H10, H11, H12, H13, H14, H15, H16⟩
  isplitl [H15]; · iexact H15
  iintro %Y HY; iframe
theorem split16 (A : Args) (S : St F) : Splits c A S A.a16 S.x16 S.set16 := by
  unfold Splits held St.set16; iintro ⟨H3, H4, H5, H6, H7, H8, H9, H10, H11, H12, H13, H14, H15, H16⟩
  isplitl [H16]; · iexact H16
  iintro %Y HY; iframe

/-- What the body's program does from a state: the weakest precondition at the kernel's own clauses. -/
abbrev wpk {β : Type} (p : Prog (TpuEff nD τ sig (Elt F) Λ₀ .tc) β) (Q : β → sProp 𝕄) : sProp 𝕄 :=
  wp Idealize.ShloMosaic.frame (wpE (defs₀ (F := F)) 𝒱 (c : Thread nD τ) bd) E p Q

variable {β : Type}

/-- A load of a unit-stride rectangle gives the continuation that window of what the buffer holds. -/
theorem load_rule {A : Args} {S : St F} {s : Shape} {e : EltTy} {m : Memref sig .tc .vmem s e} {X : s.Idx → Elt F e} {upd : (s.Idx → Elt F e) → St F}
    {Q : β → sProp 𝕄} (hs : Splits c A S m X upd) (hu : upd X = S) {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) β}
    (h : held c A S ⊢ wpk 𝒱 c bd E (k (VecWindow.window X off size inb)) Q) :
    held c A S ⊢ wpk 𝒱 c bd E (.op (.load m (Rect.unit off size inb).toLoadRect hl) k) Q := by
  rw [← hu] at h
  refine (show held c A S ⊢ _ from hs).trans ?_
  unfold owns
  iintro ⟨⟨%f, %hf, H⟩, Hk⟩
  iapply (wp_load (defs := defs₀ (F := F)) 𝒱 (c : Thread nD τ) bd E (m := m) (r := (Rect.unit off size inb).toLoadRect) (hl := hl)
    (q := fullShare) (f := f) (View.setOn_subset_set _ _)) $$ [H]
  · iexact H
  iintro H
  rw [View.readAt_unit m.view f inb rfl inb, hf]
  iapply h
  iapply Hk
  iexists f
  isplitr [H]
  · ipureintro; exact hf
  · iexact H

/-- A store at a unit-stride rectangle puts its payload over that window. -/
theorem store_rule {A : Args} {S : St F} {s : Shape} {e : EltTy} {m : Memref sig .tc .vmem s e} {X : s.Idx → Elt F e} {upd : (s.Idx → Elt F e) → St F}
    {Q : β → sProp 𝕄} (hs : Splits c A S m X upd) {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) β}
    (h : held c A (upd (VecWindow.put X off size w)) ⊢ wpk 𝒱 c bd E (k ⟨⟩) Q) :
    held c A S ⊢ wpk 𝒱 c bd E (.op (.store m (Rect.unit off size inb) w Finset.univ hx hm) k) Q := by
  refine (show held c A S ⊢ _ from hs).trans ?_
  unfold owns
  iintro ⟨⟨%f, %hf, H⟩, Hk⟩
  iapply (wp_store_writes (defs := defs₀ (F := F)) 𝒱 (c : Thread nD τ) bd E (m := m) (r := Rect.unit off size inb) (w := w) (hx := hx) (hm := hm)
    (f := f) (L := []) (View.set_slice_subset _ _)) $$ [H]
  · iexact H
  iintro H
  iapply h
  iapply Hk
  iexists (m.view.writes (Elt F) f [⟨Rect.unit off size inb, w⟩])
  isplitr [H]
  · ipureintro
    rw [View.read_writes_cons_put m.view f inb w [] rfl, View.writes_nil, hf]
  · iexact H

/-- A program that ends hands its state to the postcondition. -/
theorem ret_rule {A : Args} {S : St F} {Q : β → sProp 𝕄} {v : β} (h : held c A S ⊢ Q v) :
    held c A S ⊢ wpk 𝒱 c bd E (.ret v : Prog (TpuEff nD τ sig (Elt F) Λ₀ .tc) β) Q := by
  unfold wpk
  rw [wp_ret]
  iintro H
  imodintro
  iapply h
  iexact H

/-- The state and carried value after the first `k` trips. -/
def iterTrips {n : ℕ} {σ : Type} (g : Fin n → σ → σ) (s : σ) : ℕ → σ
  | 0 => s
  | k + 1 => if h : k < n then g ⟨k, h⟩ (iterTrips g s k) else iterTrips g s k

/-- A counted loop iterates its trip's function on the carried value and the state. -/
theorem for_rule {A : Args} {S : St F} {σ : Type} {Q : β → sProp 𝕄} {l : Scf.Loop 32} {hok : l.OK} {init : σ}
    {body : Fin l.trips → σ → Prog (TpuEff nD τ sig (Elt F) Λ₀ .tc) σ} {k : σ → Prog (TpuEff nD τ sig (Elt F) Λ₀ .tc) β}
    (g : Fin l.trips → σ × St F → σ × St F)
    (hb : ∀ (j : Fin l.trips) (acc : σ) (T : St F) (Q' : σ → sProp 𝕄), (held c A (g j (acc, T)).2 ⊢ Q' (g j (acc, T)).1) → held c A T ⊢ wpk 𝒱 c bd E (body j acc) Q')
    (h : held c A (iterTrips g (init, S) l.trips).2 ⊢ wpk 𝒱 c bd E (k (iterTrips g (init, S) l.trips).1) Q) :
    held c A S ⊢ wpk 𝒱 c bd E (Scf.Loop.for l hok init body >>= k) Q := by
  let inv : ℕ → σ → sProp 𝕄 := fun j acc => iprop(∃ T, ⌜(acc, T) = iterTrips g (init, S) j⌝ ∗ held c A T)
  have step : ∀ (j : Fin l.trips) (acc : σ), inv j acc ⊢ wpk 𝒱 c bd E (body j acc) (inv (j.val + 1)) := fun j acc => by
    iintro ⟨%T, %hT, H⟩
    iapply hb j acc T _ ?_ $$ H
    iintro H
    iexists (g j (acc, T)).2
    isplitr [H]
    · ipureintro
      show g j (acc, T) = iterTrips g (init, S) (j.val + 1)
      rw [hT, iterTrips.eq_2, dif_pos (show j.val < l.trips from j.isLt)]
    · iexact H
  have h0 : held c A S ⊢ inv 0 init := by
    iintro H
    iexists S
    isplitr [H]
    · ipureintro; rfl
    · iexact H
  refine h0.trans ?_
  iintro H
  iapply (Scf.wp_for_bind Idealize.ShloMosaic.frame (wpE (defs₀ (F := F)) 𝒱 (c : Thread nD τ) bd) E l.lb l.ub l.st hok init body inv step) $$ H
  iintro %acc ⟨%T, %hT, H⟩
  have e1 : acc = (iterTrips g (init, S) l.trips).1 := congrArg Prod.fst hT
  have e2 : T = (iterTrips g (init, S) l.trips).2 := congrArg Prod.snd hT
  rw [e1, e2]
  iapply h
  iexact H

/-- A counted loop of no trips passes its initial value on. -/
theorem for_none_rule {A : Args} {S : St F} {σ : Type} {Q : β → sProp 𝕄} {l : Scf.Loop 32} {hok : l.OK} {init : σ}
    {body : Fin l.trips → σ → Prog (TpuEff nD τ sig (Elt F) Λ₀ .tc) σ} {k : σ → Prog (TpuEff nD τ sig (Elt F) Λ₀ .tc) β}
    (h0 : l.trips = 0) (h : held c A S ⊢ wpk 𝒱 c bd E (k init) Q) :
    held c A S ⊢ wpk 𝒱 c bd E (Scf.Loop.for l hok init body >>= k) Q := by
  have e : Scf.Loop.for l hok init body = .ret init := Scf.for_eq_ret l.lb l.ub l.st hok init body h0
  rw [e]
  exact h

/-- A branch without an else changes the state where its condition holds. -/
theorem if_rule {A : Args} {S : St F} {Q : β → sProp 𝕄} {C : Prop} [Decidable C] {p : C → Prog (TpuEff nD τ sig (Elt F) Λ₀ .tc) β}
    {κ : Prog (TpuEff nD τ sig (Elt F) Λ₀ .tc) β} (f : St F → St F)
    (hp : ∀ hc : C, (held c A (f S) ⊢ wpk 𝒱 c bd E κ Q) → held c A S ⊢ wpk 𝒱 c bd E (p hc) Q)
    (h : held c A (if C then f S else S) ⊢ wpk 𝒱 c bd E κ Q) :
    held c A S ⊢ wpk 𝒱 c bd E (if hc : C then p hc else κ) Q := by
  by_cases hc : C
  · rw [dif_pos hc]
    rw [if_pos hc] at h
    exact hp hc h
  · rw [dif_neg hc]
    rw [if_neg hc] at h
    exact h

end Cert.KernelIdeal.Gen

end
-- ==== Proof.KernelIdeal.Flat.lean ====
module

public import proofs.«01_k».proof.Proof.Gen.KernelIdeal.Skeleton
public import Idealize.ShloMosaic.Lib.Tactic.OpenCalls
public import Idealize.ShloMosaic.Lib.Tactic.Stretches

@[expose] public section

set_option maxRecDepth 65536
set_option maxHeartbeats 40000000

noncomputable section

namespace Cert.KernelIdeal.Gen

open Idealize.ShloMosaic Idealize.ShloMosaic.TcCoe Idealize.ShloMosaic.Tactic

variable {F : FTy → Type} [FloatOps F] [Named F]

open_calls attnFlat := cc0_attn_skel [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34]

end Cert.KernelIdeal.Gen

end
-- ==== Proof.KernelIdeal.Blocks.lean ====
module

public import proofs.«01_k».proof.Proof.KernelIdeal.State
public import proofs.«01_k».proof.Proof.KernelIdeal.Flat

@[expose] public section

/-
  The kernel body in blocks: two tiles of query quantisation, four heads of attention, and the transposed stores of the
  output codes. One program per kind of block, over the tile's or the head's number, with the rest of the body as a
  continuation; the printed body is these blocks in a row (`attnFlat_eq`).
-/

set_option maxRecDepth 65536

noncomputable section

namespace Cert.KernelIdeal.Gen

open Idealize.ShloMosaic Idealize.ShloMosaic.TcCoe Idealize.ShloMosaic.Tactic
open Idealize.SL Idealize.SL.Sem

variable {F : FTy → Type} [FloatOps F] [Named F]

/-- The kernel's programs. -/
abbrev KProg (F : FTy → Type) [FloatOps F] (β : Type) : Type 1 := Prog (TpuEff nD τ sig (Elt F) Λ₀ .tc) β

/-! ## Rectangles in range -/

theorem inbX (t : Fin 2) : ∀ a, (![0, 128 * t.val, 0] : Fin 3 → ℕ) a + S1x128x640.size a ≤ S1x256x640.size a := by revert t; decide
theorem inbQs (r : Fin 8) : ∀ a, (![0, 0, 0, r.val, 0] : Fin 5 → ℕ) a + S1x1x1x1x128.size a ≤ S1x1x1x8x128.size a := by revert r; decide
theorem inbSg (h : Fin 8) (t : Fin 2) : ∀ a, (![h.val, 128 * t.val] : Fin 2 → ℕ) a + S1x128.size a ≤ S8x256.size a := by revert h t; decide
theorem inbQa (h : Fin 4) (t : Fin 2) : ∀ a, (![h.val, 128 * t.val, 0] : Fin 3 → ℕ) a + S1x128x256.size a ≤ S4x256x256.size a := by revert h t; decide
theorem inbSgRow (h : Fin 8) : ∀ a, (![h.val, 0] : Fin 2 → ℕ) a + S1x256.size a ≤ S8x256.size a := by revert h; decide
theorem inbQaHead (h : Fin 4) : ∀ a, (![h.val, 0, 0] : Fin 3 → ℕ) a + S1x256x256.size a ≤ S4x256x256.size a := by revert h; decide
theorem inbOs (h : Fin 4) : ∀ a, (![0, 0, h.val, 0] : Fin 4 → ℕ) a + S1x1x1x256.size a ≤ S1x1x4x256.size a := by revert h; decide
theorem inbOut (h : Fin 4) : ∀ a, (![4096 + 160 * h.val, 0] : Fin 2 → ℕ) a + S160x256.size a ≤ S4736x256.size a := by revert h; decide
theorem inbOcSrc (t : Fin 5) : ∀ a, (![4096 + 128 * t.val, 0] : Fin 2 → ℕ) a + S128x256.size a ≤ S4736x256.size a := by revert t; decide
theorem inbOc (t : Fin 5) : ∀ a, (![0, 0, 128 * t.val] : Fin 3 → ℕ) a + S1x256x128.size a ≤ S1x256x640.size a := by revert t; decide
theorem packedX (t : Fin 2) : (Rect.unit (s := S1x256x640) ![0, 128 * t.val, 0] S1x128x640.size (inbX t)).PackedRows (EltTy.packing .fp8e4m3) := by
  fin_cases t
  · exact packedfp8e4m3_S1x256x640_S1x128x640_0_0_0
  · exact packedfp8e4m3_S1x256x640_S1x128x640_0_128_0
theorem packedQa (h : Fin 4) (t : Fin 2) : (Rect.unit (s := S4x256x256) ![h.val, 128 * t.val, 0] S1x128x256.size (inbQa h t)).PackedRows (EltTy.packing .fp8e4m3) := by
  fin_cases h <;> fin_cases t
  · exact packedfp8e4m3_S4x256x256_S1x128x256_0_0_0
  · exact packedfp8e4m3_S4x256x256_S1x128x256_0_128_0
  · exact packedfp8e4m3_S4x256x256_S1x128x256_1_0_0
  · exact packedfp8e4m3_S4x256x256_S1x128x256_1_128_0
  · exact packedfp8e4m3_S4x256x256_S1x128x256_2_0_0
  · exact packedfp8e4m3_S4x256x256_S1x128x256_2_128_0
  · exact packedfp8e4m3_S4x256x256_S1x128x256_3_0_0
  · exact packedfp8e4m3_S4x256x256_S1x128x256_3_128_0
theorem packedOc (t : Fin 5) : (Rect.unit (s := S1x256x640) ![0, 0, 128 * t.val] S1x256x128.size (inbOc t)).PackedRows (EltTy.packing .fp8e4m3) := by
  fin_cases t
  · exact packedfp8e4m3_S1x256x640_S1x256x128_0_0_0
  · exact packedfp8e4m3_S1x256x640_S1x256x128_0_0_128
  · exact packedfp8e4m3_S1x256x640_S1x256x128_0_0_256
  · exact packedfp8e4m3_S1x256x640_S1x256x128_0_0_384
  · exact packedfp8e4m3_S1x256x640_S1x256x128_0_0_512

/-! ## The query tiles -/

/-- The exponent of head `h`'s scale in a tile of 128 query rows. -/
def qExp (v : Vec F S1x128x640 .bf16) : Fin 4 → IVec S1x1 32
  | 0 => k0_pay6 v
  | 1 => k0_pay9 (k0_pay7 v) (iota .tc S1x256 32 [1] iota_S1x256_d1_w32) k0_pay8 192#32
  | 2 => k0_pay11 (k0_pay10 (k0_pay5 v))
  | 3 => k0_pay12 (k0_pay5 v)

/-- The inverse scale of every lane of a tile. -/
def qInv (v : Vec F S1x128x640 .bf16) : FVec F S128x640 .bf16 := k0_pay14 (qExp v 1) (qExp v 2) (qExp v 3) (k0_pay13 (qExp v 0))

/-- The codes of a tile. -/
def qCodes (v : Vec F S1x128x640 .bf16) : FVec F S128x640 .fp8e4m3 := k0_pay15 (k0_pay4 v) (qInv v)

/-- The codes of a tile as they are stored. -/
def qCodesStored (v : Vec F S1x128x640 .bf16) : FVec F S1x128x640 .fp8e4m3 := k0_pay16 (k0_pay4 v) (qInv v)

/-- The codes of head `h`'s lanes, moved to the first lanes, zero beyond them. -/
def qAlign (v : Vec F S1x128x640 .bf16) : Fin 4 → FVec F S1x128x256 .fp8e4m3
  | 0 => k0_pay20 (k0_pay4 v) (qInv v)
  | 1 => k0_pay24 (qCodes v)
  | 2 => k0_pay28 (qCodes v)
  | 3 => k0_pay32 (qCodes v)

/-- Head `h` of tile `t` stored: its scale, its scale for the scores, its aligned codes. -/
def quantHead (A : Args) (t : Fin 2) (h : Fin 4) (v : Vec F S1x128x640 .bf16) (κ : KProg F PUnit) : KProg F PUnit :=
  .op (.load A.a9 (Rect.unit (s := S1x1x1x8x128) ![0, 0, 0, (⟨2 * h.val + t.val, by omega⟩ : Fin 8).val, 0] S1x1x1x1x128.size (inbQs ⟨2 * h.val + t.val, by omega⟩)).toLoadRect (View.loadsAt_vmem h_S1x1x1x1x128)) fun _ =>
  .op (.store A.a9 (Rect.unit (s := S1x1x1x8x128) ![0, 0, 0, (⟨2 * h.val + t.val, by omega⟩ : Fin 8).val, 0] S1x1x1x1x128.size (inbQs ⟨2 * h.val + t.val, by omega⟩)) (k0_pay18 (F := F) (qExp v h)) Finset.univ (View.stores_vmem_bits_univ h_S1x1x1x1x128 rfl) (.inl rfl)) fun _ =>
  .op (.load A.a15 (Rect.unit (s := S8x256) ![(h.castLE (by decide) : Fin 8).val, 128 * t.val] S1x128.size (inbSg (h.castLE (by decide)) t)).toLoadRect (View.loadsAt_vmem h_S1x128)) fun _ =>
  .op (.store A.a15 (Rect.unit (s := S8x256) ![(h.castLE (by decide) : Fin 8).val, 128 * t.val] S1x128.size (inbSg (h.castLE (by decide)) t)) (k0_pay19 (F := F) (qExp v h)) Finset.univ (View.stores_vmem_bits_univ h_S1x128 rfl) (.inl rfl)) fun _ =>
  .op (.load A.a13 (Rect.unit (s := S4x256x256) ![h.val, 128 * t.val, 0] S1x128x256.size (inbQa h t)).toLoadRect (View.loadsAt_vmem h_S1x128x256)) fun _ =>
  .op (.store A.a13 (Rect.unit (s := S4x256x256) ![h.val, 128 * t.val, 0] S1x128x256.size (inbQa h t)) (qAlign v h) Finset.univ (View.stores_vmem h_S1x128x256 (A.h13.storeExact_slice rfl _ (packedQa h t)) (fun _ => rfl)) (.inl rfl)) fun _ => κ

/-- Tile `t` of the query quantised and stored. -/
def quantTile (A : Args) (t : Fin 2) (κ : KProg F PUnit) : KProg F PUnit :=
  .op (.load A.a3 (Rect.unit (s := S1x256x640) ![0, 128 * t.val, 0] S1x128x640.size (inbX t)).toLoadRect (View.loadsAt_vmem h_S1x128x640)) fun v =>
  .op (.load A.a8 (Rect.unit (s := S1x256x640) ![0, 128 * t.val, 0] S1x128x640.size (inbX t)).toLoadRect (View.loadsAt_vmem h_S1x128x640)) fun _ =>
  .op (.store A.a8 (Rect.unit (s := S1x256x640) ![0, 128 * t.val, 0] S1x128x640.size (inbX t)) (qCodesStored v) Finset.univ (View.stores_vmem h_S1x128x640 (A.h8.storeExact_slice rfl _ (packedX t)) (fun _ => rfl)) (.inl rfl)) fun _ =>
  quantHead A t 0 v (quantHead A t 1 v (quantHead A t 2 v (quantHead A t 3 v κ)))

/-! ## One head -/

/-- One trip of the score loop: the scores of a block of 256 keys below the diagonal. -/
def scoreBody (A : Args) (i : grid0.Coords) (sg : Vec F S1x256 .f32) (qa : Vec F S1x256x256 .fp8e4m3) :
    Fin (k0_t1_loop i).trips → FVec F S1x256 .f32 → KProg F (FVec F S1x256 .f32) := fun j m =>
  .op (.load A.a4 (Rect.unit (s := S1x1x4096x256) (k0_off1 i j) S1x1x256x256.size (k0_off1_inb i j)).toLoadRect (View.loadsAt_vmem h_S1x1x256x256)) fun kb =>
  .op (.load A.a5 (Rect.unit (s := S1x1x32x128) (k0_off2 i j 0#32) S1x1x1x128.size (k0_off2_inb i j 0)).toLoadRect (View.loadsAt_vmem h_S1x1x1x128)) fun k0 =>
  .op (.load A.a5 (Rect.unit (s := S1x1x32x128) (k0_off2 i j 1#32) S1x1x1x128.size (k0_off2_inb i j 1)).toLoadRect (View.loadsAt_vmem h_S1x1x1x128)) fun k1 =>
  .op (.load A.a14 (Rect.unit (s := S4736x256) (k0_off3 i j) S256x256.size (k0_off3_inb i j)).toLoadRect (View.loadsAt_vmem h_S256x256)) fun _ =>
  .op (.store A.a14 (Rect.unit (s := S4736x256) (k0_off3 i j) S256x256.size (k0_off3_inb i j)) (k0_pay71 sg qa kb k0 k1) Finset.univ (View.stores_vmem_bits_univ h_S256x256 rfl) (.inl rfl)) fun _ =>
  .ret (k0_pay72 sg qa m kb k0 k1)

/-- The score loop's remainder, of no trips. -/
def scoreRest (A : Args) (i : grid0.Coords) (sg : Vec F S1x256 .f32) (qa : Vec F S1x256x256 .fp8e4m3) :
    Fin (k0_t2_loop i).trips → FVec F S1x256 .f32 → KProg F (FVec F S1x256 .f32) := fun j m =>
  .op (.load A.a4 (Rect.unit (s := S1x1x4096x256) (k0_off4 i j) S1x1x256x256.size (k0_off4_inb i j)).toLoadRect (View.loadsAt_vmem h_S1x1x256x256)) fun kb =>
  .op (.load A.a5 (Rect.unit (s := S1x1x32x128) (k0_off5 i j 0#32) S1x1x1x128.size (k0_off5_inb i j 0)).toLoadRect (View.loadsAt_vmem h_S1x1x1x128)) fun k0 =>
  .op (.load A.a5 (Rect.unit (s := S1x1x32x128) (k0_off5 i j 1#32) S1x1x1x128.size (k0_off5_inb i j 1)).toLoadRect (View.loadsAt_vmem h_S1x1x1x128)) fun k1 =>
  .op (.load A.a14 (Rect.unit (s := S4736x256) (k0_off6 i j) S256x256.size (k0_off6_inb i j)).toLoadRect (View.loadsAt_vmem h_S256x256)) fun _ =>
  .op (.store A.a14 (Rect.unit (s := S4736x256) (k0_off6 i j) S256x256.size (k0_off6_inb i j)) (k0_pay71 sg qa kb k0 k1) Finset.univ (View.stores_vmem_bits_univ h_S256x256 rfl) (.inl rfl)) fun _ =>
  .ret (k0_pay72 sg qa m kb k0 k1)

/-- One trip of the exponential loop. -/
def expBody (A : Args) (i : grid0.Coords) (m : FVec F S1x256 .f32) : Fin (k0_t3_loop i).trips → FVec F S1x256 .f32 → KProg F (FVec F S1x256 .f32) := fun j l =>
  .op (.load A.a14 (Rect.unit (s := S4736x256) (k0_off10 i j) S256x256.size (k0_off10_inb i j)).toLoadRect (View.loadsAt_vmem h_S256x256)) fun x =>
  .op (.load A.a14 (Rect.unit (s := S4736x256) (k0_off10 i j) S256x256.size (k0_off10_inb i j)).toLoadRect (View.loadsAt_vmem h_S256x256)) fun _ =>
  .op (.store A.a14 (Rect.unit (s := S4736x256) (k0_off10 i j) S256x256.size (k0_off10_inb i j)) (k0_pay81 m x) Finset.univ (View.stores_vmem_bits_univ h_S256x256 rfl) (.inl rfl)) fun _ =>
  .ret (k0_pay82 m l x)

/-- The exponential loop's remainder, of no trips. -/
def expRest (A : Args) (i : grid0.Coords) (m : FVec F S1x256 .f32) : Fin (k0_t4_loop i).trips → FVec F S1x256 .f32 → KProg F (FVec F S1x256 .f32) := fun j l =>
  .op (.load A.a14 (Rect.unit (s := S4736x256) (k0_off11 i j) S256x256.size (k0_off11_inb i j)).toLoadRect (View.loadsAt_vmem h_S256x256)) fun x =>
  .op (.load A.a14 (Rect.unit (s := S4736x256) (k0_off11 i j) S256x256.size (k0_off11_inb i j)).toLoadRect (View.loadsAt_vmem h_S256x256)) fun _ =>
  .op (.store A.a14 (Rect.unit (s := S4736x256) (k0_off11 i j) S256x256.size (k0_off11_inb i j)) (k0_pay81 m x) Finset.univ (View.stores_vmem_bits_univ h_S256x256 rfl) (.inl rfl)) fun _ =>
  .ret (k0_pay82 m l x)

/-- One trip of the second product's loop. -/
def pvBody (A : Args) (i : grid0.Coords) (c : FVec F S1x256 .f32) : Fin (k0_t5_loop i).trips → BitVec 32 → KProg F (BitVec 32) := fun j _ =>
  .op (.load A.a14 (Rect.unit (s := S4736x256) (k0_off12 i j) S256x256.size (k0_off12_inb i j)).toLoadRect (View.loadsAt_vmem h_S256x256)) fun x =>
  .op (.load A.a6 (Rect.unit (s := S1x1x160x4096) (k0_off13 i j) S1x1x160x256.size (k0_off13_inb i j)).toLoadRect (View.loadsAt_vmem h_S1x1x160x256)) fun vt =>
  .op (.load A.a16 (Rect.unit (s := S160x256) ![0, 0] S160x256.size inb_S160x256_S160x256_0_0).toLoadRect (View.loadsAt_vmem h_S160x256)) fun o =>
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay91 c x vt o) Finset.univ (View.stores_vmem_bits_univ h_S160x256 rfl) (.inl rfl)) fun _ =>
  .ret 0#32

/-- The second product's remainder, of no trips. -/
def pvRest (A : Args) (i : grid0.Coords) (c : FVec F S1x256 .f32) : Fin (k0_t6_loop i).trips → BitVec 32 → KProg F (BitVec 32) := fun j _ =>
  .op (.load A.a14 (Rect.unit (s := S4736x256) (k0_off14 i j) S256x256.size (k0_off14_inb i j)).toLoadRect (View.loadsAt_vmem h_S256x256)) fun x =>
  .op (.load A.a6 (Rect.unit (s := S1x1x160x4096) (k0_off15 i j) S1x1x160x256.size (k0_off15_inb i j)).toLoadRect (View.loadsAt_vmem h_S1x1x160x256)) fun vt =>
  .op (.load A.a16 (Rect.unit (s := S160x256) ![0, 0] S160x256.size inb_S160x256_S160x256_0_0).toLoadRect (View.loadsAt_vmem h_S160x256)) fun o =>
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay91 c x vt o) Finset.univ (View.stores_vmem_bits_univ h_S160x256 rfl) (.inl rfl)) fun _ =>
  .ret 0#32

/-- The row and column numbers of a block of scores. -/
def iotaRow : IVec S256x256 32 := iota .tc S256x256 32 [0] iota_S256x256_d0_w32
def iotaCol : IVec S256x256 32 := iota .tc S256x256 32 [1] iota_S256x256_d1_w32

/-- The output's running absolute maximum of head `h`, started at the first block of rows. -/
def amaxInit (A : Args) (h : Fin 4) (am : FVec F S1x256 .f32) (κ : KProg F PUnit) : KProg F PUnit :=
  .op (.load A.a12 (Rect.unit (s := S1x1x4x256) ![0, 0, h.val, 0] S1x1x1x256.size (inbOs h)).toLoadRect (View.loadsAt_vmem h_S1x1x1x256)) fun _ =>
  .op (.store A.a12 (Rect.unit (s := S1x1x4x256) ![0, 0, h.val, 0] S1x1x1x256.size (inbOs h)) (k0_pay99 am) Finset.univ (View.stores_vmem_bits_univ h_S1x1x1x256 rfl) (.inl rfl)) fun _ => κ
/-- … and carried on at the later ones. -/
def amaxNext (A : Args) (h : Fin 4) (am : FVec F S1x256 .f32) (κ : KProg F PUnit) : KProg F PUnit :=
  .op (.load A.a12 (Rect.unit (s := S1x1x4x256) ![0, 0, h.val, 0] S1x1x1x256.size (inbOs h)).toLoadRect (View.loadsAt_vmem h_S1x1x1x256)) fun b =>
  .op (.load A.a12 (Rect.unit (s := S1x1x4x256) ![0, 0, h.val, 0] S1x1x1x256.size (inbOs h)).toLoadRect (View.loadsAt_vmem h_S1x1x1x256)) fun _ =>
  .op (.store A.a12 (Rect.unit (s := S1x1x4x256) ![0, 0, h.val, 0] S1x1x1x256.size (inbOs h)) (k0_pay100 am b) Finset.univ (View.stores_vmem_bits_univ h_S1x1x1x256 rfl) (.inl rfl)) fun _ => κ

/-- The scores and their maximum of head `h`, passed on. -/
def headScores (A : Args) (h : Fin 4) (i : grid0.Coords) (κ : FVec F S1x256 .f32 → KProg F PUnit) : KProg F PUnit :=
  .op (.load A.a15 (Rect.unit (s := S8x256) ![(h.castLE (by decide) : Fin 8).val, 0] S1x256.size (inbSgRow (h.castLE (by decide)))).toLoadRect (View.loadsAt_vmem h_S1x256)) fun sg =>
  .op (.load A.a13 (Rect.unit (s := S4x256x256) ![h.val, 0, 0] S1x256x256.size (inbQaHead h)).toLoadRect (View.loadsAt_vmem h_S1x256x256)) fun qa =>
  Scf.Loop.for (k0_t1_loop i) (k0_t1_ok i) (k0_pay69 (F := F)) (scoreBody A i sg qa) >>= fun m1 =>
  Scf.Loop.for (k0_t2_loop i) (k0_t2_ok i) m1 (scoreRest A i sg qa) >>= fun m2 =>
  .op (.load A.a4 (Rect.unit (s := S1x1x4096x256) (k0_off7 i) S1x1x256x256.size (k0_off7_inb i)).toLoadRect (View.loadsAt_vmem h_S1x1x256x256)) fun kb =>
  .op (.load A.a5 (Rect.unit (s := S1x1x32x128) (k0_off8 i 0#32) S1x1x1x128.size (k0_off8_inb i 0)).toLoadRect (View.loadsAt_vmem h_S1x1x1x128)) fun k0 =>
  .op (.load A.a5 (Rect.unit (s := S1x1x32x128) (k0_off8 i 1#32) S1x1x1x128.size (k0_off8_inb i 1)).toLoadRect (View.loadsAt_vmem h_S1x1x1x128)) fun k1 =>
  .op (.load A.a14 (Rect.unit (s := S4736x256) (k0_off9 i) S256x256.size (k0_off9_inb i)).toLoadRect (View.loadsAt_vmem h_S256x256)) fun _ =>
  .op (.store A.a14 (Rect.unit (s := S4736x256) (k0_off9 i) S256x256.size (k0_off9_inb i)) (k0_pay77 iotaRow iotaCol sg (k0_pay68 qa) kb k0 k1) Finset.univ (View.stores_vmem_bits_univ h_S256x256 rfl) (.inl rfl)) fun _ =>
  κ (k0_pay78 iotaRow iotaCol sg (k0_pay68 qa) m2 kb k0 k1)

/-- The exponentials of head `h` and their sum, passed on. -/
def headExp (A : Args) (i : grid0.Coords) (m : FVec F S1x256 .f32) (κ : FVec F S1x256 .f32 → KProg F PUnit) : KProg F PUnit :=
  Scf.Loop.for (k0_t3_loop i) (k0_t3_ok i) (k0_pay79 (F := F)) (expBody A i m) >>= fun l1 =>
  Scf.Loop.for (k0_t4_loop i) (k0_t4_ok i) l1 (expRest A i m) >>= fun l2 => κ l2

/-- The second product of head `h`, passed on with the values' scale. -/
def headPv (A : Args) (i : grid0.Coords) (l : FVec F S1x256 .f32) (κ : Vec F S1x1x1x128 .f32 → Vec F S160x256 .f32 → KProg F PUnit) : KProg F PUnit :=
  .op (.load A.a16 (Rect.unit (s := S160x256) ![0, 0] S160x256.size inb_S160x256_S160x256_0_0).toLoadRect (View.loadsAt_vmem h_S160x256)) fun _ =>
  .op (.store A.a16 (Rect.unit (s := S160x256) ![0, 0] S160x256.size inb_S160x256_S160x256_0_0) (k0_pay90 (k0_pay89 (F := F))) Finset.univ (View.stores_vmem_bits_univ h_S160x256 rfl) (.inl rfl)) fun _ =>
  Scf.Loop.for (k0_t5_loop i) (k0_t5_ok i) 0#32 (pvBody A i (k0_pay88 l)) >>= fun z =>
  Scf.Loop.for (k0_t6_loop i) (k0_t6_ok i) z (pvRest A i (k0_pay88 l)) >>= fun _ =>
  .op (.load A.a7 (Rect.unit (s := S1x1x1x128) ![0, 0, 0, 0] S1x1x1x128.size inb_S1x1x1x128_S1x1x1x128_0_0_0_0).toLoadRect (View.loadsAt_vmem h_S1x1x1x128)) fun vs =>
  .op (.load A.a16 (Rect.unit (s := S160x256) ![0, 0] S160x256.size inb_S160x256_S160x256_0_0).toLoadRect (View.loadsAt_vmem h_S160x256)) fun o => κ vs o

/-- The output's running absolute maximum of head `h`. -/
def amaxStep (A : Args) (h : Fin 4) (i : grid0.Coords) (am : FVec F S1x256 .f32) (κ : KProg F PUnit) : KProg F PUnit :=
  let κ2 : KProg F PUnit := if _hc : k0_cond2 i = 1#1 then amaxNext A h am κ else κ
  if _hc : k0_cond1 i = 1#1 then amaxInit A h am κ2 else κ2

/-- Head `h`'s output codes, not yet transposed, stored. -/
def headCodes (A : Args) (h : Fin 4) (l : FVec F S1x256 .f32) (vs : Vec F S1x1x1x128 .f32) (o : Vec F S160x256 .f32) (κ : KProg F PUnit) : KProg F PUnit :=
  .op (.load A.a15 (Rect.unit (s := S8x256) ![(4 : Fin 8).val, 0] S1x256.size (inbSgRow 4)).toLoadRect (View.loadsAt_vmem h_S1x256)) fun _ =>
  .op (.store A.a15 (Rect.unit (s := S8x256) ![(4 : Fin 8).val, 0] S1x256.size (inbSgRow 4)) (k0_pay101 (k0_pay93 (k0_pay87 l) vs) (k0_pay95 (k0_pay87 l) vs o) k0_pay96) Finset.univ (View.stores_vmem_bits_univ h_S1x256 rfl) (.inl rfl)) fun _ =>
  .op (.load A.a15 (Rect.unit (s := S8x256) ![(4 : Fin 8).val, 0] S1x256.size (inbSgRow 4)).toLoadRect (View.loadsAt_vmem h_S1x256)) fun sg4 =>
  .op (.load A.a14 (Rect.unit (s := S4736x256) ![4096 + 160 * h.val, 0] S160x256.size (inbOut h)).toLoadRect (View.loadsAt_vmem h_S160x256)) fun _ =>
  .op (.store A.a14 (Rect.unit (s := S4736x256) ![4096 + 160 * h.val, 0] S160x256.size (inbOut h)) (k0_pay103 (Scalar.ofBits .f32 0x43E00000#32) (k0_pay102 o sg4)) Finset.univ (View.stores_vmem_bits_univ h_S160x256 rfl) (.inl rfl)) fun _ => κ

/-- Head `h`'s output quantised and stored: its scale, its absolute maximum, its codes. -/
def headOut (A : Args) (h : Fin 4) (i : grid0.Coords) (l : FVec F S1x256 .f32) (vs : Vec F S1x1x1x128 .f32) (o : Vec F S160x256 .f32) (κ : KProg F PUnit) : KProg F PUnit :=
  .op (.load A.a11 (Rect.unit (s := S1x1x4x256) ![0, 0, h.val, 0] S1x1x1x256.size (inbOs h)).toLoadRect (View.loadsAt_vmem h_S1x1x1x256)) fun _ =>
  .op (.store A.a11 (Rect.unit (s := S1x1x4x256) ![0, 0, h.val, 0] S1x1x1x256.size (inbOs h)) (k0_pay98 (F := F) (k0_pay95 (k0_pay87 l) vs o) k0_pay96) Finset.univ (View.stores_vmem_bits_univ h_S1x1x1x256 rfl) (.inl rfl)) fun _ =>
  amaxStep A h i (k0_pay94 (k0_pay87 l) vs o) (headCodes A h l vs o κ)

/-- Head `h` of the attention. -/
def attnHead (A : Args) (h : Fin 4) (i : grid0.Coords) (κ : KProg F PUnit) : KProg F PUnit :=
  headScores A h i fun m => headExp A i m fun l => headPv A i l fun vs o => headOut A h i l vs o κ

/-! ## The output codes and the maxima -/

/-- Column tile `t` of the output codes stored, transposed. -/
def storeOc (A : Args) (t : Fin 5) (κ : KProg F PUnit) : KProg F PUnit :=
  .op (.load A.a14 (Rect.unit (s := S4736x256) ![4096 + 128 * t.val, 0] S128x256.size (inbOcSrc t)).toLoadRect (View.loadsAt_vmem h_S128x256)) fun x =>
  .op (.load A.a10 (Rect.unit (s := S1x256x640) ![0, 0, 128 * t.val] S1x256x128.size (inbOc t)).toLoadRect (View.loadsAt_vmem h_S1x256x128)) fun _ =>
  .op (.store A.a10 (Rect.unit (s := S1x256x640) ![0, 0, 128 * t.val] S1x256x128.size (inbOc t)) (k0_pay214 x) Finset.univ (View.stores_vmem h_S1x256x128 (A.h10.storeExact_slice rfl _ (packedOc t)) (fun _ => rfl)) (.inl rfl)) fun _ => κ

/-- The maxima reduced over the lanes at the last block of rows. -/
def amaxLast (A : Args) : KProg F PUnit :=
  .op (.load A.a12 (Rect.unit (s := S1x1x4x256) ![0, 0, 0, 0] S1x1x4x256.size inb_S1x1x4x256_S1x1x4x256_0_0_0_0).toLoadRect (View.loadsAt_vmem h_S1x1x4x256)) fun b =>
  .op (.load A.a12 (Rect.unit (s := S1x1x4x256) ![0, 0, 0, 0] S1x1x4x256.size inb_S1x1x4x256_S1x1x4x256_0_0_0_0).toLoadRect (View.loadsAt_vmem h_S1x1x4x256)) fun _ =>
  .op (.store A.a12 (Rect.unit (s := S1x1x4x256) ![0, 0, 0, 0] S1x1x4x256.size inb_S1x1x4x256_S1x1x4x256_0_0_0_0) (k0_pay3 b) Finset.univ (View.stores_vmem_bits_univ h_S1x1x4x256 rfl) (.inl rfl)) fun _ => .ret ⟨⟩

/-- What follows the heads. -/
def attnTail (A : Args) (i : grid0.Coords) : KProg F PUnit :=
  storeOc A 0 (storeOc A 1 (storeOc A 2 (storeOc A 3 (storeOc A 4
    (if _hc : k0_cond9 i = 1#1 then amaxLast A else .ret ⟨⟩)))))

/-- The body. -/
def attnBody (A : Args) (i : grid0.Coords) : KProg F PUnit :=
  quantTile A 0 (quantTile A 1 (attnHead A 0 i (attnHead A 1 i (attnHead A 2 i (attnHead A 3 i (attnTail A i))))))

end Cert.KernelIdeal.Gen

end
-- ==== Proof.KernelIdeal.BodyEq.lean ====
module

public import proofs.«01_k».proof.Proof.KernelIdeal.Blocks

@[expose] public section

/-
  The printed body is the row of blocks.
-/

set_option maxRecDepth 65536
set_option maxHeartbeats 4000000

noncomputable section

namespace Cert.KernelIdeal.Gen

open Idealize.ShloMosaic Idealize.ShloMosaic.TcCoe Idealize.ShloMosaic.Tactic
open Idealize.SL Idealize.SL.Sem

variable {F : FTy → Type} [FloatOps F] [Named F]

theorem attnFlat_eq (A : Args) (i : grid0.Coords) :
    attnFlat (F := F) i A.a3 A.h3 A.a4 A.h4 A.a5 A.h5 A.a6 A.h6 A.a7 A.h7 A.a8 A.h8 A.a9 A.h9 A.a10 A.h10 A.a11 A.h11 A.a12 A.h12 A.a13 A.h13 A.a14 A.h14
      A.a15 A.h15 A.a16 A.h16 = attnBody A i := rfl

end Cert.KernelIdeal.Gen

end
-- ==== Proof.KernelIdeal.Rules.lean ====
module

public import proofs.«01_k».proof.Proof.KernelIdeal.BodyEq

@[expose] public section

/-
  What each block does to the state, as a plain function, and the rule that says so. `bodyF` is the whole body.
-/

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-! ## The loops' trip counts -/

theorem t2_trips (i : grid0.Coords) : (k0_t2_loop i).trips = 0 := Scf.rem_trips _ _
theorem t4_trips (i : grid0.Coords) : (k0_t4_loop i).trips = 0 := Scf.rem_trips _ _
theorem t6_trips (i : grid0.Coords) : (k0_t6_loop i).trips = 0 := Scf.rem_trips _ _

/-! ## The state functions -/

/-- Head `h` of tile `t` of the query, whose rows are `v`. -/
def quantHeadF (t : Fin 2) (h : Fin 4) (v : Vec F S1x128x640 .bf16) (S : St F) : St F :=
  ((S.set9 (put S.x9 ![0, 0, 0, (⟨2 * h.val + t.val, by omega⟩ : Fin 8).val, 0] S1x1x1x1x128.size (k0_pay18 (F := F) (qExp v h)))).set15
    (put S.x15 ![(h.castLE (by decide) : Fin 8).val, 128 * t.val] S1x128.size (k0_pay19 (F := F) (qExp v h)))).set13
    (put S.x13 ![h.val, 128 * t.val, 0] S1x128x256.size (qAlign v h))

/-- The rows of tile `t`. -/
def qRows (t : Fin 2) (S : St F) : Vec F S1x128x640 .bf16 := window S.x3 ![0, 128 * t.val, 0] S1x128x640.size (inbX t)

/-- Tile `t` of the query. -/
def quantTileF (t : Fin 2) (S : St F) : St F :=
  quantHeadF t 3 (qRows t S) (quantHeadF t 2 (qRows t S) (quantHeadF t 1 (qRows t S) (quantHeadF t 0 (qRows t S)
    (S.set8 (put S.x8 ![0, 128 * t.val, 0] S1x128x640.size (qCodesStored (qRows t S)))))))

/-- One trip of the score loop, carrying the maximum. -/
def scoreStep (i : grid0.Coords) (sg : Vec F S1x256 .f32) (qa : Vec F S1x256x256 .fp8e4m3) (j : Fin (k0_t1_loop i).trips) (p : FVec F S1x256 .f32 × St F) :
    FVec F S1x256 .f32 × St F :=
  let kb := window p.2.x4 (k0_off1 i j) S1x1x256x256.size (k0_off1_inb i j)
  let k0 := window p.2.x5 (k0_off2 i j 0#32) S1x1x1x128.size (k0_off2_inb i j 0)
  let k1 := window p.2.x5 (k0_off2 i j 1#32) S1x1x1x128.size (k0_off2_inb i j 1)
  (k0_pay72 sg qa p.1 kb k0 k1, p.2.set14 (put p.2.x14 (k0_off3 i j) S256x256.size (k0_pay71 sg qa kb k0 k1)))

/-- The scale row and the aligned codes of head `h`. -/
def sgRow (h : Fin 4) (S : St F) : Vec F S1x256 .f32 := window S.x15 ![(h.castLE (by decide) : Fin 8).val, 0] S1x256.size (inbSgRow (h.castLE (by decide)))
def qaHead (h : Fin 4) (S : St F) : Vec F S1x256x256 .fp8e4m3 := window S.x13 ![h.val, 0, 0] S1x256x256.size (inbQaHead h)

/-- The scores below the diagonal block. -/
def scoreLoop (h : Fin 4) (i : grid0.Coords) (S : St F) : FVec F S1x256 .f32 × St F :=
  iterTrips (scoreStep i (sgRow h S) (qaHead h S)) (k0_pay69 (F := F), S) (k0_t1_loop i).trips

/-- All the scores of head `h` and their maximum. -/
def headScoresF (h : Fin 4) (i : grid0.Coords) (S : St F) : FVec F S1x256 .f32 × St F :=
  let p := scoreLoop h i S
  let kb := window p.2.x4 (k0_off7 i) S1x1x256x256.size (k0_off7_inb i)
  let k0 := window p.2.x5 (k0_off8 i 0#32) S1x1x1x128.size (k0_off8_inb i 0)
  let k1 := window p.2.x5 (k0_off8 i 1#32) S1x1x1x128.size (k0_off8_inb i 1)
  (k0_pay78 iotaRow iotaCol (sgRow h S) (k0_pay68 (qaHead h S)) p.1 kb k0 k1,
    p.2.set14 (put p.2.x14 (k0_off9 i) S256x256.size (k0_pay77 iotaRow iotaCol (sgRow h S) (k0_pay68 (qaHead h S)) kb k0 k1)))

/-- One trip of the exponential loop, carrying the sum. -/
def expStep (i : grid0.Coords) (m : FVec F S1x256 .f32) (j : Fin (k0_t3_loop i).trips) (p : FVec F S1x256 .f32 × St F) : FVec F S1x256 .f32 × St F :=
  let x := window p.2.x14 (k0_off10 i j) S256x256.size (k0_off10_inb i j)
  (k0_pay82 m p.1 x, p.2.set14 (put p.2.x14 (k0_off10 i j) S256x256.size (k0_pay81 m x)))

/-- The exponentials and their sum. -/
def headExpF (i : grid0.Coords) (m : FVec F S1x256 .f32) (S : St F) : FVec F S1x256 .f32 × St F :=
  iterTrips (expStep i m) (k0_pay79 (F := F), S) (k0_t3_loop i).trips

/-- One trip of the second product. -/
def pvStep (i : grid0.Coords) (c : FVec F S1x256 .f32) (j : Fin (k0_t5_loop i).trips) (p : BitVec 32 × St F) : BitVec 32 × St F :=
  let x := window p.2.x14 (k0_off12 i j) S256x256.size (k0_off12_inb i j)
  let vt := window p.2.x6 (k0_off13 i j) S1x1x160x256.size (k0_off13_inb i j)
  let o := window p.2.x16 ![0, 0] S160x256.size inb_S160x256_S160x256_0_0
  (0#32, p.2.set16 (put p.2.x16 ![0, 0] S160x256.size (k0_pay91 c x vt o)))

/-- The second product of a head. -/
def headPvF (i : grid0.Coords) (l : FVec F S1x256 .f32) (S : St F) : St F :=
  (iterTrips (pvStep i (k0_pay88 l)) (0#32, S.set16 (put S.x16 ![0, 0] S160x256.size (k0_pay90 (k0_pay89 (F := F))))) (k0_t5_loop i).trips).2

/-- The values' scale, and the product a head's loop left. -/
def vsOf (S : St F) : Vec F S1x1x1x128 .f32 := window S.x7 ![0, 0, 0, 0] S1x1x1x128.size inb_S1x1x1x128_S1x1x1x128_0_0_0_0
def oOf (S : St F) : Vec F S160x256 .f32 := window S.x16 ![0, 0] S160x256.size inb_S160x256_S160x256_0_0

def amaxInitF (h : Fin 4) (am : FVec F S1x256 .f32) (S : St F) : St F :=
  S.set12 (put S.x12 ![0, 0, h.val, 0] S1x1x1x256.size (k0_pay99 am))
def amaxNextF (h : Fin 4) (am : FVec F S1x256 .f32) (S : St F) : St F :=
  S.set12 (put S.x12 ![0, 0, h.val, 0] S1x1x1x256.size (k0_pay100 am (window S.x12 ![0, 0, h.val, 0] S1x1x1x256.size (inbOs h))))
/-- The running maximum of head `h`. -/
def amaxStepF (h : Fin 4) (i : grid0.Coords) (am : FVec F S1x256 .f32) (S : St F) : St F :=
  let S1 := if k0_cond1 i = 1#1 then amaxInitF h am S else S
  if k0_cond2 i = 1#1 then amaxNextF h am S1 else S1

/-- Head `h`'s output codes. -/
def headCodesF (h : Fin 4) (l : FVec F S1x256 .f32) (vs : Vec F S1x1x1x128 .f32) (o : Vec F S160x256 .f32) (S : St F) : St F :=
  let T := S.set15 (put S.x15 ![(4 : Fin 8).val, 0] S1x256.size (k0_pay101 (k0_pay93 (k0_pay87 l) vs) (k0_pay95 (k0_pay87 l) vs o) k0_pay96))
  T.set14 (put T.x14 ![4096 + 160 * h.val, 0] S160x256.size
    (k0_pay103 (Scalar.ofBits .f32 0x43E00000#32) (k0_pay102 o (window T.x15 ![(4 : Fin 8).val, 0] S1x256.size (inbSgRow 4)))))

/-- Head `h`'s output scale, maximum and codes. -/
def headOutF (h : Fin 4) (i : grid0.Coords) (l : FVec F S1x256 .f32) (vs : Vec F S1x1x1x128 .f32) (o : Vec F S160x256 .f32) (S : St F) : St F :=
  headCodesF h l vs o (amaxStepF h i (k0_pay94 (k0_pay87 l) vs o)
    (S.set11 (put S.x11 ![0, 0, h.val, 0] S1x1x1x256.size (k0_pay98 (F := F) (k0_pay95 (k0_pay87 l) vs o) k0_pay96))))

/-- Head `h`. -/
def attnHeadF (h : Fin 4) (i : grid0.Coords) (S : St F) : St F :=
  let p := headScoresF h i S
  let q := headExpF i p.1 p.2
  let T := headPvF i q.1 q.2
  headOutF h i q.1 (vsOf T) (oOf T) T

def storeOcF (t : Fin 5) (S : St F) : St F :=
  S.set10 (put S.x10 ![0, 0, 128 * t.val] S1x256x128.size (k0_pay214 (window S.x14 ![4096 + 128 * t.val, 0] S128x256.size (inbOcSrc t))))
def amaxLastF (S : St F) : St F :=
  S.set12 (put S.x12 ![0, 0, 0, 0] S1x1x4x256.size (k0_pay3 (window S.x12 ![0, 0, 0, 0] S1x1x4x256.size inb_S1x1x4x256_S1x1x4x256_0_0_0_0)))
def attnTailF (i : grid0.Coords) (S : St F) : St F :=
  let T := storeOcF 4 (storeOcF 3 (storeOcF 2 (storeOcF 1 (storeOcF 0 S))))
  if k0_cond9 i = 1#1 then amaxLastF T else T

/-- The body. -/
def bodyF (i : grid0.Coords) (S : St F) : St F :=
  attnTailF i (attnHeadF 3 i (attnHeadF 2 i (attnHeadF 1 i (attnHeadF 0 i (quantTileF 1 (quantTileF 0 S))))))

/-! ## The rules -/

variable (𝒱 : Variants) (c : Dev nD) (bd : Option 𝒱.V) (E : Set ℕ) {A : Args} {S : St F} {κ : KProg F PUnit}

theorem quantHead_rule {Q : PUnit.{1} → sProp 𝕄} (t : Fin 2) (hd : Fin 4) (v : Vec F S1x128x640 .bf16) (h : held c A (quantHeadF t hd v S) ⊢ wpk 𝒱 c bd E κ Q) :
    held c A S ⊢ wpk 𝒱 c bd E (quantHead A t hd v κ) Q := by
  unfold quantHead
  refine load_rule 𝒱 c bd E (split9 c A _) rfl ?_
  refine store_rule 𝒱 c bd E (split9 c A _) ?_
  refine load_rule 𝒱 c bd E (split15 c A _) rfl ?_
  refine store_rule 𝒱 c bd E (split15 c A _) ?_
  refine load_rule 𝒱 c bd E (split13 c A _) rfl ?_
  refine store_rule 𝒱 c bd E (split13 c A _) ?_
  exact h

theorem quantTile_rule {Q : PUnit.{1} → sProp 𝕄} (t : Fin 2) (h : held c A (quantTileF t S) ⊢ wpk 𝒱 c bd E κ Q) :
    held c A S ⊢ wpk 𝒱 c bd E (quantTile A t κ) Q := by
  unfold quantTile
  refine load_rule 𝒱 c bd E (split3 c A _) rfl ?_
  refine load_rule 𝒱 c bd E (split8 c A _) rfl ?_
  refine store_rule 𝒱 c bd E (split8 c A _) ?_
  refine quantHead_rule 𝒱 c bd E t 0 _ ?_
  refine quantHead_rule 𝒱 c bd E t 1 _ ?_
  refine quantHead_rule 𝒱 c bd E t 2 _ ?_
  refine quantHead_rule 𝒱 c bd E t 3 _ ?_
  exact h

theorem headScores_rule {Q : PUnit.{1} → sProp 𝕄} (hd : Fin 4) (i : grid0.Coords) {κ : FVec F S1x256 .f32 → KProg F PUnit}
    (h : held c A (headScoresF hd i S).2 ⊢ wpk 𝒱 c bd E (κ (headScoresF hd i S).1) Q) :
    held c A S ⊢ wpk 𝒱 c bd E (headScores A hd i κ) Q := by
  unfold headScores
  refine load_rule 𝒱 c bd E (split15 c A _) rfl ?_
  refine load_rule 𝒱 c bd E (split13 c A _) rfl ?_
  refine for_rule 𝒱 c bd E (scoreStep i (sgRow hd S) (qaHead hd S)) (fun j acc T Q' hq => ?_) ?_
  · unfold scoreBody
    refine load_rule 𝒱 c bd E (split4 c A _) rfl ?_
    refine load_rule 𝒱 c bd E (split5 c A _) rfl ?_
    refine load_rule 𝒱 c bd E (split5 c A _) rfl ?_
    refine load_rule 𝒱 c bd E (split14 c A _) rfl ?_
    refine store_rule 𝒱 c bd E (split14 c A _) ?_
    exact ret_rule 𝒱 c bd E hq
  refine for_none_rule 𝒱 c bd E (t2_trips i) ?_
  refine load_rule 𝒱 c bd E (split4 c A _) rfl ?_
  refine load_rule 𝒱 c bd E (split5 c A _) rfl ?_
  refine load_rule 𝒱 c bd E (split5 c A _) rfl ?_
  refine load_rule 𝒱 c bd E (split14 c A _) rfl ?_
  refine store_rule 𝒱 c bd E (split14 c A _) ?_
  exact h

theorem headExp_rule {Q : PUnit.{1} → sProp 𝕄} (i : grid0.Coords) (m : FVec F S1x256 .f32) {κ : FVec F S1x256 .f32 → KProg F PUnit}
    (h : held c A (headExpF i m S).2 ⊢ wpk 𝒱 c bd E (κ (headExpF i m S).1) Q) :
    held c A S ⊢ wpk 𝒱 c bd E (headExp A i m κ) Q := by
  unfold headExp
  refine for_rule 𝒱 c bd E (expStep i m) (fun j acc T Q' hq => ?_) ?_
  · unfold expBody
    refine load_rule 𝒱 c bd E (split14 c A _) rfl ?_
    refine load_rule 𝒱 c bd E (split14 c A _) rfl ?_
    refine store_rule 𝒱 c bd E (split14 c A _) ?_
    exact ret_rule 𝒱 c bd E hq
  refine for_none_rule 𝒱 c bd E (t4_trips i) ?_
  exact h

theorem headPv_rule {Q : PUnit.{1} → sProp 𝕄} (i : grid0.Coords) (l : FVec F S1x256 .f32) {κ : Vec F S1x1x1x128 .f32 → Vec F S160x256 .f32 → KProg F PUnit}
    (h : held c A (headPvF i l S) ⊢ wpk 𝒱 c bd E (κ (vsOf (headPvF i l S)) (oOf (headPvF i l S))) Q) :
    held c A S ⊢ wpk 𝒱 c bd E (headPv A i l κ) Q := by
  unfold headPv
  refine load_rule 𝒱 c bd E (split16 c A _) rfl ?_
  refine store_rule 𝒱 c bd E (split16 c A _) ?_
  refine for_rule 𝒱 c bd E (pvStep i (k0_pay88 l)) (fun j acc T Q' hq => ?_) ?_
  · unfold pvBody
    refine load_rule 𝒱 c bd E (split14 c A _) rfl ?_
    refine load_rule 𝒱 c bd E (split6 c A _) rfl ?_
    refine load_rule 𝒱 c bd E (split16 c A _) rfl ?_
    refine load_rule 𝒱 c bd E (split16 c A _) rfl ?_
    refine store_rule 𝒱 c bd E (split16 c A _) ?_
    exact ret_rule 𝒱 c bd E hq
  refine for_none_rule 𝒱 c bd E (t6_trips i) ?_
  refine load_rule 𝒱 c bd E (split7 c A _) rfl ?_
  refine load_rule 𝒱 c bd E (split16 c A _) rfl ?_
  unfold vsOf oOf headPvF at h
  exact h

theorem amaxStep_rule {Q : PUnit.{1} → sProp 𝕄} (hd : Fin 4) (i : grid0.Coords) (am : FVec F S1x256 .f32) (h : held c A (amaxStepF hd i am S) ⊢ wpk 𝒱 c bd E κ Q) :
    held c A S ⊢ wpk 𝒱 c bd E (amaxStep A hd i am κ) Q := by
  unfold amaxStep
  refine if_rule 𝒱 c bd E (amaxInitF hd am) (fun _ hq => ?_) ?_
  · unfold amaxInit
    refine load_rule 𝒱 c bd E (split12 c A _) rfl ?_
    refine store_rule 𝒱 c bd E (split12 c A _) ?_
    exact hq
  refine if_rule 𝒱 c bd E (amaxNextF hd am) (fun _ hq => ?_) ?_
  · unfold amaxNext
    refine load_rule 𝒱 c bd E (split12 c A _) rfl ?_
    refine load_rule 𝒱 c bd E (split12 c A _) rfl ?_
    refine store_rule 𝒱 c bd E (split12 c A _) ?_
    exact hq
  exact h

theorem headOut_rule {Q : PUnit.{1} → sProp 𝕄} (hd : Fin 4) (i : grid0.Coords) (l : FVec F S1x256 .f32) (vs : Vec F S1x1x1x128 .f32) (o : Vec F S160x256 .f32)
    (h : held c A (headOutF hd i l vs o S) ⊢ wpk 𝒱 c bd E κ Q) :
    held c A S ⊢ wpk 𝒱 c bd E (headOut A hd i l vs o κ) Q := by
  unfold headOut
  refine load_rule 𝒱 c bd E (split11 c A _) rfl ?_
  refine store_rule 𝒱 c bd E (split11 c A _) ?_
  refine amaxStep_rule 𝒱 c bd E hd i _ ?_
  unfold headCodes
  refine load_rule 𝒱 c bd E (split15 c A _) rfl ?_
  refine store_rule 𝒱 c bd E (split15 c A _) ?_
  refine load_rule 𝒱 c bd E (split15 c A _) rfl ?_
  refine load_rule 𝒱 c bd E (split14 c A _) rfl ?_
  refine store_rule 𝒱 c bd E (split14 c A _) ?_
  exact h

theorem attnHead_rule {Q : PUnit.{1} → sProp 𝕄} (hd : Fin 4) (i : grid0.Coords) (h : held c A (attnHeadF hd i S) ⊢ wpk 𝒱 c bd E κ Q) :
    held c A S ⊢ wpk 𝒱 c bd E (attnHead A hd i κ) Q := by
  unfold attnHead
  refine headScores_rule 𝒱 c bd E hd i ?_
  refine headExp_rule 𝒱 c bd E i _ ?_
  refine headPv_rule 𝒱 c bd E i _ ?_
  exact headOut_rule 𝒱 c bd E hd i _ _ _ h

theorem storeOc_rule {Q : PUnit.{1} → sProp 𝕄} (t : Fin 5) (h : held c A (storeOcF t S) ⊢ wpk 𝒱 c bd E κ Q) :
    held c A S ⊢ wpk 𝒱 c bd E (storeOc A t κ) Q := by
  unfold storeOc
  refine load_rule 𝒱 c bd E (split14 c A _) rfl ?_
  refine load_rule 𝒱 c bd E (split10 c A _) rfl ?_
  refine store_rule 𝒱 c bd E (split10 c A _) ?_
  exact h

theorem attnTail_rule {Q : PUnit.{1} → sProp 𝕄} (i : grid0.Coords) (h : held c A (attnTailF i S) ⊢ Q ⟨⟩) :
    held c A S ⊢ wpk 𝒱 c bd E (attnTail A i) Q := by
  unfold attnTail
  refine storeOc_rule 𝒱 c bd E 0 ?_
  refine storeOc_rule 𝒱 c bd E 1 ?_
  refine storeOc_rule 𝒱 c bd E 2 ?_
  refine storeOc_rule 𝒱 c bd E 3 ?_
  refine storeOc_rule 𝒱 c bd E 4 ?_
  refine if_rule 𝒱 c bd E amaxLastF (fun _ hq => ?_) (ret_rule 𝒱 c bd E h)
  unfold amaxLast
  refine load_rule 𝒱 c bd E (split12 c A _) rfl ?_
  refine load_rule 𝒱 c bd E (split12 c A _) rfl ?_
  refine store_rule 𝒱 c bd E (split12 c A _) ?_
  exact hq

/-- The body takes the state to `bodyF` of it. -/
theorem attnBody_rule {Q : PUnit.{1} → sProp 𝕄} (i : grid0.Coords) (h : held c A (bodyF i S) ⊢ Q ⟨⟩) :
    held c A S ⊢ wpk 𝒱 c bd E (attnBody A i) Q := by
  unfold attnBody
  refine quantTile_rule 𝒱 c bd E 0 ?_
  refine quantTile_rule 𝒱 c bd E 1 ?_
  refine attnHead_rule 𝒱 c bd E 0 i ?_
  refine attnHead_rule 𝒱 c bd E 1 i ?_
  refine attnHead_rule 𝒱 c bd E 2 i ?_
  refine attnHead_rule 𝒱 c bd E 3 i ?_
  exact attnTail_rule 𝒱 c bd E i h

/-- … the printed body likewise. -/
theorem cc0_attn_rule {Q : PUnit.{1} → sProp 𝕄} (i : grid0.Coords) (h : held c A (bodyF i S) ⊢ Q ⟨⟩) :
    held c A S ⊢ wpk 𝒱 c bd E (cc0_attn (F := F) i A.a3 A.h3 A.a4 A.h4 A.a5 A.h5 A.a6 A.h6 A.a7 A.h7 A.a8 A.h8 A.a9 A.h9 A.a10 A.h10 A.a11 A.h11 A.a12 A.h12 A.a13 A.h13
      A.a14 A.h14 A.a15 A.h15 A.a16 A.h16) Q := by
  rw [cc0_attn_eq_skeleton, attnFlat.eq, attnFlat_eq A i]
  exact attnBody_rule 𝒱 c bd E i h

end Cert.KernelIdeal.Gen

end
-- ==== Proof.KernelIdeal.Keep.lean ====
module

public import proofs.«01_k».proof.Proof.KernelIdeal.Rules

@[expose] public section

/-
  The body leaves its five input blocks as they were.
-/

set_option maxRecDepth 65536

noncomputable section

namespace Cert.KernelIdeal.Gen

open Idealize.ShloMosaic

variable {F : FTy → Type} [FloatOps F] [Named F]

/-- The same input blocks. -/
def SameIn (S T : St F) : Prop := T.x3 = S.x3 ∧ T.x4 = S.x4 ∧ T.x5 = S.x5 ∧ T.x6 = S.x6 ∧ T.x7 = S.x7

theorem SameIn.refl (S : St F) : SameIn S S := ⟨rfl, rfl, rfl, rfl, rfl⟩
theorem SameIn.trans {S T U : St F} (h : SameIn S T) (k : SameIn T U) : SameIn S U :=
  ⟨k.1.trans h.1, k.2.1.trans h.2.1, k.2.2.1.trans h.2.2.1, k.2.2.2.1.trans h.2.2.2.1, k.2.2.2.2.trans h.2.2.2.2⟩

theorem same_set8 (S : St F) (Y) : SameIn S (S.set8 Y) := ⟨rfl, rfl, rfl, rfl, rfl⟩
theorem same_set9 (S : St F) (Y) : SameIn S (S.set9 Y) := ⟨rfl, rfl, rfl, rfl, rfl⟩
theorem same_set10 (S : St F) (Y) : SameIn S (S.set10 Y) := ⟨rfl, rfl, rfl, rfl, rfl⟩
theorem same_set11 (S : St F) (Y) : SameIn S (S.set11 Y) := ⟨rfl, rfl, rfl, rfl, rfl⟩
theorem same_set12 (S : St F) (Y) : SameIn S (S.set12 Y) := ⟨rfl, rfl, rfl, rfl, rfl⟩
theorem same_set13 (S : St F) (Y) : SameIn S (S.set13 Y) := ⟨rfl, rfl, rfl, rfl, rfl⟩
theorem same_set14 (S : St F) (Y) : SameIn S (S.set14 Y) := ⟨rfl, rfl, rfl, rfl, rfl⟩
theorem same_set15 (S : St F) (Y) : SameIn S (S.set15 Y) := ⟨rfl, rfl, rfl, rfl, rfl⟩
theorem same_set16 (S : St F) (Y) : SameIn S (S.set16 Y) := ⟨rfl, rfl, rfl, rfl, rfl⟩

/-- A loop whose trips keep a property keeps it. -/
theorem iterTrips_keeps {σ : Type} {n : ℕ} (g : Fin n → σ → σ) (P : σ → Prop) (hg : ∀ j s, P s → P (g j s)) (s : σ) (hs : P s) (k : ℕ) :
    P (iterTrips g s k) := by
  induction k with
  | zero => exact hs
  | succ k ih =>
    rw [iterTrips.eq_2]
    split
    · exact hg _ _ ih
    · exact ih

theorem same_quantHead (t : Fin 2) (h : Fin 4) (v) (S : St F) : SameIn S (quantHeadF t h v S) :=
  ((same_set9 _ _).trans (same_set15 _ _)).trans (same_set13 _ _)

theorem same_quantTile (t : Fin 2) (S : St F) : SameIn S (quantTileF t S) :=
  (((((same_set8 _ _).trans (same_quantHead t 0 _ _)).trans (same_quantHead t 1 _ _)).trans (same_quantHead t 2 _ _)).trans (same_quantHead t 3 _ _))

theorem same_headScores (h : Fin 4) (i : grid0.Coords) (S : St F) : SameIn S (headScoresF h i S).2 :=
  (show SameIn S (scoreLoop h i S).2 from
    iterTrips_keeps (scoreStep i (sgRow h S) (qaHead h S)) (fun p => SameIn S p.2) (fun _ _ hp => hp.trans (same_set14 _ _)) _ (SameIn.refl S) _).trans (same_set14 _ _)

theorem same_headExp (i : grid0.Coords) (m) (S : St F) : SameIn S (headExpF i m S).2 :=
  iterTrips_keeps (expStep i m) (fun p => SameIn S p.2) (fun _ _ hp => hp.trans (same_set14 _ _)) _ (SameIn.refl S) _

theorem same_headPv (i : grid0.Coords) (l) (S : St F) : SameIn S (headPvF i l S) :=
  iterTrips_keeps (pvStep i (k0_pay88 l)) (fun p => SameIn S p.2) (fun _ _ hp => hp.trans (same_set16 _ _)) _ (same_set16 S _) _

theorem same_amaxStep (h : Fin 4) (i : grid0.Coords) (am) (S : St F) : SameIn S (amaxStepF h i am S) := by
  have h1 : SameIn S (if k0_cond1 i = 1#1 then amaxInitF h am S else S) := by
    split
    · exact same_set12 _ _
    · exact SameIn.refl S
  unfold amaxStepF
  dsimp only
  split
  · exact h1.trans (same_set12 _ _)
  · exact h1

theorem same_headOut (h : Fin 4) (i : grid0.Coords) (l) (vs) (o) (S : St F) : SameIn S (headOutF h i l vs o S) :=
  (((same_set11 _ _).trans (same_amaxStep h i _ _)).trans (same_set15 _ _)).trans (same_set14 _ _)

theorem same_attnHead (h : Fin 4) (i : grid0.Coords) (S : St F) : SameIn S (attnHeadF h i S) :=
  (((same_headScores h i S).trans (same_headExp i _ _)).trans (same_headPv i _ _)).trans (same_headOut h i _ _ _ _)

theorem same_attnTail (i : grid0.Coords) (S : St F) : SameIn S (attnTailF i S) := by
  have h : SameIn S (storeOcF 4 (storeOcF 3 (storeOcF 2 (storeOcF 1 (storeOcF 0 S))))) :=
    ((((same_set10 _ _).trans (same_set10 _ _)).trans (same_set10 _ _)).trans (same_set10 _ _)).trans (same_set10 _ _)
  unfold attnTailF
  dsimp only
  split
  · exact h.trans (same_set12 _ _)
  · exact h

/-- The body keeps the input blocks. -/
theorem same_body (i : grid0.Coords) (S : St F) : SameIn S (bodyF i S) :=
  ((((((same_quantTile 0 S).trans (same_quantTile 1 _)).trans (same_attnHead 0 i _)).trans (same_attnHead 1 i _)).trans (same_attnHead 2 i _)).trans
    (same_attnHead 3 i _)).trans (same_attnTail i _)

end Cert.KernelIdeal.Gen

end
-- ==== Proof.KernelIdeal.Launch.lean ====
module

public import proofs.«01_k».proof.Proof.KernelIdeal.Keep
public import proofs.«01_k».proof.Proof.Gen.KernelIdeal.Frame

@[expose] public section

/-
  The body as the pipeline calls it at a grid point, and the frame: it terminates, nothing faults, the arguments are unchanged.
-/

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F] [Named F]

local notation "𝕄" => MT nD τ sig Unit (Elt F) ℕ (UR sig nD τ) ℕ

/-- The buffers of the call at point `t`. -/
def argsAt (t : Fin cfg0.N) : Args where
  a3 := st0_0 t
  h3 := hstage0_0 ((cfg0.slots t 0).cast nbuf0_0)
  a4 := st0_1 t
  h4 := hstage0_1 ((cfg0.slots t 1).cast nbuf0_1)
  a5 := st0_2 t
  h5 := hstage0_2 ((cfg0.slots t 2).cast nbuf0_2)
  a6 := st0_3 t
  h6 := hstage0_3 ((cfg0.slots t 3).cast nbuf0_3)
  a7 := st0_4 t
  h7 := hstage0_4 ((cfg0.slots t 4).cast nbuf0_4)
  a8 := st0_5 t
  h8 := hstage0_5 ((cfg0.slots t 5).cast nbuf0_5)
  a9 := st0_6 t
  h9 := hstage0_6 ((cfg0.slots t 6).cast nbuf0_6)
  a10 := st0_7 t
  h10 := hstage0_7 ((cfg0.slots t 7).cast nbuf0_7)
  a11 := st0_8 t
  h11 := hstage0_8 ((cfg0.slots t 8).cast nbuf0_8)
  a12 := st0_9 t
  h12 := hstage0_9 ((cfg0.slots t 9).cast nbuf0_9)
  a13 := Memref.whole cc0_scratch0
  h13 := Memref.isWhole_whole _
  a14 := Memref.whole cc0_scratch1
  h14 := Memref.isWhole_whole _
  a15 := Memref.whole cc0_scratch2
  h15 := Memref.isWhole_whole _
  a16 := Memref.whole cc0_scratch3
  h16 := Memref.isWhole_whole _

/-- The ten staging buffers of point `t`, holding the first ten fields of `S`. -/
def staged (c : Dev nD) (t : Fin cfg0.N) (S : St F) : sProp 𝕄 :=
  iprop(owns (c : Thread nD τ) (st0_0 t) fullShare S.x3 ∗ owns (c : Thread nD τ) (st0_1 t) fullShare S.x4 ∗ owns (c : Thread nD τ) (st0_2 t) fullShare S.x5
    ∗ owns (c : Thread nD τ) (st0_3 t) fullShare S.x6 ∗ owns (c : Thread nD τ) (st0_4 t) fullShare S.x7 ∗ owns (c : Thread nD τ) (st0_5 t) fullShare S.x8
    ∗ owns (c : Thread nD τ) (st0_6 t) fullShare S.x9 ∗ owns (c : Thread nD τ) (st0_7 t) fullShare S.x10 ∗ owns (c : Thread nD τ) (st0_8 t) fullShare S.x11
    ∗ owns (c : Thread nD τ) (st0_9 t) fullShare S.x12)

/-- The scratch buffers at some contents join the staging buffers. -/
theorem held_intro (c : Dev nD) (t : Fin cfg0.N) (S : St F) :
    iprop((Pipeline.ΦA spec0 c : sProp 𝕄) ∗ staged c t S)
      ⊢ iprop(∃ T : St F, ⌜∃ f13 f14 f15 f16, T = (((S.set13 f13).set14 f14).set15 f15).set16 f16⌝ ∗ held c (argsAt t) T ∗ (∃ r, prngReg c r)) := by
  unfold Pipeline.ΦA staged
  rw [scopedRest0_eq]
  iintro ⟨⟨⟨⟨%f13, H13⟩, ⟨%f14, H14⟩, ⟨%f15, H15⟩, ⟨%f16, H16⟩⟩, Hp⟩, H3, H4, H5, H6, H7, H8, H9, H10, H11, H12⟩
  iexists (((S.set13 f13).set14 f14).set15 f15).set16 f16
  isplitr
  · ipureintro; exact ⟨f13, f14, f15, f16, rfl⟩
  isplitr [Hp]
  · unfold held argsAt
    dsimp only [St.set13, St.set14, St.set15, St.set16]
    rw [owns_whole, owns_whole, owns_whole, owns_whole]
    iframe
  · iexact Hp

/-- … and leave them. -/
theorem held_elim (c : Dev nD) (t : Fin cfg0.N) (S : St F) :
    iprop(held c (argsAt t) S ∗ (∃ r, prngReg c r)) ⊢ iprop((Pipeline.ΦA spec0 c : sProp 𝕄) ∗ staged c t S) := by
  unfold Pipeline.ΦA staged held argsAt
  dsimp only
  rw [scopedRest0_eq, owns_whole, owns_whole, owns_whole, owns_whole]
  iintro ⟨⟨H3, H4, H5, H6, H7, H8, H9, H10, H11, H12, H13, H14, H15, H16⟩, Hp⟩
  isplitr [H3 H4 H5 H6 H7 H8 H9 H10 H11 H12]
  · isplitr [Hp]
    · isplitl [H13]; · iexists _; iexact H13
      isplitl [H14]; · iexists _; iexact H14
      isplitl [H15]; · iexists _; iexact H15
      iexists _; iexact H16
    · iexact Hp
  iframe

/-- The body at point `t`: whatever the scratch buffers hold, the staging buffers end at `bodyF`'s fields. -/
theorem sound_at (c : Dev nD) (t : Fin cfg0.N) (S : St F) (R : sProp 𝕄) (Q : PUnit → sProp 𝕄)
    (h : ∀ f13 f14 f15 f16, iprop((Pipeline.ΦA spec0 c : sProp 𝕄) ∗ R ∗ staged c t (bodyF (grid0.coords t) ((((S.set13 f13).set14 f14).set15 f15).set16 f16))) ⊢ Q ⟨⟩) :
    iprop((Pipeline.ΦA spec0 c : sProp 𝕄) ∗ R ∗ staged c t S) ⊢ wp frame (wpE (defs₀ (F := F)) Variants.none c none) Set.univ (bodyAt0 t) Q := by
  iintro ⟨HΦ, HR, HS⟩
  ihave H := held_intro c t S $$ [HΦ HS]
  · isplitl [HΦ]; · iexact HΦ
    iexact HS
  icases H with ⟨%T, %hT, HT, Hp⟩
  iapply (wp_wand_r frame (wpE (defs₀ (F := F)) Variants.none c none) Set.univ (Q := fun _ => held c (argsAt t) (bodyF (grid0.coords t) T)))
  isplitl [HT]
  · iapply (cc0_attn_rule (A := argsAt t) (S := T) Variants.none c none Set.univ (grid0.coords t) (Q := fun _ => held c (argsAt t) (bodyF (grid0.coords t) T)) .rfl)
    iexact HT
  iintro %u HT
  obtain ⟨f13, f14, f15, f16, rfl⟩ := hT
  iapply (h f13 f14 f15 f16)
  ihave H := held_elim c t _ $$ [HT Hp]
  · isplitl [HT]; · iexact HT
    iexact Hp
  icases H with ⟨HΦ, HS⟩
  isplitl [HΦ]; · iexact HΦ
  isplitl [HR]; · iexact HR
  iexact HS

end Cert.KernelIdeal.Gen

end
-- ==== Proof.KernelIdeal.Frame.lean ====
module

public import proofs.«01_k».proof.Proof.KernelIdeal.Launch

@[expose] public section

/-
  The frame: every execution terminates, nothing faults, the argument arrays end unchanged and every counter ends at zero.
  The outputs are forgotten here; nothing below says what they hold.
-/

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output windows. -/
def outs : Fin cfg0.W → Bool
  | ⟨0, _⟩ => false
  | ⟨1, _⟩ => false
  | ⟨2, _⟩ => false
  | ⟨3, _⟩ => false
  | ⟨4, _⟩ => false
  | _ => true

/-- The proof data of the frame: each input's buffer at its block, nothing named of an output. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q _ := fullShare
  owed _ := 0

theorem frameDats_A (c : Dev nD) (w : Fin cfg0.W) : (frameDats m 0 c).A w = V m c (Pipeline.arrRef spec0 w) := by dsimp only [frameDats]

theorem frameDats_after0 (c : Dev nD) (t : Fin cfg0.N) : (frameDats m 0 c).after 0 t = iblk m c 0 t := by dsimp only [frameDats]
theorem frameDats_after1 (c : Dev nD) (t : Fin cfg0.N) : (frameDats m 0 c).after 1 t = iblk m c 1 t := by dsimp only [frameDats]
theorem frameDats_after2 (c : Dev nD) (t : Fin cfg0.N) : (frameDats m 0 c).after 2 t = iblk m c 2 t := by dsimp only [frameDats]
theorem frameDats_after3 (c : Dev nD) (t : Fin cfg0.N) : (frameDats m 0 c).after 3 t = iblk m c 3 t := by dsimp only [frameDats]
theorem frameDats_after4 (c : Dev nD) (t : Fin cfg0.N) : (frameDats m 0 c).after 4 t = iblk m c 4 t := by dsimp only [frameDats]

/-- What the body is called with at point `t`, the outputs at anything. -/
def framePre (c : Dev nD) (t : Fin cfg0.N) : sProp 𝕄 :=
  iprop((frameDats m 0 c).Φ t.castSucc ∗ (frameDats m 0 c).owesAt () t.castSucc
    ∗ (∃ d, owns (c : Thread nD τ) (st0_0 t) fullShare ((frameDats m 0 c).before 0 t d))
    ∗ (∃ d, owns (c : Thread nD τ) (st0_1 t) fullShare ((frameDats m 0 c).before 1 t d))
    ∗ (∃ d, owns (c : Thread nD τ) (st0_2 t) fullShare ((frameDats m 0 c).before 2 t d))
    ∗ (∃ d, owns (c : Thread nD τ) (st0_3 t) fullShare ((frameDats m 0 c).before 3 t d))
    ∗ (∃ d, owns (c : Thread nD τ) (st0_4 t) fullShare ((frameDats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- … and what it returns. -/
def framePost (c : Dev nD) (t : Fin cfg0.N) : sProp 𝕄 :=
  iprop((frameDats m 0 c).Φ t.succ ∗ (frameDats m 0 c).owesAt () t.succ
    ∗ owns (c : Thread nD τ) (st0_0 t) fullShare ((frameDats m 0 c).after 0 t)
    ∗ owns (c : Thread nD τ) (st0_1 t) fullShare ((frameDats m 0 c).after 1 t)
    ∗ owns (c : Thread nD τ) (st0_2 t) fullShare ((frameDats m 0 c).after 2 t)
    ∗ owns (c : Thread nD τ) (st0_3 t) fullShare ((frameDats m 0 c).after 3 t)
    ∗ owns (c : Thread nD τ) (st0_4 t) fullShare ((frameDats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- The body at any point keeps the frame. -/
theorem frame_body (c : Dev nD) (t : Fin cfg0.N) :
    framePre m c t ⊢ wp frame (wpE (defs₀ (F := F)) Variants.none c none) Set.univ (bodyAt0 t) (fun _ => framePost m c t) := by
  unfold framePre framePost
  rw [show (frameDats m 0 c).Φ t.succ = (frameDats m 0 c).Φ t.castSucc from rfl,
    show (frameDats m 0 c).owesAt () t.succ = (frameDats m 0 c).owesAt () t.castSucc from rfl,
    show (frameDats m 0 c).Φ t.castSucc = Pipeline.ΦA spec0 c from rfl,
    frameDats_after0, frameDats_after1, frameDats_after2, frameDats_after3, frameDats_after4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (frameDats m 0 c) (frameDats_A m c 0) (frameDats_after0 m c) t d0,
    before0_1_of m (frameDats m 0 c) (frameDats_A m c 1) (frameDats_after1 m c) t d1,
    before0_2_of m (frameDats m 0 c) (frameDats_A m c 2) (frameDats_after2 m c) t d2,
    before0_3_of m (frameDats m 0 c) (frameDats_A m c 3) (frameDats_after3 m c) t d3,
    before0_4_of m (frameDats m 0 c) (frameDats_A m c 4) (frameDats_after4 m c) t d4]
  iapply (sound_at c t ⟨iblk m c 0 t, iblk m c 1 t, iblk m c 2 t, iblk m c 3 t, iblk m c 4 t, d5, d6, d7, d8, d9,
    fun _ => Scalar.ofBits .fp8e4m3 0, fun _ => Scalar.ofBits .f32 0, fun _ => Scalar.ofBits .f32 0, fun _ => Scalar.ofBits .f32 0⟩
    ((frameDats m 0 c).owesAt () t.castSucc) _ ?_)
  swap
  · isplitl [HΦ]; · iexact HΦ
    isplitl [Ho]; · iexact Ho
    unfold staged
    iframe
  intro f13 f14 f15 f16
  obtain ⟨e3, e4, e5, e6, e7⟩ := same_body (grid0.coords t)
    (((((⟨iblk m c 0 t, iblk m c 1 t, iblk m c 2 t, iblk m c 3 t, iblk m c 4 t, d5, d6, d7, d8, d9,
      fun _ => Scalar.ofBits .fp8e4m3 0, fun _ => Scalar.ofBits .f32 0, fun _ => Scalar.ofBits .f32 0, fun _ => Scalar.ofBits .f32 0⟩ : St F).set13 f13).set14 f14).set15 f15).set16 f16)
  unfold staged
  rw [e3, e4, e5, e6, e7]
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem frame_obligation (c : Dev nD) : BodyObligationLoose (frameDats (F := F) m 0 c) (defs₀ (F := F)) Variants.none () Set.univ outs := fun t => by
  rw [bigSep_W0, bigSep_W0, defs₀_row]
  exact triple_restated (frame_body m c t) rfl .rfl fun _ => .rfl

set_option backward.isDefEq.respectTransparency.types false in
set_option maxHeartbeats 800000 in
theorem frame_run : θ_run defs (onTc (τ := τ) (main (F := F))) (s₀ m ρ)
    (fun r => (RDat.FramePost cfg0 (fun c => (frameDats m 0 c).toRForget outs) (V m)) r ∧ r.2.sem = fun _ => 0) :=
  Pipeline.θ_run_frame_forget (Q' := _) cfgs (frameDats m) (0 : Fin 1) launch0 defs₀ Variants.none outs m ρ main
    (hbody := fun c => frame_obligation m c) (hshare := fun c => (frameDats m 0 c).share_full fun _ => rfl)
    (howed := fun _ _ => rfl) (V := V m) (hmain := hmain m Variants.none) (hA := frameDats_A m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
    (h.1.arr_in c 0 rfl).trans ((frameDats_A m c 0).trans (V_main_arg0 m c)),
    (h.1.arr_in c 1 rfl).trans ((frameDats_A m c 1).trans (V_main_arg1 m c)),
    (h.1.arr_in c 2 rfl).trans ((frameDats_A m c 2).trans (V_main_arg2 m c)),
    ((h.1 c).2 main_arg3 (Pipeline.mem_restRefs_of main_arg3 (by decide) (by decide))).trans (V_main_arg3 m c),
    (h.1.arr_in c 4 rfl).trans ((frameDats_A m c 4).trans (V_main_arg4 m c))⟩, h.2⟩) (frame_run m ρ)

end Cert.KernelIdeal.Gen

end
-- ==== Proof.KernelIdeal.Words.lean ====
module

public import proofs.«01_k».proof.Proof.KernelIdeal.Rules

@[expose] public section

/-
  The body's offsets, trip counts and conditions in closed form, and the reads of a window and of a put at an index.
-/

set_option maxRecDepth 65536

noncomputable section

namespace Cert.KernelIdeal.Gen

open Idealize.ShloMosaic Idealize.ShloMosaic.TcCoe
open Idealize.ShloMosaic.VecWindow (window put)

theorem trips1 (i : grid0.Coords) : (k0_t1_loop i).trips = (i 2).val := by
  have key : ∀ n : Fin 16, (Scf.Loop.trips (w := 32) ⟨0#32, Scalar.addi 0#32 (Scalar.muli (Scalar.divsi (Scalar.subi (BitVec.ofNat 32 n.val) 0#32) 1#32) 1#32), 1#32⟩) = n.val := by decide +kernel
  exact key (i 2)
theorem trips3 (i : grid0.Coords) : (k0_t3_loop i).trips = (i 2).val + 1 := by
  have key : ∀ n : Fin 16, (Scf.Loop.trips (w := 32) ⟨0#32, Scalar.addi 0#32 (Scalar.muli (Scalar.divsi (Scalar.subi (Scalar.addi (BitVec.ofNat 32 n.val) 1#32) 0#32) 1#32) 1#32), 1#32⟩) = n.val + 1 := by decide +kernel
  exact key (i 2)
theorem trips5 (i : grid0.Coords) : (k0_t5_loop i).trips = (i 2).val + 1 := trips3 i

theorem coord_lt (i : grid0.Coords) : (i 2).val < 16 := (i 2).isLt

theorem word256 : ∀ n : Fin 16, (Scalar.indexCast (Scalar.muli (Scf.iv 0#32 1#32 n.val) 256#32)).toNat = 256 * n.val := by decide +kernel
theorem word256' : ∀ n : Fin 16, (Scalar.indexCast (Scalar.muli (BitVec.ofNat 32 n.val) 256#32)).toNat = 256 * n.val := by decide +kernel
theorem word2 : ∀ n : Fin 16, ∀ b : Fin 2, (Scalar.indexCast (Scalar.addi (Scalar.muli (Scf.iv 0#32 1#32 n.val) 2#32) (BitVec.ofNat 32 b.val))).toNat = 2 * n.val + b.val := by decide +kernel
theorem word2' : ∀ n : Fin 16, ∀ b : Fin 2, (Scalar.indexCast (Scalar.addi (Scalar.muli (BitVec.ofNat 32 n.val) 2#32) (BitVec.ofNat 32 b.val))).toNat = 2 * n.val + b.val := by decide +kernel

theorem lt1 (i : grid0.Coords) (j : Fin (k0_t1_loop i).trips) : j.val < 16 := by have := j.isLt; have := trips1 i; have := coord_lt i; omega
theorem lt3 (i : grid0.Coords) (j : Fin (k0_t3_loop i).trips) : j.val < 16 := by have := j.isLt; have := trips3 i; have := coord_lt i; omega

theorem off1_eq (i : grid0.Coords) (j : Fin (k0_t1_loop i).trips) : k0_off1 i j = ![0, 0, 256 * j.val, 0] := by
  unfold k0_off1; dsimp only; rw [word256 ⟨j.val, lt1 i j⟩]
theorem off2_eq (i : grid0.Coords) (j : Fin (k0_t1_loop i).trips) (b : Fin 2) : k0_off2 i j (BitVec.ofNat 32 b.val) = ![0, 0, 2 * j.val + b.val, 0] := by
  unfold k0_off2; dsimp only; rw [word2 ⟨j.val, lt1 i j⟩ b]
theorem off3_eq (i : grid0.Coords) (j : Fin (k0_t1_loop i).trips) : k0_off3 i j = ![256 * j.val, 0] := by
  unfold k0_off3; dsimp only; rw [word256 ⟨j.val, lt1 i j⟩]
theorem off7_eq (i : grid0.Coords) : k0_off7 i = ![0, 0, 256 * (i 2).val, 0] := by
  unfold k0_off7; dsimp only; rw [word256' ⟨(i 2).val, coord_lt i⟩]
theorem off8_eq (i : grid0.Coords) (b : Fin 2) : k0_off8 i (BitVec.ofNat 32 b.val) = ![0, 0, 2 * (i 2).val + b.val, 0] := by
  unfold k0_off8; dsimp only; rw [word2' ⟨(i 2).val, coord_lt i⟩ b]
theorem off9_eq (i : grid0.Coords) : k0_off9 i = ![256 * (i 2).val, 0] := by
  unfold k0_off9; dsimp only; rw [word256' ⟨(i 2).val, coord_lt i⟩]
theorem off10_eq (i : grid0.Coords) (j : Fin (k0_t3_loop i).trips) : k0_off10 i j = ![256 * j.val, 0] := by
  unfold k0_off10; dsimp only; rw [word256 ⟨j.val, lt3 i j⟩]
theorem off12_eq (i : grid0.Coords) (j : Fin (k0_t5_loop i).trips) : k0_off12 i j = ![256 * j.val, 0] := by
  unfold k0_off12; dsimp only; rw [word256 ⟨j.val, lt3 i j⟩]
theorem off13_eq (i : grid0.Coords) (j : Fin (k0_t5_loop i).trips) : k0_off13 i j = ![0, 0, 0, 256 * j.val] := by
  unfold k0_off13; dsimp only; rw [word256 ⟨j.val, lt3 i j⟩]

theorem cond1_eq (i : grid0.Coords) : (k0_cond1 i = 1#1) ↔ (i 2).val = 0 := by
  have key : ∀ n : Fin 16, (Scalar.cmpi .ne (Scalar.extui (Scalar.cmpi .eq (BitVec.ofNat 32 n.val) 0#32)) 0#32 = 1#1) ↔ n.val = 0 := by decide +kernel
  exact key (i 2)
theorem cond2_eq (i : grid0.Coords) : (k0_cond2 i = 1#1) ↔ 0 < (i 2).val := by
  have key : ∀ n : Fin 16, (Scalar.cmpi .ne (Scalar.extui (Scalar.cmpi .sgt (BitVec.ofNat 32 n.val) 0#32)) 0#32 = 1#1) ↔ 0 < n.val := by decide +kernel
  exact key (i 2)
theorem cond9_eq (i : grid0.Coords) : (k0_cond9 i = 1#1) ↔ (i 2).val = 15 := by
  have key : ∀ n : Fin 16, (Scalar.cmpi .ne (Scalar.extui (Scalar.cmpi .eq (BitVec.ofNat 32 n.val) 15#32)) 0#32 = 1#1) ↔ n.val = 15 := by decide +kernel
  exact key (i 2)

/-! ## Windows and puts at an index -/

section At
variable {α : Type} {s : Shape}

/-- A window reads at the index moved by its offsets. -/
theorem window_at (x : s.Idx → α) (off size : Fin s.rank → ℕ) (inb : ∀ a, off a + size a ≤ s.size a) (y : (Rect.unit off size inb).shape.Idx) (z : s.Idx)
    (h : ∀ a, (z a).val = off a + (y a).val) : window x off size inb y = x z := by
  refine congrArg x (funext fun a => Fin.ext ?_)
  have e : ((Rect.unit off size inb).emb y a).val = off a + 1 * (y a).val := rfl
  have := h a
  omega

/-- A put reads its payload inside. -/
theorem put_in (x : s.Idx → α) (off size : Fin s.rank → ℕ) (w : ((a : Fin s.rank) → Fin (size a)) → α) (z : s.Idx) (y : (a : Fin s.rank) → Fin (size a))
    (h : ∀ a, (z a).val = off a + (y a).val) : put x off size w z = w y := by
  have hm : ∀ a, off a ≤ (z a).val ∧ (z a).val < off a + size a := fun a => by have := h a; have := (y a).isLt; omega
  show (if h : _ then w (Rect.unitLocal (s := s) (off := off) (size := size) z h) else _) = _
  rw [dif_pos hm]
  exact congrArg w (funext fun a => Fin.ext (by show (z a).val - off a = (y a).val; have := h a; omega))

/-- … and what was there before outside. -/
theorem put_out (x : s.Idx → α) (off size : Fin s.rank → ℕ) (w : ((a : Fin s.rank) → Fin (size a)) → α) (z : s.Idx) (a : Fin s.rank)
    (h : (z a).val < off a ∨ off a + size a ≤ (z a).val) : put x off size w z = x z := by
  have hm : ¬ ∀ a, off a ≤ (z a).val ∧ (z a).val < off a + size a := fun hh => by have := hh a; omega
  exact dif_neg hm

end At

end Cert.KernelIdeal.Gen

end
-- ==== Proof.Math.Exponent.lean ====
module

public import Idealize.ShloMosaic.PureOps.Ideal
public import Idealize.ShloMosaic.Lib.IndicatorCount
public import Idealize.ShloMosaic.Lib.IdealHost
public import Idealize.ShloMosaic.Lib.Pointwise

@[expose] public section

/-
  The exponent of a power-of-two scale, computed two ways: by counting the powers of two that do not exceed a value
  (the kernel), and by the logarithm (the reference).
-/

noncomputable section

namespace Cert.Attn

open Idealize.ShloMosaic

/-- The word `k <<< 23` read as a float: zero, a power of two, or infinity. -/
def wordPow (w : BitVec 32) : EReal := Ideal.ofBits .f32 (IntOp.shli .vector w 23#32)

/-- How many of the 256 words are at most `y`. -/
def countPow (y : EReal) : BitVec 32 :=
  Finset.fold IntOp.addi 0#32 (fun x : Fin 256 => BitVec.setWidth 32 (BitVec.ofBool (decide (wordPow (BitVec.ofNat 32 x.val) ≤ y)))) Finset.univ

/-- The kernel's exponent word of `y`. -/
def expoK (y : EReal) : BitVec 32 :=
  Scalar.select (IntOp.cmpi .eq (IntOp.subi (countPow y) 1#32) 0#32) 0#32 (IntOp.subi (IntOp.subi (countPow y) 1#32) 126#32)

/-- Two to the power of an exponent word. -/
def pow2K (e : BitVec 32) : EReal := wordPow (IntOp.addi e 127#32)

/-- The reference's exponent of `y`. -/
def expo (y : EReal) : EReal :=
  if y < (((2 : ℝ) ^ (-126 : ℤ) : ℝ) : EReal) then 0 else Ideal.liftRound Int.floor (Ideal.div (Ideal.log y) ((Real.log 2 : ℝ) : EReal)) + 1

theorem wordPow_bits : ∀ k : Fin 256,
    (BitVec.extractLsb' (8 + 23) 1 (BitVec.ofNat 32 k.val <<< 23#32) == 1#1) = false
    ∧ (BitVec.extractLsb' 23 8 (BitVec.ofNat 32 k.val <<< 23#32)).toNat = k.val
    ∧ (BitVec.extractLsb' 0 23 (BitVec.ofNat 32 k.val <<< 23#32)).toNat = 0 := by decide +kernel

theorem wordPow_eq (k : Fin 256) : wordPow (BitVec.ofNat 32 k.val) =
    if k.val = 255 then ⊤ else if k.val = 0 then 0 else (((2 : ℝ) ^ ((k.val : ℤ) - 127) : ℝ) : EReal) := by
  obtain ⟨h1, h2, h3⟩ := wordPow_bits k
  have hs : IntOp.shli .vector (BitVec.ofNat 32 k.val) 23#32 = BitVec.ofNat 32 k.val <<< 23#32 := by
    unfold IntOp.shli; rw [if_pos (by decide)]
  have hw : wordPow (BitVec.ofNat 32 k.val) = Ideal.ieee 8 23 (BitVec.ofNat 32 k.val <<< 23#32) := by unfold wordPow; rw [hs]; rfl
  rw [hw]
  unfold Ideal.ieee
  simp only [h1, h2, h3]
  by_cases h255 : k.val = 255
  · rw [if_pos h255, h255, if_pos (by norm_num)]
    rfl
  · rw [if_neg (by norm_num; exact h255), if_neg h255]
    by_cases h0 : k.val = 0
    · simp [h0]
    · rw [if_neg h0, if_neg h0]
      refine congrArg (fun r : ℝ => (r : EReal)) ?_
      have e1 : ((2 ^ 23 + 0 : ℕ) : ℝ) = (2 : ℝ) ^ (23 : ℤ) := by norm_num
      have e2 : (2 : ℝ) ^ ((k.val : ℤ) - 127) = (2 : ℝ) ^ (23 : ℤ) * (2 : ℝ) ^ ((k.val : ℤ) - 127 - 23) := by
        rw [← zpow_add₀ (two_ne_zero' ℝ)]
        refine congrArg (fun z : ℤ => (2 : ℝ) ^ z) ?_
        ring
      rw [e1, e2, if_neg (by simp), one_mul]
      rfl

/-- The count where exactly the words up to `M` qualify. -/
theorem countPow_of (y : EReal) (M : ℕ) (hM : M < 256) (h : ∀ k : Fin 256, wordPow (BitVec.ofNat 32 k.val) ≤ y ↔ k.val ≤ M) :
    countPow y = BitVec.ofNat 32 (M + 1) := by
  unfold countPow
  rw [IndicatorCount.fold_addi_setWidth_eq_card]
  congr 1
  have : (Finset.univ.filter fun k : Fin 256 => BitVec.ofBool (decide (wordPow (BitVec.ofNat 32 k.val) ≤ y)) = 1#1) = Finset.Iic (⟨M, hM⟩ : Fin 256) := by
    ext k
    simp only [Finset.mem_filter, Finset.mem_univ, true_and, Finset.mem_Iic, Fin.le_def]
    rw [← h k]
    by_cases hk : wordPow (BitVec.ofNat 32 k.val) ≤ y <;> simp [hk]
  rw [this, Fin.card_Iic]

theorem pow2K_words : ∀ M : Fin 254,
    IntOp.addi (Scalar.select (IntOp.cmpi .eq (IntOp.subi (BitVec.ofNat 32 (M.val + 1)) 1#32) 0#32) 0#32 (IntOp.subi (IntOp.subi (BitVec.ofNat 32 (M.val + 1)) 1#32) 126#32)) 127#32
      = BitVec.ofNat 32 (if M.val = 0 then 127 else M.val + 1)
    ∧ IntOp.addi (IntOp.subi 0#32 (Scalar.select (IntOp.cmpi .eq (IntOp.subi (BitVec.ofNat 32 (M.val + 1)) 1#32) 0#32) 0#32 (IntOp.subi (IntOp.subi (BitVec.ofNat 32 (M.val + 1)) 1#32) 126#32))) 127#32
      = BitVec.ofNat 32 (if M.val = 0 then 127 else 253 - M.val) := by decide +kernel

/-- The two powers where exactly the words up to `M` qualify. -/
theorem pow2K_of (y : EReal) (M : ℕ) (hM : M < 253) (h : ∀ k : Fin 256, wordPow (BitVec.ofNat 32 k.val) ≤ y ↔ k.val ≤ M) :
    pow2K (expoK y) = (((2 : ℝ) ^ (if M = 0 then (0 : ℤ) else (M : ℤ) - 126) : ℝ) : EReal)
    ∧ pow2K (IntOp.subi 0#32 (expoK y)) = (((2 : ℝ) ^ (if M = 0 then (0 : ℤ) else 126 - (M : ℤ)) : ℝ) : EReal) := by
  obtain ⟨h1, h2⟩ := pow2K_words ⟨M, by omega⟩
  dsimp only at h1 h2
  unfold pow2K expoK
  rw [countPow_of y M (by omega) h, h1, h2]
  constructor
  · by_cases hz : M = 0
    · rw [if_pos hz, if_pos hz]
      have := wordPow_eq (⟨127, by omega⟩ : Fin 256)
      dsimp only at this
      rw [this]; norm_num
    · rw [if_neg hz, if_neg hz]
      have := wordPow_eq (⟨M + 1, by omega⟩ : Fin 256)
      dsimp only at this
      rw [this, if_neg (by omega), if_neg (by omega)]
      congr 2; push_cast; ring
  · by_cases hz : M = 0
    · rw [if_pos hz, if_pos hz]
      have := wordPow_eq (⟨127, by omega⟩ : Fin 256)
      dsimp only at this
      rw [this]; norm_num
    · rw [if_neg hz, if_neg hz]
      have := wordPow_eq (⟨253 - M, by omega⟩ : Fin 256)
      dsimp only at this
      rw [this, if_neg (by omega), if_neg (by omega)]
      congr 2
      have : ((253 - M : ℕ) : ℤ) = 253 - (M : ℤ) := by omega
      rw [this]; ring

/-- Below `2^126` the kernel's exponent and the reference's are the same integer `n`, and the value is below `2^n`. -/
theorem expo_spec (y : EReal) (h0 : 0 ≤ y) (h1 : y < (((2 : ℝ) ^ (126 : ℤ) : ℝ) : EReal)) :
    ∃ n : ℤ, expo y = ((n : ℝ) : EReal) ∧ pow2K (expoK y) = (((2 : ℝ) ^ n : ℝ) : EReal) ∧ pow2K (IntOp.subi 0#32 (expoK y)) = (((2 : ℝ) ^ (-n) : ℝ) : EReal)
      ∧ y < (((2 : ℝ) ^ n : ℝ) : EReal) := by
  lift y to ℝ using ⟨(h1.trans (EReal.coe_lt_top _)).ne, fun h => by rw [h] at h0; simp at h0⟩
  rw [EReal.coe_lt_coe_iff] at h1
  rw [EReal.coe_nonneg] at h0
  by_cases hs : y < (2 : ℝ) ^ (-126 : ℤ)
  · refine ⟨0, ?_, ?_⟩
    · unfold expo
      rw [if_pos (EReal.coe_lt_coe_iff.2 hs)]; simp
    · have := pow2K_of (y : EReal) 0 (by omega) (fun k => ?_)
      · rw [this.1, this.2]
        refine ⟨by simp, by simp, ?_⟩
        rw [EReal.coe_lt_coe_iff]
        refine hs.trans_le ?_
        rw [zpow_zero]
        exact zpow_le_one_of_nonpos₀ (by norm_num) (by norm_num)
      · rw [wordPow_eq]
        by_cases h255 : k.val = 255
        · simp [h255]
        · by_cases hk : k.val = 0
          · simp [hk, h0]
          · rw [if_neg h255, if_neg hk, EReal.coe_le_coe_iff]
            constructor
            · intro h
              exfalso
              have : (2 : ℝ) ^ (-126 : ℤ) ≤ (2 : ℝ) ^ ((k.val : ℤ) - 127) := zpow_le_zpow_right₀ (by norm_num) (by omega)
              linarith
            · omega
  · push Not at hs
    have hpos : 0 < y := lt_of_lt_of_le (by positivity) hs
    obtain ⟨n, hle, hlt⟩ := exists_mem_Ico_zpow (y := (2 : ℝ)) hpos (by norm_num)
    have hn1 : -126 ≤ n := by
      by_contra h
      have : (2 : ℝ) ^ (n + 1) ≤ (2 : ℝ) ^ (-126 : ℤ) := zpow_le_zpow_right₀ (by norm_num) (by omega)
      linarith
    have hn2 : n < 126 := by
      by_contra h
      have : (2 : ℝ) ^ (126 : ℤ) ≤ (2 : ℝ) ^ n := zpow_le_zpow_right₀ (by norm_num) (by omega)
      linarith
    obtain ⟨M, hM⟩ : ∃ M : ℕ, (M : ℤ) = n + 127 := ⟨(n + 127).toNat, by omega⟩
    refine ⟨n + 1, ?_, ?_⟩
    · unfold expo
      rw [if_neg (by rw [EReal.coe_lt_coe_iff]; linarith)]
      have hl2 : 0 < Real.log 2 := Real.log_pos (by norm_num)
      have : Ideal.log (y : EReal) = ((Real.log y : ℝ) : EReal) := by
        show (if y ≤ 0 then ⊥ else (Real.log y : EReal)) = _
        rw [if_neg (by linarith)]
      rw [this]
      unfold Ideal.div
      rw [if_neg (by exact_mod_cast hl2.ne'), ← EReal.coe_inv, ← EReal.coe_mul]
      show ((⌊Real.log y * (Real.log 2)⁻¹⌋ : ℝ) : EReal) + 1 = _
      have hf : ⌊Real.log y * (Real.log 2)⁻¹⌋ = n := by
        rw [Int.floor_eq_iff, ← div_eq_mul_inv]
        constructor
        · rw [le_div_iff₀ hl2, ← Real.log_zpow]
          exact Real.log_le_log (by positivity) hle
        · rw [div_lt_iff₀ hl2]
          have := Real.log_lt_log hpos hlt
          rw [Real.log_zpow] at this
          push_cast at this
          exact this
      rw [hf]; push_cast; rfl
    · have := pow2K_of (y : EReal) M (by omega) (fun k => ?_)
      · rw [this.1, this.2, if_neg (by omega), if_neg (by omega)]
        refine ⟨by congr 2; omega, by congr 2; omega, by rw [EReal.coe_lt_coe_iff]; exact hlt⟩
      · rw [wordPow_eq]
        by_cases h255 : k.val = 255
        · simp only [h255, if_true, top_le_iff, EReal.coe_ne_top, false_iff]; omega
        · by_cases hk : k.val = 0
          · simp [hk, h0]
          · rw [if_neg h255, if_neg hk, EReal.coe_le_coe_iff]
            constructor
            · intro h
              by_contra hc
              have : (2 : ℝ) ^ (n + 1) ≤ (2 : ℝ) ^ ((k.val : ℤ) - 127) := zpow_le_zpow_right₀ (by norm_num) (by omega)
              linarith
            · intro h
              have : (2 : ℝ) ^ ((k.val : ℤ) - 127) ≤ (2 : ℝ) ^ n := zpow_le_zpow_right₀ (by norm_num) (by omega)
              linarith

theorem exp2_int (n : ℤ) : Ideal.exp2 ((n : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem exp2_neg_int (n : ℤ) : Ideal.exp2 (0 - ((n : ℝ) : EReal)) = (((2 : ℝ) ^ (-n) : ℝ) : EReal) := by
  rw [zero_sub, ← EReal.coe_neg, ← exp2_int]; push_cast; rfl

end Cert.Attn

end
-- ==== Proof.Math.Row.lean ====
module

public import proofs.«01_k».proof.Proof.Math.Exponent

@[expose] public section

/-
  One row of the attention, over the extended reals: the kernel's arithmetic against the reference's. A row has a query
  position `p`, a score per key, a value per key and one scale.
-/

noncomputable section

namespace Cert.Attn

open Idealize.ShloMosaic

/-- The reciprocal of 448 in single precision. -/
def c448 : EReal := Ideal.ofBits .f32 991054117#32

theorem c448_eq : c448 = (((9586981 : ℝ) / 4294967296 : ℝ) : EReal) := by
  unfold c448
  simp [Ideal.ofBits, Ideal.ieee, -EReal.coe_mul]; norm_num

/-- The clipping to the codes' range. -/
def clip (y : EReal) : EReal := min ((448 : ℝ) : EReal) (max ((-448 : ℝ) : EReal) y)

theorem clip_coe (y : ℝ) (h1 : -448 ≤ y) (h2 : y ≤ 448) : clip (y : EReal) = (y : EReal) := by
  unfold clip
  rw [max_eq_right (EReal.coe_le_coe_iff.2 h1), min_eq_right (EReal.coe_le_coe_iff.2 h2)]

theorem clip_zero : clip 0 = 0 := by
  have := clip_coe 0 (by norm_num) (by norm_num); simpa using this

/-- The magnitude. -/
def mag (y : EReal) : EReal := max y (-y)

theorem mag_nonneg (y : EReal) : 0 ≤ mag y := by
  unfold mag
  rcases le_total 0 y with h | h
  · exact le_max_of_le_left h
  · exact le_max_of_le_right (EReal.neg_nonneg.2 h)

theorem mag_coe (y : ℝ) : mag (y : EReal) = ((|y| : ℝ) : EReal) := by
  unfold mag
  rw [← EReal.coe_neg]
  exact (EReal.coe_strictMono.monotone.map_max).symm

theorem mag_zero : mag 0 = 0 := by simp [mag]

theorem neg_le_zero' {y : EReal} (h : 0 ≤ y) : -y ≤ 0 := by have := EReal.neg_le_neg_iff.2 h; simpa using this

theorem mag_mul_nonneg (y f : EReal) (hf : 0 ≤ f) : mag (y * f) = mag y * f := by
  unfold mag
  rcases le_total 0 y with h | h
  · rw [max_eq_left (le_trans (neg_le_zero' h) h), max_eq_left]
    have : 0 ≤ y * f := mul_nonneg h hf
    exact le_trans (neg_le_zero' this) this
  · rw [max_eq_right (le_trans h (EReal.neg_nonneg.2 h)), max_eq_right, EReal.neg_mul]
    have : 0 ≤ (-y) * f := mul_nonneg (EReal.neg_nonneg.2 h) hf
    rw [EReal.neg_mul] at this
    exact le_trans (EReal.neg_nonneg.1 this) this

/-- The scores up to the query's own position. -/
def mask (p : ℕ) (s : ℕ → EReal) (k : ℕ) : EReal := if k ≤ p then s k else ⊥

/-! ## The kernel's row -/

def kM (N p : ℕ) (t : ℕ → EReal) : EReal := (Finset.range N).sup (mask p t)
def kE (N p : ℕ) (t : ℕ → EReal) (k : ℕ) : EReal := Ideal.exp2 (mask p t k - kM N p t)
def kL (N p : ℕ) (t : ℕ → EReal) : EReal := ∑ k ∈ Finset.range N, kE N p t k
def kI (l : EReal) : EReal := Ideal.div 1 l
def kX (l : EReal) : BitVec 32 := expoK (kI l * c448)
def kC (l : EReal) : EReal := clip (kI l * pow2K (IntOp.subi 0#32 (kX l)))
def kO (N p : ℕ) (t v : ℕ → EReal) : EReal := ∑ k ∈ Finset.range N, v k * (kE N p t k * kC (kL N p t))
def kF (l vs : EReal) : EReal := pow2K (kX l) * vs
def kA (l vs : EReal) (o : ℕ → EReal) : EReal := (Finset.range 160).sup (fun d => mag (o d)) * kF l vs
def kOS (a : EReal) : EReal := pow2K (expoK (a * c448))
def kOC (l vs a o : EReal) : EReal := clip (o * (kF l vs * pow2K (IntOp.subi 0#32 (expoK (a * c448)))))

/-! ## The reference's row -/

def rM (p : ℕ) (s : ℕ → EReal) : EReal := (Finset.range 4096).sup (mask p s)
def rE (p : ℕ) (s : ℕ → EReal) (k : ℕ) : EReal := Ideal.exp (mask p s k - rM p s)
def rL (p : ℕ) (s : ℕ → EReal) : EReal := ∑ k ∈ Finset.range 4096, rE p s k
def rP (p : ℕ) (s : ℕ → EReal) (k : ℕ) : EReal := Ideal.div (rE p s k) (rL p s)
def rA (p : ℕ) (s : ℕ → EReal) : EReal := (Finset.range 4096).sup (fun k => mag (rP p s k))
def rX (p : ℕ) (s : ℕ → EReal) : EReal := expo (rA p s * c448)
def rC (p : ℕ) (s : ℕ → EReal) (k : ℕ) : EReal := clip (rP p s k * Ideal.exp2 (0 - rX p s))
def rO (p : ℕ) (s v : ℕ → EReal) (vs : EReal) : EReal := (∑ k ∈ Finset.range 4096, rC p s k * v k) * Ideal.exp2 (rX p s) * vs
def rOA (o : ℕ → EReal) : EReal := (Finset.range 160).sup (fun d => mag (o d))
def rOS (a : EReal) : EReal := Ideal.exp2 (expo (a * c448))
def rOC (a o : EReal) : EReal := clip (o * Ideal.exp2 (0 - expo (a * c448)))

/-! ## The exponentials agree -/

theorem inv_log2_pos : 0 < (Real.log 2)⁻¹ := inv_pos.2 (Real.log_pos (by norm_num))

theorem exp2_mul (z : EReal) : Ideal.exp2 (z * (((Real.log 2)⁻¹ : ℝ) : EReal)) = Ideal.exp z := by
  induction z with
  | bot => rw [EReal.bot_mul_coe_of_pos inv_log2_pos]; rfl
  | top => rw [EReal.top_mul_coe_of_pos inv_log2_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have := (Real.log_pos (show (1 : ℝ) < 2 by norm_num)).ne'
    field_simp

theorem sub_mul_coe (x y : EReal) {r : ℝ} (hr : 0 < r) : (x - y) * (r : EReal) = x * r - y * r := by
  rw [sub_eq_add_neg, EReal.right_distrib_of_nonneg_of_ne_top (EReal.coe_nonneg.2 hr.le) (EReal.coe_ne_top r), EReal.neg_mul, ← sub_eq_add_neg]

theorem sup_mul_coe (N : ℕ) (f : ℕ → EReal) {r : ℝ} (hr : 0 < r) : (Finset.range N).sup (fun k => f k * (r : EReal)) = (Finset.range N).sup f * r := by
  have := Finset.comp_sup_eq_sup_comp_of_is_total (s := Finset.range N) (f := f) (fun x : EReal => x * (r : EReal))
    (fun x y h => mul_le_mul_of_nonneg_right h (EReal.coe_nonneg.2 hr.le)) (EReal.bot_mul_coe_of_pos hr)
  exact this.symm

theorem mask_mul (p : ℕ) (s : ℕ → EReal) {r : ℝ} (hr : 0 < r) : mask p (fun k => s k * (r : EReal)) = fun k => mask p s k * r := by
  funext k
  unfold mask
  by_cases h : k ≤ p
  · rw [if_pos h, if_pos h]
  · rw [if_neg h, if_neg h, EReal.bot_mul_coe_of_pos hr]

theorem rM_eq (N p : ℕ) (s : ℕ → EReal) (hp : p < N) (hN : N ≤ 4096) : rM p s = (Finset.range N).sup (mask p s) := by
  apply le_antisymm
  · refine Finset.sup_le fun k _ => ?_
    by_cases h : k < N
    · exact Finset.le_sup (f := mask p s) (Finset.mem_range.2 h)
    · unfold mask; rw [if_neg (by omega)]; exact bot_le
  · exact Finset.sup_mono (Finset.range_subset_range.2 hN)

variable {N p : ℕ} {s t v : ℕ → EReal} {vs : EReal}

theorem kE_eq (hp : p < N) (hN : N ≤ 4096) (ht : t = fun k => s k * (((Real.log 2)⁻¹ : ℝ) : EReal)) : kE N p t = rE p s := by
  funext k
  unfold kE rE kM
  rw [ht, mask_mul p s inv_log2_pos, sup_mul_coe N _ inv_log2_pos, ← rM_eq N p s hp hN, ← sub_mul_coe _ _ inv_log2_pos, exp2_mul]

theorem rE_zero {k : ℕ} (hk : p < k) : rE p s k = 0 := by
  unfold rE mask
  rw [if_neg (by omega), EReal.bot_sub]; rfl

theorem sum_range_eq (f : ℕ → EReal) (hN : N ≤ 4096) (h : ∀ k < 4096, N ≤ k → f k = 0) : ∑ k ∈ Finset.range 4096, f k = ∑ k ∈ Finset.range N, f k := by
  symm
  refine Finset.sum_subset (Finset.range_subset_range.2 hN) fun k hk4 hk => h k (Finset.mem_range.1 hk4) ?_
  simpa using hk

theorem kL_eq (hp : p < N) (hN : N ≤ 4096) (ht : t = fun k => s k * (((Real.log 2)⁻¹ : ℝ) : EReal)) : kL N p t = rL p s := by
  unfold kL rL
  rw [kE_eq hp hN ht, sum_range_eq _ hN fun k _ hk => rE_zero (by omega)]

theorem coe_sum (S : Finset ℕ) (f : ℕ → ℝ) : ((∑ k ∈ S, f k : ℝ) : EReal) = ∑ k ∈ S, (f k : EReal) := by
  induction S using Finset.cons_induction with
  | empty => simp
  | cons a S h ih => rw [Finset.sum_cons, Finset.sum_cons, EReal.coe_add, ih]

/-- Either every exponential is zero, or they are reals between zero and one and one of them is one. -/
theorem rE_cases (p : ℕ) (s : ℕ → EReal) : (∀ k < 4096, rE p s k = 0) ∨
    ∃ e : ℕ → ℝ, (∀ k < 4096, rE p s k = (e k : EReal) ∧ 0 ≤ e k ∧ e k ≤ 1) ∧ ∃ k < 4096, e k = 1 := by
  have hle : ∀ k < 4096, mask p s k ≤ rM p s := fun k hk => Finset.le_sup (f := mask p s) (Finset.mem_range.2 hk)
  obtain ⟨k0, hk0, he⟩ := Finset.exists_mem_eq_sup (Finset.range 4096) ⟨0, by simp⟩ (mask p s)
  change rM p s = mask p s k0 at he
  unfold rE
  generalize rM p s = M at hle he
  induction M with
  | bot =>
    left; intro k hk
    rw [le_bot_iff.1 (hle k hk), EReal.bot_sub]; rfl
  | top =>
    left; intro k hk
    rw [sub_eq_add_neg, EReal.neg_top, EReal.add_bot]; rfl
  | coe M =>
    right
    have key : ∀ k < 4096, ∃ e : ℝ, Ideal.exp (mask p s k - (M : EReal)) = (e : EReal) ∧ 0 ≤ e ∧ e ≤ 1 := by
      intro k hk
      have := hle k hk
      generalize mask p s k = x at this
      induction x with
      | bot => exact ⟨0, by rw [EReal.bot_sub]; rfl, le_refl _, zero_le_one⟩
      | top => exact absurd (top_le_iff.1 this) (EReal.coe_ne_top M)
      | coe x =>
        refine ⟨Real.exp (x - M), by rw [← EReal.coe_sub]; rfl, (Real.exp_pos _).le, ?_⟩
        rw [Real.exp_le_one_iff]
        have := EReal.coe_le_coe_iff.1 this
        linarith
    refine ⟨fun k => (Ideal.exp (mask p s k - (M : EReal))).toReal, fun k hk => ?_, k0, Finset.mem_range.1 hk0, ?_⟩
    · obtain ⟨e, h1, h2, h3⟩ := key k hk
      dsimp only
      rw [h1]; exact ⟨rfl, h2, h3⟩
    · show (Ideal.exp (mask p s k0 - (M : EReal))).toReal = 1
      rw [← he, ← EReal.coe_sub, sub_self]
      show (((Real.exp 0 : ℝ) : EReal)).toReal = 1
      rw [EReal.toReal_coe, Real.exp_zero]

/-- With every exponential zero, every product is zero. -/
theorem rO_degenerate (h : ∀ k < 4096, rE p s k = 0) (v : ℕ → EReal) (vs : EReal) : rO p s v vs = 0 := by
  have hL : rL p s = 0 := Finset.sum_eq_zero fun k hk => h k (Finset.mem_range.1 hk)
  have hP : ∀ k < 4096, rP p s k = ⊥ := fun k hk => by
    unfold rP Ideal.div; rw [hL, h k hk]; simp
  have hA : rA p s = ⊤ := by
    refine top_le_iff.1 ?_
    have := Finset.le_sup (f := fun k => mag (rP p s k)) (Finset.mem_range.2 (show 0 < 4096 by norm_num))
    refine le_trans ?_ this
    simp [hP 0 (by norm_num), mag]
  have hX : rX p s = ⊤ := by
    unfold rX
    rw [hA, c448_eq, EReal.top_mul_coe_of_pos (by norm_num)]
    unfold expo
    rw [if_neg (by simp)]
    have hl2 : 0 < Real.log 2 := Real.log_pos (by norm_num)
    have : Ideal.div (Ideal.log ⊤) ((Real.log 2 : ℝ) : EReal) = ⊤ := by
      unfold Ideal.div
      rw [if_neg (by exact_mod_cast hl2.ne'), ← EReal.coe_inv]
      show ⊤ * _ = _
      rw [EReal.top_mul_coe_of_pos inv_log2_pos]
    rw [this]; rfl
  have hC : ∀ k < 4096, rC p s k = 0 := fun k hk => by
    unfold rC
    rw [hX]
    have : Ideal.exp2 (0 - ⊤) = 0 := by
      rw [zero_sub, EReal.neg_top]; rfl
    rw [this, mul_zero, clip_zero]
  unfold rO
  rw [Finset.sum_eq_zero (fun k hk => by rw [hC k (Finset.mem_range.1 hk), zero_mul]), zero_mul, zero_mul]

/-- The facts of a row with an exponential that is one. -/
theorem row_real {e : ℕ → ℝ} (he : ∀ k < 4096, rE p s k = (e k : EReal) ∧ 0 ≤ e k ∧ e k ≤ 1) (h1 : ∃ k < 4096, e k = 1) :
    ∃ (i : ℝ) (n : ℤ), 0 < i ∧ kI (rL p s) = (i : EReal) ∧ pow2K (kX (rL p s)) = (((2 : ℝ) ^ n : ℝ) : EReal) ∧ Ideal.exp2 (rX p s) = (((2 : ℝ) ^ n : ℝ) : EReal)
      ∧ kC (rL p s) = ((i * (2 : ℝ) ^ (-n) : ℝ) : EReal) ∧ (∀ k < 4096, rC p s k = ((e k * i * (2 : ℝ) ^ (-n) : ℝ) : EReal))
      ∧ i * ∑ k ∈ Finset.range 4096, e k = 1 := by
  obtain ⟨k0, hk0, h1⟩ := h1
  set l : ℝ := ∑ k ∈ Finset.range 4096, e k with hl
  have hL : rL p s = (l : EReal) := by
    unfold rL; rw [hl, coe_sum]; exact Finset.sum_congr rfl fun k hk => (he k (Finset.mem_range.1 hk)).1
  have hl1 : 1 ≤ l := by
    rw [hl, ← h1]
    exact Finset.single_le_sum (f := e) (fun k hk => (he k (Finset.mem_range.1 hk)).2.1) (Finset.mem_range.2 hk0)
  have hl0 : 0 < l := by linarith
  have hI : kI (rL p s) = ((l⁻¹ : ℝ) : EReal) := by
    unfold kI Ideal.div
    rw [hL, if_neg (by exact_mod_cast hl0.ne'), one_mul, EReal.coe_inv]
  have hP : ∀ k < 4096, rP p s k = ((e k * l⁻¹ : ℝ) : EReal) := fun k hk => by
    unfold rP Ideal.div
    rw [hL, if_neg (by exact_mod_cast hl0.ne'), (he k hk).1, ← EReal.coe_inv, ← EReal.coe_mul]
  have hi0 : 0 < l⁻¹ := inv_pos.2 hl0
  have hi1 : l⁻¹ ≤ 1 := inv_le_one_of_one_le₀ hl1
  have hA : rA p s = ((l⁻¹ : ℝ) : EReal) := by
    apply le_antisymm
    · refine Finset.sup_le fun k hk => ?_
      have hk := Finset.mem_range.1 hk
      rw [hP k hk, mag_coe, EReal.coe_le_coe_iff, abs_of_nonneg (mul_nonneg (he k hk).2.1 hi0.le)]
      exact mul_le_of_le_one_left hi0.le (he k hk).2.2
    · have := Finset.le_sup (f := fun k => mag (rP p s k)) (Finset.mem_range.2 hk0)
      refine le_trans (le_of_eq ?_) this
      show _ = mag (rP p s k0)
      rw [hP k0 hk0, mag_coe, h1, one_mul, abs_of_pos hi0]
  obtain ⟨n, n1, n2, n3, n4⟩ := expo_spec (((l⁻¹ : ℝ) : EReal) * c448) (by rw [c448_eq, ← EReal.coe_mul, EReal.coe_nonneg]; positivity)
    (by
      rw [c448_eq, ← EReal.coe_mul, EReal.coe_lt_coe_iff]
      have : (1 : ℝ) ≤ (2 : ℝ) ^ (126 : ℤ) := one_le_zpow₀ (by norm_num) (by norm_num)
      have : l⁻¹ * (9586981 / 4294967296) ≤ 1 * (9586981 / 4294967296) := mul_le_mul_of_nonneg_right hi1 (by norm_num)
      linarith)
  rw [c448_eq, ← EReal.coe_mul, EReal.coe_lt_coe_iff] at n4
  have h2n : (0 : ℝ) < (2 : ℝ) ^ n := by positivity
  have hclip : l⁻¹ * (2 : ℝ) ^ (-n) ≤ 448 := by
    rw [zpow_neg, ← div_eq_mul_inv, div_le_iff₀ h2n]
    linarith
  have h2m : (0 : ℝ) < (2 : ℝ) ^ (-n) := by positivity
  refine ⟨l⁻¹, n, hi0, hI, ?_, ?_, ?_, ?_, inv_mul_cancel₀ hl0.ne'⟩
  · unfold kX; rw [hI]; exact n2
  · unfold rX; rw [hA, n1, exp2_int]
  · unfold kC kX
    rw [hI, n3, ← EReal.coe_mul, clip_coe _ (by have := mul_pos hi0 h2m; linarith) hclip]
  · intro k hk
    unfold rC rX
    rw [hA, n1, exp2_neg_int, hP k hk, ← EReal.coe_mul]
    have ha := mul_nonneg (he k hk).2.1 (mul_pos hi0 h2m).le
    have hb : e k * (l⁻¹ * (2 : ℝ) ^ (-n)) ≤ l⁻¹ * (2 : ℝ) ^ (-n) := mul_le_of_le_one_left (mul_pos hi0 h2m).le (he k hk).2.2
    rw [clip_coe]
    · rw [mul_assoc]; linarith
    · rw [mul_assoc]; linarith

/-- The kernel's output times its factor is the reference's output. -/
theorem row_out (hp : p < N) (hN : N ≤ 4096) (ht : t = fun k => s k * (((Real.log 2)⁻¹ : ℝ) : EReal)) :
    (kO N p t v * kF (kL N p t) vs = rO p s v vs) := by
  unfold kO
  rw [kL_eq hp hN ht, kE_eq hp hN ht]
  rcases rE_cases p s with h | ⟨e, he, h1⟩
  · rw [rO_degenerate h, Finset.sum_eq_zero, zero_mul]
    intro k hk
    rw [h k (by have := Finset.mem_range.1 hk; omega), zero_mul, mul_zero]
  · obtain ⟨i, n, -, -, hx, hX, hC, hc, -⟩ := row_real he h1
    unfold rO kF
    rw [hx, hX, hC, mul_assoc, sum_range_eq (N := N) _ hN]
    · congr 1
      refine Finset.sum_congr rfl fun k hk => ?_
      have hk : k < 4096 := by have := Finset.mem_range.1 hk; omega
      rw [hc k hk, (he k hk).1, ← EReal.coe_mul, mul_comm, mul_assoc]
    · intro k h4 hk
      have : (e k : EReal) = 0 := by rw [← (he k h4).1]; exact rE_zero (by omega)
      have : e k = 0 := by exact_mod_cast this
      rw [hc k h4, this]; simp

/-- With values of at most 448 the output is at most 448 scales. -/
theorem row_bound (hv : ∀ k < 4096, mag (v k) ≤ ((448 : ℝ) : EReal)) (h0 : 0 ≤ vs) (h1 : vs ≤ (((2 : ℝ) ^ (120 : ℤ) : ℝ) : EReal)) :
    mag (rO p s v vs) ≤ ((448 * (2 : ℝ) ^ (120 : ℤ) : ℝ) : EReal) := by
  rcases rE_cases p s with h | ⟨e, he, he1⟩
  · rw [rO_degenerate h, mag_zero, EReal.coe_nonneg]; positivity
  · obtain ⟨i, n, hi, -, -, hX, -, hc, hs⟩ := row_real he he1
    lift vs to ℝ using ⟨(h1.trans_lt (EReal.coe_lt_top _)).ne, fun h => by rw [h] at h0; simp at h0⟩
    rw [EReal.coe_nonneg] at h0
    rw [EReal.coe_le_coe_iff] at h1
    have hw : ∀ k < 4096, ∃ w : ℝ, v k = (w : EReal) ∧ |w| ≤ 448 := by
      intro k hk
      have := hv k hk
      generalize v k = x at this
      induction x with
      | bot => simp [mag] at this
      | top => simp [mag] at this
      | coe w => rw [mag_coe, EReal.coe_le_coe_iff] at this; exact ⟨w, rfl, this⟩
    have hw' : ∀ k < 4096, v k = ((v k).toReal : EReal) ∧ |(v k).toReal| ≤ 448 := by
      intro k hk
      obtain ⟨w, h1, h2⟩ := hw k hk
      rw [h1, EReal.toReal_coe]; exact ⟨rfl, h2⟩
    have hsum : ∑ k ∈ Finset.range 4096, rC p s k * v k = ((∑ k ∈ Finset.range 4096, e k * i * (2 : ℝ) ^ (-n) * (v k).toReal : ℝ) : EReal) := by
      rw [coe_sum]
      refine Finset.sum_congr rfl fun k hk => ?_
      have hk := Finset.mem_range.1 hk
      rw [hc k hk, (hw' k hk).1, ← EReal.coe_mul, EReal.toReal_coe]
    unfold rO
    rw [hsum, hX, ← EReal.coe_mul, ← EReal.coe_mul, mag_coe, EReal.coe_le_coe_iff, abs_mul, abs_mul, abs_of_nonneg h0]
    have h2n : (0 : ℝ) < (2 : ℝ) ^ n := by positivity
    have h2m : (0 : ℝ) < (2 : ℝ) ^ (-n) := by positivity
    have hb : |∑ k ∈ Finset.range 4096, e k * i * (2 : ℝ) ^ (-n) * (v k).toReal| ≤ 448 * (2 : ℝ) ^ (-n) := by
      calc |∑ k ∈ Finset.range 4096, e k * i * (2 : ℝ) ^ (-n) * (v k).toReal|
          ≤ ∑ k ∈ Finset.range 4096, |e k * i * (2 : ℝ) ^ (-n) * (v k).toReal| := Finset.abs_sum_le_sum_abs _ _
        _ ≤ ∑ k ∈ Finset.range 4096, e k * (i * (2 : ℝ) ^ (-n) * 448) := by
            refine Finset.sum_le_sum fun k hk => ?_
            have hk := Finset.mem_range.1 hk
            rw [abs_mul, abs_of_nonneg (mul_nonneg (mul_nonneg (he k hk).2.1 hi.le) h2m.le)]
            have := mul_le_mul_of_nonneg_left (hw' k hk).2 (mul_nonneg (mul_nonneg (he k hk).2.1 hi.le) h2m.le)
            linarith
        _ = 448 * (2 : ℝ) ^ (-n) := by
            rw [← Finset.sum_mul]
            calc _ = (i * ∑ k ∈ Finset.range 4096, e k) * (2 : ℝ) ^ (-n) * 448 := by ring
              _ = _ := by rw [hs]; ring
    rw [abs_of_pos h2n]
    have hone : (2 : ℝ) ^ (-n) * (2 : ℝ) ^ n = 1 := by rw [zpow_neg]; exact inv_mul_cancel₀ h2n.ne'
    have hb2 : |∑ k ∈ Finset.range 4096, e k * i * (2 : ℝ) ^ (-n) * (v k).toReal| * (2 : ℝ) ^ n ≤ 448 := by
      have := mul_le_mul_of_nonneg_right hb h2n.le
      rw [mul_assoc, hone, mul_one] at this
      exact this
    exact mul_le_mul hb2 h1 h0 (by norm_num)

/-- The kernel's maximum of a row is the reference's. -/
theorem row_amax (hp : p < N) (hN : N ≤ 4096) (ht : t = fun k => s k * (((Real.log 2)⁻¹ : ℝ) : EReal)) (h0 : 0 ≤ vs) (w : ℕ → ℕ → EReal) :
    kA (kL N p t) vs (fun d => kO N p t (w d)) = rOA (fun d => rO p s (w d) vs) := by
  unfold kA rOA
  have hout : ∀ d, kO N p t (w d) * kF (kL N p t) vs = rO p s (w d) vs := fun d => row_out hp hN ht
  rcases rE_cases p s with h | ⟨e, he, he1⟩
  · have hz : ∀ d, kO N p t (w d) = 0 := fun d => by
      unfold kO
      rw [kE_eq hp hN ht]
      refine Finset.sum_eq_zero fun k hk => ?_
      rw [h k (by have := Finset.mem_range.1 hk; omega), zero_mul, mul_zero]
    simp only [hz, rO_degenerate h, mag_zero]
    rw [Finset.sup_const ⟨0, by simp⟩, zero_mul]
  · obtain ⟨i, n, -, -, hx, -⟩ := row_real he he1
    have hF : 0 ≤ kF (kL N p t) vs := by
      unfold kF
      rw [kL_eq hp hN ht, hx]
      exact mul_nonneg (EReal.coe_nonneg.2 (by positivity)) h0
    simp only [← hout, mag_mul_nonneg _ _ hF]
    obtain ⟨d0, hd0, he0⟩ := Finset.exists_mem_eq_sup (Finset.range 160) ⟨0, by simp⟩ (fun d => mag (kO N p t (w d)))
    apply le_antisymm
    · rw [he0]
      exact Finset.le_sup (f := fun d => mag (kO N p t (w d)) * kF (kL N p t) vs) hd0
    · exact Finset.sup_le fun d hd => mul_le_mul_of_nonneg_right (Finset.le_sup (f := fun d => mag (kO N p t (w d))) hd) hF

/-- A magnitude up to `448 * 2^120` is in the exponent's range. -/
theorem scaled_lt {a : EReal} (h : a ≤ ((448 * (2 : ℝ) ^ (120 : ℤ) : ℝ) : EReal)) : a * c448 < (((2 : ℝ) ^ (126 : ℤ) : ℝ) : EReal) := by
  have hc : (0 : EReal) ≤ c448 := by rw [c448_eq, EReal.coe_nonneg]; norm_num
  refine lt_of_le_of_lt (mul_le_mul_of_nonneg_right h hc) ?_
  rw [c448_eq, ← EReal.coe_mul, EReal.coe_lt_coe_iff]
  norm_num

theorem scaled_nonneg {a : EReal} (h : 0 ≤ a) : 0 ≤ a * c448 :=
  mul_nonneg h (by rw [c448_eq, EReal.coe_nonneg]; norm_num)

/-- The kernel's scale of a magnitude is the reference's, and so is its reciprocal. -/
theorem scale_eq {a : EReal} (h0 : 0 ≤ a) (h1 : a ≤ ((448 * (2 : ℝ) ^ (120 : ℤ) : ℝ) : EReal)) :
    pow2K (expoK (a * c448)) = Ideal.exp2 (expo (a * c448)) ∧ pow2K (IntOp.subi 0#32 (expoK (a * c448))) = Ideal.exp2 (0 - expo (a * c448)) := by
  obtain ⟨n, n1, n2, n3, -⟩ := expo_spec (a * c448) (scaled_nonneg h0) (scaled_lt h1)
  rw [n1, n2, n3, exp2_int, exp2_neg_int]; exact ⟨rfl, rfl⟩

theorem rOA_nonneg (o : ℕ → EReal) : 0 ≤ rOA o :=
  le_trans (mag_nonneg (o 0)) (Finset.le_sup (f := fun d => mag (o d)) (Finset.mem_range.2 (by norm_num)))

theorem rOA_le (o : ℕ → EReal) (b : EReal) (h : ∀ d < 160, mag (o d) ≤ b) : rOA o ≤ b :=
  Finset.sup_le fun d hd => h d (Finset.mem_range.1 hd)

/-- A whole row: maximum, scale and codes. -/
theorem row_eq (hp : p < N) (hN : N ≤ 4096) (ht : t = fun k => s k * (((Real.log 2)⁻¹ : ℝ) : EReal)) (h0 : 0 ≤ vs)
    (h1 : vs ≤ (((2 : ℝ) ^ (120 : ℤ) : ℝ) : EReal)) (w : ℕ → ℕ → EReal) (hw : ∀ d < 160, ∀ k < 4096, mag (w d k) ≤ ((448 : ℝ) : EReal)) :
    kA (kL N p t) vs (fun d => kO N p t (w d)) = rOA (fun d => rO p s (w d) vs)
    ∧ kOS (kA (kL N p t) vs (fun d => kO N p t (w d))) = rOS (rOA (fun d => rO p s (w d) vs))
    ∧ ∀ d, kOC (kL N p t) vs (kA (kL N p t) vs (fun d => kO N p t (w d))) (kO N p t (w d)) = rOC (rOA (fun d => rO p s (w d) vs)) (rO p s (w d) vs) := by
  have hA := row_amax hp hN ht h0 w
  obtain ⟨e1, e2⟩ := scale_eq (rOA_nonneg _) (rOA_le (fun d => rO p s (w d) vs) _ fun d hd => row_bound (hw d hd) h0 h1)
  refine ⟨hA, ?_, fun d => ?_⟩
  · rw [hA]; exact e1
  · rw [hA]
    unfold kOC rOC
    rw [e2, ← mul_assoc, row_out hp hN ht]

end Cert.Attn

end
-- ==== Proof.KernelIdeal.ReadHead.lean ====
module

public import proofs.«01_k».proof.Proof.KernelIdeal.Blocks
public import proofs.«01_k».proof.Proof.Math.Row
public import Idealize.ShloMosaic.Lib.Pointwise
public import Idealize.ShloMosaic.Lib.WordCmp

public section

/-
  What the values a head computes are at an index, over the extended reals.
-/

set_option maxRecDepth 16384

noncomputable section

namespace Cert.KernelIdeal.Gen

open Idealize.ShloMosaic Idealize.ShloMosaic.TcCoe Idealize.SL.Sem
open Cert.Attn (c448 clip mag pow2K expoK kI kX kC kF)

theorem clip_bits (y : EReal) : min (Ideal.ofBits .f32 1138753536#32) (max (Ideal.ofBits .f32 3286237184#32) y) = clip y := by
  have h1 : Ideal.ofBits .f32 1138753536#32 = ((448 : ℝ) : EReal) := by
    simp [Ideal.ofBits, Ideal.ieee, -EReal.coe_mul]; norm_num
  have h2 : Ideal.ofBits .f32 3286237184#32 = ((-448 : ℝ) : EReal) := by
    simp [Ideal.ofBits, Ideal.ieee, -EReal.coe_mul]; norm_num
  rw [h1, h2]; rfl

/-- A row of 128 repeated reads modulo 128. -/
theorem half_eq (f : Fin 128 → EReal) (l : Fin 256) :
    (if h : l.val < 128 then f ⟨l.val, h⟩ else f ⟨l.val - 128, by omega⟩) = f ⟨l.val % 128, by omega⟩ := by
  by_cases h : l.val < 128
  · rw [dif_pos h]; exact congrArg f (Fin.ext (by show l.val = l.val % 128; omega))
  · rw [dif_neg h]; exact congrArg f (Fin.ext (by show l.val - 128 = l.val % 128; omega))

theorem select_sle (r l : Fin 256) (a b : EReal) : Scalar.select (IntOp.cmpi .sle (BitVec.ofNat 32 r.val) (BitVec.ofNat 32 l.val)) a b = if r.val ≤ l.val then a else b := by
  have key : IntOp.cmpi .sle (BitVec.ofNat 32 r.val) (BitVec.ofNat 32 l.val) = BitVec.ofBool (decide (r.val ≤ l.val)) := by word_cmp
  rw [key]
  by_cases h : r.val ≤ l.val
  · simp [h, Scalar.select]
  · simp [h, Scalar.select]

theorem pay69_at (l : Fin 256) : k0_pay69 (F := Ideal) (ix2 0 l) = ⊥ := by
  pointwise [k0_pay69]
  rfl
theorem pay79_at (l : Fin 256) : k0_pay79 (F := Ideal) (ix2 0 l) = 0 := by
  pointwise [k0_pay79]
theorem pay89_at (d : Fin 160) (l : Fin 256) : k0_pay90 (F := Ideal) (k0_pay89 (F := Ideal)) (ix2 d l) = 0 := by
  pointwise [k0_pay90, k0_pay89]
theorem pay81_at (m : FVec Ideal S1x256 .f32) (x : Vec Ideal S256x256 .f32) (r l : Fin 256) : k0_pay81 (F := Ideal) m x (ix2 r l) = Ideal.exp2 (x (ix2 r l) - m (ix2 0 l)) := by
  pointwise [k0_pay81, k0_pay80]
  rfl
theorem pay82_at (m a : FVec Ideal S1x256 .f32) (x : Vec Ideal S256x256 .f32) (l : Fin 256) :
    k0_pay82 (F := Ideal) m a x (ix2 0 l) = a (ix2 0 l) + ∑ r : Fin 256, Ideal.exp2 (x (ix2 r l) - m (ix2 0 l)) := by
  pointwise [k0_pay82, k0_pay80]
  rfl
theorem pay87_at (l : FVec Ideal S1x256 .f32) (c : Fin 256) : k0_pay87 (F := Ideal) l (ix2 0 c) = kX (l (ix2 0 c)) := by
  pointwise [k0_pay87, k0_pay86]
  rfl
theorem pay88_at (l : FVec Ideal S1x256 .f32) (c : Fin 256) : k0_pay88 (F := Ideal) l (ix2 0 c) = kC (l (ix2 0 c)) := by
  pointwise [k0_pay88, k0_pay86]
  rw [clip_bits, pay87_at]
  rfl
theorem pay91_at (c : FVec Ideal S1x256 .f32) (x : Vec Ideal S256x256 .f32) (vt : Vec Ideal S1x1x160x256 .fp8e4m3) (o : Vec Ideal S160x256 .f32) (d : Fin 160) (l : Fin 256) :
    k0_pay91 (F := Ideal) c x vt o (ix2 d l) = o (ix2 d l) + ∑ r : Fin 256, vt (ix4 0 0 d r) * (x (ix2 r l) * c (ix2 0 l)) := by
  pointwise [k0_pay91]
theorem pay93_at (pe : IVec S1x256 32) (vs : Vec Ideal S1x1x1x128 .f32) (l : Fin 256) :
    k0_pay93 (F := Ideal) pe vs (ix2 0 l) = pow2K (pe (ix2 0 l)) * vs (ix4 0 0 0 ⟨l.val % 128, by omega⟩) := by
  pointwise [k0_pay93]
  rw [half_eq (fun n => vs (ix4 0 0 0 n))]
  rfl
theorem pay94_at (pe : IVec S1x256 32) (vs : Vec Ideal S1x1x1x128 .f32) (o : Vec Ideal S160x256 .f32) (l : Fin 256) :
    k0_pay94 (F := Ideal) pe vs o (ix2 0 l) = Finset.fold max ⊥ (fun d : Fin 160 => mag (o (ix2 d l))) Finset.univ * k0_pay93 (F := Ideal) pe vs (ix2 0 l) := by
  pointwise [k0_pay94]
  rfl
theorem pay98_at (pe : IVec S1x256 32) (vs : Vec Ideal S1x1x1x128 .f32) (o : Vec Ideal S160x256 .f32) (l : Fin 256) :
    k0_pay98 (F := Ideal) (k0_pay95 (F := Ideal) pe vs o) k0_pay96 (ix4 0 0 0 l) = pow2K (expoK (k0_pay94 (F := Ideal) pe vs o (ix2 0 l) * c448)) := by
  pointwise [k0_pay98, k0_pay97, k0_pay96, k0_pay95]
  rfl
theorem pay101_at (f : FVec Ideal S1x256 .f32) (pe : IVec S1x256 32) (vs : Vec Ideal S1x1x1x128 .f32) (o : Vec Ideal S160x256 .f32) (l : Fin 256) :
    k0_pay101 (F := Ideal) f (k0_pay95 (F := Ideal) pe vs o) k0_pay96 (ix2 0 l) = f (ix2 0 l) * pow2K (IntOp.subi 0#32 (expoK (k0_pay94 (F := Ideal) pe vs o (ix2 0 l) * c448))) := by
  pointwise [k0_pay101, k0_pay97, k0_pay96, k0_pay95]
  rfl
theorem pay99_at (a : FVec Ideal S1x256 .f32) (l : Fin 256) : k0_pay99 (F := Ideal) a (ix4 0 0 0 l) = a (ix2 0 l) := by
  pointwise [k0_pay99]
theorem pay100_at (a : FVec Ideal S1x256 .f32) (w : Vec Ideal S1x1x1x256 .f32) (l : Fin 256) : k0_pay100 (F := Ideal) a w (ix4 0 0 0 l) = max (w (ix4 0 0 0 l)) (a (ix2 0 l)) := by
  pointwise [k0_pay100]
theorem pay103_at (o : Vec Ideal S160x256 .f32) (w : Vec Ideal S1x256 .f32) (d : Fin 160) (l : Fin 256) :
    k0_pay103 (F := Ideal) (Scalar.ofBits .f32 0x43E00000#32) (k0_pay102 (F := Ideal) o w) (ix2 d l) = clip (o (ix2 d l) * w (ix2 0 l)) := by
  pointwise [k0_pay103, k0_pay102]
  exact clip_bits _
theorem pay214_at (w : Vec Ideal S128x256 .f32) (r : Fin 256) (c : Fin 128) : k0_pay214 (F := Ideal) w (ix3 0 r c) = w (ix2 c r) := by
  pointwise [k0_pay214]
theorem pay3_at (w : Vec Ideal S1x1x4x256 .f32) (h : Fin 4) (l : Fin 256) : k0_pay3 (F := Ideal) w (ix4 0 0 h l) = Finset.fold max ⊥ (fun x : Fin 256 => w (ix4 0 0 h x)) Finset.univ := by
  pointwise [k0_pay3]
  rfl

/-- The score of a key of a block. -/
@[expose] def blockScore (sg : Vec Ideal S1x256 .f32) (qa : Vec Ideal S1x256x256 .fp8e4m3) (kb : Vec Ideal S1x1x256x256 .fp8e4m3) (k0 k1 : Vec Ideal S1x1x1x128 .f32) (r l : Fin 256) : EReal :=
  (∑ x : Fin 256, kb (ix4 0 0 r x) * qa (ix3 0 l x)) * ((if r.val < 128 then k0 (ix4 0 0 0 ⟨l.val % 128, by omega⟩) else k1 (ix4 0 0 0 ⟨l.val % 128, by omega⟩)) * sg (ix2 0 l))

theorem score_form (sg : Vec Ideal S1x256 .f32) (qa : Vec Ideal S1x256x256 .fp8e4m3) (kb : Vec Ideal S1x1x256x256 .fp8e4m3) (k0 k1 : Vec Ideal S1x1x1x128 .f32) (r l : Fin 256) :
    (if h : r.val < 128 then (∑ x : Fin 256, kb (ix4 0 0 r x) * qa (ix3 0 l x)) *
        ((if h : l.val < 128 then k0 (ix4 0 0 0 ⟨l.val, h⟩) else k0 (ix4 0 0 0 ⟨l.val - 128, by omega⟩)) * sg (ix2 0 l))
      else (∑ x : Fin 256, kb (ix4 0 0 ⟨128 + (r.val - 128), by omega⟩ x) * qa (ix3 0 l x)) *
        ((if h : l.val < 128 then k1 (ix4 0 0 0 ⟨l.val, h⟩) else k1 (ix4 0 0 0 ⟨l.val - 128, by omega⟩)) * sg (ix2 0 l))) = blockScore sg qa kb k0 k1 r l := by
  rw [half_eq (fun n => k0 (ix4 0 0 0 n)), half_eq (fun n => k1 (ix4 0 0 0 n))]
  unfold blockScore
  by_cases h : r.val < 128
  · rw [dif_pos h, if_pos h]
  · have e : (⟨128 + (r.val - 128), by omega⟩ : Fin 256) = r := Fin.ext (by show 128 + (r.val - 128) = r.val; omega)
    rw [dif_neg h, if_neg h, e]

theorem pay71_at (sg : Vec Ideal S1x256 .f32) (qa : Vec Ideal S1x256x256 .fp8e4m3) (kb : Vec Ideal S1x1x256x256 .fp8e4m3) (k0 k1 : Vec Ideal S1x1x1x128 .f32) (r l : Fin 256) :
    k0_pay71 (F := Ideal) sg qa kb k0 k1 (ix2 r l) = blockScore sg qa kb k0 k1 r l := by
  pointwise [k0_pay71, k0_pay70, k0_pay68]
  exact score_form sg qa kb k0 k1 r l
theorem pay72_at (sg : Vec Ideal S1x256 .f32) (qa : Vec Ideal S1x256x256 .fp8e4m3) (m : FVec Ideal S1x256 .f32) (kb : Vec Ideal S1x1x256x256 .fp8e4m3) (k0 k1 : Vec Ideal S1x1x1x128 .f32) (l : Fin 256) :
    k0_pay72 (F := Ideal) sg qa m kb k0 k1 (ix2 0 l) = max (m (ix2 0 l)) (Finset.fold max ⊥ (fun r : Fin 256 => blockScore sg qa kb k0 k1 r l) Finset.univ) := by
  pointwise [k0_pay72, k0_pay70, k0_pay68]
  exact congrArg (max (m (ix2 0 l))) (Finset.fold_congr fun r _ => score_form sg qa kb k0 k1 r l)
theorem pay77_at (sg : Vec Ideal S1x256 .f32) (qa : Vec Ideal S1x256x256 .fp8e4m3) (kb : Vec Ideal S1x1x256x256 .fp8e4m3) (k0 k1 : Vec Ideal S1x1x1x128 .f32) (r l : Fin 256) :
    k0_pay77 (F := Ideal) iotaRow iotaCol sg (k0_pay68 (F := Ideal) qa) kb k0 k1 (ix2 r l) = if r.val ≤ l.val then blockScore sg qa kb k0 k1 r l else ⊥ := by
  pointwise [k0_pay77, k0_pay76, k0_pay68, iotaRow, iotaCol]
  exact (select_sle r l _ _).trans (if_congr Iff.rfl (score_form sg qa kb k0 k1 r l) rfl)
theorem pay78_at (sg : Vec Ideal S1x256 .f32) (qa : Vec Ideal S1x256x256 .fp8e4m3) (m : FVec Ideal S1x256 .f32) (kb : Vec Ideal S1x1x256x256 .fp8e4m3) (k0 k1 : Vec Ideal S1x1x1x128 .f32) (l : Fin 256) :
    k0_pay78 (F := Ideal) iotaRow iotaCol sg (k0_pay68 (F := Ideal) qa) m kb k0 k1 (ix2 0 l)
      = max (m (ix2 0 l)) (Finset.fold max ⊥ (fun r : Fin 256 => if r.val ≤ l.val then blockScore sg qa kb k0 k1 r l else ⊥) Finset.univ) := by
  pointwise [k0_pay78, k0_pay76, k0_pay68, iotaRow, iotaCol]
  exact congrArg (max (m (ix2 0 l))) (Finset.fold_congr fun r _ => (select_sle r l _ _).trans (if_congr Iff.rfl (score_form sg qa kb k0 k1 r l) rfl))

end Cert.KernelIdeal.Gen

end
-- ==== Proof.KernelIdeal.Heads.lean ====
module

public import proofs.«01_k».proof.Proof.KernelIdeal.Words
public import proofs.«01_k».proof.Proof.KernelIdeal.ReadHead
public import proofs.«01_k».proof.Proof.KernelIdeal.Keep

@[expose] public section

/-
  What one head of the body leaves: the three loops' invariants, then the head's scale, maximum and codes as the row
  arithmetic of `Math.Row`.
-/

set_option maxRecDepth 65536

noncomputable section

namespace Cert.KernelIdeal.Gen

open Idealize.ShloMosaic Idealize.ShloMosaic.TcCoe
open Idealize.ShloMosaic.VecWindow (window put)
open Cert.Attn (c448 clip mag pow2K expoK kI kX kC kF kM kE kL kO kA kOS kOC mask)

/-! ## Maxima and sums over blocks -/

theorem fold_range {n : ℕ} (f : ℕ → EReal) : Finset.fold max ⊥ (fun r : Fin n => f r.val) Finset.univ = (Finset.range n).sup f := by
  show (Finset.univ : Finset (Fin n)).sup (fun r => f r.val) = _
  refine le_antisymm (Finset.sup_le fun r _ => Finset.le_sup (f := f) (Finset.mem_range.2 r.isLt)) (Finset.sup_le fun k hk => ?_)
  exact Finset.le_sup (f := fun r : Fin n => f r.val) (Finset.mem_univ (⟨k, Finset.mem_range.1 hk⟩ : Fin n))

theorem sup_range_add (a n : ℕ) (f : ℕ → EReal) : (Finset.range (a + n)).sup f = max ((Finset.range a).sup f) (Finset.fold max ⊥ (fun r : Fin n => f (a + r.val)) Finset.univ) := by
  rw [fold_range (fun r => f (a + r))]
  refine le_antisymm (Finset.sup_le fun k hk => ?_) (max_le (Finset.sup_mono (Finset.range_subset_range.2 (by omega))) (Finset.sup_le fun k hk => ?_))
  · rcases Nat.lt_or_ge k a with h | h
    · exact le_max_of_le_left (Finset.le_sup (f := f) (Finset.mem_range.2 h))
    · refine le_max_of_le_right ?_
      have := Finset.le_sup (f := fun r => f (a + r)) (s := Finset.range n) (b := k - a) (Finset.mem_range.2 (by have := Finset.mem_range.1 hk; omega))
      simpa [Nat.add_sub_cancel' h] using this
  · exact Finset.le_sup (f := f) (Finset.mem_range.2 (by have := Finset.mem_range.1 hk; omega))

theorem sum_range_block (a n : ℕ) (f : ℕ → EReal) : ∑ k ∈ Finset.range (a + n), f k = ∑ k ∈ Finset.range a, f k + ∑ r : Fin n, f (a + r.val) := by
  rw [Finset.sum_range_add, Finset.sum_range (fun x => f (a + x))]

/-! ## The scores' buffer -/

section X14
variable {n : ℕ} (X : Vec Ideal S4736x256 .f32) (off : Fin 2 → ℕ) (o : ℕ) (hoff : off = ![o, 0])
include hoff

theorem put14_in (w : ((a : Fin 2) → Fin ((![n, 256] : Fin 2 → ℕ) a)) → EReal) (k : Fin 4736) (r : Fin n) (l : Fin 256) (hk : k.val = o + r.val) :
    put (s := S4736x256) X off ![n, 256] w (ix2 k l) = w (ix2 r l) :=
  put_in (s := S4736x256) X off ![n, 256] w (ix2 k l) (ix2 r l) fun a => by
    subst hoff
    fin_cases a
    · exact hk
    · exact (Nat.zero_add _).symm
theorem put14_out (w : ((a : Fin 2) → Fin ((![n, 256] : Fin 2 → ℕ) a)) → EReal) (k : Fin 4736) (l : Fin 256) (hk : k.val < o ∨ o + n ≤ k.val) :
    put (s := S4736x256) X off ![n, 256] w (ix2 k l) = X (ix2 k l) :=
  put_out (s := S4736x256) X off ![n, 256] w (ix2 k l) 0 (by subst hoff; exact hk)
theorem win14 (inb : ∀ a, off a + (![n, 256] : Fin 2 → ℕ) a ≤ S4736x256.size a) (k : Fin 4736) (r : Fin n) (l : Fin 256) (hk : k.val = o + r.val) :
    window (s := S4736x256) X off ![n, 256] inb (ix2 r l) = X (ix2 k l) :=
  window_at (s := S4736x256) X off ![n, 256] inb (ix2 r l) (ix2 k l) fun a => by
    subst hoff
    fin_cases a
    · exact hk
    · exact (Nat.zero_add _).symm
end X14

/-! ## The score of a key -/

/-- The score of key `k` for the query at lane `l`. -/
def keyScore (x4 : Vec Ideal S1x1x4096x256 .fp8e4m3) (x5 : Vec Ideal S1x1x32x128 .f32) (sg : Vec Ideal S1x256 .f32) (qa : Vec Ideal S1x256x256 .fp8e4m3) (l : Fin 256) (k : ℕ) : EReal :=
  if h : k < 4096 then (∑ x : Fin 256, x4 (ix4 0 0 ⟨k, h⟩ x) * qa (ix3 0 l x)) * (x5 (ix4 0 0 ⟨k / 128, by omega⟩ ⟨l.val % 128, by omega⟩) * sg (ix2 0 l)) else 0

theorem block_key (x4 : Vec Ideal S1x1x4096x256 .fp8e4m3) (x5 : Vec Ideal S1x1x32x128 .f32) (sg : Vec Ideal S1x256 .f32) (qa : Vec Ideal S1x256x256 .fp8e4m3)
    (j : ℕ) (hj : j < 16) (o1 o2 o3 : Fin 4 → ℕ) (h1 : o1 = ![0, 0, 256 * j, 0]) (h2 : o2 = ![0, 0, 2 * j + 0, 0]) (h3 : o3 = ![0, 0, 2 * j + 1, 0])
    (i1 : ∀ a, o1 a + S1x1x256x256.size a ≤ S1x1x4096x256.size a) (i2 : ∀ a, o2 a + S1x1x1x128.size a ≤ S1x1x32x128.size a) (i3 : ∀ a, o3 a + S1x1x1x128.size a ≤ S1x1x32x128.size a)
    (r l : Fin 256) : blockScore sg qa (window x4 o1 S1x1x256x256.size i1) (window x5 o2 S1x1x1x128.size i2) (window x5 o3 S1x1x1x128.size i3) r l = keyScore x4 x5 sg qa l (256 * j + r.val) := by
  have hk : 256 * j + r.val < 4096 := by omega
  unfold blockScore keyScore
  rw [dif_pos hk]
  have e1 : ∀ x : Fin 256, window x4 o1 S1x1x256x256.size i1 (ix4 0 0 r x) = x4 (ix4 0 0 ⟨256 * j + r.val, hk⟩ x) := fun x =>
    window_at x4 o1 _ i1 (ix4 0 0 r x) (ix4 0 0 ⟨256 * j + r.val, hk⟩ x) fun a => by
      subst h1
      fin_cases a
      · rfl
      · rfl
      · rfl
      · exact (Nat.zero_add _).symm
  have e2 : ∀ c : Fin 128, window x5 o2 S1x1x1x128.size i2 (ix4 0 0 0 c) = x5 (ix4 0 0 ⟨2 * j, by omega⟩ c) := fun c =>
    window_at x5 o2 _ i2 (ix4 0 0 0 c) (ix4 0 0 ⟨2 * j, by omega⟩ c) fun a => by
      subst h2
      fin_cases a
      · rfl
      · rfl
      · rfl
      · exact (Nat.zero_add _).symm
  have e3 : ∀ c : Fin 128, window x5 o3 S1x1x1x128.size i3 (ix4 0 0 0 c) = x5 (ix4 0 0 ⟨2 * j + 1, by omega⟩ c) := fun c =>
    window_at x5 o3 _ i3 (ix4 0 0 0 c) (ix4 0 0 ⟨2 * j + 1, by omega⟩ c) fun a => by
      subst h3
      fin_cases a
      · rfl
      · rfl
      · rfl
      · exact (Nat.zero_add _).symm
  have es : ∑ x : Fin 256, window x4 o1 S1x1x256x256.size i1 (ix4 0 0 r x) * qa (ix3 0 l x) = ∑ x : Fin 256, x4 (ix4 0 0 ⟨256 * j + r.val, hk⟩ x) * qa (ix3 0 l x) :=
    Finset.sum_congr rfl fun x _ => congrArg (· * qa (ix3 0 l x)) (e1 x)
  rw [es, e2, e3]
  congr 2
  split_ifs with h
  · exact congrArg (fun n => x5 (ix4 0 0 n _)) (Fin.ext (by show 2 * j = (256 * j + r.val) / 128; omega))
  · exact congrArg (fun n => x5 (ix4 0 0 n _)) (Fin.ext (by show 2 * j + 1 = (256 * j + r.val) / 128; omega))

/-! ## The score loop -/

theorem scoreLoop_at (i : grid0.Coords) (sg : Vec Ideal S1x256 .f32) (qa : Vec Ideal S1x256x256 .fp8e4m3) (S : St Ideal) (j : ℕ) (hj : j ≤ (i 2).val) :
    ∃ X, (iterTrips (scoreStep i sg qa) (k0_pay69 (F := Ideal), S) j).2 = S.set14 X
      ∧ (∀ k : Fin 4736, k.val < 256 * j → ∀ l, X (ix2 k l) = keyScore S.x4 S.x5 sg qa l k.val)
      ∧ (∀ k : Fin 4736, 4096 ≤ k.val → ∀ l, X (ix2 k l) = S.x14 (ix2 k l))
      ∧ ∀ l : Fin 256, (iterTrips (scoreStep i sg qa) (k0_pay69 (F := Ideal), S) j).1 (ix2 0 l) = (Finset.range (256 * j)).sup (keyScore S.x4 S.x5 sg qa l) := by
  induction j with
  | zero => exact ⟨S.x14, rfl, fun k hk => absurd hk (by omega), fun _ _ _ => rfl, fun l => pay69_at l⟩
  | succ j ih =>
    have hlt : j < (k0_t1_loop i).trips := by rw [trips1]; omega
    have h16 : j < 16 := by have := coord_lt i; omega
    rw [iterTrips.eq_2, dif_pos hlt]
    obtain ⟨X, h1, h2, h3, h4⟩ := ih (by omega)
    generalize iterTrips (scoreStep i sg qa) (k0_pay69 (F := Ideal), S) j = p at h1 h4
    obtain ⟨m, T⟩ := p
    subst h1
    have hb := block_key S.x4 S.x5 sg qa j h16 _ _ _ (off1_eq i ⟨j, hlt⟩) (off2_eq i ⟨j, hlt⟩ 0) (off2_eq i ⟨j, hlt⟩ 1) (k0_off1_inb i ⟨j, hlt⟩) (k0_off2_inb i ⟨j, hlt⟩ 0) (k0_off2_inb i ⟨j, hlt⟩ 1)
    refine ⟨_, rfl, fun k hk l => ?_, fun k hk l => ?_, fun l => ?_⟩
    · rcases Nat.lt_or_ge k.val (256 * j) with h | h
      · exact (put14_out X _ (256 * j) (off3_eq i ⟨j, hlt⟩) _ k l (.inl h)).trans (h2 k h l)
      · refine (put14_in X _ (256 * j) (off3_eq i ⟨j, hlt⟩) _ k ⟨k.val - 256 * j, by omega⟩ l (by show k.val = 256 * j + (k.val - 256 * j); omega)).trans ?_
        refine (pay71_at sg qa _ _ _ _ l).trans ((hb _ l).trans ?_)
        exact congrArg (keyScore S.x4 S.x5 sg qa l) (by show 256 * j + (k.val - 256 * j) = k.val; omega)
    · exact (put14_out X _ (256 * j) (off3_eq i ⟨j, hlt⟩) _ k l (.inr (by omega))).trans (h3 k hk l)
    · refine (pay72_at sg qa m _ _ _ l).trans ?_
      rw [show 256 * (j + 1) = 256 * j + 256 by ring, sup_range_add, ← h4 l]
      exact congrArg (max _) (Finset.fold_congr fun r _ => hb r l)

/-- The masked scores of the head and their maximum. -/
theorem headScores_at (h : Fin 4) (i : grid0.Coords) (S : St Ideal) :
    ∃ X, (headScoresF h i S).2 = S.set14 X
      ∧ (∀ k : Fin 4736, k.val < 256 * ((i 2).val + 1) → ∀ l : Fin 256, X (ix2 k l) = mask (256 * (i 2).val + l.val) (keyScore S.x4 S.x5 (sgRow h S) (qaHead h S) l) k.val)
      ∧ (∀ k : Fin 4736, 4096 ≤ k.val → ∀ l, X (ix2 k l) = S.x14 (ix2 k l))
      ∧ ∀ l : Fin 256, (headScoresF h i S).1 (ix2 0 l) = kM (256 * ((i 2).val + 1)) (256 * (i 2).val + l.val) (keyScore S.x4 S.x5 (sgRow h S) (qaHead h S) l) := by
  obtain ⟨X, h1, h2, h3, h4⟩ := scoreLoop_at i (sgRow h S) (qaHead h S) S _ (trips1 i).le
  rw [trips1] at h2
  replace h4 := fun l => (h4 l).trans (congrArg (fun n => (Finset.range (256 * n)).sup _) (trips1 i))
  unfold headScoresF scoreLoop
  generalize iterTrips (scoreStep i (sgRow h S) (qaHead h S)) (k0_pay69 (F := Ideal), S) (k0_t1_loop i).trips = p at h1 h4
  obtain ⟨m, T⟩ := p
  subst h1
  have hi := coord_lt i
  have hb := block_key S.x4 S.x5 (sgRow h S) (qaHead h S) (i 2).val hi _ _ _ (off7_eq i) (off8_eq i 0) (off8_eq i 1) (k0_off7_inb i) (k0_off8_inb i 0) (k0_off8_inb i 1)
  have hm : ∀ r l : Fin 256, (if r.val ≤ l.val then keyScore S.x4 S.x5 (sgRow h S) (qaHead h S) l (256 * (i 2).val + r.val) else ⊥)
      = mask (256 * (i 2).val + l.val) (keyScore S.x4 S.x5 (sgRow h S) (qaHead h S) l) (256 * (i 2).val + r.val) := fun r l => by
    unfold mask
    exact if_congr (by omega) rfl rfl
  refine ⟨_, rfl, fun k hk l => ?_, fun k hk l => ?_, fun l => ?_⟩
  · rcases Nat.lt_or_ge k.val (256 * (i 2).val) with hlt | hge
    · refine (put14_out X _ (256 * (i 2).val) (off9_eq i) _ k l (.inl hlt)).trans ((h2 k hlt l).trans ?_)
      unfold mask; rw [if_pos (by omega)]
    · refine (put14_in X _ (256 * (i 2).val) (off9_eq i) _ k ⟨k.val - 256 * (i 2).val, by omega⟩ l (by show k.val = 256 * (i 2).val + (k.val - 256 * (i 2).val); omega)).trans ?_
      refine (pay77_at (sgRow h S) (qaHead h S) _ _ _ _ l).trans ?_
      refine (if_congr Iff.rfl (hb _ l) rfl).trans ((hm _ l).trans ?_)
      exact congrArg (mask _ _) (by show 256 * (i 2).val + (k.val - 256 * (i 2).val) = k.val; omega)
  · exact (put14_out X _ (256 * (i 2).val) (off9_eq i) _ k l (.inr (by omega))).trans (h3 k hk l)
  · refine (pay78_at (sgRow h S) (qaHead h S) m _ _ _ l).trans ?_
    unfold kM
    rw [show 256 * ((i 2).val + 1) = 256 * (i 2).val + 256 by ring, sup_range_add]
    refine congrArg₂ max ((h4 l).trans (Finset.sup_congr rfl fun k hk => ?_)) (Finset.fold_congr fun r _ => (if_congr Iff.rfl (hb r l) rfl).trans (hm r l))
    unfold mask; rw [if_pos (by have := Finset.mem_range.1 hk; omega)]

/-! ## The exponential loop -/

theorem expLoop_at (i : grid0.Coords) (m : FVec Ideal S1x256 .f32) (S : St Ideal) (p : Fin 256 → ℕ) (t : Fin 256 → ℕ → EReal)
    (hm : ∀ l : Fin 256, m (ix2 0 l) = kM (256 * ((i 2).val + 1)) (p l) (t l))
    (hS : ∀ k : Fin 4736, k.val < 256 * ((i 2).val + 1) → ∀ l : Fin 256, S.x14 (ix2 k l) = mask (p l) (t l) k.val) (j : ℕ) (hj : j ≤ (i 2).val + 1) :
    ∃ X, (iterTrips (expStep i m) (k0_pay79 (F := Ideal), S) j).2 = S.set14 X
      ∧ (∀ k : Fin 4736, k.val < 256 * j → ∀ l, X (ix2 k l) = kE (256 * ((i 2).val + 1)) (p l) (t l) k.val)
      ∧ (∀ k : Fin 4736, 256 * j ≤ k.val → ∀ l, X (ix2 k l) = S.x14 (ix2 k l))
      ∧ ∀ l : Fin 256, (iterTrips (expStep i m) (k0_pay79 (F := Ideal), S) j).1 (ix2 0 l) = ∑ k ∈ Finset.range (256 * j), kE (256 * ((i 2).val + 1)) (p l) (t l) k := by
  induction j with
  | zero => exact ⟨S.x14, rfl, fun k hk => absurd hk (by omega), fun _ _ _ => rfl, fun l => pay79_at l⟩
  | succ j ih =>
    have hlt : j < (k0_t3_loop i).trips := by rw [trips3]; omega
    have hi := coord_lt i
    rw [iterTrips.eq_2, dif_pos hlt]
    obtain ⟨X, h1, h2, h3, h4⟩ := ih (by omega)
    generalize iterTrips (expStep i m) (k0_pay79 (F := Ideal), S) j = q at h1 h4
    obtain ⟨a, T⟩ := q
    subst h1
    have hx : ∀ r l : Fin 256, Ideal.exp2 (window X (k0_off10 i ⟨j, hlt⟩) S256x256.size (k0_off10_inb i ⟨j, hlt⟩) (ix2 r l) - m (ix2 0 l)) = kE (256 * ((i 2).val + 1)) (p l) (t l) (256 * j + r.val) := fun r l => by
      have e := win14 X _ (256 * j) (off10_eq i ⟨j, hlt⟩) (k0_off10_inb i ⟨j, hlt⟩) ⟨256 * j + r.val, by omega⟩ r l rfl
      have e2 := (h3 ⟨256 * j + r.val, by omega⟩ (by show 256 * j ≤ 256 * j + r.val; omega) l).trans (hS ⟨256 * j + r.val, by omega⟩ (by show 256 * j + r.val < _; omega) l)
      unfold kE
      rw [hm l]
      exact congrArg (fun y => Ideal.exp2 (y - kM (256 * ((i 2).val + 1)) (p l) (t l))) (e.trans e2)
    refine ⟨_, rfl, fun k hk l => ?_, fun k hk l => ?_, fun l => ?_⟩
    · rcases Nat.lt_or_ge k.val (256 * j) with h | h
      · exact (put14_out X _ (256 * j) (off10_eq i ⟨j, hlt⟩) _ k l (.inl h)).trans (h2 k h l)
      · refine (put14_in X _ (256 * j) (off10_eq i ⟨j, hlt⟩) _ k ⟨k.val - 256 * j, by omega⟩ l (by show k.val = 256 * j + (k.val - 256 * j); omega)).trans ?_
        refine (pay81_at m _ _ l).trans ((hx _ l).trans ?_)
        exact congrArg (kE _ _ _) (by show 256 * j + (k.val - 256 * j) = k.val; omega)
    · exact (put14_out X _ (256 * j) (off10_eq i ⟨j, hlt⟩) _ k l (.inr (by omega))).trans (h3 k (by omega) l)
    · refine (pay82_at m a _ l).trans ?_
      rw [show 256 * (j + 1) = 256 * j + 256 by ring, sum_range_block, ← h4 l]
      exact congrArg (a (ix2 0 l) + ·) (Finset.sum_congr rfl fun r _ => hx r l)

/-! ## The second product -/

/-- The value of key `k` in dimension `d`. -/
def keyValue (x6 : Vec Ideal S1x1x160x4096 .fp8e4m3) (d k : ℕ) : EReal := if h : d < 160 ∧ k < 4096 then x6 (ix4 0 0 ⟨d, h.1⟩ ⟨k, h.2⟩) else 0

theorem put16 (O w : Vec Ideal S160x256 .f32) (d : Fin 160) (l : Fin 256) : put (s := S160x256) O ![0, 0] S160x256.size w (ix2 d l) = w (ix2 d l) :=
  put_in (s := S160x256) O ![0, 0] S160x256.size w (ix2 d l) (ix2 d l) fun a => by fin_cases a <;> exact (Nat.zero_add _).symm
theorem win16 (O : Vec Ideal S160x256 .f32) (inb) (d : Fin 160) (l : Fin 256) : window (s := S160x256) O ![0, 0] S160x256.size inb (ix2 d l) = O (ix2 d l) :=
  window_at (s := S160x256) O ![0, 0] S160x256.size inb (ix2 d l) (ix2 d l) fun a => by fin_cases a <;> exact (Nat.zero_add _).symm

theorem win6 (x6 : Vec Ideal S1x1x160x4096 .fp8e4m3) (off : Fin 4 → ℕ) (o : ℕ) (hoff : off = ![0, 0, 0, o]) (inb) (d : Fin 160) (r : Fin 256) (k : Fin 4096) (hk : k.val = o + r.val) :
    window x6 off S1x1x160x256.size inb (ix4 0 0 d r) = x6 (ix4 0 0 d k) :=
  window_at x6 off _ inb (ix4 0 0 d r) (ix4 0 0 d k) fun a => by
    subst hoff
    fin_cases a
    · rfl
    · rfl
    · exact (Nat.zero_add _).symm
    · exact hk

theorem pvLoop_at (i : grid0.Coords) (c : FVec Ideal S1x256 .f32) (z : BitVec 32) (S : St Ideal) (E : Fin 256 → ℕ → EReal)
    (h0 : ∀ (d : Fin 160) (l : Fin 256), S.x16 (ix2 d l) = 0)
    (hS : ∀ k : Fin 4736, k.val < 256 * ((i 2).val + 1) → ∀ l : Fin 256, S.x14 (ix2 k l) = E l k.val) (j : ℕ) (hj : j ≤ (i 2).val + 1) :
    ∃ O, (iterTrips (pvStep i c) (z, S) j).2 = S.set16 O
      ∧ ∀ (d : Fin 160) (l : Fin 256), O (ix2 d l) = ∑ k ∈ Finset.range (256 * j), keyValue S.x6 d.val k * (E l k * c (ix2 0 l)) := by
  induction j with
  | zero => exact ⟨S.x16, rfl, fun d l => h0 d l⟩
  | succ j ih =>
    have hlt : j < (k0_t5_loop i).trips := by rw [trips5]; omega
    have hi := coord_lt i
    rw [iterTrips.eq_2, dif_pos hlt]
    obtain ⟨O, h1, h2⟩ := ih (by omega)
    generalize iterTrips (pvStep i c) (z, S) j = q at h1
    obtain ⟨a, T⟩ := q
    subst h1
    refine ⟨_, rfl, fun d l => ?_⟩
    refine (put16 O _ d l).trans ((pay91_at c _ _ _ d l).trans ?_)
    rw [show 256 * (j + 1) = 256 * j + 256 by ring, sum_range_block, ← h2 d l]
    refine congrArg₂ (· + ·) (win16 O _ d l) (Finset.sum_congr rfl fun r _ => ?_)
    have e := (win14 S.x14 _ (256 * j) (off12_eq i ⟨j, hlt⟩) (k0_off12_inb i ⟨j, hlt⟩) ⟨256 * j + r.val, by omega⟩ r l rfl).trans
      (hS ⟨256 * j + r.val, by omega⟩ (by show 256 * j + r.val < _; omega) l)
    have e2 : window S.x6 (k0_off13 i ⟨j, hlt⟩) S1x1x160x256.size (k0_off13_inb i ⟨j, hlt⟩) (ix4 0 0 d r) = keyValue S.x6 d.val (256 * j + r.val) := by
      unfold keyValue
      rw [dif_pos ⟨d.isLt, by omega⟩]
      exact win6 S.x6 _ (256 * j) (off13_eq i ⟨j, hlt⟩) _ d r _ rfl
    exact congrArg₂ (fun u v => u * (v * c (ix2 0 l))) e2 e

/-! ## The head -/

/-- What a head's row is computed from: the keys' scores and the number of keys and the query's position. -/
def rowN (i : grid0.Coords) : ℕ := 256 * ((i 2).val + 1)
def rowP (i : grid0.Coords) (l : Fin 256) : ℕ := 256 * (i 2).val + l.val
def rowT (h : Fin 4) (S : St Ideal) (l : Fin 256) : ℕ → EReal := keyScore S.x4 S.x5 (sgRow h S) (qaHead h S) l
def rowO (h : Fin 4) (i : grid0.Coords) (S : St Ideal) (l : Fin 256) (d : ℕ) : EReal := kO (rowN i) (rowP i l) (rowT h S l) (keyValue S.x6 d)
def rowL (h : Fin 4) (i : grid0.Coords) (S : St Ideal) (l : Fin 256) : EReal := kL (rowN i) (rowP i l) (rowT h S l)
def rowV (S : St Ideal) (l : Fin 256) : EReal := S.x7 (ix4 0 0 0 ⟨l.val % 128, by omega⟩)
def rowA (h : Fin 4) (i : grid0.Coords) (S : St Ideal) (l : Fin 256) : EReal := kA (rowL h i S l) (rowV S l) (rowO h i S l)

/-- The head up to its second product: the sum, the product, and everything else but the scores as it was. -/
theorem headMid_at (h : Fin 4) (i : grid0.Coords) (S : St Ideal) :
    ∃ X O, headPvF i (headExpF i (headScoresF h i S).1 (headScoresF h i S).2).1 (headExpF i (headScoresF h i S).1 (headScoresF h i S).2).2 = (S.set14 X).set16 O
      ∧ (∀ k : Fin 4736, 4096 ≤ k.val → ∀ l, X (ix2 k l) = S.x14 (ix2 k l))
      ∧ (∀ l : Fin 256, (headExpF i (headScoresF h i S).1 (headScoresF h i S).2).1 (ix2 0 l) = rowL h i S l)
      ∧ ∀ (d : Fin 160) (l : Fin 256), O (ix2 d l) = rowO h i S l d.val := by
  have hi := coord_lt i
  obtain ⟨X, h1, h2, h3, h4⟩ := headScores_at h i S
  generalize headScoresF h i S = p at h1 h4
  obtain ⟨m, T⟩ := p
  subst h1
  obtain ⟨Y, e1, e2, e3, e4⟩ := expLoop_at i m (S.set14 X) (rowP i) (rowT h S) h4 h2 _ (trips3 i).le
  rw [trips3] at e2 e3
  replace e4 := fun l => (e4 l).trans (congrArg (fun n => Finset.sum (Finset.range (256 * n)) _) (trips3 i))
  unfold headExpF
  generalize iterTrips (expStep i m) (k0_pay79 (F := Ideal), S.set14 X) (k0_t3_loop i).trips = q at e1 e4
  obtain ⟨a, T⟩ := q
  subst e1
  unfold headPvF
  obtain ⟨O, o1, o2⟩ := pvLoop_at i (k0_pay88 a) 0#32 (((S.set14 X).set14 Y).set16 (put S.x16 ![0, 0] S160x256.size (k0_pay90 (k0_pay89 (F := Ideal)))))
    (fun l => kE (rowN i) (rowP i l) (rowT h S l)) (fun d l => (put16 _ _ d l).trans (pay89_at d l)) (fun k hk l => e2 k hk l) _ (trips5 i).le
  refine ⟨Y, O, o1, fun k hk l => (e3 k (by omega) l).trans (h3 k hk l), e4, fun d l => ((o2 d l).trans (congrArg (fun n => Finset.sum (Finset.range (256 * n)) _) (trips5 i))).trans ?_⟩
  unfold rowO kO
  refine Finset.sum_congr rfl fun k _ => ?_
  have : k0_pay88 (F := Ideal) a (ix2 0 l) = kC (kL (rowN i) (rowP i l) (rowT h S l)) := (pay88_at a l).trans (congrArg kC (e4 l))
  exact congrArg (fun u => keyValue S.x6 d.val k * (kE (rowN i) (rowP i l) (rowT h S l) k * u)) this

end Cert.KernelIdeal.Gen

end
-- ==== Proof.KernelIdeal.HeadOut.lean ====
module

public import proofs.«01_k».proof.Proof.KernelIdeal.Heads

@[expose] public section

/-
  What a head stores: its scale, its running maximum and its codes, and that the rest is as it was.
-/

set_option maxRecDepth 65536

noncomputable section

namespace Cert.KernelIdeal.Gen

open Idealize.ShloMosaic Idealize.ShloMosaic.TcCoe
open Idealize.ShloMosaic.VecWindow (window put)
open Cert.Attn (c448 clip mag pow2K expoK kI kX kC kF kM kE kL kO kA kOS kOC mask)

section Rows
variable {α : Type} {n m : ℕ}

/-- A row put and read, of an array of rows. -/
theorem row4_in (X : S1x1x4x256.Idx → α) (h : Fin 4) (w : ((a : Fin 4) → Fin (S1x1x1x256.size a)) → α) (l : Fin 256) :
    put (s := S1x1x4x256) X ![0, 0, h.val, 0] S1x1x1x256.size w (ix4 0 0 h l) = w (ix4 0 0 0 l) :=
  put_in (s := S1x1x4x256) X ![0, 0, h.val, 0] S1x1x1x256.size w (ix4 0 0 h l) (ix4 0 0 0 l : S1x1x1x256.Idx) fun a => by
    fin_cases a
    · rfl
    · rfl
    · rfl
    · exact (Nat.zero_add _).symm
theorem row4_out (X : S1x1x4x256.Idx → α) (h g : Fin 4) (hg : g ≠ h) (w : ((a : Fin 4) → Fin (S1x1x1x256.size a)) → α) (l : Fin 256) :
    put (s := S1x1x4x256) X ![0, 0, h.val, 0] S1x1x1x256.size w (ix4 0 0 g l) = X (ix4 0 0 g l) :=
  put_out (s := S1x1x4x256) X _ _ w (ix4 0 0 g l) 2 (by
    have : g.val ≠ h.val := fun e => hg (Fin.ext e)
    show g.val < h.val ∨ h.val + 1 ≤ g.val
    omega)
theorem row4_win (X : S1x1x4x256.Idx → α) (h : Fin 4) (inb) (l : Fin 256) : window (s := S1x1x4x256) X ![0, 0, h.val, 0] S1x1x1x256.size inb (ix4 0 0 0 l) = X (ix4 0 0 h l) :=
  window_at (s := S1x1x4x256) X _ _ inb (ix4 0 0 0 l) (ix4 0 0 h l) fun a => by
    fin_cases a
    · rfl
    · rfl
    · rfl
    · exact (Nat.zero_add _).symm
theorem row8_in (X : S8x256.Idx → α) (h : Fin 8) (w : ((a : Fin 2) → Fin (S1x256.size a)) → α) (l : Fin 256) :
    put (s := S8x256) X ![h.val, 0] S1x256.size w (ix2 h l) = w (ix2 0 l) :=
  put_in (s := S8x256) X ![h.val, 0] S1x256.size w (ix2 h l) (ix2 0 l : S1x256.Idx) fun a => by
    fin_cases a
    · rfl
    · exact (Nat.zero_add _).symm
theorem row8_out (X : S8x256.Idx → α) (h g : Fin 8) (hg : g ≠ h) (w : ((a : Fin 2) → Fin (S1x256.size a)) → α) (l : Fin 256) :
    put (s := S8x256) X ![h.val, 0] S1x256.size w (ix2 g l) = X (ix2 g l) :=
  put_out (s := S8x256) X _ _ w (ix2 g l) 0 (by
    have : g.val ≠ h.val := fun e => hg (Fin.ext e)
    show g.val < h.val ∨ h.val + 1 ≤ g.val
    omega)
theorem row8_win (X : S8x256.Idx → α) (h : Fin 8) (inb) (l : Fin 256) : window (s := S8x256) X ![h.val, 0] S1x256.size inb (ix2 0 l) = X (ix2 h l) :=
  window_at (s := S8x256) X _ _ inb (ix2 0 l) (ix2 h l) fun a => by
    fin_cases a
    · rfl
    · exact (Nat.zero_add _).symm
end Rows

/-- What a head leaves. -/
structure HeadSpec (h : Fin 4) (i : grid0.Coords) (S T : St Ideal) : Prop where
  x3 : T.x3 = S.x3
  x4 : T.x4 = S.x4
  x5 : T.x5 = S.x5
  x6 : T.x6 = S.x6
  x7 : T.x7 = S.x7
  x8 : T.x8 = S.x8
  x9 : T.x9 = S.x9
  x10 : T.x10 = S.x10
  x13 : T.x13 = S.x13
  x15 : ∀ r : Fin 8, r.val < 4 → ∀ l : Fin 256, T.x15 (ix2 r l) = S.x15 (ix2 r l)
  codes : ∀ (k : Fin 4736) (d : Fin 160), k.val = 4096 + 160 * h.val + d.val → ∀ l : Fin 256,
    T.x14 (ix2 k l) = kOC (rowL h i S l) (rowV S l) (rowA h i S l) (rowO h i S l d.val)
  rest : ∀ k : Fin 4736, 4096 ≤ k.val → (k.val < 4096 + 160 * h.val ∨ 4096 + 160 * h.val + 160 ≤ k.val) → ∀ l : Fin 256, T.x14 (ix2 k l) = S.x14 (ix2 k l)
  scale : ∀ l : Fin 256, T.x11 (ix4 0 0 h l) = kOS (rowA h i S l)
  scales : ∀ g : Fin 4, g ≠ h → ∀ l : Fin 256, T.x11 (ix4 0 0 g l) = S.x11 (ix4 0 0 g l)
  amax : ∀ l : Fin 256, T.x12 (ix4 0 0 h l) = if (i 2).val = 0 then rowA h i S l else max (S.x12 (ix4 0 0 h l)) (rowA h i S l)
  amaxs : ∀ g : Fin 4, g ≠ h → ∀ l : Fin 256, T.x12 (ix4 0 0 g l) = S.x12 (ix4 0 0 g l)

/-- The running maximum's step touches one row of one buffer. -/
theorem amaxStep_at (h : Fin 4) (i : grid0.Coords) (am : FVec Ideal S1x256 .f32) (S : St Ideal) :
    ∃ M, amaxStepF h i am S = S.set12 M ∧ (∀ l : Fin 256, M (ix4 0 0 h l) = if (i 2).val = 0 then am (ix2 0 l) else max (S.x12 (ix4 0 0 h l)) (am (ix2 0 l)))
      ∧ ∀ g : Fin 4, g ≠ h → ∀ l : Fin 256, M (ix4 0 0 g l) = S.x12 (ix4 0 0 g l) := by
  unfold amaxStepF
  by_cases hi : (i 2).val = 0
  · have h1 : k0_cond1 i = 1#1 := (cond1_eq i).2 hi
    have h2 : ¬ k0_cond2 i = 1#1 := fun e => by have := (cond2_eq i).1 e; omega
    simp only [if_pos h1, if_neg h2, if_pos hi]
    exact ⟨_, rfl, fun l => (row4_in _ h _ l).trans (pay99_at am l), fun g hg l => row4_out _ h g hg _ l⟩
  · have h1 : ¬ k0_cond1 i = 1#1 := fun e => hi ((cond1_eq i).1 e)
    have h2 : k0_cond2 i = 1#1 := (cond2_eq i).2 (by omega)
    simp only [if_neg h1, if_pos h2, if_neg hi]
    exact ⟨_, rfl, fun l => (row4_in _ h _ l).trans ((pay100_at am _ l).trans (congrArg (max · _) (row4_win _ h _ l))), fun g hg l => row4_out _ h g hg _ l⟩

theorem headOut_at (h : Fin 4) (i : grid0.Coords) (L : FVec Ideal S1x256 .f32) (vs : Vec Ideal S1x1x1x128 .f32) (o : Vec Ideal S160x256 .f32) (S : St Ideal) :
    ∃ A M B D, headOutF h i L vs o S = (((S.set11 A).set12 M).set15 B).set14 D
      ∧ (∀ l : Fin 256, A (ix4 0 0 h l) = k0_pay98 (F := Ideal) (k0_pay95 (k0_pay87 L) vs o) k0_pay96 (ix4 0 0 0 l))
      ∧ (∀ g : Fin 4, g ≠ h → ∀ l : Fin 256, A (ix4 0 0 g l) = S.x11 (ix4 0 0 g l))
      ∧ (∀ l : Fin 256, M (ix4 0 0 h l) = if (i 2).val = 0 then k0_pay94 (F := Ideal) (k0_pay87 L) vs o (ix2 0 l) else max (S.x12 (ix4 0 0 h l)) (k0_pay94 (F := Ideal) (k0_pay87 L) vs o (ix2 0 l)))
      ∧ (∀ g : Fin 4, g ≠ h → ∀ l : Fin 256, M (ix4 0 0 g l) = S.x12 (ix4 0 0 g l))
      ∧ (∀ r : Fin 8, r.val < 4 → ∀ l : Fin 256, B (ix2 r l) = S.x15 (ix2 r l))
      ∧ (∀ (k : Fin 4736) (d : Fin 160), k.val = 4096 + 160 * h.val + d.val → ∀ l : Fin 256,
          D (ix2 k l) = clip (o (ix2 d l) * k0_pay101 (F := Ideal) (k0_pay93 (k0_pay87 L) vs) (k0_pay95 (k0_pay87 L) vs o) k0_pay96 (ix2 0 l)))
      ∧ (∀ k : Fin 4736, (k.val < 4096 + 160 * h.val ∨ 4096 + 160 * h.val + 160 ≤ k.val) → ∀ l : Fin 256, D (ix2 k l) = S.x14 (ix2 k l)) := by
  unfold headOutF
  obtain ⟨M, m1, m2, m3⟩ := amaxStep_at h i (k0_pay94 (k0_pay87 L) vs o) (S.set11 (put S.x11 ![0, 0, h.val, 0] S1x1x1x256.size (k0_pay98 (F := Ideal) (k0_pay95 (k0_pay87 L) vs o) k0_pay96)))
  rw [m1]
  unfold headCodesF
  refine ⟨_, M, _, _, rfl, fun l => row4_in _ h _ l, fun g hg l => row4_out _ h g hg _ l, m2, m3,
    fun r hr l => row8_out S.x15 4 r (fun e => by rw [e] at hr; exact absurd hr (by decide)) _ l, fun k d hk l => ?_,
    fun k h2 l => put14_out S.x14 _ (4096 + 160 * h.val) rfl _ k l h2⟩
  refine (put14_in S.x14 _ (4096 + 160 * h.val) rfl _ k d l hk).trans ((pay103_at o _ d l).trans ?_)
  exact congrArg (fun u => clip (o (ix2 d l) * u)) ((row8_win _ 4 _ l).trans (row8_in _ 4 _ l))

theorem headSpec_of (h : Fin 4) (i : grid0.Coords) (S : St Ideal) (X : Vec Ideal S4736x256 .f32) (O : Vec Ideal S160x256 .f32) (A M : Vec Ideal S1x1x4x256 .f32) (B : Vec Ideal S8x256 .f32) (D : Vec Ideal S4736x256 .f32)
    (hB : ∀ r : Fin 8, r.val < 4 → ∀ l : Fin 256, B (ix2 r l) = S.x15 (ix2 r l))
    (hD : ∀ (k : Fin 4736) (d : Fin 160), k.val = 4096 + 160 * h.val + d.val → ∀ l : Fin 256, D (ix2 k l) = kOC (rowL h i S l) (rowV S l) (rowA h i S l) (rowO h i S l d.val))
    (hD' : ∀ k : Fin 4736, 4096 ≤ k.val → (k.val < 4096 + 160 * h.val ∨ 4096 + 160 * h.val + 160 ≤ k.val) → ∀ l : Fin 256, D (ix2 k l) = S.x14 (ix2 k l))
    (hA : ∀ l : Fin 256, A (ix4 0 0 h l) = kOS (rowA h i S l))
    (hA' : ∀ g : Fin 4, g ≠ h → ∀ l : Fin 256, A (ix4 0 0 g l) = S.x11 (ix4 0 0 g l))
    (hM : ∀ l : Fin 256, M (ix4 0 0 h l) = if (i 2).val = 0 then rowA h i S l else max (S.x12 (ix4 0 0 h l)) (rowA h i S l))
    (hM' : ∀ g : Fin 4, g ≠ h → ∀ l : Fin 256, M (ix4 0 0 g l) = S.x12 (ix4 0 0 g l)) :
    HeadSpec h i S ((((((S.set14 X).set16 O).set11 A).set12 M).set15 B).set14 D) := by
  constructor <;> dsimp only [St.set14, St.set16, St.set11, St.set12, St.set15] <;> assumption

theorem attnHead_at (h : Fin 4) (i : grid0.Coords) (S : St Ideal) : HeadSpec h i S (attnHeadF h i S) := by
  obtain ⟨X, O, e, hX, hL, hO⟩ := headMid_at h i S
  unfold attnHeadF
  dsimp only
  rw [e]
  generalize (headExpF i (headScoresF h i S).1 (headScoresF h i S).2).1 = L at hL
  have eo : ∀ (d : Fin 160) (l : Fin 256), oOf ((S.set14 X).set16 O) (ix2 d l) = rowO h i S l d.val := fun d l => (win16 O _ d l).trans (hO d l)
  have ev : ∀ l : Fin 256, vsOf ((S.set14 X).set16 O) (ix4 0 0 0 ⟨l.val % 128, by omega⟩) = rowV S l := fun l =>
    window_at S.x7 _ _ _ (ix4 0 0 0 ⟨l.val % 128, by omega⟩) (ix4 0 0 0 ⟨l.val % 128, by omega⟩) fun a => by fin_cases a <;> exact (Nat.zero_add _).symm
  generalize oOf ((S.set14 X).set16 O) = o at eo
  generalize vsOf ((S.set14 X).set16 O) = vs at ev
  have eF : ∀ l : Fin 256, k0_pay93 (F := Ideal) (k0_pay87 L) vs (ix2 0 l) = kF (rowL h i S l) (rowV S l) := fun l => by
    rw [pay93_at, pay87_at, ev l, hL l]; rfl
  have eA : ∀ l : Fin 256, k0_pay94 (F := Ideal) (k0_pay87 L) vs o (ix2 0 l) = rowA h i S l := fun l => by
    rw [pay94_at, eF l]
    refine congrArg (· * _) ((Finset.fold_congr fun d _ => congrArg mag (eo d l)).trans ?_)
    exact fold_range (n := 160) (fun d => mag (rowO h i S l d))
  have eS : ∀ l : Fin 256, k0_pay98 (F := Ideal) (k0_pay95 (k0_pay87 L) vs o) k0_pay96 (ix4 0 0 0 l) = kOS (rowA h i S l) := fun l => by
    rw [pay98_at, eA l]; rfl
  have eW : ∀ l : Fin 256, k0_pay101 (F := Ideal) (k0_pay93 (k0_pay87 L) vs) (k0_pay95 (k0_pay87 L) vs o) k0_pay96 (ix2 0 l)
      = kF (rowL h i S l) (rowV S l) * pow2K (IntOp.subi 0#32 (expoK (rowA h i S l * c448))) := fun l => by
    rw [pay101_at, eA l, eF l]
  obtain ⟨A, M, B, D, q, a1, a2, m1, m2, b1, d1, d2⟩ := headOut_at h i L vs o ((S.set14 X).set16 O)
  rw [q]
  refine headSpec_of h i S X O A M B D ?_ ?_ ?_ ?_ ?_ ?_ ?_
  · exact b1
  · intro k d hk l
    refine (d1 k d hk l).trans ?_
    unfold kOC
    exact congrArg clip (congrArg₂ (· * ·) (eo d l) (eW l))
  · exact fun k hk h2 l => (d2 k h2 l).trans (hX k hk l)
  · exact fun l => (a1 l).trans (eS l)
  · exact a2
  · exact fun l => (m1 l).trans (by rw [eA l]; rfl)
  · exact m2

end Cert.KernelIdeal.Gen

end
-- ==== Proof.KernelIdeal.ReadCodes.lean ====
module

public import proofs.«01_k».proof.Proof.KernelIdeal.Blocks
public import proofs.«01_k».proof.Proof.KernelIdeal.ReadHead

public section

/-
  The codes of a tile of the query and its scales, over the extended reals, from the tile's exponents.
-/

set_option maxRecDepth 16384

noncomputable section

namespace Cert.KernelIdeal.Gen

open Idealize.ShloMosaic Idealize.ShloMosaic.TcCoe Idealize.SL.Sem
open Cert.Attn (c448 clip mag pow2K expoK)

/-- The head of a lane. -/
@[expose] def laneHead (l : Fin 640) : Fin 4 := ⟨l.val / 160, by omega⟩

/-- The inverse scale of head `h` of a tile. -/
@[expose] def invOf (v : Vec Ideal S1x128x640 .bf16) (h : Fin 4) : EReal := pow2K (IntOp.subi 0#32 (qExp (F := Ideal) v h (ix2 0 0)))

theorem select_slt160 (n : ℕ) (hn : n < 640) (a b : EReal) : Scalar.select (IntOp.cmpi .slt (BitVec.ofNat 32 n) 160#32) a b = if n < 160 then a else b := by
  have key : ∀ x : Fin 640, IntOp.cmpi .slt (BitVec.ofNat 32 x.val) 160#32 = BitVec.ofBool (decide (x.val < 160)) := by decide +kernel
  have := key ⟨n, hn⟩
  rw [this]
  by_cases h : n < 160 <;> simp [h, Scalar.select]
theorem select_slt320 (n : ℕ) (hn : n < 640) (a b : EReal) : Scalar.select (IntOp.cmpi .slt (BitVec.ofNat 32 n) 320#32) a b = if n < 320 then a else b := by
  have key : ∀ x : Fin 640, IntOp.cmpi .slt (BitVec.ofNat 32 x.val) 320#32 = BitVec.ofBool (decide (x.val < 320)) := by decide +kernel
  have := key ⟨n, hn⟩
  rw [this]
  by_cases h : n < 320 <;> simp [h, Scalar.select]
theorem select_slt480 (n : ℕ) (hn : n < 640) (a b : EReal) : Scalar.select (IntOp.cmpi .slt (BitVec.ofNat 32 n) 480#32) a b = if n < 480 then a else b := by
  have key : ∀ x : Fin 640, IntOp.cmpi .slt (BitVec.ofNat 32 x.val) 480#32 = BitVec.ofBool (decide (x.val < 480)) := by decide +kernel
  have := key ⟨n, hn⟩
  rw [this]
  by_cases h : n < 480 <;> simp [h, Scalar.select]

theorem qInv_at (v : Vec Ideal S1x128x640 .bf16) (r : Fin 128) (l : Fin 640) : qInv (F := Ideal) v (ix2 r l) = invOf v (laneHead l) := by
  pointwise [qInv, k0_pay14, k0_pay13]
  refine (select_slt160 l.val l.isLt _ _).trans ?_
  rw [select_slt320 l.val l.isLt, select_slt480 l.val l.isLt]
  split_ifs with h1 h2 h3
  · exact congrArg (invOf v) (show (0 : Fin 4) = laneHead l from Fin.ext (by show 0 = l.val / 160; omega))
  · exact congrArg (invOf v) (show (1 : Fin 4) = laneHead l from Fin.ext (by show 1 = l.val / 160; omega))
  · exact congrArg (invOf v) (show (2 : Fin 4) = laneHead l from Fin.ext (by show 2 = l.val / 160; omega))
  · exact congrArg (invOf v) (show (3 : Fin 4) = laneHead l from Fin.ext (by show 3 = l.val / 160; omega))

theorem pay4_at (v : Vec Ideal S1x128x640 .bf16) (r : Fin 128) (l : Fin 640) : k0_pay4 (F := Ideal) v (ix2 r l) = v (ix3 0 r l) := by
  pointwise [k0_pay4]

/-- The code of lane `l`. -/
@[expose] def codeOf (v : Vec Ideal S1x128x640 .bf16) (r : Fin 128) (l : Fin 640) : EReal := clip (v (ix3 0 r l) * invOf v (laneHead l))

theorem codes_at (a b : FVec Ideal S128x640 .bf16) (r : Fin 128) (l : Fin 640) : k0_pay15 (F := Ideal) a b (ix2 r l) = clip (a (ix2 r l) * b (ix2 r l)) := by
  pointwise [k0_pay15]
  exact clip_bits _
theorem stored_at (a b : FVec Ideal S128x640 .bf16) (r : Fin 128) (l : Fin 640) : k0_pay16 (F := Ideal) a b (ix3 0 r l) = clip (a (ix2 r l) * b (ix2 r l)) := by
  pointwise [k0_pay16, k0_pay15]
  exact clip_bits _

theorem qCodes_at (v : Vec Ideal S1x128x640 .bf16) (r : Fin 128) (l : Fin 640) : qCodes (F := Ideal) v (ix2 r l) = codeOf v r l := by
  unfold qCodes
  rw [codes_at, pay4_at, qInv_at]; rfl
theorem qStored_at (v : Vec Ideal S1x128x640 .bf16) (r : Fin 128) (l : Fin 640) : qCodesStored (F := Ideal) v (ix3 0 r l) = codeOf v r l := by
  unfold qCodesStored
  rw [stored_at, pay4_at, qInv_at]; rfl

theorem align0 (a b : FVec Ideal S128x640 .bf16) (r : Fin 128) (l : Fin 256) : k0_pay20 (F := Ideal) a b (ix3 0 r l) = if l.val < 160 then clip (a (ix2 r ⟨l.val, by omega⟩) * b (ix2 r ⟨l.val, by omega⟩)) else 0 := by
  pointwise [k0_pay20, k0_pay15]
  exact (select_slt160 l.val (by omega) _ _).trans (if_congr Iff.rfl (clip_bits _) rfl)
theorem align1 (a : FVec Ideal S128x640 .fp8e4m3) (r : Fin 128) (l : Fin 256) : k0_pay24 (F := Ideal) a (ix3 0 r l) = if l.val < 160 then a (ix2 r ⟨128 + (l.val + 256 - 224) % 256, by omega⟩) else 0 := by
  pointwise [k0_pay24]
  exact select_slt160 l.val (by omega) _ _
theorem align2 (a : FVec Ideal S128x640 .fp8e4m3) (r : Fin 128) (l : Fin 256) : k0_pay28 (F := Ideal) a (ix3 0 r l) = if l.val < 160 then a (ix2 r ⟨256 + (l.val + 256 - 192) % 256, by omega⟩) else 0 := by
  pointwise [k0_pay28]
  exact select_slt160 l.val (by omega) _ _
theorem align3 (a : FVec Ideal S128x640 .fp8e4m3) (r : Fin 128) (l : Fin 256) : k0_pay32 (F := Ideal) a (ix3 0 r l) = if l.val < 160 then a (ix2 r ⟨384 + (l.val + 256 - 160) % 256, by omega⟩) else 0 := by
  pointwise [k0_pay32]
  exact select_slt160 l.val (by omega) _ _

theorem qAlign_at (v : Vec Ideal S1x128x640 .bf16) (h : Fin 4) (r : Fin 128) (l : Fin 256) :
    qAlign (F := Ideal) v h (ix3 0 r l) = if hl : l.val < 160 then codeOf v r ⟨160 * h.val + l.val, by omega⟩ else 0 := by
  by_cases hl : l.val < 160
  · rw [dif_pos hl]
    match h with
    | 0 =>
      refine (align0 _ _ r l).trans ((if_pos hl).trans ?_)
      rw [pay4_at, qInv_at]
      exact congrArg (codeOf v r) (Fin.ext (by show l.val = 160 * 0 + l.val; omega))
    | 1 => exact (align1 _ r l).trans ((if_pos hl).trans ((qCodes_at v r _).trans (congrArg (codeOf v r) (Fin.ext (by show 128 + (l.val + 256 - 224) % 256 = 160 * 1 + l.val; omega)))))
    | 2 => exact (align2 _ r l).trans ((if_pos hl).trans ((qCodes_at v r _).trans (congrArg (codeOf v r) (Fin.ext (by show 256 + (l.val + 256 - 192) % 256 = 160 * 2 + l.val; omega)))))
    | 3 => exact (align3 _ r l).trans ((if_pos hl).trans ((qCodes_at v r _).trans (congrArg (codeOf v r) (Fin.ext (by show 384 + (l.val + 256 - 160) % 256 = 160 * 3 + l.val; omega)))))
  · rw [dif_neg hl]
    match h with
    | 0 => exact (align0 _ _ r l).trans (if_neg hl)
    | 1 => exact (align1 _ r l).trans (if_neg hl)
    | 2 => exact (align2 _ r l).trans (if_neg hl)
    | 3 => exact (align3 _ r l).trans (if_neg hl)

theorem pay18_at (e : IVec S1x1 32) (x : Fin 128) : k0_pay18 (F := Ideal) e (ix5 0 0 0 0 x) = pow2K (e (ix2 0 0)) := by
  pointwise [k0_pay18, k0_pay17]
  rfl
theorem pay19_at (e : IVec S1x1 32) (x : Fin 128) : k0_pay19 (F := Ideal) e (ix2 0 x) = pow2K (e (ix2 0 0)) * Named.named (F := Ideal) (φ := .f32) κ "sm_scale_log2e" 0x3DE995B3#32 := by
  pointwise [k0_pay19, k0_pay17]
  rfl

end Cert.KernelIdeal.Gen

end
-- ==== Proof.KernelIdeal.ReadQuant.lean ====
module

public import proofs.«01_k».proof.Proof.KernelIdeal.Blocks
public import proofs.«01_k».proof.Proof.Math.Row
public import Idealize.ShloMosaic.Lib.Pointwise

public section

/-
  The scale exponents of a tile of the query, over the extended reals.
-/

set_option maxRecDepth 16384

noncomputable section

namespace Cert.KernelIdeal.Gen

open Idealize.ShloMosaic Idealize.ShloMosaic.TcCoe Idealize.SL.Sem
open Cert.Attn (c448 clip mag pow2K expoK)

theorem pay5_at (v : Vec Ideal S1x128x640 .bf16) (l : Fin 640) : k0_pay5 (F := Ideal) v (ix2 0 l) = Finset.fold max ⊥ (fun r : Fin 128 => mag (v (ix3 0 r l))) Finset.univ := by
  pointwise [k0_pay5, k0_pay4]
  rfl

/-- The maximum of 256 lanes from lane `o`, of which those from `lo` to `hi` count. -/
@[expose] def laneMax (f : Fin 640 → EReal) (o : ℕ) (ho : o + 256 ≤ 640) (lo hi : BitVec 32) : EReal :=
  Finset.fold max ⊥ (fun x : Fin 256 => Scalar.select (IntOp.andi (IntOp.cmpi .sge (BitVec.ofNat 32 x.val) lo) (IntOp.cmpi .slt (BitVec.ofNat 32 x.val) hi)) (f ⟨o + x.val, by omega⟩) 0) Finset.univ

theorem exp0_raw (v : Vec Ideal S1x128x640 .bf16) : k0_pay6 (F := Ideal) v (ix2 0 0)
    = expoK (Finset.fold max ⊥ (fun x : Fin 256 => Scalar.select (IntOp.andi (IntOp.cmpi .sge (BitVec.ofNat 32 x.val) 0#32) (IntOp.cmpi .slt (BitVec.ofNat 32 x.val) 160#32)) (k0_pay5 (F := Ideal) v (ix2 0 ⟨x.val, by omega⟩)) 0) Finset.univ * c448) := by
  pointwise [k0_pay6]
  rfl
theorem exp1_raw (f : FVec Ideal S1x256 .f32) : k0_pay9 (F := Ideal) f (iota .tc S1x256 32 [1] iota_S1x256_d1_w32) k0_pay8 192#32 (ix2 0 0)
    = expoK (Finset.fold max ⊥ (fun x : Fin 256 => Scalar.select (IntOp.andi (IntOp.cmpi .sge (BitVec.ofNat 32 x.val) 32#32) (IntOp.cmpi .slt (BitVec.ofNat 32 x.val) 192#32)) (f (ix2 0 x)) 0) Finset.univ * c448) := by
  pointwise [k0_pay9, k0_pay8]
  rfl
theorem pay7_at (v : Vec Ideal S1x128x640 .bf16) (x : Fin 256) : k0_pay7 (F := Ideal) v (ix2 0 x) = k0_pay5 (F := Ideal) v (ix2 0 ⟨128 + x.val, by omega⟩) := by
  pointwise [k0_pay7]
theorem exp2_raw (f : FVec Ideal S1x640 .f32) : k0_pay11 (k0_pay10 (F := Ideal) f) (ix2 0 0)
    = expoK (laneMax (fun l => f (ix2 0 l)) 256 (by norm_num) 64#32 224#32 * c448) := by
  pointwise [k0_pay11, k0_pay10]
  rfl
theorem exp3_raw (f : FVec Ideal S1x640 .f32) : k0_pay12 (F := Ideal) f (ix2 0 0)
    = expoK (laneMax (fun l => f (ix2 0 l)) 384 (by norm_num) 96#32 256#32 * c448) := by
  pointwise [k0_pay12]
  rfl

end Cert.KernelIdeal.Gen

end
-- ==== Proof.Math.Spec.lean ====
module

public import proofs.«01_k».proof.Proof.Math.Row
public import Idealize.ShloMosaic.Lib.Pointwise

@[expose] public section

/-
  What the attention computes, over the extended reals, as plain functions of its five arguments: the quantised query
  and its scales, each row's output before it is quantised, the output's codes and scales, and the largest output of
  each head.
-/

noncomputable section

namespace Cert.Attn

open Idealize.ShloMosaic

/-- The query, the keys' codes, the keys' scales, the values' codes, the values' scale. -/
abbrev XArg := (⟨3, ![2, 4096, 10240]⟩ : Shape).Idx → EReal
abbrev KaArg := (⟨4, ![2, 16, 4096, 256]⟩ : Shape).Idx → EReal
abbrev KsArg := (⟨4, ![2, 16, 32, 128]⟩ : Shape).Idx → EReal
abbrev VtArg := (⟨4, ![2, 16, 160, 4096]⟩ : Shape).Idx → EReal
abbrev VsArg := (⟨4, ![2, 16, 1, 128]⟩ : Shape).Idx → EReal

/-- The head `h` of the group `g`. -/
def headOf (g : Fin 16) (h : Fin 4) : Fin 64 := ⟨g.val * 4 + h.val, by omega⟩

/-- The lane `d` of the head `H`. -/
def laneOf (H : Fin 64) (d : Fin 160) : Fin 10240 := ⟨H.val * 160 + d.val, by omega⟩

/-- The tile of the row `s`. -/
def tileOf (s : Fin 4096) : Fin 32 := ⟨s.val / 128, by omega⟩

/-- The largest magnitude of a tile of 128 rows and the 160 lanes of a head. -/
def tileMax (x : XArg) (b : Fin 2) (t : Fin 32) (H : Fin 64) : EReal :=
  Finset.fold max ⊥ (fun r : Fin 128 => Finset.fold max ⊥ (fun d : Fin 160 => mag (x (ix3 b ⟨t.val * 128 + r.val, by omega⟩ (laneOf H d)))) Finset.univ) Finset.univ

/-- The exponent of the tile's scale. -/
def tileExp (x : XArg) (b : Fin 2) (t : Fin 32) (H : Fin 64) : EReal := expo (tileMax x b t H * c448)

/-- The query's code. -/
def qCode (x : XArg) (b : Fin 2) (s : Fin 4096) (l : Fin 10240) : EReal :=
  clip (x (ix3 b s l) * Ideal.exp2 (0 - tileExp x b (tileOf s) ⟨l.val / 160, by omega⟩))

/-- The query's scale. -/
def qScale (x : XArg) (b : Fin 2) (t : Fin 32) (H : Fin 64) : EReal := Ideal.exp2 (tileExp x b t H)

/-- The score of the row `s` against the key `k`. -/
def sScore (x : XArg) (ka : KaArg) (ks : KsArg) (b : Fin 2) (g : Fin 16) (h : Fin 4) (s : Fin 4096) (k : ℕ) : EReal :=
  if hk : k < 4096 then
    (∑ d : Fin 160, qCode x b s (laneOf (headOf g h) d) * ka (ix4 b g ⟨k, hk⟩ ⟨d.val, by omega⟩))
      * qScale x b (tileOf s) (headOf g h) * ks (ix4 b g ⟨k / 128, by omega⟩ 0) * (((Real.sqrt 160)⁻¹ : ℝ) : EReal)
  else 0

/-- The lane `d` of the value of the key `k`. -/
def sVal (vt : VtArg) (b : Fin 2) (g : Fin 16) (d k : ℕ) : EReal :=
  if h : d < 160 ∧ k < 4096 then vt (ix4 b g ⟨d, h.1⟩ ⟨k, h.2⟩) else 0

/-- The lane `d` of the output's row `s`. -/
def sO (x : XArg) (ka : KaArg) (ks : KsArg) (vt : VtArg) (vs : VsArg) (b : Fin 2) (g : Fin 16) (h : Fin 4) (s : Fin 4096) (d : ℕ) : EReal :=
  rO s.val (sScore x ka ks b g h s) (sVal vt b g d) (vs (ix4 b g 0 0))

/-- The output's scale. -/
def sOS (x : XArg) (ka : KaArg) (ks : KsArg) (vt : VtArg) (vs : VsArg) (b : Fin 2) (g : Fin 16) (h : Fin 4) (s : Fin 4096) : EReal :=
  rOS (rOA (sO x ka ks vt vs b g h s))

/-- The output's code. -/
def sOC (x : XArg) (ka : KaArg) (ks : KsArg) (vt : VtArg) (vs : VsArg) (b : Fin 2) (s : Fin 4096) (l : Fin 10240) : EReal :=
  rOC (rOA (sO x ka ks vt vs b ⟨l.val / 640, by omega⟩ ⟨l.val / 160 % 4, by omega⟩ s)) (sO x ka ks vt vs b ⟨l.val / 640, by omega⟩ ⟨l.val / 160 % 4, by omega⟩ s (l.val % 160))

/-- The largest magnitude of a head's output. -/
def sAM (x : XArg) (ka : KaArg) (ks : KsArg) (vt : VtArg) (vs : VsArg) (b : Fin 2) (g : Fin 16) (h : Fin 4) : EReal :=
  Finset.univ.sup fun s : Fin 4096 => rOA (sO x ka ks vt vs b g h s)

theorem fold_sup {n : ℕ} (f : ℕ → EReal) : Finset.fold max ⊥ (fun r : Fin n => f r.val) Finset.univ = (Finset.range n).sup f := by
  show (Finset.univ : Finset (Fin n)).sup (fun r => f r.val) = _
  refine le_antisymm (Finset.sup_le fun r _ => Finset.le_sup (f := f) (Finset.mem_range.2 r.isLt)) (Finset.sup_le fun k hk => ?_)
  exact Finset.le_sup (f := fun r : Fin n => f r.val) (Finset.mem_univ (⟨k, Finset.mem_range.1 hk⟩ : Fin n))

theorem clip_words (y : EReal) : min (Ideal.ofBits .f32 1138753536#32) (max (Ideal.ofBits .f32 3286237184#32) y) = clip y := by
  have h1 : Ideal.ofBits .f32 1138753536#32 = ((448 : ℝ) : EReal) := by
    simp [Ideal.ofBits, Ideal.ieee, -EReal.coe_mul]; norm_num
  have h2 : Ideal.ofBits .f32 3286237184#32 = ((-448 : ℝ) : EReal) := by
    simp [Ideal.ofBits, Ideal.ieee, -EReal.coe_mul]; norm_num
  rw [h1, h2]; rfl

theorem least_normal : Ideal.ofBits .f32 8388608#32 = (((2 : ℝ) ^ (-126 : ℤ) : ℝ) : EReal) := by
  simp [Ideal.ofBits, Ideal.ieee, -EReal.coe_mul]
  norm_num

theorem expo_words (y ln2 : EReal) (h : ln2 = ((Real.log 2 : ℝ) : EReal)) : (if y < Ideal.ofBits .f32 8388608#32 then 0 else Ideal.liftRound Int.floor (Ideal.div (Ideal.log y) ln2) + 1) = expo y := by
  rw [least_normal, h]; rfl

end Cert.Attn

end
-- ==== Proof.KernelIdeal.QuantSpec.lean ====
module

public import proofs.«01_k».proof.Proof.KernelIdeal.ReadCodes
public import proofs.«01_k».proof.Proof.KernelIdeal.ReadQuant
public import proofs.«01_k».proof.Proof.Math.Spec

@[expose] public section

/-
  A tile of the query: the kernel's exponents, scales and codes are the specification's.
-/

set_option maxRecDepth 16384

noncomputable section

namespace Cert.KernelIdeal.Gen

open Idealize.ShloMosaic Idealize.ShloMosaic.TcCoe Idealize.SL.Sem
open Cert.Attn

/-! ## The maximum over a head's lanes -/

theorem select_decide (p : Prop) [Decidable p] (a : EReal) : Scalar.select (BitVec.ofBool (decide p)) a 0 = if p then a else 0 := by
  by_cases h : p <;> simp [h, Scalar.select]

theorem select_span0 (x : Fin 256) (a : EReal) : Scalar.select (IntOp.andi (IntOp.cmpi .sge (BitVec.ofNat 32 x.val) 0#32) (IntOp.cmpi .slt (BitVec.ofNat 32 x.val) 160#32)) a 0 = if 0 ≤ x.val ∧ x.val < 0 + 160 then a else 0 := by
  have key : ∀ x : Fin 256, IntOp.andi (IntOp.cmpi .sge (BitVec.ofNat 32 x.val) 0#32) (IntOp.cmpi .slt (BitVec.ofNat 32 x.val) 160#32) = BitVec.ofBool (decide (0 ≤ x.val ∧ x.val < 0 + 160)) := by decide +kernel
  rw [key x]
  exact select_decide _ a
theorem select_span1 (x : Fin 256) (a : EReal) : Scalar.select (IntOp.andi (IntOp.cmpi .sge (BitVec.ofNat 32 x.val) 32#32) (IntOp.cmpi .slt (BitVec.ofNat 32 x.val) 192#32)) a 0 = if 32 ≤ x.val ∧ x.val < 32 + 160 then a else 0 := by
  have key : ∀ x : Fin 256, IntOp.andi (IntOp.cmpi .sge (BitVec.ofNat 32 x.val) 32#32) (IntOp.cmpi .slt (BitVec.ofNat 32 x.val) 192#32) = BitVec.ofBool (decide (32 ≤ x.val ∧ x.val < 32 + 160)) := by decide +kernel
  rw [key x]
  exact select_decide _ a
theorem select_span2 (x : Fin 256) (a : EReal) : Scalar.select (IntOp.andi (IntOp.cmpi .sge (BitVec.ofNat 32 x.val) 64#32) (IntOp.cmpi .slt (BitVec.ofNat 32 x.val) 224#32)) a 0 = if 64 ≤ x.val ∧ x.val < 64 + 160 then a else 0 := by
  have key : ∀ x : Fin 256, IntOp.andi (IntOp.cmpi .sge (BitVec.ofNat 32 x.val) 64#32) (IntOp.cmpi .slt (BitVec.ofNat 32 x.val) 224#32) = BitVec.ofBool (decide (64 ≤ x.val ∧ x.val < 64 + 160)) := by decide +kernel
  rw [key x]
  exact select_decide _ a
theorem select_span3 (x : Fin 256) (a : EReal) : Scalar.select (IntOp.andi (IntOp.cmpi .sge (BitVec.ofNat 32 x.val) 96#32) (IntOp.cmpi .slt (BitVec.ofNat 32 x.val) 256#32)) a 0 = if 96 ≤ x.val ∧ x.val < 96 + 160 then a else 0 := by
  have key : ∀ x : Fin 256, IntOp.andi (IntOp.cmpi .sge (BitVec.ofNat 32 x.val) 96#32) (IntOp.cmpi .slt (BitVec.ofNat 32 x.val) 256#32) = BitVec.ofBool (decide (96 ≤ x.val ∧ x.val < 96 + 160)) := by decide +kernel
  rw [key x]
  exact select_decide _ a

/-- A maximum over 256 lanes of which 160 count, all nonnegative, is the maximum over the 160. -/
theorem span_max (f : Fin 256 → EReal) (hf : ∀ x, 0 ≤ f x) (lo : ℕ) (hlo : lo + 160 ≤ 256) :
    Finset.fold max ⊥ (fun x : Fin 256 => if lo ≤ x.val ∧ x.val < lo + 160 then f x else 0) Finset.univ
      = Finset.fold max ⊥ (fun d : Fin 160 => f ⟨lo + d.val, by omega⟩) Finset.univ := by
  show (Finset.univ : Finset (Fin 256)).sup _ = (Finset.univ : Finset (Fin 160)).sup _
  refine le_antisymm (Finset.sup_le fun x _ => ?_) (Finset.sup_le fun d _ => ?_)
  · split_ifs with h
    · have := Finset.le_sup (f := fun d : Fin 160 => f ⟨lo + d.val, by omega⟩) (Finset.mem_univ (⟨x.val - lo, by omega⟩ : Fin 160))
      refine le_trans (le_of_eq (congrArg f (Fin.ext ?_))) this
      show x.val = lo + (x.val - lo); omega
    · exact le_trans (hf ⟨lo + 0, by omega⟩) (Finset.le_sup (f := fun d : Fin 160 => f ⟨lo + d.val, by omega⟩) (Finset.mem_univ (0 : Fin 160)))
  · have := Finset.le_sup (f := fun x : Fin 256 => if lo ≤ x.val ∧ x.val < lo + 160 then f x else 0) (Finset.mem_univ (⟨lo + d.val, by omega⟩ : Fin 256))
    refine le_trans (le_of_eq ?_) this
    exact (if_pos ⟨by show lo ≤ lo + d.val; omega, by show lo + d.val < lo + 160; omega⟩).symm

/-- The largest magnitude of a head's lanes of a tile. -/
def headMax (v : Vec Ideal S1x128x640 .bf16) (h : Fin 4) : EReal :=
  Finset.fold max ⊥ (fun d : Fin 160 => k0_pay5 (F := Ideal) v (ix2 0 ⟨160 * h.val + d.val, by omega⟩)) Finset.univ

theorem pay5_nonneg (v : Vec Ideal S1x128x640 .bf16) (l : Fin 640) : 0 ≤ k0_pay5 (F := Ideal) v (ix2 0 l) := by
  rw [pay5_at]
  exact le_trans (mag_nonneg (v (ix3 0 0 l))) (Finset.le_sup (s := (Finset.univ : Finset (Fin 128))) (f := fun r : Fin 128 => mag (v (ix3 0 r l))) (Finset.mem_univ 0))

theorem qExp_at (v : Vec Ideal S1x128x640 .bf16) (h : Fin 4) : qExp (F := Ideal) v h (ix2 0 0) = expoK (headMax v h * c448) := by
  match h with
  | 0 =>
    refine (exp0_raw v).trans (congrArg (fun y => expoK (y * c448)) ?_)
    refine (Finset.fold_congr fun x _ => select_span0 x _).trans ((span_max (fun x => k0_pay5 (F := Ideal) v (ix2 0 ⟨x.val, by omega⟩)) (fun x => pay5_nonneg v _) 0 (by norm_num)).trans ?_)
    exact Finset.fold_congr fun d _ => congrArg (fun l => k0_pay5 (F := Ideal) v (ix2 0 l)) (Fin.ext (by show 0 + d.val = 160 * 0 + d.val; omega))
  | 1 =>
    refine (exp1_raw _).trans (congrArg (fun y => expoK (y * c448)) ?_)
    refine (Finset.fold_congr fun x _ => (select_span1 x _).trans (by rw [pay7_at])).trans ((span_max (fun x => k0_pay5 (F := Ideal) v (ix2 0 ⟨128 + x.val, by omega⟩)) (fun x => pay5_nonneg v _) 32 (by norm_num)).trans ?_)
    exact Finset.fold_congr fun d _ => congrArg (fun l => k0_pay5 (F := Ideal) v (ix2 0 l)) (Fin.ext (by show 128 + (32 + d.val) = 160 * 1 + d.val; omega))
  | 2 =>
    refine (exp2_raw _).trans (congrArg (fun y => expoK (y * c448)) ?_)
    refine (Finset.fold_congr fun x _ => select_span2 x _).trans ((span_max (fun x => k0_pay5 (F := Ideal) v (ix2 0 ⟨256 + x.val, by omega⟩)) (fun x => pay5_nonneg v _) 64 (by norm_num)).trans ?_)
    exact Finset.fold_congr fun d _ => congrArg (fun l => k0_pay5 (F := Ideal) v (ix2 0 l)) (Fin.ext (by show 256 + (64 + d.val) = 160 * 2 + d.val; omega))
  | 3 =>
    refine (exp3_raw _).trans (congrArg (fun y => expoK (y * c448)) ?_)
    refine (Finset.fold_congr fun x _ => select_span3 x _).trans ((span_max (fun x => k0_pay5 (F := Ideal) v (ix2 0 ⟨384 + x.val, by omega⟩)) (fun x => pay5_nonneg v _) 96 (by norm_num)).trans ?_)
    exact Finset.fold_congr fun d _ => congrArg (fun l => k0_pay5 (F := Ideal) v (ix2 0 l)) (Fin.ext (by show 384 + (96 + d.val) = 160 * 3 + d.val; omega))

/-! ## A tile of the array -/

/-- The tile `v` holds the rows of tile `t` and the lanes of group `g` of the query. -/
def IsTile (x : XArg) (b : Fin 2) (g : Fin 16) (t : Fin 32) (v : Vec Ideal S1x128x640 .bf16) : Prop :=
  ∀ (r : Fin 128) (l : Fin 640), v (ix3 0 r l) = x (ix3 b ⟨t.val * 128 + r.val, by omega⟩ ⟨640 * g.val + l.val, by omega⟩)

variable {x : XArg} {b : Fin 2} {g : Fin 16} {t : Fin 32} {v : Vec Ideal S1x128x640 .bf16}

theorem headMax_eq (hv : IsTile x b g t v) (h : Fin 4) : headMax v h = tileMax x b t (headOf g h) := by
  unfold headMax tileMax
  show (Finset.univ : Finset (Fin 160)).sup (fun d => _) = (Finset.univ : Finset (Fin 128)).sup (fun r => (Finset.univ : Finset (Fin 160)).sup (fun d => _))
  rw [Finset.sup_comm]
  refine Finset.sup_congr rfl fun d _ => (pay5_at v _).trans ?_
  show (Finset.univ : Finset (Fin 128)).sup (fun r => _) = _
  refine Finset.sup_congr rfl fun r _ => congrArg mag ((hv r _).trans ?_)
  exact congrArg (fun l => x (ix3 b _ l)) (Fin.ext (by show 640 * g.val + (160 * h.val + d.val) = (g.val * 4 + h.val) * 160 + d.val; omega))

theorem tileMax_nonneg (x : XArg) (b : Fin 2) (t : Fin 32) (H : Fin 64) : 0 ≤ tileMax x b t H := by
  unfold tileMax
  refine le_trans (mag_nonneg (x (ix3 b ⟨t.val * 128 + 0, by omega⟩ (laneOf H 0)))) ?_
  refine le_trans ?_ (Finset.le_sup (s := (Finset.univ : Finset (Fin 128))) (f := fun r : Fin 128 => Finset.fold max ⊥ (fun d : Fin 160 => mag (x (ix3 b ⟨t.val * 128 + r.val, by omega⟩ (laneOf H d)))) Finset.univ) (Finset.mem_univ 0))
  exact Finset.le_sup (s := (Finset.univ : Finset (Fin 160))) (f := fun d : Fin 160 => mag (x (ix3 b ⟨t.val * 128 + 0, by omega⟩ (laneOf H d)))) (Finset.mem_univ 0)

theorem tileMax_le (hx : ∀ i, mag (x i) ≤ (((2 : ℝ) ^ (128 : ℤ) : ℝ) : EReal)) (b : Fin 2) (t : Fin 32) (H : Fin 64) : tileMax x b t H ≤ (((2 : ℝ) ^ (128 : ℤ) : ℝ) : EReal) :=
  Finset.sup_le (s := (Finset.univ : Finset (Fin 128))) fun r _ => Finset.sup_le (s := (Finset.univ : Finset (Fin 160))) fun d _ => hx _

theorem tile_scaled (hx : ∀ i, mag (x i) ≤ (((2 : ℝ) ^ (128 : ℤ) : ℝ) : EReal)) (b : Fin 2) (t : Fin 32) (H : Fin 64) :
    0 ≤ tileMax x b t H * c448 ∧ tileMax x b t H * c448 < (((2 : ℝ) ^ (126 : ℤ) : ℝ) : EReal) := by
  have h0 := tileMax_nonneg x b t H
  have h1 := tileMax_le hx b t H
  have hc : (0 : EReal) ≤ c448 := by rw [c448_eq]; exact EReal.coe_nonneg.2 (by norm_num)
  refine ⟨mul_nonneg h0 hc, lt_of_le_of_lt (mul_le_mul_of_nonneg_right h1 hc) ?_⟩
  rw [c448_eq, ← EReal.coe_mul, EReal.coe_lt_coe_iff]
  norm_num

/-- The kernel's scale of a tile, its inverse. -/
theorem tile_pow (hx : ∀ i, mag (x i) ≤ (((2 : ℝ) ^ (128 : ℤ) : ℝ) : EReal)) (hv : IsTile x b g t v) (h : Fin 4) :
    pow2K (qExp (F := Ideal) v h (ix2 0 0)) = qScale x b t (headOf g h) ∧ invOf v h = Ideal.exp2 (0 - tileExp x b t (headOf g h)) := by
  obtain ⟨s0, s1⟩ := tile_scaled hx b t (headOf g h)
  obtain ⟨n, n1, n2, n3, -⟩ := expo_spec _ s0 s1
  unfold invOf qScale tileExp
  rw [qExp_at, headMax_eq hv, n1, n2, n3, exp2_int, exp2_neg_int]
  exact ⟨rfl, rfl⟩

/-- The kernel's codes of a tile. -/
theorem tile_code (hx : ∀ i, mag (x i) ≤ (((2 : ℝ) ^ (128 : ℤ) : ℝ) : EReal)) (hv : IsTile x b g t v) (r : Fin 128) (l : Fin 640) :
    codeOf v r l = qCode x b ⟨t.val * 128 + r.val, by omega⟩ ⟨640 * g.val + l.val, by omega⟩ := by
  unfold codeOf qCode
  rw [hv r l, (tile_pow hx hv (laneHead l)).2]
  have e1 : tileOf ⟨t.val * 128 + r.val, by omega⟩ = t := Fin.ext (by show (t.val * 128 + r.val) / 128 = t.val; omega)
  have e2 : headOf g (laneHead l) = ⟨(640 * g.val + l.val) / 160, by omega⟩ := Fin.ext (by show g.val * 4 + l.val / 160 = (640 * g.val + l.val) / 160; omega)
  rw [e1, e2]

end Cert.KernelIdeal.Gen

end
-- ==== Proof.KernelIdeal.QuantTile.lean ====
module

public import proofs.«01_k».proof.Proof.KernelIdeal.QuantSpec
public import proofs.«01_k».proof.Proof.KernelIdeal.Words

@[expose] public section

/-
  What quantising the two tiles of a block leaves: the codes, the scales, the scales for the scores, the aligned codes.
-/

set_option maxRecDepth 65536

noncomputable section

namespace Cert.KernelIdeal.Gen

open Idealize.ShloMosaic Idealize.ShloMosaic.TcCoe
open Idealize.ShloMosaic.VecWindow (window put)
open Cert.Attn

/-- The constant of the scores, by the name the program gives it. -/
def smK : EReal := Named.named (F := Ideal) (φ := .f32) κ "sm_scale_log2e" 0x3DE995B3#32

section Head
variable (t : Fin 2) (h : Fin 4) (v : Vec Ideal S1x128x640 .bf16) (S : St Ideal)

theorem quantHead_x9 (c : Fin 8) (y : Fin 128) :
    (quantHeadF t h v S).x9 (ix5 0 0 0 c y) = if c.val = 2 * h.val + t.val then pow2K (qExp (F := Ideal) v h (ix2 0 0)) else S.x9 (ix5 0 0 0 c y) := by
  show put S.x9 ![0, 0, 0, (⟨2 * h.val + t.val, by omega⟩ : Fin 8).val, 0] S1x1x1x1x128.size (k0_pay18 (F := Ideal) (qExp v h)) (ix5 0 0 0 c y) = _
  split_ifs with hc
  · refine (put_in (s := S1x1x1x8x128) _ _ _ _ _ (ix5 0 0 0 0 y : S1x1x1x1x128.Idx) fun a => ?_).trans (pay18_at _ y)
    fin_cases a
    · rfl
    · rfl
    · rfl
    · exact hc
    · exact (Nat.zero_add _).symm
  · exact put_out (s := S1x1x1x8x128) _ _ _ _ _ 3 (by show c.val < 2 * h.val + t.val ∨ 2 * h.val + t.val + 1 ≤ c.val; omega)

theorem quantHead_x15 (r : Fin 8) (l : Fin 256) :
    (quantHeadF t h v S).x15 (ix2 r l) = if r.val = h.val ∧ l.val / 128 = t.val then pow2K (qExp (F := Ideal) v h (ix2 0 0)) * smK else S.x15 (ix2 r l) := by
  show put S.x15 ![(h.castLE (by decide) : Fin 8).val, 128 * t.val] S1x128.size (k0_pay19 (F := Ideal) (qExp v h)) (ix2 r l) = _
  split_ifs with hc
  · refine (put_in (s := S8x256) _ _ _ _ _ (ix2 0 ⟨l.val % 128, by omega⟩ : S1x128.Idx) fun a => ?_).trans (pay19_at _ _)
    fin_cases a
    · exact hc.1
    · show l.val = 128 * t.val + l.val % 128; omega
  · by_cases h1 : r.val = h.val
    · exact put_out (s := S8x256) _ _ _ _ _ 1 (by show l.val < 128 * t.val ∨ 128 * t.val + 128 ≤ l.val; omega)
    · exact put_out (s := S8x256) _ _ _ _ _ 0 (by show r.val < h.val ∨ h.val + 1 ≤ r.val; omega)

theorem quantHead_x13 (c : Fin 4) (l : Fin 256) (y : Fin 256) :
    (quantHeadF t h v S).x13 (ix3 c l y) = if c.val = h.val ∧ l.val / 128 = t.val then qAlign (F := Ideal) v h (ix3 0 ⟨l.val % 128, by omega⟩ y) else S.x13 (ix3 c l y) := by
  show put S.x13 ![h.val, 128 * t.val, 0] S1x128x256.size (qAlign v h) (ix3 c l y) = _
  split_ifs with hc
  · refine put_in (s := S4x256x256) _ _ _ _ _ (ix3 0 ⟨l.val % 128, by omega⟩ y : S1x128x256.Idx) fun a => ?_
    fin_cases a
    · exact hc.1
    · show l.val = 128 * t.val + l.val % 128; omega
    · exact (Nat.zero_add _).symm
  · by_cases h1 : c.val = h.val
    · exact put_out (s := S4x256x256) _ _ _ _ _ 1 (by show l.val < 128 * t.val ∨ 128 * t.val + 128 ≤ l.val; omega)
    · exact put_out (s := S4x256x256) _ _ _ _ _ 0 (by show c.val < h.val ∨ h.val + 1 ≤ c.val; omega)

end Head

theorem fin4_cases (h : Fin 4) : h = 0 ∨ h = 1 ∨ h = 2 ∨ h = 3 := by decide +revert

section Tile
variable (t : Fin 2) (S : St Ideal)

theorem quantTile_x8 (r : Fin 256) (l : Fin 640) : (quantTileF t S).x8 (ix3 0 r l) = if r.val / 128 = t.val then codeOf (qRows t S) ⟨r.val % 128, by omega⟩ l else S.x8 (ix3 0 r l) := by
  show put S.x8 ![0, 128 * t.val, 0] S1x128x640.size (qCodesStored (qRows t S)) (ix3 0 r l) = _
  split_ifs with hc
  · refine (put_in (s := S1x256x640) _ _ _ _ _ (ix3 0 ⟨r.val % 128, by omega⟩ l : S1x128x640.Idx) fun a => ?_).trans (qStored_at _ _ _)
    fin_cases a
    · rfl
    · show r.val = 128 * t.val + r.val % 128; omega
    · exact (Nat.zero_add _).symm
  · exact put_out (s := S1x256x640) _ _ _ _ _ 1 (by show r.val < 128 * t.val ∨ 128 * t.val + 128 ≤ r.val; omega)

theorem quantTile_x9 (h : Fin 4) (c : Fin 8) (hc : c.val / 2 = h.val) (y : Fin 128) :
    (quantTileF t S).x9 (ix5 0 0 0 c y) = if c.val % 2 = t.val then pow2K (qExp (F := Ideal) (qRows t S) h (ix2 0 0)) else S.x9 (ix5 0 0 0 c y) := by
  unfold quantTileF
  rw [quantHead_x9, quantHead_x9, quantHead_x9, quantHead_x9]
  have e0 : (0 : Fin 4).val = 0 := rfl
  have e1 : (1 : Fin 4).val = 1 := rfl
  have e2 : (2 : Fin 4).val = 2 := rfl
  have e3 : (3 : Fin 4).val = 3 := rfl
  rw [e0, e1, e2, e3]
  rcases fin4_cases h with rfl | rfl | rfl | rfl
  all_goals
    first | rw [e0] at hc | rw [e1] at hc | rw [e2] at hc | rw [e3] at hc
    split_ifs <;> first | (exfalso; omega) | rfl

theorem quantTile_x15 (h : Fin 4) (r : Fin 8) (hr : r.val = h.val) (l : Fin 256) :
    (quantTileF t S).x15 (ix2 r l) = if l.val / 128 = t.val then pow2K (qExp (F := Ideal) (qRows t S) h (ix2 0 0)) * smK else S.x15 (ix2 r l) := by
  unfold quantTileF
  rw [quantHead_x15, quantHead_x15, quantHead_x15, quantHead_x15]
  have e0 : (0 : Fin 4).val = 0 := rfl
  have e1 : (1 : Fin 4).val = 1 := rfl
  have e2 : (2 : Fin 4).val = 2 := rfl
  have e3 : (3 : Fin 4).val = 3 := rfl
  rw [e0, e1, e2, e3]
  rcases fin4_cases h with rfl | rfl | rfl | rfl
  all_goals
    first | rw [e0] at hr | rw [e1] at hr | rw [e2] at hr | rw [e3] at hr
    split_ifs <;> first | (exfalso; omega) | rfl

theorem quantTile_x13 (h : Fin 4) (l : Fin 256) (y : Fin 256) :
    (quantTileF t S).x13 (ix3 h l y) = if l.val / 128 = t.val then qAlign (F := Ideal) (qRows t S) h (ix3 0 ⟨l.val % 128, by omega⟩ y) else S.x13 (ix3 h l y) := by
  unfold quantTileF
  generalize qRows t S = v
  by_cases hl : l.val / 128 = t.val
  · rw [if_pos hl]
    rcases fin4_cases h with rfl | rfl | rfl | rfl
    · rw [quantHead_x13, if_neg (fun e => absurd e.1 (by decide)), quantHead_x13, if_neg (fun e => absurd e.1 (by decide)),
        quantHead_x13, if_neg (fun e => absurd e.1 (by decide)), quantHead_x13, if_pos ⟨rfl, hl⟩]
    · rw [quantHead_x13, if_neg (fun e => absurd e.1 (by decide)), quantHead_x13, if_neg (fun e => absurd e.1 (by decide)),
        quantHead_x13, if_pos ⟨rfl, hl⟩]
    · rw [quantHead_x13, if_neg (fun e => absurd e.1 (by decide)), quantHead_x13, if_pos ⟨rfl, hl⟩]
    · rw [quantHead_x13, if_pos ⟨rfl, hl⟩]
  · rw [if_neg hl, quantHead_x13, if_neg (fun e => hl e.2), quantHead_x13, if_neg (fun e => hl e.2),
      quantHead_x13, if_neg (fun e => hl e.2), quantHead_x13, if_neg (fun e => hl e.2)]
    rfl

end Tile

/-! ## Both tiles -/

/-- The tile of a row of the block. -/
def rowTile (r : Fin 256) : Fin 2 := ⟨r.val / 128, by omega⟩

theorem quantHead_x3 (t : Fin 2) (h : Fin 4) (v : Vec Ideal S1x128x640 .bf16) (S : St Ideal) : (quantHeadF t h v S).x3 = S.x3 := by unfold quantHeadF; rfl

theorem quantTile_x3 (t : Fin 2) (S : St Ideal) : (quantTileF t S).x3 = S.x3 := by
  unfold quantTileF
  rw [quantHead_x3, quantHead_x3, quantHead_x3, quantHead_x3]
  rfl

theorem qRows_quantTile (S : St Ideal) : qRows 1 (quantTileF 0 S) = qRows 1 S := by
  unfold qRows
  rw [quantTile_x3]

section Both
variable (S : St Ideal)

theorem quant_x8 (r : Fin 256) (l : Fin 640) : (quantTileF 1 (quantTileF 0 S)).x8 (ix3 0 r l) = codeOf (qRows (rowTile r) S) ⟨r.val % 128, by omega⟩ l := by
  rw [quantTile_x8, quantTile_x8, qRows_quantTile]
  by_cases h : r.val / 128 = 1
  · rw [if_pos (show _ = (1 : Fin 2).val from h)]; exact congrArg (fun t => codeOf (qRows t S) _ l) (Fin.ext h.symm)
  · rw [if_neg (show ¬ _ = (1 : Fin 2).val from h), if_pos (show r.val / 128 = (0 : Fin 2).val by show r.val / 128 = 0; omega)]
    exact congrArg (fun t => codeOf (qRows t S) _ l) (Fin.ext (by show 0 = r.val / 128; omega))

theorem quant_x9 (c : Fin 8) (y : Fin 128) : (quantTileF 1 (quantTileF 0 S)).x9 (ix5 0 0 0 c y)
    = pow2K (qExp (F := Ideal) (qRows ⟨c.val % 2, by omega⟩ S) ⟨c.val / 2, by omega⟩ (ix2 0 0)) := by
  rw [quantTile_x9 1 _ ⟨c.val / 2, by omega⟩ c rfl, quantTile_x9 0 _ ⟨c.val / 2, by omega⟩ c rfl, qRows_quantTile]
  by_cases h : c.val % 2 = 1
  · rw [if_pos (show _ = (1 : Fin 2).val from h)]; exact congrArg (fun t => pow2K (qExp (F := Ideal) (qRows t S) _ (ix2 0 0))) (Fin.ext h.symm)
  · rw [if_neg (show ¬ _ = (1 : Fin 2).val from h), if_pos (show c.val % 2 = (0 : Fin 2).val by show c.val % 2 = 0; omega)]
    exact congrArg (fun t => pow2K (qExp (F := Ideal) (qRows t S) _ (ix2 0 0))) (Fin.ext (by show 0 = c.val % 2; omega))

theorem quant_x15 (h : Fin 4) (r : Fin 8) (hr : r.val = h.val) (l : Fin 256) : (quantTileF 1 (quantTileF 0 S)).x15 (ix2 r l)
    = pow2K (qExp (F := Ideal) (qRows (rowTile l) S) h (ix2 0 0)) * smK := by
  rw [quantTile_x15 1 _ h r hr, quantTile_x15 0 _ h r hr, qRows_quantTile]
  by_cases h1 : l.val / 128 = 1
  · rw [if_pos (show _ = (1 : Fin 2).val from h1)]; exact congrArg (fun t => pow2K (qExp (F := Ideal) (qRows t S) h (ix2 0 0)) * smK) (Fin.ext h1.symm)
  · rw [if_neg (show ¬ _ = (1 : Fin 2).val from h1), if_pos (show l.val / 128 = (0 : Fin 2).val by show l.val / 128 = 0; omega)]
    exact congrArg (fun t => pow2K (qExp (F := Ideal) (qRows t S) h (ix2 0 0)) * smK) (Fin.ext (by show 0 = l.val / 128; omega))

theorem quant_x13 (h : Fin 4) (l : Fin 256) (y : Fin 256) : (quantTileF 1 (quantTileF 0 S)).x13 (ix3 h l y)
    = if hl : y.val < 160 then codeOf (qRows (rowTile l) S) ⟨l.val % 128, by omega⟩ ⟨160 * h.val + y.val, by omega⟩ else 0 := by
  refine Eq.trans ?_ (qAlign_at (qRows (rowTile l) S) h ⟨l.val % 128, by omega⟩ y)
  rw [quantTile_x13, quantTile_x13, qRows_quantTile]
  by_cases h1 : l.val / 128 = 1
  · rw [if_pos (show _ = (1 : Fin 2).val from h1)]; exact congrArg (fun t => qAlign (F := Ideal) (qRows t S) h _) (Fin.ext h1.symm)
  · rw [if_neg (show ¬ _ = (1 : Fin 2).val from h1), if_pos (show l.val / 128 = (0 : Fin 2).val by show l.val / 128 = 0; omega)]
    exact congrArg (fun t => qAlign (F := Ideal) (qRows t S) h _) (Fin.ext (by show 0 = l.val / 128; omega))

end Both

end Cert.KernelIdeal.Gen

end
-- ==== Proof.KernelIdeal.BodySpec.lean ====
module

public import proofs.«01_k».proof.Proof.KernelIdeal.HeadOut
public import proofs.«01_k».proof.Proof.KernelIdeal.QuantTile

@[expose] public section

/-
  One call of the body, on blocks of arrays in range: each output block is the specification's.
-/

set_option maxRecDepth 65536

noncomputable section

namespace Cert.KernelIdeal.Gen

open Idealize.ShloMosaic Idealize.ShloMosaic.TcCoe
open Idealize.ShloMosaic.VecWindow (window put)
open Cert.Attn

/-- The batch, the group and the row block of a point. -/
def bOf (i : grid0.Coords) : Fin 2 := ⟨(i 0).val, (i 0).isLt⟩
def gOf (i : grid0.Coords) : Fin 16 := ⟨(i 1).val, (i 1).isLt⟩
def qOf (i : grid0.Coords) : Fin 16 := ⟨(i 2).val, (i 2).isLt⟩

/-- The row `r` of the row block `q`. -/
def rowOf (q : Fin 16) (r : Fin 256) : Fin 4096 := ⟨256 * q.val + r.val, by omega⟩
/-- The lane `l` of the group `g`. -/
def colOf (g : Fin 16) (l : Fin 640) : Fin 10240 := ⟨640 * g.val + l.val, by omega⟩

/-- The arrays are in range. -/
structure InRange (x : XArg) (ks : KsArg) (vt : VtArg) (vs : VsArg) : Prop where
  hx : ∀ i, mag (x i) ≤ (((2 : ℝ) ^ (128 : ℤ) : ℝ) : EReal)
  hv : ∀ i, mag (vt i) ≤ ((448 : ℝ) : EReal)
  hk : ∀ (b : Fin 2) (g : Fin 16) (j : Fin 32) (c : Fin 128), ks (ix4 b g j c) = ks (ix4 b g j 0)
  h0 : ∀ (b : Fin 2) (g : Fin 16), 0 ≤ vs (ix4 b g 0 0)
  h1 : ∀ (b : Fin 2) (g : Fin 16), vs (ix4 b g 0 0) ≤ (((2 : ℝ) ^ (120 : ℤ) : ℝ) : EReal)
  hs : ∀ (b : Fin 2) (g : Fin 16) (c : Fin 128), vs (ix4 b g 0 c) = vs (ix4 b g 0 0)

/-- The input blocks are those of a point. -/
structure BlockIn (x : XArg) (ka : KaArg) (ks : KsArg) (vt : VtArg) (vs : VsArg) (i : grid0.Coords) (S : St Ideal) : Prop where
  x3 : ∀ (r : Fin 256) (l : Fin 640), S.x3 (ix3 0 r l) = x (ix3 (bOf i) (rowOf (qOf i) r) (colOf (gOf i) l))
  x4 : ∀ (k : Fin 4096) (d : Fin 256), S.x4 (ix4 0 0 k d) = ka (ix4 (bOf i) (gOf i) k d)
  x5 : ∀ (j : Fin 32) (c : Fin 128), S.x5 (ix4 0 0 j c) = ks (ix4 (bOf i) (gOf i) j c)
  x6 : ∀ (d : Fin 160) (k : Fin 4096), S.x6 (ix4 0 0 d k) = vt (ix4 (bOf i) (gOf i) d k)
  x7 : ∀ (c : Fin 128), S.x7 (ix4 0 0 0 c) = vs (ix4 (bOf i) (gOf i) 0 c)

variable {x : XArg} {ka : KaArg} {ks : KsArg} {vt : VtArg} {vs : VsArg} {i : grid0.Coords} {S : St Ideal}

/-! ## The quantised query -/

theorem isTile (B : BlockIn x ka ks vt vs i S) (t : Fin 2) : IsTile x (bOf i) (gOf i) ⟨2 * (qOf i).val + t.val, by omega⟩ (qRows t S) := fun r l => by
  refine (window_at S.x3 ![0, 128 * t.val, 0] S1x128x640.size _ (ix3 0 r l) (ix3 0 ⟨128 * t.val + r.val, by omega⟩ l) fun a => ?_).trans ((B.x3 _ _).trans ?_)
  · fin_cases a
    · rfl
    · rfl
    · exact (Nat.zero_add _).symm
  · refine congrArg x (congrArg₂ (fun p q => ix3 (bOf i) p q) (Fin.ext ?_) rfl)
    show 256 * (qOf i).val + (128 * t.val + r.val) = (2 * (qOf i).val + t.val) * 128 + r.val
    omega

theorem tile_row (q : Fin 16) (l : Fin 256) : tileOf (rowOf q l) = ⟨2 * q.val + (rowTile l).val, by have := (rowTile l).isLt; omega⟩ :=
  Fin.ext (by show (256 * q.val + l.val) / 128 = 2 * q.val + l.val / 128; omega)

/-- The state after the query is quantised. -/
abbrev quantF (S : St Ideal) : St Ideal := quantTileF 1 (quantTileF 0 S)

theorem code_at (R : InRange x ks vt vs) (B : BlockIn x ka ks vt vs i S) (r : Fin 256) (l : Fin 640) :
    codeOf (qRows (rowTile r) S) ⟨r.val % 128, by omega⟩ l = qCode x (bOf i) (rowOf (qOf i) r) (colOf (gOf i) l) := by
  refine (tile_code R.hx (isTile B (rowTile r)) _ l).trans ?_
  refine congrArg₂ (qCode x (bOf i)) (Fin.ext ?_) rfl
  show (2 * (qOf i).val + r.val / 128) * 128 + r.val % 128 = 256 * (qOf i).val + r.val
  omega

theorem quantF_x8 (R : InRange x ks vt vs) (B : BlockIn x ka ks vt vs i S) (r : Fin 256) (l : Fin 640) :
    (quantF S).x8 (ix3 0 r l) = qCode x (bOf i) (rowOf (qOf i) r) (colOf (gOf i) l) := (quant_x8 S r l).trans (code_at R B r l)

theorem quantF_x9 (R : InRange x ks vt vs) (B : BlockIn x ka ks vt vs i S) (c : Fin 8) (y : Fin 128) :
    (quantF S).x9 (ix5 0 0 0 c y) = qScale x (bOf i) ⟨(qOf i).val * 2 + c.val % 2, by omega⟩ (headOf (gOf i) ⟨c.val / 2, by omega⟩) := by
  refine (quant_x9 S c y).trans ((tile_pow R.hx (isTile B _) _).1.trans ?_)
  refine congrArg (fun t => qScale x (bOf i) t _) (Fin.ext ?_)
  show 2 * (qOf i).val + c.val % 2 = (qOf i).val * 2 + c.val % 2
  omega

theorem quantF_x15 (R : InRange x ks vt vs) (B : BlockIn x ka ks vt vs i S) (h : Fin 4) (r : Fin 8) (hr : r.val = h.val) (l : Fin 256) :
    (quantF S).x15 (ix2 r l) = qScale x (bOf i) (tileOf (rowOf (qOf i) l)) (headOf (gOf i) h) * smK := by
  rw [tile_row]
  exact (quant_x15 S h r hr l).trans (congrArg (· * smK) (tile_pow R.hx (isTile B _) _).1)

theorem quantF_x13 (R : InRange x ks vt vs) (B : BlockIn x ka ks vt vs i S) (h : Fin 4) (l : Fin 256) (y : Fin 256) :
    (quantF S).x13 (ix3 h l y) = if hy : y.val < 160 then qCode x (bOf i) (rowOf (qOf i) l) (laneOf (headOf (gOf i) h) ⟨y.val, hy⟩) else 0 := by
  refine (quant_x13 S h l y).trans ?_
  split_ifs with hy
  · refine (code_at R B l _).trans (congrArg (qCode x (bOf i) _) (Fin.ext ?_))
    show 640 * (gOf i).val + (160 * h.val + y.val) = ((gOf i).val * 4 + h.val) * 160 + y.val
    omega
  · rfl

/-! ## What the parts leave alone -/

theorem quantHead_x4 (t : Fin 2) (h : Fin 4) (v : Vec Ideal S1x128x640 .bf16) (S : St Ideal) : (quantHeadF t h v S).x4 = S.x4 := by unfold quantHeadF; rfl
theorem quantTile_x4 (t : Fin 2) (S : St Ideal) : (quantTileF t S).x4 = S.x4 := by
  unfold quantTileF
  rw [quantHead_x4, quantHead_x4, quantHead_x4, quantHead_x4]
  rfl
theorem quantF_x4 (S : St Ideal) : (quantTileF 1 (quantTileF 0 S)).x4 = S.x4 := (quantTile_x4 1 _).trans (quantTile_x4 0 S)
theorem quantHead_x5 (t : Fin 2) (h : Fin 4) (v : Vec Ideal S1x128x640 .bf16) (S : St Ideal) : (quantHeadF t h v S).x5 = S.x5 := by unfold quantHeadF; rfl
theorem quantTile_x5 (t : Fin 2) (S : St Ideal) : (quantTileF t S).x5 = S.x5 := by
  unfold quantTileF
  rw [quantHead_x5, quantHead_x5, quantHead_x5, quantHead_x5]
  rfl
theorem quantF_x5 (S : St Ideal) : (quantTileF 1 (quantTileF 0 S)).x5 = S.x5 := (quantTile_x5 1 _).trans (quantTile_x5 0 S)
theorem quantHead_x6 (t : Fin 2) (h : Fin 4) (v : Vec Ideal S1x128x640 .bf16) (S : St Ideal) : (quantHeadF t h v S).x6 = S.x6 := by unfold quantHeadF; rfl
theorem quantTile_x6 (t : Fin 2) (S : St Ideal) : (quantTileF t S).x6 = S.x6 := by
  unfold quantTileF
  rw [quantHead_x6, quantHead_x6, quantHead_x6, quantHead_x6]
  rfl
theorem quantF_x6 (S : St Ideal) : (quantTileF 1 (quantTileF 0 S)).x6 = S.x6 := (quantTile_x6 1 _).trans (quantTile_x6 0 S)
theorem quantHead_x7 (t : Fin 2) (h : Fin 4) (v : Vec Ideal S1x128x640 .bf16) (S : St Ideal) : (quantHeadF t h v S).x7 = S.x7 := by unfold quantHeadF; rfl
theorem quantTile_x7 (t : Fin 2) (S : St Ideal) : (quantTileF t S).x7 = S.x7 := by
  unfold quantTileF
  rw [quantHead_x7, quantHead_x7, quantHead_x7, quantHead_x7]
  rfl
theorem quantF_x7 (S : St Ideal) : (quantTileF 1 (quantTileF 0 S)).x7 = S.x7 := (quantTile_x7 1 _).trans (quantTile_x7 0 S)
theorem quantHead_x12 (t : Fin 2) (h : Fin 4) (v : Vec Ideal S1x128x640 .bf16) (S : St Ideal) : (quantHeadF t h v S).x12 = S.x12 := by unfold quantHeadF; rfl
theorem quantTile_x12 (t : Fin 2) (S : St Ideal) : (quantTileF t S).x12 = S.x12 := by
  unfold quantTileF
  rw [quantHead_x12, quantHead_x12, quantHead_x12, quantHead_x12]
  rfl
theorem quantF_x12 (S : St Ideal) : (quantTileF 1 (quantTileF 0 S)).x12 = S.x12 := (quantTile_x12 1 _).trans (quantTile_x12 0 S)
theorem storeOc_x8 (t : Fin 5) (T : St Ideal) : (storeOcF t T).x8 = T.x8 := by unfold storeOcF; rfl
theorem amaxLast_x8 (T : St Ideal) : (amaxLastF T).x8 = T.x8 := by unfold amaxLastF; rfl
theorem storeOc_x9 (t : Fin 5) (T : St Ideal) : (storeOcF t T).x9 = T.x9 := by unfold storeOcF; rfl
theorem amaxLast_x9 (T : St Ideal) : (amaxLastF T).x9 = T.x9 := by unfold amaxLastF; rfl
theorem storeOc_x11 (t : Fin 5) (T : St Ideal) : (storeOcF t T).x11 = T.x11 := by unfold storeOcF; rfl
theorem amaxLast_x11 (T : St Ideal) : (amaxLastF T).x11 = T.x11 := by unfold amaxLastF; rfl
theorem storeOc_x12 (t : Fin 5) (T : St Ideal) : (storeOcF t T).x12 = T.x12 := by unfold storeOcF; rfl
theorem amaxLast_x10 (T : St Ideal) : (amaxLastF T).x10 = T.x10 := by unfold amaxLastF; rfl

/-! ## A head's rows -/

/-- What the heads leave of the quantised state. -/
structure Mid (Q U : St Ideal) : Prop where
  x4 : U.x4 = Q.x4
  x5 : U.x5 = Q.x5
  x6 : U.x6 = Q.x6
  x7 : U.x7 = Q.x7
  x8 : U.x8 = Q.x8
  x9 : U.x9 = Q.x9
  x13 : U.x13 = Q.x13
  x15 : ∀ r : Fin 8, r.val < 4 → ∀ l : Fin 256, U.x15 (ix2 r l) = Q.x15 (ix2 r l)

theorem Mid.refl (Q : St Ideal) : Mid Q Q := ⟨rfl, rfl, rfl, rfl, rfl, rfl, rfl, fun _ _ _ => rfl⟩
theorem Mid.step {Q U T : St Ideal} {h : Fin 4} {i : grid0.Coords} (M : Mid Q U) (H : HeadSpec h i U T) : Mid Q T :=
  ⟨H.x4.trans M.x4, H.x5.trans M.x5, H.x6.trans M.x6, H.x7.trans M.x7, H.x8.trans M.x8, H.x9.trans M.x9, H.x13.trans M.x13, fun r hr l => (H.x15 r hr l).trans (M.x15 r hr l)⟩

theorem smK_eq : smK = (((Real.sqrt 160)⁻¹ : ℝ) : EReal) * (((Real.log 2)⁻¹ : ℝ) : EReal) := by
  rw [← EReal.coe_mul]; rfl

theorem sum_lanes (f : Fin 256 → EReal) (g : Fin 160 → EReal) (h1 : ∀ d : Fin 160, f ⟨d.val, by omega⟩ = g d) (h2 : ∀ y : Fin 256, 160 ≤ y.val → f y = 0) :
    ∑ y, f y = ∑ d, g d := by
  refine (Fin.sum_univ_add (a := 160) (b := 96) f).trans ?_
  rw [Finset.sum_eq_zero fun (y : Fin 96) _ => h2 _ (by show 160 ≤ 160 + y.val; omega), add_zero]
  exact Finset.sum_congr rfl fun d _ => h1 d

variable {U : St Ideal}

theorem sgRow_eq (R : InRange x ks vt vs) (B : BlockIn x ka ks vt vs i S) (M : Mid (quantF S) U) (h : Fin 4) (l : Fin 256) :
    sgRow h U (ix2 0 l) = qScale x (bOf i) (tileOf (rowOf (qOf i) l)) (headOf (gOf i) h) * smK := by
  have e := window_at U.x15 ![(h.castLE (by decide) : Fin 8).val, 0] S1x256.size (inbSgRow (h.castLE (by decide))) (ix2 0 l) (ix2 (h.castLE (by decide)) l) fun a => by
    fin_cases a
    · rfl
    · exact (Nat.zero_add _).symm
  exact e.trans ((M.x15 _ h.isLt l).trans (quantF_x15 R B h _ rfl l))

theorem qaHead_eq (R : InRange x ks vt vs) (B : BlockIn x ka ks vt vs i S) (M : Mid (quantF S) U) (h : Fin 4) (l y : Fin 256) :
    qaHead h U (ix3 0 l y) = if hy : y.val < 160 then qCode x (bOf i) (rowOf (qOf i) l) (laneOf (headOf (gOf i) h) ⟨y.val, hy⟩) else 0 := by
  have e := window_at U.x13 ![h.val, 0, 0] S1x256x256.size (inbQaHead h) (ix3 0 l y) (ix3 h l y) fun a => by
    fin_cases a
    · rfl
    · exact (Nat.zero_add _).symm
    · exact (Nat.zero_add _).symm
  exact e.trans ((congrFun M.x13 _).trans (quantF_x13 R B h l y))

/-- The factors of a score, reordered. -/
theorem score_order (A C D E F : EReal) : A * (D * (C * (E * F))) = A * C * D * E * F := by
  rw [mul_left_comm D C, ← mul_assoc D, ← mul_assoc C, ← mul_assoc C, ← mul_assoc A, ← mul_assoc A, ← mul_assoc A]

theorem rowT_eq (R : InRange x ks vt vs) (B : BlockIn x ka ks vt vs i S) (M : Mid (quantF S) U) (h : Fin 4) (l : Fin 256) :
    rowT h U l = fun k => sScore x ka ks (bOf i) (gOf i) h (rowOf (qOf i) l) k * (((Real.log 2)⁻¹ : ℝ) : EReal) := by
  funext k
  unfold rowT keyScore sScore
  by_cases hk : k < 4096
  · rw [dif_pos hk, dif_pos hk]
    have h5 : U.x5 (ix4 0 0 ⟨k / 128, by omega⟩ ⟨l.val % 128, by omega⟩) = ks (ix4 (bOf i) (gOf i) ⟨k / 128, by omega⟩ 0) :=
      (congrFun (M.x5.trans (quantF_x5 S)) _).trans ((B.x5 _ _).trans (R.hk _ _ _ _))
    have h4 : ∀ y : Fin 256, U.x4 (ix4 0 0 ⟨k, hk⟩ y) = ka (ix4 (bOf i) (gOf i) ⟨k, hk⟩ y) := fun y =>
      (congrFun (M.x4.trans (quantF_x4 S)) _).trans (B.x4 _ _)
    have hs := sum_lanes (fun y => U.x4 (ix4 0 0 ⟨k, hk⟩ y) * qaHead h U (ix3 0 l y))
      (fun d => qCode x (bOf i) (rowOf (qOf i) l) (laneOf (headOf (gOf i) h) d) * ka (ix4 (bOf i) (gOf i) ⟨k, hk⟩ ⟨d.val, by omega⟩))
      (fun d => (congrArg₂ (· * ·) (h4 _) ((qaHead_eq R B M h l _).trans (dif_pos d.isLt))).trans (mul_comm _ _))
      (fun y hy => (congrArg (U.x4 (ix4 0 0 ⟨k, hk⟩ y) * ·) ((qaHead_eq R B M h l y).trans (dif_neg (by omega)))).trans (mul_zero _))
    refine (congrArg₂ (· * ·) hs (congrArg₂ (· * ·) h5 ((sgRow_eq R B M h l).trans (congrArg (_ * ·) smK_eq)))).trans ?_
    exact score_order _ _ _ _ _
  · rw [dif_neg hk, dif_neg hk, zero_mul]

theorem keyValue_eq (B : BlockIn x ka ks vt vs i S) (M : Mid (quantF S) U) (d : ℕ) : keyValue U.x6 d = sVal vt (bOf i) (gOf i) d := by
  funext k
  unfold keyValue sVal
  split_ifs with h
  · rw [M.x6, quantF_x6]; exact B.x6 _ _
  · rfl

theorem rowV_eq (R : InRange x ks vt vs) (B : BlockIn x ka ks vt vs i S) (M : Mid (quantF S) U) (l : Fin 256) : rowV U l = vs (ix4 (bOf i) (gOf i) 0 0) := by
  unfold rowV
  rw [M.x7, quantF_x7]
  exact (B.x7 _).trans (R.hs _ _ _)

theorem head_row (R : InRange x ks vt vs) (B : BlockIn x ka ks vt vs i S) (M : Mid (quantF S) U) (h : Fin 4) (l : Fin 256) :
    rowA h i U l = rOA (sO x ka ks vt vs (bOf i) (gOf i) h (rowOf (qOf i) l))
    ∧ kOS (rowA h i U l) = sOS x ka ks vt vs (bOf i) (gOf i) h (rowOf (qOf i) l)
    ∧ ∀ d, kOC (rowL h i U l) (rowV U l) (rowA h i U l) (rowO h i U l d) = rOC (rOA (sO x ka ks vt vs (bOf i) (gOf i) h (rowOf (qOf i) l))) (sO x ka ks vt vs (bOf i) (gOf i) h (rowOf (qOf i) l) d) := by
  have key := row_eq (N := rowN i) (p := rowP i l) (s := sScore x ka ks (bOf i) (gOf i) h (rowOf (qOf i) l)) (t := rowT h U l) (vs := vs (ix4 (bOf i) (gOf i) 0 0))
    (by unfold rowP rowN; omega) (by have := coord_lt i; unfold rowN; omega) (rowT_eq R B M h l) (R.h0 _ _) (R.h1 _ _) (fun d => sVal vt (bOf i) (gOf i) d)
    (fun d hd k hk => by unfold sVal; rw [dif_pos ⟨hd, hk⟩]; exact R.hv _)
  have eO : rowO h i U l = fun d => kO (rowN i) (rowP i l) (rowT h U l) (sVal vt (bOf i) (gOf i) d) := funext fun d => by
    unfold rowO; rw [keyValue_eq B M d]
  unfold rowA
  rw [eO, rowV_eq R B M l]
  exact key

/-! ## The stored codes -/

theorem storeOc_at (t : Fin 5) (T : St Ideal) (r : Fin 256) (c : Fin 640) :
    (storeOcF t T).x10 (ix3 0 r c) = if c.val / 128 = t.val then T.x14 (ix2 ⟨4096 + c.val, by omega⟩ r) else T.x10 (ix3 0 r c) := by
  show put T.x10 ![0, 0, 128 * t.val] S1x256x128.size (k0_pay214 (window T.x14 ![4096 + 128 * t.val, 0] S128x256.size (inbOcSrc t))) (ix3 0 r c) = _
  split_ifs with hc
  · refine (put_in (s := S1x256x640) _ _ _ _ _ (ix3 0 r ⟨c.val % 128, by omega⟩ : S1x256x128.Idx) fun a => ?_).trans ((pay214_at _ r _).trans ?_)
    · fin_cases a
      · rfl
      · exact (Nat.zero_add _).symm
      · show c.val = 128 * t.val + c.val % 128
        omega
    · exact win14 (n := 128) T.x14 _ (4096 + 128 * t.val) rfl _ _ _ r (by show 4096 + c.val = 4096 + 128 * t.val + c.val % 128; omega)
  · refine put_out (s := S1x256x640) _ _ _ _ (ix3 0 r c) 2 ?_
    show c.val < 128 * t.val ∨ 128 * t.val + 128 ≤ c.val
    omega

theorem storeAll_at (T : St Ideal) (r : Fin 256) (c : Fin 640) :
    (storeOcF 4 (storeOcF 3 (storeOcF 2 (storeOcF 1 (storeOcF 0 T))))).x10 (ix3 0 r c) = T.x14 (ix2 ⟨4096 + c.val, by omega⟩ r) := by
  rw [storeOc_at, storeOc_at, storeOc_at, storeOc_at, storeOc_at]
  have e0 : (0 : Fin 5).val = 0 := rfl
  have e1 : (1 : Fin 5).val = 1 := rfl
  have e2 : (2 : Fin 5).val = 2 := rfl
  have e3 : (3 : Fin 5).val = 3 := rfl
  have e4 : (4 : Fin 5).val = 4 := rfl
  rw [e0, e1, e2, e3, e4]
  split_ifs <;> first | rfl | (exfalso; omega)

theorem tail_x8 (T : St Ideal) : (attnTailF i T).x8 = T.x8 := by
  unfold attnTailF; dsimp only
  split_ifs
  · rw [amaxLast_x8, storeOc_x8, storeOc_x8, storeOc_x8, storeOc_x8, storeOc_x8]
  · rw [storeOc_x8, storeOc_x8, storeOc_x8, storeOc_x8, storeOc_x8]
theorem tail_x9 (T : St Ideal) : (attnTailF i T).x9 = T.x9 := by
  unfold attnTailF; dsimp only
  split_ifs
  · rw [amaxLast_x9, storeOc_x9, storeOc_x9, storeOc_x9, storeOc_x9, storeOc_x9]
  · rw [storeOc_x9, storeOc_x9, storeOc_x9, storeOc_x9, storeOc_x9]
theorem tail_x11 (T : St Ideal) : (attnTailF i T).x11 = T.x11 := by
  unfold attnTailF; dsimp only
  split_ifs
  · rw [amaxLast_x11, storeOc_x11, storeOc_x11, storeOc_x11, storeOc_x11, storeOc_x11]
  · rw [storeOc_x11, storeOc_x11, storeOc_x11, storeOc_x11, storeOc_x11]
theorem tail_x10 (T : St Ideal) (r : Fin 256) (c : Fin 640) : (attnTailF i T).x10 (ix3 0 r c) = T.x14 (ix2 ⟨4096 + c.val, by omega⟩ r) := by
  unfold attnTailF; dsimp only
  split_ifs
  · rw [amaxLast_x10]; exact storeAll_at T r c
  · exact storeAll_at T r c

theorem amaxLast_at (T : St Ideal) (h : Fin 4) (l : Fin 256) : (amaxLastF T).x12 (ix4 0 0 h l) = Finset.fold max ⊥ (fun y : Fin 256 => T.x12 (ix4 0 0 h y)) Finset.univ := by
  refine (put_in (s := S1x1x4x256) T.x12 ![0, 0, 0, 0] S1x1x4x256.size _ (ix4 0 0 h l) (ix4 0 0 h l : S1x1x4x256.Idx) fun a => ?_).trans ((pay3_at _ h l).trans (Finset.fold_congr fun y _ => ?_))
  · fin_cases a <;> exact (Nat.zero_add _).symm
  · exact window_at (s := S1x1x4x256) T.x12 _ _ _ (ix4 0 0 h y) (ix4 0 0 h y) fun a => by fin_cases a <;> exact (Nat.zero_add _).symm

theorem tail_x12 (T : St Ideal) (h : Fin 4) (l : Fin 256) : (attnTailF i T).x12 (ix4 0 0 h l)
    = if (i 2).val = 15 then Finset.fold max ⊥ (fun y : Fin 256 => T.x12 (ix4 0 0 h y)) Finset.univ else T.x12 (ix4 0 0 h l) := by
  have e : (storeOcF 4 (storeOcF 3 (storeOcF 2 (storeOcF 1 (storeOcF 0 T))))).x12 = T.x12 := by
    rw [storeOc_x12, storeOc_x12, storeOc_x12, storeOc_x12, storeOc_x12]
  unfold attnTailF; dsimp only
  by_cases hc : (i 2).val = 15
  · rw [if_pos ((cond9_eq i).2 hc), if_pos hc, amaxLast_at, e]
  · rw [if_neg (fun e => hc ((cond9_eq i).1 e)), if_neg hc, e]

/-! ## The running maximum -/

/-- The largest magnitude of the rows `256 * j + l` of the first `n` row blocks. -/
def amUpTo (x : XArg) (ka : KaArg) (ks : KsArg) (vt : VtArg) (vs : VsArg) (b : Fin 2) (g : Fin 16) (h : Fin 4) (l : Fin 256) (n : ℕ) : EReal :=
  (Finset.range n).sup fun j => if hj : j < 16 then rOA (sO x ka ks vt vs b g h (rowOf ⟨j, hj⟩ l)) else ⊥

theorem amUpTo_succ (b : Fin 2) (g : Fin 16) (h : Fin 4) (l : Fin 256) (q : Fin 16) :
    amUpTo x ka ks vt vs b g h l (q.val + 1) = max (amUpTo x ka ks vt vs b g h l q.val) (rOA (sO x ka ks vt vs b g h (rowOf q l))) := by
  unfold amUpTo
  rw [Finset.range_add_one, Finset.sup_insert, dif_pos q.isLt]
  exact max_comm _ _

theorem amUpTo_all (b : Fin 2) (g : Fin 16) (h : Fin 4) : Finset.fold max ⊥ (fun l : Fin 256 => amUpTo x ka ks vt vs b g h l 16) Finset.univ = sAM x ka ks vt vs b g h := by
  show (Finset.univ : Finset (Fin 256)).sup _ = _
  unfold sAM amUpTo
  refine le_antisymm (Finset.sup_le fun l _ => Finset.sup_le fun j hj => ?_) (Finset.sup_le fun s _ => ?_)
  · rw [dif_pos (Finset.mem_range.1 hj)]
    exact Finset.le_sup (f := fun s : Fin 4096 => rOA (sO x ka ks vt vs b g h s)) (Finset.mem_univ _)
  · refine le_trans ?_ (Finset.le_sup (Finset.mem_univ (⟨s.val % 256, by omega⟩ : Fin 256)))
    refine le_trans (le_of_eq ?_) (Finset.le_sup (f := fun j => if hj : j < 16 then rOA (sO x ka ks vt vs b g h (rowOf ⟨j, hj⟩ ⟨s.val % 256, by omega⟩)) else ⊥) (Finset.mem_range.2 (show s.val / 256 < 16 by omega)))
    rw [dif_pos (show s.val / 256 < 16 by omega)]
    refine congrArg (fun s => rOA (sO x ka ks vt vs b g h s)) (Fin.ext ?_)
    show s.val = 256 * (s.val / 256) + s.val % 256
    omega

/-! ## The whole body -/

/-- The state after the first `n` heads. -/
abbrev heads1 (i : grid0.Coords) (S : St Ideal) : St Ideal := attnHeadF 0 i (quantF S)
abbrev heads2 (i : grid0.Coords) (S : St Ideal) : St Ideal := attnHeadF 1 i (heads1 i S)
abbrev heads3 (i : grid0.Coords) (S : St Ideal) : St Ideal := attnHeadF 2 i (heads2 i S)
abbrev heads4 (i : grid0.Coords) (S : St Ideal) : St Ideal := attnHeadF 3 i (heads3 i S)

theorem mid1 (i : grid0.Coords) (S : St Ideal) : Mid (quantF S) (heads1 i S) := (Mid.refl _).step (attnHead_at 0 i _)
theorem mid2 (i : grid0.Coords) (S : St Ideal) : Mid (quantF S) (heads2 i S) := (mid1 i S).step (attnHead_at 1 i _)
theorem mid3 (i : grid0.Coords) (S : St Ideal) : Mid (quantF S) (heads3 i S) := (mid2 i S).step (attnHead_at 2 i _)
theorem mid4 (i : grid0.Coords) (S : St Ideal) : Mid (quantF S) (heads4 i S) := (mid3 i S).step (attnHead_at 3 i _)

/-- After the heads: the codes, the scales and the maxima of each of them. -/
theorem heads_at (R : InRange x ks vt vs) (B : BlockIn x ka ks vt vs i S) (h : Fin 4) (l : Fin 256) :
    (∀ (k : Fin 4736) (d : Fin 160), k.val = 4096 + 160 * h.val + d.val →
      (heads4 i S).x14 (ix2 k l) = rOC (rOA (sO x ka ks vt vs (bOf i) (gOf i) h (rowOf (qOf i) l))) (sO x ka ks vt vs (bOf i) (gOf i) h (rowOf (qOf i) l) d.val))
    ∧ (heads4 i S).x11 (ix4 0 0 h l) = sOS x ka ks vt vs (bOf i) (gOf i) h (rowOf (qOf i) l)
    ∧ (heads4 i S).x12 (ix4 0 0 h l) = if (i 2).val = 0 then rOA (sO x ka ks vt vs (bOf i) (gOf i) h (rowOf (qOf i) l)) else max (S.x12 (ix4 0 0 h l)) (rOA (sO x ka ks vt vs (bOf i) (gOf i) h (rowOf (qOf i) l))) := by
  have H0 := attnHead_at 0 i (quantF S)
  have H1 := attnHead_at 1 i (heads1 i S)
  have H2 := attnHead_at 2 i (heads2 i S)
  have H3 := attnHead_at 3 i (heads3 i S)
  have v0 : (0 : Fin 4).val = 0 := rfl
  have v1 : (1 : Fin 4).val = 1 := rfl
  have v2 : (2 : Fin 4).val = 2 := rfl
  have v3 : (3 : Fin 4).val = 3 := rfl
  rcases fin4_cases h with rfl | rfl | rfl | rfl
  · obtain ⟨a, s, o⟩ := head_row R B (Mid.refl _) 0 l
    refine ⟨fun k d hk => ?_, ?_, ?_⟩
    · have hd := d.isLt
      rw [v0] at hk
      exact (H3.rest k (by omega) (by rw [v3]; omega) l).trans ((H2.rest k (by omega) (by rw [v2]; omega) l).trans ((H1.rest k (by omega) (by rw [v1]; omega) l).trans ((H0.codes k d (by rw [v0]; omega) l).trans (o d.val))))
    · exact (H3.scales 0 (by decide) l).trans ((H2.scales 0 (by decide) l).trans ((H1.scales 0 (by decide) l).trans ((H0.scale l).trans s)))
    · refine (H3.amaxs 0 (by decide) l).trans ((H2.amaxs 0 (by decide) l).trans ((H1.amaxs 0 (by decide) l).trans ((H0.amax l).trans ?_)))
      rw [a, quantF_x12]
  · obtain ⟨a, s, o⟩ := head_row R B (mid1 i S) 1 l
    refine ⟨fun k d hk => ?_, ?_, ?_⟩
    · have hd := d.isLt
      rw [v1] at hk
      exact (H3.rest k (by omega) (by rw [v3]; omega) l).trans ((H2.rest k (by omega) (by rw [v2]; omega) l).trans ((H1.codes k d (by rw [v1]; omega) l).trans (o d.val)))
    · exact (H3.scales 1 (by decide) l).trans ((H2.scales 1 (by decide) l).trans ((H1.scale l).trans s))
    · refine (H3.amaxs 1 (by decide) l).trans ((H2.amaxs 1 (by decide) l).trans ((H1.amax l).trans ?_))
      rw [a, H0.amaxs 1 (by decide) l, quantF_x12]
  · obtain ⟨a, s, o⟩ := head_row R B (mid2 i S) 2 l
    refine ⟨fun k d hk => ?_, ?_, ?_⟩
    · have hd := d.isLt
      rw [v2] at hk
      exact (H3.rest k (by omega) (by rw [v3]; omega) l).trans ((H2.codes k d (by rw [v2]; omega) l).trans (o d.val))
    · exact (H3.scales 2 (by decide) l).trans ((H2.scale l).trans s)
    · refine (H3.amaxs 2 (by decide) l).trans ((H2.amax l).trans ?_)
      rw [a, H1.amaxs 2 (by decide) l, H0.amaxs 2 (by decide) l, quantF_x12]
  · obtain ⟨a, s, o⟩ := head_row R B (mid3 i S) 3 l
    refine ⟨fun k d hk => ?_, ?_, ?_⟩
    · have hd := d.isLt
      rw [v3] at hk
      exact (H3.codes k d (by rw [v3]; omega) l).trans (o d.val)
    · exact (H3.scale l).trans s
    · refine (H3.amax l).trans ?_
      rw [a, H2.amaxs 3 (by decide) l, H1.amaxs 3 (by decide) l, H0.amaxs 3 (by decide) l, quantF_x12]

theorem body_x8 (R : InRange x ks vt vs) (B : BlockIn x ka ks vt vs i S) (r : Fin 256) (l : Fin 640) :
    (bodyF i S).x8 (ix3 0 r l) = qCode x (bOf i) (rowOf (qOf i) r) (colOf (gOf i) l) := by
  show (attnTailF i (heads4 i S)).x8 _ = _
  rw [tail_x8, (mid4 i S).x8]
  exact quantF_x8 R B r l

theorem body_x9 (R : InRange x ks vt vs) (B : BlockIn x ka ks vt vs i S) (c : Fin 8) (y : Fin 128) :
    (bodyF i S).x9 (ix5 0 0 0 c y) = qScale x (bOf i) ⟨(qOf i).val * 2 + c.val % 2, by omega⟩ (headOf (gOf i) ⟨c.val / 2, by omega⟩) := by
  show (attnTailF i (heads4 i S)).x9 _ = _
  rw [tail_x9, (mid4 i S).x9]
  exact quantF_x9 R B c y

theorem body_x10 (R : InRange x ks vt vs) (B : BlockIn x ka ks vt vs i S) (r : Fin 256) (l : Fin 640) :
    (bodyF i S).x10 (ix3 0 r l) = sOC x ka ks vt vs (bOf i) (rowOf (qOf i) r) (colOf (gOf i) l) := by
  show (attnTailF i (heads4 i S)).x10 _ = _
  rw [tail_x10]
  refine ((heads_at R B ⟨l.val / 160, by omega⟩ r).1 _ ⟨l.val % 160, by omega⟩ (by show 4096 + l.val = 4096 + 160 * (l.val / 160) + l.val % 160; omega)).trans ?_
  unfold sOC
  have e1 : (⟨(colOf (gOf i) l).val / 640, by omega⟩ : Fin 16) = gOf i := Fin.ext (by show (640 * (gOf i).val + l.val) / 640 = (gOf i).val; omega)
  have e2 : (⟨(colOf (gOf i) l).val / 160 % 4, by omega⟩ : Fin 4) = ⟨l.val / 160, by omega⟩ := Fin.ext (by show (640 * (gOf i).val + l.val) / 160 % 4 = l.val / 160; omega)
  have e3 : (colOf (gOf i) l).val % 160 = l.val % 160 := by show (640 * (gOf i).val + l.val) % 160 = l.val % 160; omega
  rw [e1, e2, e3]

theorem body_x11 (R : InRange x ks vt vs) (B : BlockIn x ka ks vt vs i S) (h : Fin 4) (l : Fin 256) :
    (bodyF i S).x11 (ix4 0 0 h l) = sOS x ka ks vt vs (bOf i) (gOf i) h (rowOf (qOf i) l) := by
  show (attnTailF i (heads4 i S)).x11 _ = _
  rw [tail_x11]
  exact (heads_at R B h l).2.1

theorem heads_x12 (R : InRange x ks vt vs) (B : BlockIn x ka ks vt vs i S)
    (hp : (i 2).val ≠ 0 → ∀ (h : Fin 4) (l : Fin 256), S.x12 (ix4 0 0 h l) = amUpTo x ka ks vt vs (bOf i) (gOf i) h l (i 2).val) (h : Fin 4) (l : Fin 256) :
    (heads4 i S).x12 (ix4 0 0 h l) = amUpTo x ka ks vt vs (bOf i) (gOf i) h l ((i 2).val + 1) := by
  rw [(heads_at R B h l).2.2]
  have e := amUpTo_succ (x := x) (ka := ka) (ks := ks) (vt := vt) (vs := vs) (bOf i) (gOf i) h l (qOf i)
  refine Eq.trans ?_ e.symm
  by_cases h0 : (i 2).val = 0
  · rw [if_pos h0]
    have e0 : (qOf i).val = 0 := h0
    have : amUpTo x ka ks vt vs (bOf i) (gOf i) h l (qOf i).val = ⊥ := by rw [e0]; rfl
    rw [this, max_eq_right bot_le]
  · rw [if_neg h0, hp h0 h l]; rfl

theorem body_x12 (R : InRange x ks vt vs) (B : BlockIn x ka ks vt vs i S)
    (hp : (i 2).val ≠ 0 → ∀ (h : Fin 4) (l : Fin 256), S.x12 (ix4 0 0 h l) = amUpTo x ka ks vt vs (bOf i) (gOf i) h l (i 2).val) (h : Fin 4) (l : Fin 256) :
    (bodyF i S).x12 (ix4 0 0 h l) = if (i 2).val = 15 then sAM x ka ks vt vs (bOf i) (gOf i) h else amUpTo x ka ks vt vs (bOf i) (gOf i) h l ((i 2).val + 1) := by
  show (attnTailF i (heads4 i S)).x12 _ = _
  rw [tail_x12]
  split_ifs with hc
  · refine (Finset.fold_congr fun y _ => heads_x12 R B hp h y).trans ?_
    rw [hc]
    exact amUpTo_all _ _ _
  · exact heads_x12 R B hp h l

end Cert.KernelIdeal.Gen

end
-- ==== Proof.KernelIdeal.InRange.lean ====
module

public import proofs.«01_k».proof.Pre_in_range
public import proofs.«01_k».proof.Proof.KernelIdeal.BodySpec
public import Idealize.ShloMosaic.Lib.ReduceAll

@[expose] public section

/-
  What the precondition says of the five argument arrays over the extended reals.
-/

set_option maxRecDepth 16384

noncomputable section

/-- The precondition's operations fit the shapes. -/
theorem Cert.Pre_in_range.facts : Cert.Pre_in_range.Facts where
  bitsLt_bf16_f32 := by decide
  bcast_S_S2x4096x10240 := by decide
  reducesTo_S2x4096x10240_S_d0_1_2 := by decide
  h_S_ := by decide
  bcast_S_S2x16x160x4096 := by decide
  reducesTo_S2x16x160x4096_S_d0_1_2_3 := by decide
  slices_S2x16x32x128_S2x16x32x1_0_0_0_0 := by decide
  bcast_S2x16x32x1_S2x16x32x128_0_1_2_3 := by decide
  reducesTo_S2x16x32x128_S_d0_1_2_3 := by decide
  bcast_S_S2x16x1x128 := by decide
  reducesTo_S2x16x1x128_S_d0_1_2_3 := by decide
  slices_S2x16x1x128_S2x16x1x1_0_0_0_0 := by decide
  bcast_S2x16x1x1_S2x16x1x128_0_1_2_3 := by decide

namespace Cert.Pre_in_range

open Idealize.ShloMosaic Cert.Attn

/-! ## The bounds, and comparisons read -/

theorem bound_x : Ideal.ofBits .f32 0x7F7F0000#32 ≤ (((2 : ℝ) ^ (128 : ℤ) : ℝ) : EReal) := by
  have e : Ideal.ofBits .f32 0x7F7F0000#32 = ((338953138925153547590470800371487866880 : ℝ) : EReal) := by
    simp [Ideal.ofBits, Ideal.ieee, -EReal.coe_mul]
    norm_num
  rw [e]
  exact EReal.coe_le_coe_iff.2 (by norm_num)
theorem bound_v : Ideal.ofBits .f32 0x43E00000#32 = ((448 : ℝ) : EReal) := by
  simp [Ideal.ofBits, Ideal.ieee, -EReal.coe_mul]; norm_num
theorem bound_0 : Ideal.ofBits .f32 0x00000000#32 = 0 := by
  simp [Ideal.ofBits, Ideal.ieee]
theorem bound_s : Ideal.ofBits .f32 0x7B800000#32 = (((2 : ℝ) ^ (120 : ℤ) : ℝ) : EReal) := by
  rw [show ((2 : ℝ) ^ (120 : ℤ)) = 1329227995784915872903807060280344576 by norm_num]
  simp [Ideal.ofBits, Ideal.ieee, -EReal.coe_mul]
  norm_num

theorem of_ole {x y : EReal} (h : Ideal.cmp .ole x y = 1#1) : x ≤ y := by
  by_contra hn
  simp [Ideal.cmp, hn] at h
theorem of_oge {x y : EReal} (h : Ideal.cmp .oge x y = 1#1) : y ≤ x := by
  by_contra hn
  simp [Ideal.cmp, hn] at h
theorem of_oeq {x y : EReal} (h : Ideal.cmp .oeq x y = 1#1) : x = y := by
  by_contra hn
  simp [Ideal.cmp, hn] at h

/-- The scalar shape has one index. -/
instance : Subsingleton S_.Idx := ⟨fun _ _ => funext fun a => a.elim0⟩

/-- The one index of the scalar shape. -/
def j0 : S_.Idx := fun a => a.elim0

variable [Facts]
open Facts

variable (x : FVec Ideal S2x4096x10240 .bf16) (ka : FVec Ideal S2x16x4096x256 .fp8e4m3) (ks : FVec Ideal S2x16x32x128 .f32)
  (v : FVec Ideal S2x16x160x4096 .f32) (vs : FVec Ideal S2x16x1x128 .f32)

/-- The arrays the precondition admits are in range. -/
theorem inRange (h : fn (F := Ideal) x ka ks v vs = fun _ => 1#1) : Cert.KernelIdeal.Gen.InRange x ks v vs := by
  have e := congrFun h j0
  unfold fn fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  replace h1 := Host.reduce_andi_all _ _ _ _ j0 h1
  replace h2 := Host.reduce_andi_all _ _ _ _ j0 h2
  replace h3 := Host.reduce_andi_all _ _ _ _ j0 h3
  replace h4 := Host.reduce_andi_all _ _ _ _ j0 h4
  replace h5 := Host.reduce_andi_all _ _ _ _ j0 h5
  replace h6 := Host.reduce_andi_all _ _ _ _ j0 h6
  exact {
    hx := fun i => (of_ole (h1 i)).trans bound_x
    hv := fun i => (of_ole (h2 i)).trans (le_of_eq bound_v)
    hk := fun b g j c => (of_oeq (h3 (ix4 b g j c))).trans (congrArg ks (funext fun a => Fin.ext (by
      fin_cases a
      · exact Nat.zero_add _
      · exact Nat.zero_add _
      · exact Nat.zero_add _
      · rfl)))
    h0 := fun b g => (le_of_eq bound_0.symm).trans (of_oge (h4 (ix4 b g 0 0)))
    h1 := fun b g => (of_ole (h5 (ix4 b g 0 0))).trans (le_of_eq bound_s)
    hs := fun b g c => (of_oeq (h6 (ix4 b g 0 c))).trans (congrArg vs (funext fun a => Fin.ext (by
      fin_cases a
      · exact Nat.zero_add _
      · exact Nat.zero_add _
      · rfl
      · rfl))) }

end Cert.Pre_in_range

end
-- ==== Proof.Math.Arrays.lean ====
module

public import proofs.«01_k».proof.Proof.Math.Spec

@[expose] public section

/-
  The five results as arrays of the five arguments.
-/

noncomputable section

namespace Cert.Attn

open Idealize.ShloMosaic

/-- The query's codes. -/
def arrQC (x : XArg) : (⟨3, ![2, 4096, 10240]⟩ : Shape).Idx → EReal := fun j => qCode x (j 0) (j 1) (j 2)
/-- The row tile of lane row `c` of a block of scales … -/
def qsTile (i : Fin 16) (c : Fin 8) : Fin 32 := ⟨i.val * 2 + c.val % 2, by omega⟩
/-- … and its head. -/
def qsHead (c : Fin 8) : Fin 4 := ⟨c.val / 2, by omega⟩
/-- The query's scales: lane rows `2 * h + t` for the head `h` and the tile `t` of a row block. -/
def arrQS (x : XArg) : (⟨5, ![2, 16, 16, 8, 128]⟩ : Shape).Idx → EReal := fun j => qScale x (j 0) (qsTile (j 2) (j 3)) (headOf (j 1) (qsHead (j 3)))
/-- The output's codes. -/
def arrOC (x : XArg) (ka : KaArg) (ks : KsArg) (vt : VtArg) (vs : VsArg) : (⟨3, ![2, 4096, 10240]⟩ : Shape).Idx → EReal := fun j =>
  sOC x ka ks vt vs (j 0) (j 1) (j 2)
/-- The output's scales. -/
def arrOS (x : XArg) (ka : KaArg) (ks : KsArg) (vt : VtArg) (vs : VsArg) : (⟨4, ![2, 16, 4, 4096]⟩ : Shape).Idx → EReal := fun j =>
  sOS x ka ks vt vs (j 0) (j 1) (j 2) (j 3)
/-- Each head's largest output, on every lane. -/
def arrAM (x : XArg) (ka : KaArg) (ks : KsArg) (vt : VtArg) (vs : VsArg) : (⟨4, ![2, 16, 4, 256]⟩ : Shape).Idx → EReal := fun j =>
  sAM x ka ks vt vs (j 0) (j 1) (j 2)

theorem ix3_of {a b c : ℕ} (j : (⟨3, ![a, b, c]⟩ : Shape).Idx) : j = ix3 (j 0) (j 1) (j 2) := funext fun n => by fin_cases n <;> rfl
theorem ix4_of {a b c d : ℕ} (j : (⟨4, ![a, b, c, d]⟩ : Shape).Idx) : j = ix4 (j 0) (j 1) (j 2) (j 3) := funext fun n => by fin_cases n <;> rfl
theorem ix5_of {a b c d e : ℕ} (j : (⟨5, ![a, b, c, d, e]⟩ : Shape).Idx) : j = ix5 (j 0) (j 1) (j 2) (j 3) (j 4) := funext fun n => by fin_cases n <;> rfl

end Cert.Attn

end
-- ==== Proof.KernelIdeal.Value.lean ====
module

public import proofs.«01_k».proof.Proof.KernelIdeal.BodySpec
public import proofs.«01_k».proof.Proof.KernelIdeal.Launch
public import proofs.«01_k».proof.Proof.Math.Arrays
public import Idealize.ShloMosaic.Lib.Pipeline.Value
public import Idealize.ShloMosaic.Lib.Pipeline.Covers

@[expose] public section

/-
  The run of the kernel over the extended reals, on arrays in range: each output array ends at the specification's.
-/

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Attn

local notation "𝕄" => MT nD τ sig Unit (Elt Ideal) ℕ (UR sig nD τ) ℕ

variable (m : (ℓ : Loc nD τ sig) → Buf (Elt Ideal) ℓ) (ρ : Dev nD → PrngReg)

/-! ## The arrays as the region finds them -/

def xA (c : Dev nD) : XArg := V m c main_arg0
def kaA (c : Dev nD) : KaArg := V m c main_arg1
def ksA (c : Dev nD) : KsArg := V m c main_arg2
def vtA (c : Dev nD) : VtArg := V m c main_v0
def vsA (c : Dev nD) : VsArg := V m c main_arg4

/-- A coordinate as a word is itself. -/
theorem word_id (n : ℕ) (h : n < 16) : (BitVec.ofNat 32 n).toNat = n := by
  rw [BitVec.toNat_ofNat]; exact Nat.mod_eq_of_lt (by omega)

theorem c0_lt (i : grid0.Coords) : (i 0).val < 2 := (i 0).isLt
theorem c1_lt (i : grid0.Coords) : (i 1).val < 16 := (i 1).isLt
theorem c2_lt (i : grid0.Coords) : (i 2).val < 16 := (i 2).isLt
theorem w0 (i : grid0.Coords) : (BitVec.ofNat 32 (i 0).val).toNat = (i 0).val := word_id _ (by have := c0_lt i; omega)
theorem w1 (i : grid0.Coords) : (BitVec.ofNat 32 (i 1).val).toNat = (i 1).val := word_id _ (c1_lt i)
theorem w2 (i : grid0.Coords) : (BitVec.ofNat 32 (i 2).val).toNat = (i 2).val := word_id _ (c2_lt i)

section Blocks
variable (c : Dev nD) (t : Fin cfg0.N)

theorem iblk0_at (r : Fin 256) (l : Fin 640) : iblk m c 0 t (ix3 0 r l) = xA m c (ix3 (bOf (grid0.coords t)) (rowOf (qOf (grid0.coords t)) r) (colOf (gOf (grid0.coords t)) l)) := by
  show V m c main_arg0 ((win0_0.rect t).emb (ix3 0 r l)) = V m c main_arg0 _
  refine congrArg (V m c main_arg0) (funext fun a => Fin.ext ((win0_0.rect_emb_val t _ a).trans ?_))
  fin_cases a
  · show (BitVec.ofNat 32 (grid0.coords t 0).val).toNat * 1 + 0 = (grid0.coords t 0).val
    rw [w0]; omega
  · show (BitVec.ofNat 32 (grid0.coords t 2).val).toNat * 256 + r.val = 256 * (grid0.coords t 2).val + r.val
    rw [w2]; omega
  · show (BitVec.ofNat 32 (grid0.coords t 1).val).toNat * 640 + l.val = 640 * (grid0.coords t 1).val + l.val
    rw [w1]; omega

theorem iblk1_at (k : Fin 4096) (d : Fin 256) : iblk m c 1 t (ix4 0 0 k d) = kaA m c (ix4 (bOf (grid0.coords t)) (gOf (grid0.coords t)) k d) := by
  show V m c main_arg1 ((win0_1.rect t).emb (ix4 0 0 k d)) = V m c main_arg1 _
  refine congrArg (V m c main_arg1) (funext fun a => Fin.ext ((win0_1.rect_emb_val t _ a).trans ?_))
  fin_cases a
  · show (BitVec.ofNat 32 (grid0.coords t 0).val).toNat * 1 + 0 = (grid0.coords t 0).val
    rw [w0]; omega
  · show (BitVec.ofNat 32 (grid0.coords t 1).val).toNat * 1 + 0 = (grid0.coords t 1).val
    rw [w1]; omega
  · show 0 * 4096 + k.val = k.val
    omega
  · show 0 * 256 + d.val = d.val
    omega

theorem iblk2_at (j : Fin 32) (y : Fin 128) : iblk m c 2 t (ix4 0 0 j y) = ksA m c (ix4 (bOf (grid0.coords t)) (gOf (grid0.coords t)) j y) := by
  show V m c main_arg2 ((win0_2.rect t).emb (ix4 0 0 j y)) = V m c main_arg2 _
  refine congrArg (V m c main_arg2) (funext fun a => Fin.ext ((win0_2.rect_emb_val t _ a).trans ?_))
  fin_cases a
  · show (BitVec.ofNat 32 (grid0.coords t 0).val).toNat * 1 + 0 = (grid0.coords t 0).val
    rw [w0]; omega
  · show (BitVec.ofNat 32 (grid0.coords t 1).val).toNat * 1 + 0 = (grid0.coords t 1).val
    rw [w1]; omega
  · show 0 * 32 + j.val = j.val
    omega
  · show 0 * 128 + y.val = y.val
    omega

theorem iblk3_at (d : Fin 160) (k : Fin 4096) : iblk m c 3 t (ix4 0 0 d k) = vtA m c (ix4 (bOf (grid0.coords t)) (gOf (grid0.coords t)) d k) := by
  show V m c main_v0 ((win0_3.rect t).emb (ix4 0 0 d k)) = V m c main_v0 _
  refine congrArg (V m c main_v0) (funext fun a => Fin.ext ((win0_3.rect_emb_val t _ a).trans ?_))
  fin_cases a
  · show (BitVec.ofNat 32 (grid0.coords t 0).val).toNat * 1 + 0 = (grid0.coords t 0).val
    rw [w0]; omega
  · show (BitVec.ofNat 32 (grid0.coords t 1).val).toNat * 1 + 0 = (grid0.coords t 1).val
    rw [w1]; omega
  · show 0 * 160 + d.val = d.val
    omega
  · show 0 * 4096 + k.val = k.val
    omega

theorem iblk4_at (y : Fin 128) : iblk m c 4 t (ix4 0 0 0 y) = vsA m c (ix4 (bOf (grid0.coords t)) (gOf (grid0.coords t)) 0 y) := by
  show V m c main_arg4 ((win0_4.rect t).emb (ix4 0 0 0 y)) = V m c main_arg4 _
  refine congrArg (V m c main_arg4) (funext fun a => Fin.ext ((win0_4.rect_emb_val t _ a).trans ?_))
  fin_cases a
  · show (BitVec.ofNat 32 (grid0.coords t 0).val).toNat * 1 + 0 = (grid0.coords t 0).val
    rw [w0]; omega
  · show (BitVec.ofNat 32 (grid0.coords t 1).val).toNat * 1 + 0 = (grid0.coords t 1).val
    rw [w1]; omega
  · show 0 * 1 + 0 = 0
    omega
  · show 0 * 128 + y.val = y.val
    omega

end Blocks

/-! ## The proof data -/

section Outs
variable (c : Dev nD) (i : grid0.Coords)

/-- What the body leaves in each output block at a point. -/
def spec5 : Vec Ideal S1x256x640 .fp8e4m3 := fun y => qCode (xA m c) (bOf i) (rowOf (qOf i) (y 1)) (colOf (gOf i) (y 2))
def spec6 : Vec Ideal S1x1x1x8x128 .f32 := fun y =>
  qScale (xA m c) (bOf i) (qsTile (qOf i) (y 3)) (headOf (gOf i) (qsHead (y 3)))
def spec7 : Vec Ideal S1x256x640 .fp8e4m3 := fun y => sOC (xA m c) (kaA m c) (ksA m c) (vtA m c) (vsA m c) (bOf i) (rowOf (qOf i) (y 1)) (colOf (gOf i) (y 2))
def spec8 : Vec Ideal S1x1x4x256 .f32 := fun y => sOS (xA m c) (kaA m c) (ksA m c) (vtA m c) (vsA m c) (bOf i) (gOf i) (y 2) (rowOf (qOf i) (y 3))
def spec9 : Vec Ideal S1x1x4x256 .f32 := fun y =>
  if (i 2).val = 15 then sAM (xA m c) (kaA m c) (ksA m c) (vtA m c) (vsA m c) (bOf i) (gOf i) (y 2)
  else amUpTo (xA m c) (kaA m c) (ksA m c) (vtA m c) (vsA m c) (bOf i) (gOf i) (y 2) (y 3) ((i 2).val + 1)
end Outs

def specDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => spec5 m c (grid0.coords t)
    | ⟨6, _⟩ => spec6 m c (grid0.coords t)
    | ⟨7, _⟩ => spec7 m c (grid0.coords t)
    | ⟨8, _⟩ => spec8 m c (grid0.coords t)
    | ⟨9, _⟩ => spec9 m c (grid0.coords t)
  Φ _ := Pipeline.ΦA spec0 c
  q _ := fullShare
  owed _ := 0

theorem specDats_A (c : Dev nD) (w : Fin cfg0.W) : (specDats m 0 c).A w = V m c (Pipeline.arrRef spec0 w) := by dsimp only [specDats]
theorem specDats_after0 (c : Dev nD) (t : Fin cfg0.N) : (specDats m 0 c).after 0 t = iblk m c 0 t := by dsimp only [specDats]
theorem specDats_after1 (c : Dev nD) (t : Fin cfg0.N) : (specDats m 0 c).after 1 t = iblk m c 1 t := by dsimp only [specDats]
theorem specDats_after2 (c : Dev nD) (t : Fin cfg0.N) : (specDats m 0 c).after 2 t = iblk m c 2 t := by dsimp only [specDats]
theorem specDats_after3 (c : Dev nD) (t : Fin cfg0.N) : (specDats m 0 c).after 3 t = iblk m c 3 t := by dsimp only [specDats]
theorem specDats_after4 (c : Dev nD) (t : Fin cfg0.N) : (specDats m 0 c).after 4 t = iblk m c 4 t := by dsimp only [specDats]
theorem specDats_after5 (c : Dev nD) (t : Fin cfg0.N) : (specDats m 0 c).after 5 t = spec5 m c (grid0.coords t) := by dsimp only [specDats]
theorem specDats_after6 (c : Dev nD) (t : Fin cfg0.N) : (specDats m 0 c).after 6 t = spec6 m c (grid0.coords t) := by dsimp only [specDats]
theorem specDats_after7 (c : Dev nD) (t : Fin cfg0.N) : (specDats m 0 c).after 7 t = spec7 m c (grid0.coords t) := by dsimp only [specDats]
theorem specDats_after8 (c : Dev nD) (t : Fin cfg0.N) : (specDats m 0 c).after 8 t = spec8 m c (grid0.coords t) := by dsimp only [specDats]
theorem specDats_after9 (c : Dev nD) (t : Fin cfg0.N) : (specDats m 0 c).after 9 t = spec9 m c (grid0.coords t) := by dsimp only [specDats]

/-! ## The coordinates of a point -/

theorem coord0 (t : Fin cfg0.N) : (grid0.coords t 0).val = t.val / 256 % 2 := Pipeline.Grid.coords_val t 0 (S := 256) (B := 2) (by decide) rfl
theorem coord1 (t : Fin cfg0.N) : (grid0.coords t 1).val = t.val / 16 % 16 := Pipeline.Grid.coords_val t 1 (S := 16) (B := 16) (by decide) rfl
theorem coord2 (t : Fin cfg0.N) : (grid0.coords t 2).val = t.val % 16 := (Pipeline.Grid.coords_val t 2 (S := 1) (B := 16) (by decide) rfl).trans (by rw [Nat.div_one])

/-- Every point writes its block of maxima: at a group's first row block, or after it. -/
theorem first_or_later (i : grid0.Coords) : k0_cond1 i = 1#1 ∨ k0_cond2 i = 1#1 := by
  have key : ∀ n : Fin 16, Scalar.cmpi .ne (Scalar.extui (Scalar.cmpi .eq (BitVec.ofNat 32 n.val) 0#32) : BitVec 32) 0#32 = 1#1
      ∨ Scalar.cmpi .ne (Scalar.extui (Scalar.cmpi .sgt (BitVec.ofNat 32 n.val) 0#32) : BitVec 32) 0#32 = 1#1 := by decide
  exact key (i 2)

theorem never_idle (i : grid0.Coords) : cfg0.idle 9 i = false := by
  show (!(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) && !(k0_cond9 i == 1#1)) = false
  rcases first_or_later i with h | h <;> rw [h] <;> simp

/-- The maxima's block before a point that is not the first of its group: what the point before left. -/
theorem before9_at (c : Dev nD) (t : Fin cfg0.N) (h : (grid0.coords t 2).val ≠ 0) (d) (k : Fin 4) (l : Fin 256) :
    (specDats m 0 c).before 9 t d (ix4 0 0 k l)
      = amUpTo (xA m c) (kaA m c) (ksA m c) (vtA m c) (vsA m c) (bOf (grid0.coords t)) (gOf (grid0.coords t)) k l (grid0.coords t 2).val := by
  rw [coord2] at h
  have ht : t.val ≠ 0 := fun e => h (by rw [e])
  have hfl : (cfg0.win 9).flush ⟨t.val - 1, Nat.lt_of_le_of_lt (Nat.sub_le _ _) t.isLt⟩ = false := by
    rw [Bool.eq_false_iff]
    intro e
    have : (t.val - 1) % 16 = 15 := (flush0_9 _).1 e
    omega
  rw [(specDats m 0 c).before_out_kept 9 rfl t ht hfl never_idle (fun _ _ => rfl) d, specDats_after9]
  generalize hu : (⟨t.val - 1, Nat.lt_of_le_of_lt (Nat.sub_le _ _) t.isLt⟩ : Fin cfg0.N) = u
  have huv : u.val = t.val - 1 := by rw [← hu]
  have e0 : bOf (grid0.coords u) = bOf (grid0.coords t) := Fin.ext (by show (grid0.coords u 0).val = (grid0.coords t 0).val; rw [coord0, coord0, huv]; omega)
  have e1 : gOf (grid0.coords u) = gOf (grid0.coords t) := Fin.ext (by show (grid0.coords u 1).val = (grid0.coords t 1).val; rw [coord1, coord1, huv]; omega)
  have e2 : (grid0.coords u 2).val + 1 = (grid0.coords t 2).val := by rw [coord2, coord2, huv]; omega
  have e3 : (grid0.coords u 2).val ≠ 15 := by have := c2_lt (grid0.coords t); omega
  unfold spec9
  rw [if_neg e3, e0, e1, e2]
  rfl

/-! ## The body -/

variable (hR : ∀ c, InRange (xA m c) (ksA m c) (vtA m c) (vsA m c))

/-- The state a point starts from, the scratch buffers at anything. -/
abbrev start (c : Dev nD) (t : Fin cfg0.N) (d5 : Vec Ideal S1x256x640 .fp8e4m3) (d6 : Vec Ideal S1x1x1x8x128 .f32) (d7 : Vec Ideal S1x256x640 .fp8e4m3) (d8 d9 : Vec Ideal S1x1x4x256 .f32) : St Ideal :=
  ⟨iblk m c 0 t, iblk m c 1 t, iblk m c 2 t, iblk m c 3 t, iblk m c 4 t, d5, d6, d7, d8, d9,
    fun _ => (0 : EReal), fun _ => (0 : EReal), fun _ => (0 : EReal), fun _ => (0 : EReal)⟩

theorem blockIn (c : Dev nD) (t : Fin cfg0.N) (d5 d6 d7 d8 d9 f13 f14 f15 f16) :
    BlockIn (xA m c) (kaA m c) (ksA m c) (vtA m c) (vsA m c) (grid0.coords t) (((((start m c t d5 d6 d7 d8 d9).set13 f13).set14 f14).set15 f15).set16 f16) where
  x3 r l := iblk0_at m c t r l
  x4 k d := iblk1_at m c t k d
  x5 j y := iblk2_at m c t j y
  x6 d k := iblk3_at m c t d k
  x7 y := iblk4_at m c t y

section Body
variable {m} (c : Dev nD) (t : Fin cfg0.N) (S : St Ideal)
  (R : InRange (xA m c) (ksA m c) (vtA m c) (vsA m c))
  (B : BlockIn (xA m c) (kaA m c) (ksA m c) (vtA m c) (vsA m c) (grid0.coords t) S)
include R B

theorem out5_eq : (bodyF (grid0.coords t) S).x8 = spec5 m c (grid0.coords t) := funext fun y => by
  have e : y = ix3 0 (y 1) (y 2) := funext fun a => by
    fin_cases a
    · exact Subsingleton.elim (α := Fin 1) _ _
    · rfl
    · rfl
  rw [e]
  exact body_x8 R B (y 1) (y 2)
theorem out6_eq : (bodyF (grid0.coords t) S).x9 = spec6 m c (grid0.coords t) := funext fun y => by
  have e : y = ix5 0 0 0 (y 3) (y 4) := funext fun a => by
    fin_cases a
    · exact Subsingleton.elim (α := Fin 1) _ _
    · exact Subsingleton.elim (α := Fin 1) _ _
    · exact Subsingleton.elim (α := Fin 1) _ _
    · rfl
    · rfl
  rw [e]
  exact body_x9 R B (y 3) (y 4)
theorem out7_eq : (bodyF (grid0.coords t) S).x10 = spec7 m c (grid0.coords t) := funext fun y => by
  have e : y = ix3 0 (y 1) (y 2) := funext fun a => by
    fin_cases a
    · exact Subsingleton.elim (α := Fin 1) _ _
    · rfl
    · rfl
  rw [e]
  exact body_x10 R B (y 1) (y 2)
theorem out8_eq : (bodyF (grid0.coords t) S).x11 = spec8 m c (grid0.coords t) := funext fun y => by
  have e : y = ix4 0 0 (y 2) (y 3) := funext fun a => by
    fin_cases a
    · exact Subsingleton.elim (α := Fin 1) _ _
    · exact Subsingleton.elim (α := Fin 1) _ _
    · rfl
    · rfl
  rw [e]
  exact body_x11 R B (y 2) (y 3)
theorem out9_eq (hp : (grid0.coords t 2).val ≠ 0 → ∀ (h : Fin 4) (l : Fin 256),
      S.x12 (ix4 0 0 h l) = amUpTo (xA m c) (kaA m c) (ksA m c) (vtA m c) (vsA m c) (bOf (grid0.coords t)) (gOf (grid0.coords t)) h l (grid0.coords t 2).val) :
    (bodyF (grid0.coords t) S).x12 = spec9 m c (grid0.coords t) := funext fun y => by
  have e : y = ix4 0 0 (y 2) (y 3) := funext fun a => by
    fin_cases a
    · exact Subsingleton.elim (α := Fin 1) _ _
    · exact Subsingleton.elim (α := Fin 1) _ _
    · rfl
    · rfl
  rw [e]
  exact body_x12 R B hp (y 2) (y 3)
end Body

/-- What the body is called with at point `t`. -/
def specPre (c : Dev nD) (t : Fin cfg0.N) : sProp 𝕄 :=
  iprop((specDats m 0 c).Φ t.castSucc ∗ (specDats m 0 c).owesAt () t.castSucc
    ∗ (∃ d, owns (c : Thread nD τ) (st0_0 t) fullShare ((specDats m 0 c).before 0 t d))
    ∗ (∃ d, owns (c : Thread nD τ) (st0_1 t) fullShare ((specDats m 0 c).before 1 t d))
    ∗ (∃ d, owns (c : Thread nD τ) (st0_2 t) fullShare ((specDats m 0 c).before 2 t d))
    ∗ (∃ d, owns (c : Thread nD τ) (st0_3 t) fullShare ((specDats m 0 c).before 3 t d))
    ∗ (∃ d, owns (c : Thread nD τ) (st0_4 t) fullShare ((specDats m 0 c).before 4 t d))
    ∗ (∃ d, owns (c : Thread nD τ) (st0_5 t) fullShare ((specDats m 0 c).before 5 t d))
    ∗ (∃ d, owns (c : Thread nD τ) (st0_6 t) fullShare ((specDats m 0 c).before 6 t d))
    ∗ (∃ d, owns (c : Thread nD τ) (st0_7 t) fullShare ((specDats m 0 c).before 7 t d))
    ∗ (∃ d, owns (c : Thread nD τ) (st0_8 t) fullShare ((specDats m 0 c).before 8 t d))
    ∗ (∃ d, owns (c : Thread nD τ) (st0_9 t) fullShare ((specDats m 0 c).before 9 t d)))

/-- … and what it returns. -/
def specPost (c : Dev nD) (t : Fin cfg0.N) : sProp 𝕄 :=
  iprop((specDats m 0 c).Φ t.succ ∗ (specDats m 0 c).owesAt () t.succ
    ∗ owns (c : Thread nD τ) (st0_0 t) fullShare ((specDats m 0 c).after 0 t)
    ∗ owns (c : Thread nD τ) (st0_1 t) fullShare ((specDats m 0 c).after 1 t)
    ∗ owns (c : Thread nD τ) (st0_2 t) fullShare ((specDats m 0 c).after 2 t)
    ∗ owns (c : Thread nD τ) (st0_3 t) fullShare ((specDats m 0 c).after 3 t)
    ∗ owns (c : Thread nD τ) (st0_4 t) fullShare ((specDats m 0 c).after 4 t)
    ∗ owns (c : Thread nD τ) (st0_5 t) fullShare ((specDats m 0 c).after 5 t)
    ∗ owns (c : Thread nD τ) (st0_6 t) fullShare ((specDats m 0 c).after 6 t)
    ∗ owns (c : Thread nD τ) (st0_7 t) fullShare ((specDats m 0 c).after 7 t)
    ∗ owns (c : Thread nD τ) (st0_8 t) fullShare ((specDats m 0 c).after 8 t)
    ∗ owns (c : Thread nD τ) (st0_9 t) fullShare ((specDats m 0 c).after 9 t))

include hR in
/-- The body at any point leaves the specification's blocks. -/
theorem spec_body (c : Dev nD) (t : Fin cfg0.N) :
    specPre m c t ⊢ wp frame (wpE (defs₀ (F := Ideal)) Variants.none c none) Set.univ (bodyAt0 t) (fun _ => specPost m c t) := by
  unfold specPre specPost
  rw [show (specDats m 0 c).Φ t.succ = (specDats m 0 c).Φ t.castSucc from rfl,
    show (specDats m 0 c).owesAt () t.succ = (specDats m 0 c).owesAt () t.castSucc from rfl,
    show (specDats m 0 c).Φ t.castSucc = Pipeline.ΦA spec0 c from rfl,
    specDats_after0, specDats_after1, specDats_after2, specDats_after3, specDats_after4,
    specDats_after5, specDats_after6, specDats_after7, specDats_after8, specDats_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (specDats m 0 c) (specDats_A m c 0) (specDats_after0 m c) t d0,
    before0_1_of m (specDats m 0 c) (specDats_A m c 1) (specDats_after1 m c) t d1,
    before0_2_of m (specDats m 0 c) (specDats_A m c 2) (specDats_after2 m c) t d2,
    before0_3_of m (specDats m 0 c) (specDats_A m c 3) (specDats_after3 m c) t d3,
    before0_4_of m (specDats m 0 c) (specDats_A m c 4) (specDats_after4 m c) t d4]
  have hp := before9_at m c t
  have hp9 := fun h => hp h d9
  clear hp
  generalize (specDats m 0 c).before 5 t d5 = e5
  generalize (specDats m 0 c).before 6 t d6 = e6
  generalize (specDats m 0 c).before 7 t d7 = e7
  generalize (specDats m 0 c).before 8 t d8 = e8
  generalize (specDats m 0 c).before 9 t d9 = e9 at hp9
  iapply (sound_at c t (start m c t e5 e6 e7 e8 e9) ((specDats m 0 c).owesAt () t.castSucc) _ ?_)
  swap
  · isplitl [HΦ]; · iexact HΦ
    isplitl [Ho]; · iexact Ho
    unfold staged
    iframe
  intro f13 f14 f15 f16
  have B := blockIn m c t e5 e6 e7 e8 e9 f13 f14 f15 f16
  obtain ⟨g3, g4, g5, g6, g7⟩ := same_body (grid0.coords t) (((((start m c t e5 e6 e7 e8 e9).set13 f13).set14 f14).set15 f15).set16 f16)
  have o5 := out5_eq c t _ (hR c) B
  have o6 := out6_eq c t _ (hR c) B
  have o7 := out7_eq c t _ (hR c) B
  have o8 := out8_eq c t _ (hR c) B
  have o9 := out9_eq c t _ (hR c) B hp9
  unfold staged
  rw [g3, g4, g5, g6, g7, o5, o6, o7, o8, o9]
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem spec_row (t : Fin cfg0.N) : defs₀ (F := Ideal) .tc cfg0.body (cfg0.bodyArgs t (cfg0.slots t)) = bodyAt0 t := by
  unfold defs₀; rw [Defs.onTc_tc]

include hR in
theorem spec_obligation (c : Dev nD) : BodyObligation (specDats m 0 c) (defs₀ (F := Ideal)) Variants.none () Set.univ := fun t => by
  rw [bigSep_W0, bigSep_W0, spec_row, never_idle]
  exact triple_restated (spec_body m hR c t) rfl .rfl fun _ => .rfl

include hR in
set_option backward.isDefEq.respectTransparency.types false in
set_option maxHeartbeats 800000 in
theorem spec_run : θ_run defs (onTc (τ := τ) (main (F := Ideal))) (s₀ m ρ) (Pipeline.FramePost cfgs (specDats m) 0 (V m)) :=
  Pipeline.θ_run_frame cfgs (specDats m) (0 : Fin 1) launch0 defs₀ Variants.none m ρ main
    (hbody := fun c => (spec_obligation m hR c).loose) (hshare := fun c => (specDats m 0 c).share_full fun _ => rfl)
    (howed := fun _ _ => rfl) (V := V m) (hmain := hmain m Variants.none) (hA := specDats_A m) (hΦ := fun _ _ => rfl)

/-! ## The output arrays -/

/-- A point with given coordinates. -/
theorem exists_point (b : Fin 2) (g q : Fin 16) : ∃ t : Fin cfg0.N, (grid0.coords t 0).val = b.val ∧ (grid0.coords t 1).val = g.val ∧ (grid0.coords t 2).val = q.val := by
  refine ⟨⟨b.val * 256 + g.val * 16 + q.val, by show _ < grid0.N; rw [N_0]; omega⟩, ?_, ?_, ?_⟩
  · rw [coord0]; dsimp only; omega
  · rw [coord1]; dsimp only; omega
  · rw [coord2]; dsimp only; omega

theorem final5 (c : Dev nD) : (specDats m 0 c).arrAt 5 cfg0.N = arrQC (xA m c) := by
  refine (specDats m 0 c).arrAt_eq_of_cover 5 _ (fun t _ => ?_) fun j => ?_
  · show (cfg0.win 5).cut (grid0.coords t) ((specDats m 0 c).after 5 t) = _
    rw [specDats_after5]
    funext y
    show qCode (xA m c) _ _ _ = qCode (xA m c) ((win0_5.rect t).emb y 0) ((win0_5.rect t).emb y 1) ((win0_5.rect t).emb y 2)
    have y0 : (y 0 : Fin 1).val = 0 := by have : (y 0 : Fin 1).val < 1 := (y 0 : Fin 1).isLt; omega
    refine congr (congrArg₂ (qCode (xA m c)) (Fin.ext ?_) (Fin.ext ?_)) (Fin.ext ?_)
    · refine Eq.trans ?_ (win0_5.rect_emb_val t y 0).symm
      show (grid0.coords t 0).val = (BitVec.ofNat 32 (grid0.coords t 0).val).toNat * 1 + (y 0 : Fin 1).val
      rw [w0]; omega
    · refine Eq.trans ?_ (win0_5.rect_emb_val t y 1).symm
      show 256 * (grid0.coords t 2).val + (y 1 : Fin 256).val = (BitVec.ofNat 32 (grid0.coords t 2).val).toNat * 256 + (y 1 : Fin 256).val
      rw [w2]; omega
    · refine Eq.trans ?_ (win0_5.rect_emb_val t y 2).symm
      show 640 * (grid0.coords t 1).val + (y 2 : Fin 640).val = (BitVec.ofNat 32 (grid0.coords t 1).val).toNat * 640 + (y 2 : Fin 640).val
      rw [w1]; omega
  · have j1 : (j 1 : Fin 4096).val < 4096 := (j 1 : Fin 4096).isLt
    have j2 : (j 2 : Fin 10240).val < 10240 := (j 2 : Fin 10240).isLt
    obtain ⟨t, e0, e1, e2⟩ := exists_point (j 0) ⟨(j 2 : Fin 10240).val / 640, by omega⟩ ⟨(j 1 : Fin 4096).val / 256, by omega⟩
    refine ⟨t, flush0_5 t, ?_⟩
    show j ∈ ((View.whole main_v1_0).slice (win0_5.rect t)).set
    rw [View.set_slice_whole, Rect.mem_set_unit]
    intro a
    fin_cases a
    · show (BitVec.ofNat 32 (grid0.coords t 0).val).toNat * 1 ≤ (j 0 : Fin 2).val ∧ (j 0 : Fin 2).val < (BitVec.ofNat 32 (grid0.coords t 0).val).toNat * 1 + 1
      rw [w0, e0]; omega
    · show (BitVec.ofNat 32 (grid0.coords t 2).val).toNat * 256 ≤ (j 1 : Fin 4096).val ∧ (j 1 : Fin 4096).val < (BitVec.ofNat 32 (grid0.coords t 2).val).toNat * 256 + 256
      rw [w2, e2]; dsimp only; omega
    · show (BitVec.ofNat 32 (grid0.coords t 1).val).toNat * 640 ≤ (j 2 : Fin 10240).val ∧ (j 2 : Fin 10240).val < (BitVec.ofNat 32 (grid0.coords t 1).val).toNat * 640 + 640
      rw [w1, e1]; dsimp only; omega

theorem final7 (c : Dev nD) : (specDats m 0 c).arrAt 7 cfg0.N = arrOC (xA m c) (kaA m c) (ksA m c) (vtA m c) (vsA m c) := by
  refine (specDats m 0 c).arrAt_eq_of_cover 7 _ (fun t _ => ?_) fun j => ?_
  · show (cfg0.win 7).cut (grid0.coords t) ((specDats m 0 c).after 7 t) = _
    rw [specDats_after7]
    funext y
    show sOC (xA m c) (kaA m c) (ksA m c) (vtA m c) (vsA m c) _ _ _ = sOC (xA m c) (kaA m c) (ksA m c) (vtA m c) (vsA m c) ((win0_7.rect t).emb y 0) ((win0_7.rect t).emb y 1) ((win0_7.rect t).emb y 2)
    have y0 : (y 0 : Fin 1).val = 0 := by have : (y 0 : Fin 1).val < 1 := (y 0 : Fin 1).isLt; omega
    refine congr (congrArg₂ (sOC (xA m c) (kaA m c) (ksA m c) (vtA m c) (vsA m c)) (Fin.ext ?_) (Fin.ext ?_)) (Fin.ext ?_)
    · refine Eq.trans ?_ (win0_7.rect_emb_val t y 0).symm
      show (grid0.coords t 0).val = (BitVec.ofNat 32 (grid0.coords t 0).val).toNat * 1 + (y 0 : Fin 1).val
      rw [w0]; omega
    · refine Eq.trans ?_ (win0_7.rect_emb_val t y 1).symm
      show 256 * (grid0.coords t 2).val + (y 1 : Fin 256).val = (BitVec.ofNat 32 (grid0.coords t 2).val).toNat * 256 + (y 1 : Fin 256).val
      rw [w2]; omega
    · refine Eq.trans ?_ (win0_7.rect_emb_val t y 2).symm
      show 640 * (grid0.coords t 1).val + (y 2 : Fin 640).val = (BitVec.ofNat 32 (grid0.coords t 1).val).toNat * 640 + (y 2 : Fin 640).val
      rw [w1]; omega
  · have j1 : (j 1 : Fin 4096).val < 4096 := (j 1 : Fin 4096).isLt
    have j2 : (j 2 : Fin 10240).val < 10240 := (j 2 : Fin 10240).isLt
    obtain ⟨t, e0, e1, e2⟩ := exists_point (j 0) ⟨(j 2 : Fin 10240).val / 640, by omega⟩ ⟨(j 1 : Fin 4096).val / 256, by omega⟩
    refine ⟨t, flush0_7 t, ?_⟩
    show j ∈ ((View.whole main_v1_2).slice (win0_7.rect t)).set
    rw [View.set_slice_whole, Rect.mem_set_unit]
    intro a
    fin_cases a
    · show (BitVec.ofNat 32 (grid0.coords t 0).val).toNat * 1 ≤ (j 0 : Fin 2).val ∧ (j 0 : Fin 2).val < (BitVec.ofNat 32 (grid0.coords t 0).val).toNat * 1 + 1
      rw [w0, e0]; omega
    · show (BitVec.ofNat 32 (grid0.coords t 2).val).toNat * 256 ≤ (j 1 : Fin 4096).val ∧ (j 1 : Fin 4096).val < (BitVec.ofNat 32 (grid0.coords t 2).val).toNat * 256 + 256
      rw [w2, e2]; dsimp only; omega
    · show (BitVec.ofNat 32 (grid0.coords t 1).val).toNat * 640 ≤ (j 2 : Fin 10240).val ∧ (j 2 : Fin 10240).val < (BitVec.ofNat 32 (grid0.coords t 1).val).toNat * 640 + 640
      rw [w1, e1]; dsimp only; omega

theorem final6 (c : Dev nD) : (specDats m 0 c).arrAt 6 cfg0.N = arrQS (xA m c) := by
  refine (specDats m 0 c).arrAt_eq_of_cover 6 _ (fun t _ => ?_) fun j => ?_
  · show (cfg0.win 6).cut (grid0.coords t) ((specDats m 0 c).after 6 t) = _
    rw [specDats_after6]
    funext y
    have y0 : (y 0 : Fin 1).val = 0 := by have : (y 0 : Fin 1).val < 1 := (y 0 : Fin 1).isLt; omega
    have y1 : (y 1 : Fin 1).val = 0 := by have : (y 1 : Fin 1).val < 1 := (y 1 : Fin 1).isLt; omega
    have y2 : (y 2 : Fin 1).val = 0 := by have : (y 2 : Fin 1).val < 1 := (y 2 : Fin 1).isLt; omega
    have r0 : ((win0_6.rect t).emb y 0).val = (grid0.coords t 0).val := (win0_6.rect_emb_val t y 0).trans (by
      show (BitVec.ofNat 32 (grid0.coords t 0).val).toNat * 1 + (y 0 : Fin 1).val = _
      rw [w0]; omega)
    have r1 : ((win0_6.rect t).emb y 1).val = (grid0.coords t 1).val := (win0_6.rect_emb_val t y 1).trans (by
      show (BitVec.ofNat 32 (grid0.coords t 1).val).toNat * 1 + (y 1 : Fin 1).val = _
      rw [w1]; omega)
    have r2 : ((win0_6.rect t).emb y 2).val = (grid0.coords t 2).val := (win0_6.rect_emb_val t y 2).trans (by
      show (BitVec.ofNat 32 (grid0.coords t 2).val).toNat * 1 + (y 2 : Fin 1).val = _
      rw [w2]; omega)
    have r3 : ((win0_6.rect t).emb y 3).val = (y 3 : Fin 8).val := (win0_6.rect_emb_val t y 3).trans (by
      show 0 * 8 + (y 3 : Fin 8).val = _
      omega)
    show spec6 m c (grid0.coords t) y = arrQS (xA m c) ((win0_6.rect t).emb y)
    unfold spec6 arrQS
    refine congr (congrArg₂ (qScale (xA m c)) (Fin.ext r0.symm) (Fin.ext ?_)) (Fin.ext ?_)
    · exact (congrArg₂ (fun p q => p * 2 + q % 2) r2 r3).symm
    · exact (congrArg₂ (fun p q => p * 4 + q / 2) r1 r3).symm
  · have j3 : (j 3 : Fin 8).val < 8 := (j 3 : Fin 8).isLt
    have j4 : (j 4 : Fin 128).val < 128 := (j 4 : Fin 128).isLt
    obtain ⟨t, e0, e1, e2⟩ := exists_point (j 0) (j 1) (j 2)
    refine ⟨t, flush0_6 t, ?_⟩
    show j ∈ ((View.whole main_v1_1).slice (win0_6.rect t)).set
    rw [View.set_slice_whole, Rect.mem_set_unit]
    intro a
    fin_cases a
    · show (BitVec.ofNat 32 (grid0.coords t 0).val).toNat * 1 ≤ (j 0 : Fin 2).val ∧ (j 0 : Fin 2).val < (BitVec.ofNat 32 (grid0.coords t 0).val).toNat * 1 + 1
      rw [w0, e0]; omega
    · show (BitVec.ofNat 32 (grid0.coords t 1).val).toNat * 1 ≤ (j 1 : Fin 16).val ∧ (j 1 : Fin 16).val < (BitVec.ofNat 32 (grid0.coords t 1).val).toNat * 1 + 1
      rw [w1, e1]; omega
    · show (BitVec.ofNat 32 (grid0.coords t 2).val).toNat * 1 ≤ (j 2 : Fin 16).val ∧ (j 2 : Fin 16).val < (BitVec.ofNat 32 (grid0.coords t 2).val).toNat * 1 + 1
      rw [w2, e2]; omega
    · show 0 * 8 ≤ (j 3 : Fin 8).val ∧ (j 3 : Fin 8).val < 0 * 8 + 8
      omega
    · show 0 * 128 ≤ (j 4 : Fin 128).val ∧ (j 4 : Fin 128).val < 0 * 128 + 128
      omega

theorem final8 (c : Dev nD) : (specDats m 0 c).arrAt 8 cfg0.N = arrOS (xA m c) (kaA m c) (ksA m c) (vtA m c) (vsA m c) := by
  refine (specDats m 0 c).arrAt_eq_of_cover 8 _ (fun t _ => ?_) fun j => ?_
  · show (cfg0.win 8).cut (grid0.coords t) ((specDats m 0 c).after 8 t) = _
    rw [specDats_after8]
    funext y
    have y0 : (y 0 : Fin 1).val = 0 := by have : (y 0 : Fin 1).val < 1 := (y 0 : Fin 1).isLt; omega
    have y1 : (y 1 : Fin 1).val = 0 := by have : (y 1 : Fin 1).val < 1 := (y 1 : Fin 1).isLt; omega
    have r0 : ((win0_8.rect t).emb y 0).val = (grid0.coords t 0).val := (win0_8.rect_emb_val t y 0).trans (by
      show (BitVec.ofNat 32 (grid0.coords t 0).val).toNat * 1 + (y 0 : Fin 1).val = _
      rw [w0]; omega)
    have r1 : ((win0_8.rect t).emb y 1).val = (grid0.coords t 1).val := (win0_8.rect_emb_val t y 1).trans (by
      show (BitVec.ofNat 32 (grid0.coords t 1).val).toNat * 1 + (y 1 : Fin 1).val = _
      rw [w1]; omega)
    have r2 : ((win0_8.rect t).emb y 2).val = (y 2 : Fin 4).val := (win0_8.rect_emb_val t y 2).trans (by
      show 0 * 4 + (y 2 : Fin 4).val = _
      omega)
    have r3 : ((win0_8.rect t).emb y 3).val = 256 * (grid0.coords t 2).val + (y 3 : Fin 256).val := (win0_8.rect_emb_val t y 3).trans (by
      show (BitVec.ofNat 32 (grid0.coords t 2).val).toNat * 256 + (y 3 : Fin 256).val = _
      rw [w2]; omega)
    show spec8 m c (grid0.coords t) y = arrOS (xA m c) (kaA m c) (ksA m c) (vtA m c) (vsA m c) ((win0_8.rect t).emb y)
    unfold spec8 arrOS
    exact congr (congr (congrArg₂ (sOS (xA m c) (kaA m c) (ksA m c) (vtA m c) (vsA m c)) (Fin.ext r0.symm) (Fin.ext r1.symm)) (Fin.ext r2.symm)) (Fin.ext r3.symm)
  · have j2 : (j 2 : Fin 4).val < 4 := (j 2 : Fin 4).isLt
    have j3 : (j 3 : Fin 4096).val < 4096 := (j 3 : Fin 4096).isLt
    obtain ⟨t, e0, e1, e2⟩ := exists_point (j 0) (j 1) ⟨(j 3 : Fin 4096).val / 256, by omega⟩
    refine ⟨t, flush0_8 t, ?_⟩
    show j ∈ ((View.whole main_v1_3).slice (win0_8.rect t)).set
    rw [View.set_slice_whole, Rect.mem_set_unit]
    intro a
    fin_cases a
    · show (BitVec.ofNat 32 (grid0.coords t 0).val).toNat * 1 ≤ (j 0 : Fin 2).val ∧ (j 0 : Fin 2).val < (BitVec.ofNat 32 (grid0.coords t 0).val).toNat * 1 + 1
      rw [w0, e0]; omega
    · show (BitVec.ofNat 32 (grid0.coords t 1).val).toNat * 1 ≤ (j 1 : Fin 16).val ∧ (j 1 : Fin 16).val < (BitVec.ofNat 32 (grid0.coords t 1).val).toNat * 1 + 1
      rw [w1, e1]; omega
    · show 0 * 4 ≤ (j 2 : Fin 4).val ∧ (j 2 : Fin 4).val < 0 * 4 + 4
      omega
    · show (BitVec.ofNat 32 (grid0.coords t 2).val).toNat * 256 ≤ (j 3 : Fin 4096).val ∧ (j 3 : Fin 4096).val < (BitVec.ofNat 32 (grid0.coords t 2).val).toNat * 256 + 256
      rw [w2, e2]; dsimp only; omega

theorem final9 (c : Dev nD) : (specDats m 0 c).arrAt 9 cfg0.N = arrAM (xA m c) (kaA m c) (ksA m c) (vtA m c) (vsA m c) := by
  refine (specDats m 0 c).arrAt_eq_of_cover 9 _ (fun t ht => ?_) fun j => ?_
  · have h15 : (grid0.coords t 2).val = 15 := (coord2 t).trans ((flush0_9 t).1 ht)
    show (cfg0.win 9).cut (grid0.coords t) ((specDats m 0 c).after 9 t) = _
    rw [specDats_after9]
    funext y
    have y0 : (y 0 : Fin 1).val = 0 := by have : (y 0 : Fin 1).val < 1 := (y 0 : Fin 1).isLt; omega
    have y1 : (y 1 : Fin 1).val = 0 := by have : (y 1 : Fin 1).val < 1 := (y 1 : Fin 1).isLt; omega
    have r0 : ((win0_9.rect t).emb y 0).val = (grid0.coords t 0).val := (win0_9.rect_emb_val t y 0).trans (by
      show (BitVec.ofNat 32 (grid0.coords t 0).val).toNat * 1 + (y 0 : Fin 1).val = _
      rw [w0]; omega)
    have r1 : ((win0_9.rect t).emb y 1).val = (grid0.coords t 1).val := (win0_9.rect_emb_val t y 1).trans (by
      show (BitVec.ofNat 32 (grid0.coords t 1).val).toNat * 1 + (y 1 : Fin 1).val = _
      rw [w1]; omega)
    have r2 : ((win0_9.rect t).emb y 2).val = (y 2 : Fin 4).val := (win0_9.rect_emb_val t y 2).trans (by
      show 0 * 4 + (y 2 : Fin 4).val = _
      omega)
    show spec9 m c (grid0.coords t) y = arrAM (xA m c) (kaA m c) (ksA m c) (vtA m c) (vsA m c) ((win0_9.rect t).emb y)
    unfold spec9 arrAM
    rw [if_pos h15]
    exact congr (congrArg₂ (sAM (xA m c) (kaA m c) (ksA m c) (vtA m c) (vsA m c)) (Fin.ext r0.symm) (Fin.ext r1.symm)) (Fin.ext r2.symm)
  · have j2 : (j 2 : Fin 4).val < 4 := (j 2 : Fin 4).isLt
    have j3 : (j 3 : Fin 256).val < 256 := (j 3 : Fin 256).isLt
    obtain ⟨t, e0, e1, e2⟩ := exists_point (j 0) (j 1) 15
    refine ⟨t, (flush0_9 t).2 ((coord2 t).symm.trans e2), ?_⟩
    show j ∈ ((View.whole main_v1_4).slice (win0_9.rect t)).set
    rw [View.set_slice_whole, Rect.mem_set_unit]
    intro a
    fin_cases a
    · show (BitVec.ofNat 32 (grid0.coords t 0).val).toNat * 1 ≤ (j 0 : Fin 2).val ∧ (j 0 : Fin 2).val < (BitVec.ofNat 32 (grid0.coords t 0).val).toNat * 1 + 1
      rw [w0, e0]; omega
    · show (BitVec.ofNat 32 (grid0.coords t 1).val).toNat * 1 ≤ (j 1 : Fin 16).val ∧ (j 1 : Fin 16).val < (BitVec.ofNat 32 (grid0.coords t 1).val).toNat * 1 + 1
      rw [w1, e1]; omega
    · show 0 * 4 ≤ (j 2 : Fin 4).val ∧ (j 2 : Fin 4).val < 0 * 4 + 4
      omega
    · show 0 * 256 ≤ (j 3 : Fin 256).val ∧ (j 3 : Fin 256).val < 0 * 256 + 256
      omega

include hR in
/-- The run, read: the five results and the unchanged arguments. -/
theorem value_run : θ_run defs (onTc (τ := τ) (main (F := Ideal))) ⟨m, fun _ => 0, ρ⟩ fun r => ∀ c : Dev nD,
      (r.2.mem ((c.tc : Thread nD τ).loc main_v1_0) = arrQC (xA m c)
      ∧ r.2.mem ((c.tc : Thread nD τ).loc main_v1_1) = arrQS (xA m c)
      ∧ r.2.mem ((c.tc : Thread nD τ).loc main_v1_2) = arrOC (xA m c) (kaA m c) (ksA m c) (vtA m c) (vsA m c)
      ∧ r.2.mem ((c.tc : Thread nD τ).loc main_v1_3) = arrOS (xA m c) (kaA m c) (ksA m c) (vtA m c) (vsA m c)
      ∧ r.2.mem ((c.tc : Thread nD τ).loc main_v1_4) = arrAM (xA m c) (kaA m c) (ksA m c) (vtA m c) (vsA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨⟨((h c).1 5).trans (final5 m c), ((h c).1 6).trans (final6 m c), ((h c).1 7).trans (final7 m c),
      ((h c).1 8).trans (final8 m c), ((h c).1 9).trans (final9 m c)⟩,
      ((h c).1 0).trans (((specDats m 0 c).arrAt_in 0 rfl _).trans ((specDats_A m c 0).trans (V_main_arg0 m c))),
      ((h c).1 1).trans (((specDats m 0 c).arrAt_in 1 rfl _).trans ((specDats_A m c 1).trans (V_main_arg1 m c))),
      ((h c).1 2).trans (((specDats m 0 c).arrAt_in 2 rfl _).trans ((specDats_A m c 2).trans (V_main_arg2 m c))),
      ((h c).2 main_arg3 (Pipeline.mem_restRefs_of main_arg3 (by decide) (by decide))).trans (V_main_arg3 m c),
      ((h c).1 4).trans (((specDats m 0 c).arrAt_in 4 rfl _).trans ((specDats_A m c 4).trans (V_main_arg4 m c)))⟩) (spec_run m ρ hR)

end Cert.KernelIdeal.Gen

end
-- ==== Proof.ReferenceIdeal.ReadQuant.lean ====
module

public import proofs.«01_k».proof.Proof.Gen.ReferenceIdeal.Skeleton
public import proofs.«01_k».proof.Proof.Math.Spec

public section

/-
  What the reference's quantised query and scales are at an index.
-/

set_option maxRecDepth 16384

noncomputable section

namespace Cert.ReferenceIdeal.Gen

open Idealize.ShloMosaic Idealize.ShloMosaic.TcCoe Idealize.SL.Sem
open Cert.Attn

theorem named_ln2 : (Named.named (F := Ideal) (φ := .f32) κ "ln2" 1060205080#32 : EReal) = ((Real.log 2 : ℝ) : EReal) := rfl
theorem named_sm : (Named.named (F := Ideal) (φ := .f32) κ "sm_scale" 1034021019#32 : EReal) = (((Real.sqrt 160)⁻¹ : ℝ) : EReal) := rfl

theorem pay5_at (v : Vec Ideal S2x4096x10240 .bf16) (b : Fin 2) (t : Fin 32) (r : Fin 128) (H : Fin 64) (d : Fin 160) :
    k0_pay5 (F := Ideal) v (ix5 b t r H d) = v (ix3 b ⟨t.val * 128 + r.val, by omega⟩ (laneOf H d)) := by
  pointwise [k0_pay5]
  rfl

theorem pay6_raw (v : Vec Ideal S2x4096x10240 .bf16) (b : Fin 2) (t : Fin 32) (H : Fin 64) :
    k0_pay6 (F := Ideal) v (ix5 b t 0 H 0) = expo (Finset.fold max ⊥ (fun r : Fin 128 => Finset.fold max ⊥ (fun d : Fin 160 => mag (k0_pay5 (F := Ideal) v (ix5 b t r H d))) Finset.univ) Finset.univ * c448) := by
  pointwise [k0_pay6]
  exact expo_words _ _ named_ln2

theorem pay6_at (v : Vec Ideal S2x4096x10240 .bf16) (b : Fin 2) (t : Fin 32) (H : Fin 64) :
    k0_pay6 (F := Ideal) v (ix5 b t 0 H 0) = tileExp v b t H := by
  rw [pay6_raw]
  unfold tileExp tileMax
  refine congrArg (fun y => expo (y * c448)) (Finset.fold_congr fun r _ => Finset.fold_congr fun d _ => ?_)
  rw [pay5_at]

theorem pay7_raw (v : Vec Ideal S2x4096x10240 .bf16) (b : Fin 2) (t : Fin 32) (r : Fin 128) (H : Fin 64) (d : Fin 160) :
    k0_pay7 (F := Ideal) v (ix5 b t r H d) = clip (k0_pay5 (F := Ideal) v (ix5 b t r H d) * Ideal.exp2 (0 - k0_pay6 (F := Ideal) v (ix5 b t 0 H 0))) := by
  pointwise [k0_pay7]
  exact clip_words _

theorem pay7_at (v : Vec Ideal S2x4096x10240 .bf16) (b : Fin 2) (s : Fin 4096) (H : Fin 64) (d : Fin 160) :
    k0_pay7 (F := Ideal) v (ix5 b (tileOf s) ⟨s.val % 128, by omega⟩ H d) = qCode v b s (laneOf H d) := by
  rw [pay7_raw, pay5_at, pay6_at]
  have e1 : (⟨(tileOf s).val * 128 + s.val % 128, by omega⟩ : Fin 4096) = s := Fin.ext (by show s.val / 128 * 128 + s.val % 128 = s.val; omega)
  have e2 : (⟨(laneOf H d).val / 160, by omega⟩ : Fin 64) = H := Fin.ext (by show (H.val * 160 + d.val) / 160 = H.val; omega)
  unfold qCode
  rw [e2]
  exact congrArg (fun y => clip (v (ix3 b y (laneOf H d)) * _)) e1

theorem pay9_raw (v : Vec Ideal S2x4096x10240 .bf16) (b : Fin 2) (s : Fin 4096) (l : Fin 10240) :
    k0_pay9 (F := Ideal) v (ix3 b s l) = clip (v (ix3 b s l) * Ideal.exp2 (0 - k0_pay6 (F := Ideal) v (ix5 b ⟨s.val / 128, by omega⟩ 0 ⟨l.val / 160, by omega⟩ 0))) := by
  pointwise [k0_pay9, k0_pay7, k0_pay5]
  exact clip_words _

/-- The first result. -/
theorem pay9_at (v : Vec Ideal S2x4096x10240 .bf16) (b : Fin 2) (s : Fin 4096) (l : Fin 10240) :
    k0_pay9 (F := Ideal) v (ix3 b s l) = qCode v b s l := by
  rw [pay9_raw, pay6_at]; rfl

theorem pay8_at (v : Vec Ideal S2x4096x10240 .bf16) (b : Fin 2) (t : Fin 32) (H : Fin 64) :
    k0_pay8 (F := Ideal) v (ix5 b t 0 H 0) = qScale v b t H := by
  have : k0_pay8 (F := Ideal) v (ix5 b t 0 H 0) = Ideal.exp2 (k0_pay6 (F := Ideal) v (ix5 b t 0 H 0)) := by
    pointwise [k0_pay8]
    rfl
  rw [this, pay6_at]; rfl

/-- The second result. -/
theorem pay10_at (v : Vec Ideal S2x4096x10240 .bf16) (b : Fin 2) (g i : Fin 16) (c : Fin 8) (x : Fin 128) :
    k0_pay10 (F := Ideal) v (ix5 b g i c x) = qScale v b ⟨i.val * 2 + c.val % 2, by omega⟩ (headOf g ⟨c.val / 2, by omega⟩) := by
  have : k0_pay10 (F := Ideal) v (ix5 b g i c x) = Ideal.exp2 (k0_pay6 (F := Ideal) v (ix5 b ⟨i.val * 2 + c.val % 2, by omega⟩ 0 ⟨g.val * 4 + c.val / 2, by omega⟩ 0)) := by
    pointwise [k0_pay10, k0_pay8]
    rfl
  rw [this, pay6_at]; rfl

end Cert.ReferenceIdeal.Gen

end
-- ==== Proof.ReferenceIdeal.ReadScores.lean ====
module

public import proofs.«01_k».proof.Proof.ReferenceIdeal.ReadQuant

public section

/-
  What the reference's probabilities are at an index.
-/

set_option maxRecDepth 16384

noncomputable section

namespace Cert.ReferenceIdeal.Gen

open Idealize.ShloMosaic Idealize.ShloMosaic.TcCoe Idealize.SL.Sem
open Cert.Attn

/-- The score as the reference reads it. -/
@[expose] def score (a : FVec Ideal S2x32x128x64x160 .fp8e4m3) (b : FVec Ideal S2x32x1x64x1 .f32) (c : Vec Ideal S2x16x4096x160 .fp8e4m3) (d : Vec Ideal S2x16x32x1 .f32) (n : Fin 128) (s k : Fin 4096) : EReal :=
  (∑ x : Fin 160, a (ix5 ⟨n.val / 4 / 16, by omega⟩ ⟨s.val / 128, by omega⟩ ⟨s.val % 128, by omega⟩ ⟨n.val / 4 % 16 * 4 + (n.val % 4 * 4096 + s.val) / 4096, by omega⟩ x) * c (ix4 ⟨n.val / 4 / 16, by omega⟩ ⟨n.val / 4 % 16, by omega⟩ k x))
    * b (ix5 ⟨n.val / 4 / 16, by omega⟩ ⟨s.val / 128, by omega⟩ 0 ⟨n.val / 4 % 16 * 4 + (n.val % 4 * 4096 + s.val) / 4096, by omega⟩ 0)
    * d (ix4 ⟨n.val / 4 / 16, by omega⟩ ⟨n.val / 4 % 16, by omega⟩ ⟨k.val / 128, by omega⟩ 0) * (((Real.sqrt 160)⁻¹ : ℝ) : EReal)

/-- The same over the naturals. -/
@[expose] def scoreN (a : FVec Ideal S2x32x128x64x160 .fp8e4m3) (b : FVec Ideal S2x32x1x64x1 .f32) (c : Vec Ideal S2x16x4096x160 .fp8e4m3) (d : Vec Ideal S2x16x32x1 .f32) (n : Fin 128) (s : Fin 4096) (k : ℕ) : EReal :=
  if h : k < 4096 then score a b c d n s ⟨k, h⟩ else 0

theorem select_sle4096 (k s : Fin 4096) (x : EReal) : Scalar.select (IntOp.cmpi .sle (BitVec.ofNat 32 k.val) (BitVec.ofNat 32 s.val)) x ⊥ = if k.val ≤ s.val then x else ⊥ := by
  have key : IntOp.cmpi .sle (BitVec.ofNat 32 k.val) (BitVec.ofNat 32 s.val) = BitVec.ofBool (decide (k.val ≤ s.val)) := by
    show BitVec.ofBool (BitVec.sle _ _) = _
    congr 1
    rw [BitVec.sle_eq_decide, BitVec.toInt_eq_toNat_of_lt (by simp; omega), BitVec.toInt_eq_toNat_of_lt (by simp; omega)]
    simp
    omega
  rw [key]
  by_cases h : k.val ≤ s.val <;> simp [h, Scalar.select]

theorem pay11_at (a : FVec Ideal S2x32x128x64x160 .fp8e4m3) (b : FVec Ideal S2x32x1x64x1 .f32) (c : Vec Ideal S2x16x4096x160 .fp8e4m3) (d : Vec Ideal S2x16x32x1 .f32) (n : Fin 128) (s k : Fin 4096) :
    k0_pay11 (F := Ideal) a b c d (ix3 n s k) = rP s.val (scoreN a b c d n s) k.val := by
  have hm : ∀ k : Fin 4096, Scalar.select (IntOp.cmpi .sle (BitVec.ofNat 32 k.val) (BitVec.ofNat 32 s.val)) (score a b c d n s k) ⊥ = mask s.val (scoreN a b c d n s) k.val := by
    intro k
    rw [select_sle4096]
    unfold mask scoreN
    rw [dif_pos k.isLt]
  have hM : Finset.fold max ⊥ (fun k : Fin 4096 => Scalar.select (IntOp.cmpi .sle (BitVec.ofNat 32 k.val) (BitVec.ofNat 32 s.val)) (score a b c d n s k) ⊥) Finset.univ = rM s.val (scoreN a b c d n s) :=
    (Finset.fold_congr fun k _ => hm k).trans (fold_sup (n := 4096) (mask s.val (scoreN a b c d n s)))
  have hE : ∀ k : Fin 4096, Ideal.exp (Scalar.select (IntOp.cmpi .sle (BitVec.ofNat 32 k.val) (BitVec.ofNat 32 s.val)) (score a b c d n s k) ⊥
      - Finset.fold max ⊥ (fun k : Fin 4096 => Scalar.select (IntOp.cmpi .sle (BitVec.ofNat 32 k.val) (BitVec.ofNat 32 s.val)) (score a b c d n s k) ⊥) Finset.univ) = rE s.val (scoreN a b c d n s) k.val := by
    intro k
    rw [hM, hm]; rfl
  have hL : ∑ k : Fin 4096, Ideal.exp (Scalar.select (IntOp.cmpi .sle (BitVec.ofNat 32 k.val) (BitVec.ofNat 32 s.val)) (score a b c d n s k) ⊥
      - Finset.fold max ⊥ (fun k : Fin 4096 => Scalar.select (IntOp.cmpi .sle (BitVec.ofNat 32 k.val) (BitVec.ofNat 32 s.val)) (score a b c d n s k) ⊥) Finset.univ) = rL s.val (scoreN a b c d n s) :=
    (Finset.sum_congr rfl fun k _ => hE k).trans (Finset.sum_range (fun k => rE s.val (scoreN a b c d n s) k)).symm
  refine Eq.trans (b := Ideal.div (Ideal.exp (Scalar.select (IntOp.cmpi .sle (BitVec.ofNat 32 k.val) (BitVec.ofNat 32 s.val)) (score a b c d n s k) ⊥
      - Finset.fold max ⊥ (fun k : Fin 4096 => Scalar.select (IntOp.cmpi .sle (BitVec.ofNat 32 k.val) (BitVec.ofNat 32 s.val)) (score a b c d n s k) ⊥) Finset.univ))
      (∑ k : Fin 4096, Ideal.exp (Scalar.select (IntOp.cmpi .sle (BitVec.ofNat 32 k.val) (BitVec.ofNat 32 s.val)) (score a b c d n s k) ⊥
      - Finset.fold max ⊥ (fun k : Fin 4096 => Scalar.select (IntOp.cmpi .sle (BitVec.ofNat 32 k.val) (BitVec.ofNat 32 s.val)) (score a b c d n s k) ⊥) Finset.univ))) ?_ ?_
  · pointwise [k0_pay11]
    rfl
  · rw [hE, hL]; rfl

end Cert.ReferenceIdeal.Gen

end
-- ==== Proof.ReferenceIdeal.ReadOut.lean ====
module

public import proofs.«01_k».proof.Proof.ReferenceIdeal.ReadQuant

public section

/-
  What the reference's output is at an index.
-/

set_option maxRecDepth 16384

noncomputable section

namespace Cert.ReferenceIdeal.Gen

open Idealize.ShloMosaic Idealize.ShloMosaic.TcCoe Idealize.SL.Sem
open Cert.Attn

theorem pay14_raw (p : FVec Ideal S128x4096x4096 .f32) (e f : FVec Ideal S128x4096x1 .f32) (w : Vec Ideal S2x16x160x4096 .fp8e4m3) (u : Vec Ideal S2x16x1x1 .f32) (n : Fin 32) (m : Fin 16384) (d : Fin 160)
    (hf : ∀ n s, f (ix3 n s 0) = Ideal.ofBits .f32 8388608#32) :
    k0_pay14 (F := Ideal) p e f w u (ix3 n m d) =
      (∑ k : Fin 4096, clip (p (ix3 ⟨n.val * 4 + m.val / 4096, by omega⟩ ⟨m.val % 4096, by omega⟩ k) * Ideal.exp2 (0 - expo (e (ix3 ⟨n.val * 4 + m.val / 4096, by omega⟩ ⟨m.val % 4096, by omega⟩ 0)))) * w (ix4 ⟨n.val / 16, by omega⟩ ⟨n.val % 16, by omega⟩ d k))
        * Ideal.exp2 (expo (e (ix3 ⟨n.val * 4 + m.val / 4096, by omega⟩ ⟨m.val % 4096, by omega⟩ 0))) * u (ix4 ⟨n.val / 16, by omega⟩ ⟨n.val % 16, by omega⟩ 0 0) := by
  have he : (if e (ix3 ⟨n.val * 4 + m.val / 4096, by omega⟩ ⟨m.val % 4096, by omega⟩ 0) < f (ix3 ⟨n.val * 4 + m.val / 4096, by omega⟩ ⟨m.val % 4096, by omega⟩ 0) then 0 else Ideal.liftRound Int.floor (Ideal.div (Ideal.log (e (ix3 ⟨n.val * 4 + m.val / 4096, by omega⟩ ⟨m.val % 4096, by omega⟩ 0))) (Named.named (F := Ideal) (φ := .f32) κ "ln2" 1060205080#32 : EReal)) + 1)
      = expo (e (ix3 ⟨n.val * 4 + m.val / 4096, by omega⟩ ⟨m.val % 4096, by omega⟩ 0)) := by
    rw [hf]; exact expo_words _ _ named_ln2
  rw [← he]
  simp only [← clip_words]
  pointwise [k0_pay14]
  rfl

end Cert.ReferenceIdeal.Gen

end
-- ==== Proof.ReferenceIdeal.ReadOutMax.lean ====
module

public import proofs.«01_k».proof.Proof.ReferenceIdeal.ReadQuant

public section

/-
  What the largest output of a row is at an index.
-/

set_option maxRecDepth 16384

noncomputable section

namespace Cert.ReferenceIdeal.Gen

open Idealize.ShloMosaic Idealize.ShloMosaic.TcCoe Idealize.SL.Sem
open Cert.Attn

/-- A row's largest magnitude over 448, as the reference computes it from the output. -/
def rowMax (o : FVec Ideal S32x16384x160 .f32) : FVec Ideal S32x16384x1 .f32 :=
  mulf (shapeCast S32x16384x1 (multiReduction .maximumf [2] S32x16384 (absf o) 0xFF800000#32 reduces_S32x16384x160_S32x16384 (.inl rfl) rfl) shapeCasts_S32x16384_S32x16384x1)
    (broadcast S32x16384x1 (Scalar.ofBits (F := Ideal) .f32 0x3B124925#32))

theorem maxLanes_at (o : FVec Ideal S32x16384x160 .f32) (n : Fin 32) (m : Fin 16384) :
    (multiReduction .maximumf [2] S32x16384 (absf o) 0xFF800000#32 reduces_S32x16384x160_S32x16384 (.inl rfl) rfl : FVec Ideal S32x16384 .f32) (ix2 n m)
      = Finset.fold max ⊥ (fun d : Fin 160 => mag (o (ix3 n m d))) Finset.univ := by
  pointwise []
  rfl

theorem castRow_at (v : FVec Ideal S32x16384 .f32) (n : Fin 32) (m : Fin 16384) :
    shapeCast S32x16384x1 v shapeCasts_S32x16384_S32x16384x1 (ix3 n m 0) = v (ix2 n m) := by
  pointwise []

theorem rowMax_scale (v : FVec Ideal S32x16384x1 .f32) (i : S32x16384x1.Idx) :
    mulf v (broadcast S32x16384x1 (Scalar.ofBits (F := Ideal) .f32 0x3B124925#32)) i = v i * c448 := rfl

theorem rowMax_at (o : FVec Ideal S32x16384x160 .f32) (n : Fin 32) (m : Fin 16384) :
    rowMax o (ix3 n m 0) = Finset.fold max ⊥ (fun d : Fin 160 => mag (o (ix3 n m d))) Finset.univ * c448 := by
  unfold rowMax
  rw [rowMax_scale, castRow_at, maxLanes_at]

theorem pay15_rowMax (p : FVec Ideal S128x4096x4096 .f32) (e f : FVec Ideal S128x4096x1 .f32) (w : Vec Ideal S2x16x160x4096 .fp8e4m3) (u : Vec Ideal S2x16x1x1 .f32) :
    k0_pay15 (F := Ideal) p e f w u = rowMax (k0_pay14 (F := Ideal) p e f w u) := by
  unfold k0_pay15 rowMax
  exact rfl

theorem pay15_at (p : FVec Ideal S128x4096x4096 .f32) (e f : FVec Ideal S128x4096x1 .f32) (w : Vec Ideal S2x16x160x4096 .fp8e4m3) (u : Vec Ideal S2x16x1x1 .f32) (n : Fin 32) (m : Fin 16384) :
    k0_pay15 (F := Ideal) p e f w u (ix3 n m 0) = Finset.fold max ⊥ (fun d : Fin 160 => mag (k0_pay14 (F := Ideal) p e f w u (ix3 n m d))) Finset.univ * c448 := by
  rw [pay15_rowMax]
  exact rowMax_at _ n m

end Cert.ReferenceIdeal.Gen

end
-- ==== Proof.ReferenceIdeal.ReadOutExp.lean ====
module

public import proofs.«01_k».proof.Proof.ReferenceIdeal.ReadQuant

public section

/-
  What the output's scale is at an index.
-/

set_option maxRecDepth 16384

noncomputable section

namespace Cert.ReferenceIdeal.Gen

open Idealize.ShloMosaic Idealize.ShloMosaic.TcCoe Idealize.SL.Sem
open Cert.Attn

/-- The exponent of each row, as the reference computes it from a row's largest magnitude over 448. -/
def rowExp (a : FVec Ideal S32x16384x1 .f32) : FVec Ideal S32x16384x1 .f32 :=
  k0_pay1 (F := Ideal) (cmpf .olt a (broadcast S32x16384x1 (Scalar.ofBits (F := Ideal) .f32 0x00800000#32))) (log a) k0_pay18

theorem rowExp_at (a : FVec Ideal S32x16384x1 .f32) (n : Fin 32) (m : Fin 16384) : rowExp a (ix3 n m 0) = expo (a (ix3 n m 0)) := by
  pointwise [rowExp, k0_pay1, k0_pay18]
  exact expo_words _ _ named_ln2

theorem pay1_rowExp (p : FVec Ideal S128x4096x4096 .f32) (e f : FVec Ideal S128x4096x1 .f32) (w : Vec Ideal S2x16x160x4096 .fp8e4m3) (u : Vec Ideal S2x16x1x1 .f32) :
    k0_pay1 (F := Ideal) (k0_pay16 p e f w u) (k0_pay17 p e f w u) k0_pay18 = rowExp (k0_pay15 (F := Ideal) p e f w u) := by
  unfold k0_pay16 k0_pay17 rowExp
  exact rfl

theorem pay1_at (p : FVec Ideal S128x4096x4096 .f32) (e f : FVec Ideal S128x4096x1 .f32) (w : Vec Ideal S2x16x160x4096 .fp8e4m3) (u : Vec Ideal S2x16x1x1 .f32) (n : Fin 32) (m : Fin 16384) :
    k0_pay1 (F := Ideal) (k0_pay16 p e f w u) (k0_pay17 p e f w u) k0_pay18 (ix3 n m 0) = expo (k0_pay15 (F := Ideal) p e f w u (ix3 n m 0)) := by
  rw [pay1_rowExp]
  exact rowExp_at _ n m

theorem pay2_raw (a : IVec S32x16384x1 1) (b c : FVec Ideal S32x16384x1 .f32) (x : Fin 2) (g : Fin 16) (h : Fin 4) (s : Fin 4096) :
    k0_pay2 (F := Ideal) a b c (ix4 x g h s) = Ideal.exp2 (k0_pay1 (F := Ideal) a b c (ix3 ⟨x.val * 16 + g.val, by omega⟩ ⟨h.val * 4096 + s.val, by omega⟩ 0)) := by
  pointwise [k0_pay2]
  rfl

end Cert.ReferenceIdeal.Gen

end
-- ==== Proof.ReferenceIdeal.ReadHeadMax.lean ====
module

public import proofs.«01_k».proof.Proof.ReferenceIdeal.ReadQuant

public section

/-
  What the largest output of a head is at an index.
-/

set_option maxRecDepth 16384

noncomputable section

namespace Cert.ReferenceIdeal.Gen

open Idealize.ShloMosaic Idealize.ShloMosaic.TcCoe Idealize.SL.Sem
open Cert.Attn

theorem pay3_raw (o : FVec Ideal S32x16384x160 .f32) (b : Fin 2) (g : Fin 16) (h : Fin 4) (l : Fin 256) :
    k0_pay3 (F := Ideal) o (ix4 b g h l) = Finset.fold max ⊥ (fun x : Fin 655360 => mag (o (ix3 ⟨b.val * 16 + g.val, by omega⟩ ⟨h.val * 4096 + x.val / 160, by omega⟩ ⟨x.val % 160, by omega⟩))) Finset.univ := by
  pointwise [k0_pay3]
  rfl

end Cert.ReferenceIdeal.Gen

end
-- ==== Proof.ReferenceIdeal.ReadOutCodes.lean ====
module

public import proofs.«01_k».proof.Proof.ReferenceIdeal.ReadQuant

public section

/-
  What the output's codes are at an index.
-/

set_option maxRecDepth 16384

noncomputable section

namespace Cert.ReferenceIdeal.Gen

open Idealize.ShloMosaic Idealize.ShloMosaic.TcCoe Idealize.SL.Sem
open Cert.Attn

theorem pay4_raw (o : FVec Ideal S32x16384x160 .f32) (a : IVec S32x16384x1 1) (e f : FVec Ideal S32x16384x1 .f32) (b : Fin 2) (s : Fin 4096) (l : Fin 10240) :
    k0_pay4 (F := Ideal) o a e f (ix3 b s l) =
      clip (o (ix3 ⟨b.val * 16 + l.val / 160 / 4, by omega⟩ ⟨l.val / 160 % 4 * 4096 + s.val, by omega⟩ ⟨l.val % 160, by omega⟩)
        * Ideal.exp2 (0 - k0_pay1 (F := Ideal) a e f (ix3 ⟨b.val * 16 + l.val / 160 / 4, by omega⟩ ⟨l.val / 160 % 4 * 4096 + s.val, by omega⟩ 0))) := by
  pointwise [k0_pay4]
  exact clip_words _

end Cert.ReferenceIdeal.Gen

end
-- ==== Proof.ReferenceIdeal.ReadAttn.lean ====
module

public import proofs.«01_k».proof.Proof.ReferenceIdeal.ReadScores
public import proofs.«01_k».proof.Proof.ReferenceIdeal.ReadOut
public import proofs.«01_k».proof.Proof.ReferenceIdeal.ReadOutMax
public import proofs.«01_k».proof.Proof.ReferenceIdeal.ReadOutExp
public import proofs.«01_k».proof.Proof.ReferenceIdeal.ReadHeadMax
public import proofs.«01_k».proof.Proof.ReferenceIdeal.ReadOutCodes

public section

/-
  What the reference's attention is at an index.
-/

set_option maxRecDepth 16384

noncomputable section

namespace Cert.ReferenceIdeal.Gen

open Idealize.ShloMosaic Idealize.ShloMosaic.TcCoe Idealize.SL.Sem
open Cert.Attn

theorem maxKeys_at (p : FVec Ideal S128x4096x4096 .f32) (n : Fin 128) (s : Fin 4096) :
    (multiReduction .maximumf [2] S128x4096 (absf p) 0xFF800000#32 reduces_S128x4096x4096_S128x4096 (.inl rfl) rfl : FVec Ideal S128x4096 .f32) (ix2 n s)
      = Finset.fold max ⊥ (fun k : Fin 4096 => mag (p (ix3 n s k))) Finset.univ := by
  pointwise []
  rfl

theorem castHead_at (v : FVec Ideal S128x4096 .f32) (n : Fin 128) (s : Fin 4096) :
    shapeCast S128x4096x1 v shapeCasts_S128x4096_S128x4096x1 (ix3 n s 0) = v (ix2 n s) := by
  pointwise []

/-- A row's largest probability over 448, as the reference computes it. -/
def headMax (p : FVec Ideal S128x4096x4096 .f32) : FVec Ideal S128x4096x1 .f32 :=
  mulf (shapeCast S128x4096x1 (multiReduction .maximumf [2] S128x4096 (absf p) 0xFF800000#32 reduces_S128x4096x4096_S128x4096 (.inl rfl) rfl) shapeCasts_S128x4096_S128x4096x1)
    (broadcast S128x4096x1 (Scalar.ofBits (F := Ideal) .f32 0x3B124925#32))

theorem headMax_scale (v : FVec Ideal S128x4096x1 .f32) (i : S128x4096x1.Idx) :
    mulf v (broadcast S128x4096x1 (Scalar.ofBits (F := Ideal) .f32 0x3B124925#32)) i = v i * c448 := rfl

theorem headMax_at (p : FVec Ideal S128x4096x4096 .f32) (n : Fin 128) (s : Fin 4096) :
    headMax p (ix3 n s 0) = Finset.fold max ⊥ (fun k : Fin 4096 => mag (p (ix3 n s k))) Finset.univ * c448 := by
  unfold headMax
  rw [headMax_scale, castHead_at, maxKeys_at]

theorem pay12_headMax (a : FVec Ideal S2x32x128x64x160 .fp8e4m3) (b : FVec Ideal S2x32x1x64x1 .f32) (c : Vec Ideal S2x16x4096x160 .fp8e4m3) (d : Vec Ideal S2x16x32x1 .f32) :
    k0_pay12 (F := Ideal) a b c d = headMax (k0_pay11 (F := Ideal) a b c d) := by
  unfold k0_pay12 headMax
  exact rfl

theorem pay12_at (a : FVec Ideal S2x32x128x64x160 .fp8e4m3) (b : FVec Ideal S2x32x1x64x1 .f32) (c : Vec Ideal S2x16x4096x160 .fp8e4m3) (d : Vec Ideal S2x16x32x1 .f32) (n : Fin 128) (s : Fin 4096) :
    k0_pay12 (F := Ideal) a b c d (ix3 n s 0) = rA s.val (scoreN a b c d n s) * c448 := by
  rw [pay12_headMax, headMax_at]
  unfold rA
  rw [← fold_sup (n := 4096)]
  refine congrArg (· * c448) (Finset.fold_congr fun k _ => ?_)
  rw [pay11_at]

theorem pay13_at (n : Fin 128) (s : Fin 4096) : k0_pay13 (F := Ideal) (ix3 n s 0) = Ideal.ofBits .f32 8388608#32 := by
  pointwise [k0_pay13]

end Cert.ReferenceIdeal.Gen

end
-- ==== Proof.ReferenceIdeal.RefSpec.lean ====
module

public import proofs.«01_k».proof.Proof.Gen.ReferenceIdeal.Frame
public import proofs.«01_k».proof.Proof.ReferenceIdeal.ReadAttn

public section

/-
  The reference's five results are the specification's, index by index.
-/

set_option maxRecDepth 16384

noncomputable section

namespace Cert.ReferenceIdeal.Gen

open Idealize.ShloMosaic Idealize.ShloMosaic.TcCoe Idealize.SL.Sem
open Cert.Attn

/-- The head `h` of the group `g` of the batch `b`, counted through. -/
@[expose] def rowHead (b : Fin 2) (g : Fin 16) (h : Fin 4) : Fin 128 := ⟨(b.val * 16 + g.val) * 4 + h.val, by omega⟩

section
variable (x0 : Vec Ideal S2x4096x10240 .bf16) (x1 : Vec Ideal S2x16x4096x256 .fp8e4m3) (x2 : Vec Ideal S2x16x32x128 .f32) (x3 : Vec Ideal S2x16x160x4096 .fp8e4m3) (x4 : Vec Ideal S2x16x1x128 .f32)

theorem hz3 : (![0, 0, 0] : Fin 3 → ℕ) = fun _ => 0 := funext fun a => by fin_cases a <;> rfl
theorem hz4 : (![0, 0, 0, 0] : Fin 4 → ℕ) = fun _ => 0 := funext fun a => by fin_cases a <;> rfl
theorem hz5 : (![0, 0, 0, 0, 0] : Fin 5 → ℕ) = fun _ => 0 := funext fun a => by fin_cases a <;> rfl

theorem ld0 : View.ld x0 r0_0 = x0 := View.ld_unit_zero hz3 _ x0
theorem ld3 : View.ld x3 r0_4 = x3 := View.ld_unit_zero hz4 _ x3
theorem ld1 (b : Fin 2) (g : Fin 16) (k : Fin 4096) (d : Fin 160) : View.ld x1 r0_2 (ix4 b g k d : S2x16x4096x160.Idx) = x1 (ix4 b g k ⟨d.val, by omega⟩) :=
  congrArg x1 (funext fun a => Fin.ext (by fin_cases a <;> exact (Nat.zero_add _).trans (Nat.one_mul _)))
theorem ld2 (b : Fin 2) (g : Fin 16) (j : Fin 32) : View.ld x2 r0_3 (ix4 b g j 0 : S2x16x32x1.Idx) = x2 (ix4 b g j 0) :=
  congrArg x2 (funext fun a => Fin.ext (by fin_cases a <;> exact (Nat.zero_add _).trans (Nat.one_mul _)))
theorem ld4 (b : Fin 2) (g : Fin 16) : View.ld x4 r0_5 (ix4 b g 0 0 : S2x16x1x1.Idx) = x4 (ix4 b g 0 0) :=
  congrArg x4 (funext fun a => Fin.ext (by fin_cases a <;> exact (Nat.zero_add _).trans (Nat.one_mul _)))

theorem scoreN_eq (b : Fin 2) (g : Fin 16) (h : Fin 4) (s : Fin 4096) :
    scoreN (k0_pay19 x0 x1 x2 x3 x4) (k0_pay20 x0 x1 x2 x3 x4) (View.ld x1 r0_2) (View.ld x2 r0_3) (rowHead b g h) s = sScore x0 x1 x2 b g h s := by
  funext k
  unfold scoreN sScore
  split_ifs with hk
  · unfold score k0_pay19 k0_pay20
    rw [ld0]
    have eb : (⟨(rowHead b g h).val / 4 / 16, by omega⟩ : Fin 2) = b := Fin.ext (by show ((b.val * 16 + g.val) * 4 + h.val) / 4 / 16 = b.val; omega)
    have eg : (⟨(rowHead b g h).val / 4 % 16, by omega⟩ : Fin 16) = g := Fin.ext (by show ((b.val * 16 + g.val) * 4 + h.val) / 4 % 16 = g.val; omega)
    have eH : (⟨(rowHead b g h).val / 4 % 16 * 4 + ((rowHead b g h).val % 4 * 4096 + s.val) / 4096, by omega⟩ : Fin 64) = headOf g h :=
      Fin.ext (by show ((b.val * 16 + g.val) * 4 + h.val) / 4 % 16 * 4 + (((b.val * 16 + g.val) * 4 + h.val) % 4 * 4096 + s.val) / 4096 = g.val * 4 + h.val; omega)
    rw [eb, eg, eH]
    have e1 : ∀ d : Fin 160, k0_pay7 (F := Ideal) x0 (ix5 b ⟨s.val / 128, by omega⟩ ⟨s.val % 128, by omega⟩ (headOf g h) d) = qCode x0 b s (laneOf (headOf g h) d) := fun d => pay7_at x0 b s (headOf g h) d
    have e2 : k0_pay8 (F := Ideal) x0 (ix5 b ⟨s.val / 128, by omega⟩ 0 (headOf g h) 0) = qScale x0 b (tileOf s) (headOf g h) := pay8_at x0 b (tileOf s) (headOf g h)
    rw [e2]
    refine congrArg₂ (fun p q => p * qScale x0 b (tileOf s) (headOf g h) * q * (((Real.sqrt 160)⁻¹ : ℝ) : EReal)) (Finset.sum_congr rfl fun d _ => ?_) (ld2 x2 b g _)
    exact congrArg₂ (· * ·) (e1 d) (ld1 x1 b g _ d)
  · rfl

theorem pay24_eq (b : Fin 2) (g : Fin 16) (h : Fin 4) (s : Fin 4096) (d : Fin 160) :
    k0_pay24 x0 x1 x2 x3 x4 (ix3 ⟨b.val * 16 + g.val, by omega⟩ ⟨h.val * 4096 + s.val, by omega⟩ d) = sO x0 x1 x2 x3 x4 b g h s d.val := by
  unfold k0_pay24 k0_pay23
  rw [pay14_raw _ _ _ _ _ _ _ _ (fun n s => pay13_at n s)]
  have en : (⟨(b.val * 16 + g.val) * 4 + (h.val * 4096 + s.val) / 4096, by omega⟩ : Fin 128) = rowHead b g h := Fin.ext (by show (b.val * 16 + g.val) * 4 + (h.val * 4096 + s.val) / 4096 = (b.val * 16 + g.val) * 4 + h.val; omega)
  have es : (⟨(h.val * 4096 + s.val) % 4096, by omega⟩ : Fin 4096) = s := Fin.ext (by show (h.val * 4096 + s.val) % 4096 = s.val; omega)
  have eb : (⟨(b.val * 16 + g.val) / 16, by omega⟩ : Fin 2) = b := Fin.ext (by show (b.val * 16 + g.val) / 16 = b.val; omega)
  have eg : (⟨(b.val * 16 + g.val) % 16, by omega⟩ : Fin 16) = g := Fin.ext (by show (b.val * 16 + g.val) % 16 = g.val; omega)
  have hp : ∀ k : Fin 4096, k0_pay21 x0 x1 x2 x3 x4 (ix3 (rowHead b g h) s k) = rP s.val (sScore x0 x1 x2 b g h s) k.val := fun k => by
    unfold k0_pay21; rw [pay11_at, scoreN_eq]
  have he : k0_pay22 x0 x1 x2 x3 x4 (ix3 (rowHead b g h) s 0) = rA s.val (sScore x0 x1 x2 b g h s) * c448 := by
    unfold k0_pay22; rw [pay12_at, scoreN_eq]
  unfold sO rO
  rw [Finset.sum_range]
  have key : ∀ k : Fin 4096, clip (k0_pay21 x0 x1 x2 x3 x4 (ix3 (rowHead b g h) s k) * Ideal.exp2 (0 - expo (k0_pay22 x0 x1 x2 x3 x4 (ix3 (rowHead b g h) s 0)))) * x3 (ix4 b g d k)
      = rC s.val (sScore x0 x1 x2 b g h s) k.val * sVal x3 b g d.val k.val := fun k => by
    rw [hp k, he]
    unfold rC rX sVal
    rw [dif_pos ⟨d.isLt, k.isLt⟩]
  refine Eq.trans ?_ (congrArg (fun y => y * Ideal.exp2 (rX s.val (sScore x0 x1 x2 b g h s)) * x4 (ix4 b g 0 0)) (Finset.sum_congr rfl fun k _ => key k))
  rw [ld3]
  simp only [en, es, eb, eg]
  rw [ld4 x4 b g, he]
  rfl

theorem pay1_eq (b : Fin 2) (g : Fin 16) (h : Fin 4) (s : Fin 4096) :
    k0_pay1 (F := Ideal) (k0_pay25 x0 x1 x2 x3 x4) (k0_pay26 x0 x1 x2 x3 x4) (k0_pay27 x0 x1 x2 x3 x4) (ix3 ⟨b.val * 16 + g.val, by omega⟩ ⟨h.val * 4096 + s.val, by omega⟩ 0)
      = expo (rOA (sO x0 x1 x2 x3 x4 b g h s) * c448) := by
  refine (pay1_at _ _ _ _ _ _ _).trans (congrArg expo ((pay15_at _ _ _ _ _ _ _).trans (congrArg (· * c448) ?_)))
  refine (Finset.fold_congr fun d _ => congrArg mag (pay24_eq x0 x1 x2 x3 x4 b g h s d)).trans ?_
  exact fold_sup (n := 160) (fun d => mag (sO x0 x1 x2 x3 x4 b g h s d))

theorem out5_at (b : Fin 2) (s : Fin 4096) (l : Fin 10240) : out0_5 x0 x1 x2 x3 x4 (ix3 b s l) = qCode x0 b s l := by
  unfold out0_5
  rw [View.canon_unit_zero hz3, ld0]
  exact pay9_at x0 b s l

theorem out6_at (b : Fin 2) (g i : Fin 16) (c : Fin 8) (y : Fin 128) : out0_6 x0 x1 x2 x3 x4 (ix5 b g i c y) = qScale x0 b ⟨i.val * 2 + c.val % 2, by omega⟩ (headOf g ⟨c.val / 2, by omega⟩) := by
  unfold out0_6
  rw [View.canon_unit_zero hz5, ld0]
  exact pay10_at x0 b g i c y

theorem out7_at (b : Fin 2) (s : Fin 4096) (l : Fin 10240) : out0_7 x0 x1 x2 x3 x4 (ix3 b s l) = sOC x0 x1 x2 x3 x4 b s l := by
  unfold out0_7
  rw [View.canon_unit_zero hz3]
  refine (pay4_raw _ _ _ _ b s l).trans ?_
  have e1 := pay24_eq x0 x1 x2 x3 x4 b ⟨l.val / 160 / 4, by omega⟩ ⟨l.val / 160 % 4, by omega⟩ s ⟨l.val % 160, by omega⟩
  have e2 := pay1_eq x0 x1 x2 x3 x4 b ⟨l.val / 160 / 4, by omega⟩ ⟨l.val / 160 % 4, by omega⟩ s
  have e3 : (⟨l.val / 160 / 4, by omega⟩ : Fin 16) = ⟨l.val / 640, by omega⟩ := Fin.ext (by show l.val / 160 / 4 = l.val / 640; omega)
  refine (congrArg₂ (fun p q => clip (p * Ideal.exp2 (0 - q))) e1 e2).trans ?_
  rw [e3]; rfl

theorem out8_at (b : Fin 2) (g : Fin 16) (h : Fin 4) (s : Fin 4096) : out0_8 x0 x1 x2 x3 x4 (ix4 b g h s) = sOS x0 x1 x2 x3 x4 b g h s := by
  unfold out0_8
  rw [View.canon_unit_zero hz4]
  exact (pay2_raw _ _ _ b g h s).trans (congrArg Ideal.exp2 (pay1_eq x0 x1 x2 x3 x4 b g h s))

theorem out9_at (b : Fin 2) (g : Fin 16) (h : Fin 4) (l : Fin 256) : out0_9 x0 x1 x2 x3 x4 (ix4 b g h l) = sAM x0 x1 x2 x3 x4 b g h := by
  unfold out0_9
  rw [View.canon_unit_zero hz4]
  refine (pay3_raw _ b g h l).trans ?_
  have e : ∀ y : Fin 655360, mag (k0_pay24 x0 x1 x2 x3 x4 (ix3 ⟨b.val * 16 + g.val, by omega⟩ ⟨h.val * 4096 + y.val / 160, by omega⟩ ⟨y.val % 160, by omega⟩))
      = mag (sO x0 x1 x2 x3 x4 b g h ⟨y.val / 160, by omega⟩ (y.val % 160)) := fun y =>
    congrArg mag (pay24_eq x0 x1 x2 x3 x4 b g h ⟨y.val / 160, by omega⟩ ⟨y.val % 160, by omega⟩)
  refine (Finset.fold_congr fun y _ => e y).trans ?_
  show (Finset.univ : Finset (Fin 655360)).sup _ = _
  unfold sAM
  refine le_antisymm (Finset.sup_le fun y _ => ?_) (Finset.sup_le fun s _ => Finset.sup_le fun d hd => ?_)
  · refine le_trans ?_ (Finset.le_sup (f := fun s : Fin 4096 => rOA (sO x0 x1 x2 x3 x4 b g h s)) (Finset.mem_univ (⟨y.val / 160, by omega⟩ : Fin 4096)))
    exact Finset.le_sup (f := fun d => mag (sO x0 x1 x2 x3 x4 b g h ⟨y.val / 160, by omega⟩ d)) (Finset.mem_range.2 (by omega))
  · have hd' := Finset.mem_range.1 hd
    have := Finset.le_sup (f := fun y : Fin 655360 => mag (sO x0 x1 x2 x3 x4 b g h ⟨y.val / 160, by omega⟩ (y.val % 160))) (Finset.mem_univ (⟨s.val * 160 + d, by omega⟩ : Fin 655360))
    refine le_trans (le_of_eq ?_) this
    have a1 : (⟨(s.val * 160 + d) / 160, by omega⟩ : Fin 4096) = s := Fin.ext (by show (s.val * 160 + d) / 160 = s.val; omega)
    have a2 : (s.val * 160 + d) % 160 = d := by omega
    show _ = mag (sO x0 x1 x2 x3 x4 b g h ⟨(s.val * 160 + d) / 160, _⟩ ((s.val * 160 + d) % 160))
    rw [a1, a2]

end

end Cert.ReferenceIdeal.Gen

end
-- ==== Proof.ReferenceIdeal.RefRun.lean ====
module

public import proofs.«01_k».proof.Proof.ReferenceIdeal.RefSpec
public import proofs.«01_k».proof.Proof.Math.Arrays
public import Idealize.ShloMosaic.Lib.Pipeline.Value
public import Idealize.ShloMosaic.Lib.Pipeline.Covers

@[expose] public section

/-
  The run of the reference over the extended reals: each result ends at the specification's array.
-/

set_option maxRecDepth 16384

noncomputable section

namespace Cert.ReferenceIdeal.Gen

open Idealize.ShloMosaic Idealize.ShloMosaic.TcCoe Idealize.SL.Sem
open Cert.Attn

variable (m : (ℓ : Loc nD τ sig) → Buf (Elt Ideal) ℓ) (ρ : Dev nD → PrngReg)

/-! ## The arrays as the region finds them -/

def xR (c : Dev nD) : XArg := V m c main_arg0
def kaR (c : Dev nD) : KaArg := V m c main_arg1
def ksR (c : Dev nD) : KsArg := V m c main_arg2
def vtR (c : Dev nD) : VtArg := V m c main_v0
def vsR (c : Dev nD) : VsArg := V m c main_arg4

/-- The block of a whole array is the array. -/
theorem whole_at (n k : ℕ) : 0 * k + 1 * n = n := by omega

theorem emb0 (t : Fin cfg0.N) (j : S2x4096x10240.Idx) : ((cfg0.win 0).blk t).view.emb j = j :=
  funext fun a => Fin.ext (by fin_cases a <;> exact whole_at _ _)
theorem emb1 (t : Fin cfg0.N) (j : S2x16x4096x256.Idx) : ((cfg0.win 1).blk t).view.emb j = j :=
  funext fun a => Fin.ext (by fin_cases a <;> exact whole_at _ _)
theorem emb2 (t : Fin cfg0.N) (j : S2x16x32x128.Idx) : ((cfg0.win 2).blk t).view.emb j = j :=
  funext fun a => Fin.ext (by fin_cases a <;> exact whole_at _ _)
theorem emb3 (t : Fin cfg0.N) (j : S2x16x160x4096.Idx) : ((cfg0.win 3).blk t).view.emb j = j :=
  funext fun a => Fin.ext (by fin_cases a <;> exact whole_at _ _)
theorem emb4 (t : Fin cfg0.N) (j : S2x16x1x128.Idx) : ((cfg0.win 4).blk t).view.emb j = j :=
  funext fun a => Fin.ext (by fin_cases a <;> exact whole_at _ _)
theorem emb5 (t : Fin cfg0.N) (j : S2x4096x10240.Idx) : ((cfg0.win 5).blk t).view.emb j = j :=
  funext fun a => Fin.ext (by fin_cases a <;> exact whole_at _ _)
theorem emb6 (t : Fin cfg0.N) (j : S2x16x16x8x128.Idx) : ((cfg0.win 6).blk t).view.emb j = j :=
  funext fun a => Fin.ext (by fin_cases a <;> exact whole_at _ _)
theorem emb7 (t : Fin cfg0.N) (j : S2x4096x10240.Idx) : ((cfg0.win 7).blk t).view.emb j = j :=
  funext fun a => Fin.ext (by fin_cases a <;> exact whole_at _ _)
theorem emb8 (t : Fin cfg0.N) (j : S2x16x4x4096.Idx) : ((cfg0.win 8).blk t).view.emb j = j :=
  funext fun a => Fin.ext (by fin_cases a <;> exact whole_at _ _)
theorem emb9 (t : Fin cfg0.N) (j : S2x16x4x256.Idx) : ((cfg0.win 9).blk t).view.emb j = j :=
  funext fun a => Fin.ext (by fin_cases a <;> exact whole_at _ _)

theorem iblk0_eq (c : Dev nD) (t : Fin cfg0.N) : iblk m c 0 t = xR m c := funext fun j => congrArg (xR m c) (emb0 t j)
theorem iblk1_eq (c : Dev nD) (t : Fin cfg0.N) : iblk m c 1 t = kaR m c := funext fun j => congrArg (kaR m c) (emb1 t j)
theorem iblk2_eq (c : Dev nD) (t : Fin cfg0.N) : iblk m c 2 t = ksR m c := funext fun j => congrArg (ksR m c) (emb2 t j)
theorem iblk3_eq (c : Dev nD) (t : Fin cfg0.N) : iblk m c 3 t = vtR m c := funext fun j => congrArg (vtR m c) (emb3 t j)
theorem iblk4_eq (c : Dev nD) (t : Fin cfg0.N) : iblk m c 4 t = vsR m c := funext fun j => congrArg (vsR m c) (emb4 t j)

/-! ## The result arrays -/

/-- The one point. -/
def pt : Fin cfg0.N := ⟨0, by decide⟩

theorem final5 (c : Dev nD) : (dats m 0 c).arrAt 5 cfg0.N = arrQC (xR m c) := by
  refine (dats m 0 c).arrAt_eq_of_cover 5 _ (fun t _ => ?_) fun j => ⟨pt, flush0_5 _, ?_⟩
  · show (cfg0.win 5).cut (grid0.coords t) ((dats m 0 c).after 5 t) = _
    rw [after0_5, iblk0_eq, iblk1_eq, iblk2_eq, iblk3_eq, iblk4_eq]
    funext y
    refine Eq.trans ?_ (congrArg (arrQC (xR m c)) (emb5 t y)).symm
    exact (congrArg (out0_5 (F := Ideal) (xR m c) (kaR m c) (ksR m c) (vtR m c) (vsR m c)) (ix3_of y)).trans (out5_at (xR m c) (kaR m c) (ksR m c) (vtR m c) (vsR m c) (y 0) (y 1) (y 2))
  · have h := ((cfg0.win 5).blk pt).view.emb_mem_set j
    rwa [emb5] at h

theorem final6 (c : Dev nD) : (dats m 0 c).arrAt 6 cfg0.N = arrQS (xR m c) := by
  refine (dats m 0 c).arrAt_eq_of_cover 6 _ (fun t _ => ?_) fun j => ⟨pt, flush0_6 _, ?_⟩
  · show (cfg0.win 6).cut (grid0.coords t) ((dats m 0 c).after 6 t) = _
    rw [after0_6, iblk0_eq, iblk1_eq, iblk2_eq, iblk3_eq, iblk4_eq]
    funext y
    refine Eq.trans ?_ (congrArg (arrQS (xR m c)) (emb6 t y)).symm
    exact (congrArg (out0_6 (F := Ideal) (xR m c) (kaR m c) (ksR m c) (vtR m c) (vsR m c)) (ix5_of y)).trans (out6_at (xR m c) (kaR m c) (ksR m c) (vtR m c) (vsR m c) (y 0) (y 1) (y 2) (y 3) (y 4))
  · have h := ((cfg0.win 6).blk pt).view.emb_mem_set j
    rwa [emb6] at h

theorem final7 (c : Dev nD) : (dats m 0 c).arrAt 7 cfg0.N = arrOC (xR m c) (kaR m c) (ksR m c) (vtR m c) (vsR m c) := by
  refine (dats m 0 c).arrAt_eq_of_cover 7 _ (fun t _ => ?_) fun j => ⟨pt, flush0_7 _, ?_⟩
  · show (cfg0.win 7).cut (grid0.coords t) ((dats m 0 c).after 7 t) = _
    rw [after0_7, iblk0_eq, iblk1_eq, iblk2_eq, iblk3_eq, iblk4_eq]
    funext y
    refine Eq.trans ?_ (congrArg (arrOC (xR m c) (kaR m c) (ksR m c) (vtR m c) (vsR m c)) (emb7 t y)).symm
    exact (congrArg (out0_7 (F := Ideal) (xR m c) (kaR m c) (ksR m c) (vtR m c) (vsR m c)) (ix3_of y)).trans (out7_at (xR m c) (kaR m c) (ksR m c) (vtR m c) (vsR m c) (y 0) (y 1) (y 2))
  · have h := ((cfg0.win 7).blk pt).view.emb_mem_set j
    rwa [emb7] at h

theorem final8 (c : Dev nD) : (dats m 0 c).arrAt 8 cfg0.N = arrOS (xR m c) (kaR m c) (ksR m c) (vtR m c) (vsR m c) := by
  refine (dats m 0 c).arrAt_eq_of_cover 8 _ (fun t _ => ?_) fun j => ⟨pt, flush0_8 _, ?_⟩
  · show (cfg0.win 8).cut (grid0.coords t) ((dats m 0 c).after 8 t) = _
    rw [after0_8, iblk0_eq, iblk1_eq, iblk2_eq, iblk3_eq, iblk4_eq]
    funext y
    refine Eq.trans ?_ (congrArg (arrOS (xR m c) (kaR m c) (ksR m c) (vtR m c) (vsR m c)) (emb8 t y)).symm
    exact (congrArg (out0_8 (F := Ideal) (xR m c) (kaR m c) (ksR m c) (vtR m c) (vsR m c)) (ix4_of y)).trans (out8_at (xR m c) (kaR m c) (ksR m c) (vtR m c) (vsR m c) (y 0) (y 1) (y 2) (y 3))
  · have h := ((cfg0.win 8).blk pt).view.emb_mem_set j
    rwa [emb8] at h

theorem final9 (c : Dev nD) : (dats m 0 c).arrAt 9 cfg0.N = arrAM (xR m c) (kaR m c) (ksR m c) (vtR m c) (vsR m c) := by
  refine (dats m 0 c).arrAt_eq_of_cover 9 _ (fun t _ => ?_) fun j => ⟨pt, flush0_9 _, ?_⟩
  · show (cfg0.win 9).cut (grid0.coords t) ((dats m 0 c).after 9 t) = _
    rw [after0_9, iblk0_eq, iblk1_eq, iblk2_eq, iblk3_eq, iblk4_eq]
    funext y
    refine Eq.trans ?_ (congrArg (arrAM (xR m c) (kaR m c) (ksR m c) (vtR m c) (vsR m c)) (emb9 t y)).symm
    exact (congrArg (out0_9 (F := Ideal) (xR m c) (kaR m c) (ksR m c) (vtR m c) (vsR m c)) (ix4_of y)).trans (out9_at (xR m c) (kaR m c) (ksR m c) (vtR m c) (vsR m c) (y 0) (y 1) (y 2) (y 3))
  · have h := ((cfg0.win 9).blk pt).view.emb_mem_set j
    rwa [emb9] at h

/-- The run, read: the five results and the unchanged arguments. -/
theorem value_run : θ_run defs (onTc (τ := τ) (main (F := Ideal))) ⟨m, fun _ => 0, ρ⟩ fun r => ∀ c : Dev nD,
      (r.2.mem ((c.tc : Thread nD τ).loc main_v1_0) = arrQC (xR m c)
      ∧ r.2.mem ((c.tc : Thread nD τ).loc main_v1_1) = arrQS (xR m c)
      ∧ r.2.mem ((c.tc : Thread nD τ).loc main_v1_2) = arrOC (xR m c) (kaR m c) (ksR m c) (vtR m c) (vsR m c)
      ∧ r.2.mem ((c.tc : Thread nD τ).loc main_v1_3) = arrOS (xR m c) (kaR m c) (ksR m c) (vtR m c) (vsR m c)
      ∧ r.2.mem ((c.tc : Thread nD τ).loc main_v1_4) = arrAM (xR m c) (kaR m c) (ksR m c) (vtR m c) (vsR m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨⟨((h c).1 5).trans (final5 m c), ((h c).1 6).trans (final6 m c), ((h c).1 7).trans (final7 m c),
      ((h c).1 8).trans (final8 m c), ((h c).1 9).trans (final9 m c)⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩) (run_main m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.KernelIdeal.InRange
public import proofs.«01_k».proof.Proof.KernelIdeal.Value
public import proofs.«01_k».proof.Proof.ReferenceIdeal.RefRun
public import Idealize.ShloMosaic.Adequacy
public import Idealize.ShloMosaic.Init

@[expose] public section

noncomputable section

namespace Cert.Proof

open Idealize.ShloMosaic Idealize.SL.Sem Cert.Kernel

/-- The kernel's value array is the fourth argument, narrowed: at the extended reals, the argument. -/
theorem kernel_values (m : (ℓ : Loc Cert.KernelIdeal.nD Cert.KernelIdeal.τ Cert.KernelIdeal.sig) → Buf (Elt Ideal) ℓ) (c : Dev Cert.KernelIdeal.nD) :
    Cert.KernelIdeal.Gen.vtA m c = m ((c.tc : Thread Cert.KernelIdeal.nD Cert.KernelIdeal.τ).loc Cert.KernelIdeal.main_arg3) := by
  unfold Cert.KernelIdeal.Gen.vtA Cert.KernelIdeal.Gen.V Cert.KernelIdeal.Gen.hostOps0
  simp only [StableHlo.after_cons, StableHlo.after_nil]
  rw [StableHlo.unary_result]
  rfl

/-- So is the reference's. -/
theorem reference_values (m : (ℓ : Loc Cert.ReferenceIdeal.nD Cert.ReferenceIdeal.τ Cert.ReferenceIdeal.sig) → Buf (Elt Ideal) ℓ) (c : Dev Cert.ReferenceIdeal.nD) :
    Cert.ReferenceIdeal.Gen.vtR m c = m ((c.tc : Thread Cert.ReferenceIdeal.nD Cert.ReferenceIdeal.τ).loc Cert.ReferenceIdeal.main_arg3) := by
  unfold Cert.ReferenceIdeal.Gen.vtR Cert.ReferenceIdeal.Gen.V Cert.ReferenceIdeal.Gen.hostOps0
  simp only [StableHlo.after_cons, StableHlo.after_nil]
  rw [StableHlo.unary_result]
  rfl

/-- From arguments in range, the kernel's five results over the extended reals are the reference's. -/
theorem algebraic : Cert.algebraic_KernelIdeal_ReferenceIdeal_pre_in_range (hKernelIdeal := Cert.KernelIdeal.Gen.facts) (hReferenceIdeal := Cert.ReferenceIdeal.Gen.facts) (hPre_in_range := Cert.Pre_in_range.facts) := by
  intro m g m' g' hp ha
  have e0 : ∀ c, Cert.ReferenceIdeal.Gen.xR m' c = Cert.KernelIdeal.Gen.xA m c := fun c =>
    (Cert.ReferenceIdeal.Gen.V_main_arg0 m' c).trans ((ha c).1.trans (Cert.KernelIdeal.Gen.V_main_arg0 m c).symm)
  have e1 : ∀ c, Cert.ReferenceIdeal.Gen.kaR m' c = Cert.KernelIdeal.Gen.kaA m c := fun c =>
    (Cert.ReferenceIdeal.Gen.V_main_arg1 m' c).trans ((ha c).2.1.trans (Cert.KernelIdeal.Gen.V_main_arg1 m c).symm)
  have e2 : ∀ c, Cert.ReferenceIdeal.Gen.ksR m' c = Cert.KernelIdeal.Gen.ksA m c := fun c =>
    (Cert.ReferenceIdeal.Gen.V_main_arg2 m' c).trans ((ha c).2.2.1.trans (Cert.KernelIdeal.Gen.V_main_arg2 m c).symm)
  have e3 : ∀ c, Cert.ReferenceIdeal.Gen.vtR m' c = Cert.KernelIdeal.Gen.vtA m c := fun c =>
    (reference_values m' c).trans ((ha c).2.2.2.1.trans (kernel_values m c).symm)
  have e4 : ∀ c, Cert.ReferenceIdeal.Gen.vsR m' c = Cert.KernelIdeal.Gen.vsA m c := fun c =>
    (Cert.ReferenceIdeal.Gen.V_main_arg4 m' c).trans ((ha c).2.2.2.2.trans (Cert.KernelIdeal.Gen.V_main_arg4 m c).symm)
  have hR : ∀ c, Cert.KernelIdeal.Gen.InRange (Cert.KernelIdeal.Gen.xA m c) (Cert.KernelIdeal.Gen.ksA m c) (Cert.KernelIdeal.Gen.vtA m c) (Cert.KernelIdeal.Gen.vsA m c) := fun c => by
    have h := @Cert.Pre_in_range.inRange Cert.Pre_in_range.facts _ _ _ _ _ (hp c)
    rw [kernel_values]
    unfold Cert.KernelIdeal.Gen.xA Cert.KernelIdeal.Gen.ksA Cert.KernelIdeal.Gen.vsA
    rw [Cert.KernelIdeal.Gen.V_main_arg0, Cert.KernelIdeal.Gen.V_main_arg2, Cert.KernelIdeal.Gen.V_main_arg4]
    exact h
  refine ⟨fun c => Cert.Attn.arrQC (Cert.KernelIdeal.Gen.xA m c), fun c => Cert.Attn.arrQS (Cert.KernelIdeal.Gen.xA m c),
    fun c => Cert.Attn.arrOC (Cert.KernelIdeal.Gen.xA m c) (Cert.KernelIdeal.Gen.kaA m c) (Cert.KernelIdeal.Gen.ksA m c) (Cert.KernelIdeal.Gen.vtA m c) (Cert.KernelIdeal.Gen.vsA m c),
    fun c => Cert.Attn.arrOS (Cert.KernelIdeal.Gen.xA m c) (Cert.KernelIdeal.Gen.kaA m c) (Cert.KernelIdeal.Gen.ksA m c) (Cert.KernelIdeal.Gen.vtA m c) (Cert.KernelIdeal.Gen.vsA m c),
    fun c => Cert.Attn.arrAM (Cert.KernelIdeal.Gen.xA m c) (Cert.KernelIdeal.Gen.kaA m c) (Cert.KernelIdeal.Gen.ksA m c) (Cert.KernelIdeal.Gen.vtA m c) (Cert.KernelIdeal.Gen.vsA m c), ?_, ?_⟩
  · exact (θ_run Cert.KernelIdeal.defs _ _).mono (fun _ h c =>
      ⟨(h c).1.1, (h c).1.2.1, (h c).1.2.2.1, (h c).1.2.2.2.1, (h c).1.2.2.2.2, (h c).2⟩) (Cert.KernelIdeal.Gen.value_run m g hR)
  · refine (θ_run Cert.ReferenceIdeal.defs _ _).mono (fun _ h c => ?_) (Cert.ReferenceIdeal.Gen.value_run m' g')
    have h' := h c
    rw [e0 c, e1 c, e2 c, e3 c, e4 c] at h'
    exact ⟨h'.1.1, h'.1.2.1, h'.1.2.2.1, h'.1.2.2.2.1, h'.1.2.2.2.2, h'.2⟩

theorem claim : Cert.Claim := ⟨Cert.Kernel.Gen.facts, Cert.KernelIdeal.Gen.facts, Cert.Reference.Gen.facts, Cert.ReferenceIdeal.Gen.facts, Cert.Pre_in_range.facts,
  fun m ρ _ => Cert.Kernel.Gen.frame m ρ, fun m ρ _ => Cert.KernelIdeal.Gen.frame m ρ, fun m ρ _ => Cert.KernelIdeal.Gen.frame m ρ,
  fun m ρ _ => Cert.Reference.Gen.frame m ρ, fun m ρ _ => Cert.ReferenceIdeal.Gen.frame m ρ, fun m ρ _ => Cert.ReferenceIdeal.Gen.frame m ρ,
  IdealRules.named_const.statement Cert.KernelIdeal.κ "sm_scale_log2e" .f32 0x3DE995B3#32 (((Real.sqrt 160)⁻¹ * (Real.log 2)⁻¹ : ℝ) : EReal) rfl,
  ⟨IdealRules.named_const.statement Cert.ReferenceIdeal.κ "ln2" .f32 0x3F317218#32 ((Real.log 2 : ℝ) : EReal) rfl,
  IdealRules.named_const.statement Cert.ReferenceIdeal.κ "sm_scale" .f32 0x3DA1E89B#32 (((Real.sqrt 160)⁻¹ : ℝ) : EReal) rfl⟩,
  algebraic⟩

end Cert.Proof

end
